-- ==== Defs.lean ====
def Pre_Kernel [hPre_counts_in_range : Cert.Pre_counts_in_range.Facts] (m : (ℓ : Loc Cert.Kernel.nD Cert.Kernel.τ Cert.Kernel.sig) → Buf (Elt Bits) ℓ) : Prop :=
  ∀ c : Dev Cert.Kernel.nD,
    (Cert.Pre_counts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counts_in_range : Cert.Pre_counts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_counts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_counts_and_padding [hPre_counts_and_padding : Cert.Pre_counts_and_padding.Facts] (m : (ℓ : Loc Cert.KernelIdeal.nD Cert.KernelIdeal.τ Cert.KernelIdeal.sig) → Buf (Elt Ideal) ℓ) : Prop :=
  ∀ c : Dev Cert.KernelIdeal.nD,
    (Cert.Pre_counts_and_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_counts_and_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_and_padding [hPre_counts_and_padding : Cert.Pre_counts_and_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_and_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_counts_and_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_router [hPre_finite_router : Cert.Pre_finite_router.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_router.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_router [hPre_finite_router : Cert.Pre_finite_router.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_router.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2 = (fun _ => 1#1)

def quiescent_Kernel [hKernel : Cert.Kernel.Facts] [hPre_counts_in_range : Cert.Pre_counts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counts_in_range : Cert.Pre_counts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_and_padding [hKernelIdeal : Cert.KernelIdeal.Facts] [hPre_counts_and_padding : Cert.Pre_counts_and_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_and_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_and_padding [hReferenceIdeal : Cert.ReferenceIdeal.Facts] [hPre_counts_and_padding : Cert.Pre_counts_and_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_and_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_router [hKernel8Ideal : Cert.Kernel8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_router m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_router [hReference8Ideal : Cert.Reference8Ideal.Facts] [hPre_finite_router : Cert.Pre_finite_router.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_router m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_counts_and_padding [hKernelIdeal : Cert.KernelIdeal.Facts] [hReferenceIdeal : Cert.ReferenceIdeal.Facts] [hPre_counts_and_padding : Cert.Pre_counts_and_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_and_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v173) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v51_1)) (v1 : (c : Dev Cert.Kernel4Ideal.nD) → Buf (Elt Ideal) ((c.tc : Thread Cert.Kernel4Ideal.nD Cert.Kernel4Ideal.τ).loc Cert.Kernel4Ideal.main_v51_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51_1) = v0 c
          ∧ r.2.mem ((c.tc : Thread Cert.Kernel4Ideal.nD Cert.Kernel4Ideal.τ).loc Cert.Kernel4Ideal.main_v51_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v47)) (v1 : (c : Dev Cert.Kernel6Ideal.nD) → Buf (Elt Ideal) ((c.tc : Thread Cert.Kernel6Ideal.nD Cert.Kernel6Ideal.τ).loc Cert.Kernel6Ideal.main_v45)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_v45) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_v93) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v16)) (v1 : (c : Dev Cert.Kernel7Ideal.nD) → Buf (Elt Ideal) ((c.tc : Thread Cert.Kernel7Ideal.nD Cert.Kernel7Ideal.τ).loc Cert.Kernel7Ideal.main_v17)) (v2 : (c : Dev Cert.Kernel7Ideal.nD) → Buf (Elt Ideal) ((c.tc : Thread Cert.Kernel7Ideal.nD Cert.Kernel7Ideal.τ).loc Cert.Kernel7Ideal.main_v18)) (v3 : (c : Dev Cert.Kernel7Ideal.nD) → Buf (Elt Ideal) ((c.tc : Thread Cert.Kernel7Ideal.nD Cert.Kernel7Ideal.τ).loc Cert.Kernel7Ideal.main_v19)) (v4 : (c : Dev Cert.Kernel7Ideal.nD) → Buf (Elt Ideal) ((c.tc : Thread Cert.Kernel7Ideal.nD Cert.Kernel7Ideal.τ).loc Cert.Kernel7Ideal.main_v20)) (v5 : (c : Dev Cert.Kernel7Ideal.nD) → Buf (Elt Ideal) ((c.tc : Thread Cert.Kernel7Ideal.nD Cert.Kernel7Ideal.τ).loc Cert.Kernel7Ideal.main_v21)) (v6 : (c : Dev Cert.Kernel7Ideal.nD) → Buf (Elt Ideal) ((c.tc : Thread Cert.Kernel7Ideal.nD Cert.Kernel7Ideal.τ).loc Cert.Kernel7Ideal.main_v22)) (v7 : (c : Dev Cert.Kernel7Ideal.nD) → Buf (Elt Ideal) ((c.tc : Thread Cert.Kernel7Ideal.nD Cert.Kernel7Ideal.τ).loc Cert.Kernel7Ideal.main_v23)) (v8 : (c : Dev Cert.Kernel7Ideal.nD) → Buf (Elt Ideal) ((c.tc : Thread Cert.Kernel7Ideal.nD Cert.Kernel7Ideal.τ).loc Cert.Kernel7Ideal.main_v24)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_v17) = v1 c
          ∧ r.2.mem ((c.tc : Thread Cert.Kernel7Ideal.nD Cert.Kernel7Ideal.τ).loc Cert.Kernel7Ideal.main_v18) = v2 c
          ∧ r.2.mem ((c.tc : Thread Cert.Kernel7Ideal.nD Cert.Kernel7Ideal.τ).loc Cert.Kernel7Ideal.main_v19) = v3 c
          ∧ r.2.mem ((c.tc : Thread Cert.Kernel7Ideal.nD Cert.Kernel7Ideal.τ).loc Cert.Kernel7Ideal.main_v20) = v4 c
          ∧ r.2.mem ((c.tc : Thread Cert.Kernel7Ideal.nD Cert.Kernel7Ideal.τ).loc Cert.Kernel7Ideal.main_v21) = v5 c
          ∧ r.2.mem ((c.tc : Thread Cert.Kernel7Ideal.nD Cert.Kernel7Ideal.τ).loc Cert.Kernel7Ideal.main_v22) = v6 c
          ∧ r.2.mem ((c.tc : Thread Cert.Kernel7Ideal.nD Cert.Kernel7Ideal.τ).loc Cert.Kernel7Ideal.main_v23) = v7 c
          ∧ r.2.mem ((c.tc : Thread Cert.Kernel7Ideal.nD Cert.Kernel7Ideal.τ).loc Cert.Kernel7Ideal.main_v24) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_v18) = v2 c
          ∧ r.2.mem ((c.tc : Thread Cert.Reference7Ideal.nD Cert.Reference7Ideal.τ).loc Cert.Reference7Ideal.main_v19) = v3 c
          ∧ r.2.mem ((c.tc : Thread Cert.Reference7Ideal.nD Cert.Reference7Ideal.τ).loc Cert.Reference7Ideal.main_v20) = v4 c
          ∧ r.2.mem ((c.tc : Thread Cert.Reference7Ideal.nD Cert.Reference7Ideal.τ).loc Cert.Reference7Ideal.main_v21) = v5 c
          ∧ r.2.mem ((c.tc : Thread Cert.Reference7Ideal.nD Cert.Reference7Ideal.τ).loc Cert.Reference7Ideal.main_v22) = v6 c
          ∧ r.2.mem ((c.tc : Thread Cert.Reference7Ideal.nD Cert.Reference7Ideal.τ).loc Cert.Reference7Ideal.main_v23) = v7 c
          ∧ r.2.mem ((c.tc : Thread Cert.Reference7Ideal.nD Cert.Reference7Ideal.τ).loc Cert.Reference7Ideal.main_v24) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "mask" .f32 0xF149F2CA#32 ⊥

def algebraic_Kernel8Ideal_Reference8Ideal_pre_finite_router [hKernel8Ideal : Cert.Kernel8Ideal.Facts] [hReference8Ideal : Cert.Reference8Ideal.Facts] [hPre_finite_router : Cert.Pre_finite_router.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_router m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v9) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v35) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_counts_in_range : Cert.Pre_counts_in_range.Facts) (hPre_counts_and_padding : Cert.Pre_counts_and_padding.Facts) (hPre_finite : Cert.Pre_finite.Facts) (hPre_finite_router : Cert.Pre_finite_router.Facts),
    quiescent_Kernel (hKernel := hKernel) (hPre_counts_in_range := hPre_counts_in_range)
    ∧ quiescent_KernelIdeal (hKernelIdeal := hKernelIdeal) (hPre_counts_in_range := hPre_counts_in_range)
    ∧ quiescent_KernelIdeal_pre_counts_and_padding (hKernelIdeal := hKernelIdeal) (hPre_counts_and_padding := hPre_counts_and_padding)
    ∧ quiescent_ReferenceIdeal (hReferenceIdeal := hReferenceIdeal)
    ∧ quiescent_ReferenceIdeal_pre_counts_and_padding (hReferenceIdeal := hReferenceIdeal) (hPre_counts_and_padding := hPre_counts_and_padding)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_router (hKernel8Ideal := hKernel8Ideal) (hPre_finite_router := hPre_finite_router)
    ∧ quiescent_Reference8Ideal (hReference8Ideal := hReference8Ideal)
    ∧ quiescent_Reference8Ideal_pre_finite_router (hReference8Ideal := hReference8Ideal) (hPre_finite_router := hPre_finite_router)
    ∧ preserves_Kernel_KernelIdeal
    ∧ algebraic_KernelIdeal_ReferenceIdeal_pre_counts_and_padding (hKernelIdeal := hKernelIdeal) (hReferenceIdeal := hReferenceIdeal) (hPre_counts_and_padding := hPre_counts_and_padding)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_router (hKernel8Ideal := hKernel8Ideal) (hReference8Ideal := hReference8Ideal) (hPre_finite_router := hPre_finite_router)
-- ==== Pre_counts_and_padding.lean ====
abbrev S8 : Shape := ⟨1, ![8]⟩
abbrev S40960x1024 : Shape := ⟨2, ![40960, 1024]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S40960_S40960x1_0 : S40960.BroadcastsInDim S40960x1 (![0] : Fin 1 → Fin S40960x1.rank)
  bcast_S8_S1x8_1 : S8.BroadcastsInDim S1x8 (![1] : Fin 1 → Fin S1x8.rank)
  bcast_S40960x1_S40960x8_0_1 : S40960x1.BroadcastsInDim S40960x8 (![0, 1] : Fin 2 → Fin S40960x8.rank)
  bcast_S1x8_S40960x8_0_1 : S1x8.BroadcastsInDim S40960x8 (![0, 1] : Fin 2 → Fin S40960x8.rank)
  reducesTo_S40960x8_S40960_d1 : S40960x8.ReducesTo [1] S40960
  bcast_S_S40960x1024 : S_.BroadcastsInDim S40960x1024 (![] : Fin 0 → Fin S40960x1024.rank)
  bcast_S40960x1_S40960x1024_0_1 : S40960x1.BroadcastsInDim S40960x1024 (![0, 1] : Fin 2 → Fin S40960x1024.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn_part1 {F : FTy → Type} [FloatOps F] (main_arg0 : IVec S8 32) (main_arg1 : FVec F S40960x1024 .f32) (main_v15 : IVec S40960x8 1) (main_v19 : IVec S40960x8 1) : IVec S8 1 × IVec S40960x1024 1 :=
  let main_v20 : IVec S40960x8 1 := andi main_v15 main_v19
  let main_c_3 : IVec S_ 1 := constantI S_ 1 0#1
  let main_v21 : IVec S40960 1 := (fun x v => Host.reduce IntOp.ori x v reducesTo_S40960x8_S40960_d1 h_S_) main_v20 main_c_3
  let main_c_4 : IVec S_ 32 := constantI S_ 32 0#32
  let main_v22 : IVec S8 32 := broadcastInDim S8 ![] bcast_S_S8 main_c_4
  let main_v23 : IVec S8 1 := cmpi .sge main_arg0 main_v22
  let main_c_5 : IVec S_ 32 := constantI S_ 32 32768#32
  let main_v24 : IVec S8 32 := broadcastInDim S8 ![] bcast_S_S8 main_c_5
  let main_v25 : IVec S8 1 := cmpi .sle main_arg0 main_v24
  let main_v26 : IVec S8 1 := andi main_v23 main_v25
  let main_v27 : IVec S40960x1 1 := broadcastInDim S40960x1 ![0] bcast_S40960_S40960x1_0 main_v21
  let main_cst : FVec F S_ .f32 := constant S_ .f32 0x00000000#32
  let main_v28 : FVec F S40960x1024 .f32 := broadcastInDim S40960x1024 ![] bcast_S_S40960x1024 main_cst
  let main_v29 : IVec S40960x1024 1 := cmpf .oeq main_arg1 main_v28
  let main_v30 : IVec S40960x1024 1 := broadcastInDim S40960x1024 ![0, 1] bcast_S40960x1_S40960x1024_0_1 main_v27
  let main_v31 : IVec S40960x1024 1 := ori main_v30 main_v29
  (main_v26, main_v31)

def fn {F : FTy → Type} [FloatOps F] (main_arg0 : IVec S8 32) (main_arg1 : FVec F S40960x1024 .f32) (main_arg2 : FVec F S1x8x1024x3584 .f32) (main_arg3 : FVec F S1x8x1024x3584 .f32) (main_arg4 : FVec F S1x8x3584x1024 .f32) : IVec S8 1 × IVec S40960x1024 1 :=
  let main_c : IVec S_ 32 := constantI S_ 32 1024#32
  let main_v0 : IVec S8 32 := broadcastInDim S8 ![] bcast_S_S8 main_c
  let main_v1 : IVec S8 32 := addi main_arg0 main_v0
  let main_c_0 : IVec S_ 32 := constantI S_ 32 1#32
  let main_v2 : IVec S8 32 := broadcastInDim S8 ![] bcast_S_S8 main_c_0
  let main_v3 : IVec S8 32 := subi main_v1 main_v2
  let main_c_1 : IVec S_ 32 := constantI S_ 32 1024#32
  let main_v4 : IVec S8 32 := fn_floor_divide (F := F) main_v3 main_c_1
  let main_c_2 : IVec S_ 32 := constantI S_ 32 1024#32
  let main_v5 : IVec S8 32 := broadcastInDim S8 ![] bcast_S_S8 main_c_2
  let main_v6 : IVec S8 32 := muli main_v4 main_v5
  let main_v7 : IVec S8 32 := fn_cumsum (F := F) main_v6
  let main_v8 : IVec S8 32 := subi main_v7 main_v6
  let main_v9 : IVec S8 32 := addi main_v8 main_arg0
  let main_v10 : IVec S40960 32 := iotaInDim S40960 32 0
  let main_v11 : IVec S40960x1 32 := broadcastInDim S40960x1 ![0] bcast_S40960_S40960x1_0 main_v10
  let main_v12 : IVec S1x8 32 := broadcastInDim S1x8 ![1] bcast_S8_S1x8_1 main_v8
  let main_v13 : IVec S40960x8 32 := broadcastInDim S40960x8 ![0, 1] bcast_S40960x1_S40960x8_0_1 main_v11
  let main_v14 : IVec S40960x8 32 := broadcastInDim S40960x8 ![0, 1] bcast_S1x8_S40960x8_0_1 main_v12
  let main_v15 : IVec S40960x8 1 := cmpi .sge main_v13 main_v14
  let main_v16 : IVec S1x8 32 := broadcastInDim S1x8 ![1] bcast_S8_S1x8_1 main_v9
  let main_v17 : IVec S40960x8 32 := broadcastInDim S40960x8 ![0, 1] bcast_S40960x1_S40960x8_0_1 main_v11
  let main_v18 : IVec S40960x8 32 := broadcastInDim S40960x8 ![0, 1] bcast_S1x8_S40960x8_0_1 main_v16
  let main_v19 : IVec S40960x8 1 := cmpi .slt main_v17 main_v18
  fn_part1 (F := F) main_arg0 main_arg1 main_v15 main_v19
-- ==== Pre_counts_in_range.lean ====
abbrev S8 : Shape := ⟨1, ![8]⟩
abbrev S40960x1024 : Shape := ⟨2, ![40960, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S8 32) (main_arg1 : FVec F S40960x1024 .f32) (main_arg2 : FVec F S1x8x1024x3584 .f32) (main_arg3 : FVec F S1x8x1024x3584 .f32) (main_arg4 : FVec F S1x8x3584x1024 .f32) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 32768#32
  let main_v2 : IVec S8 32 := broadcastInDim S8 ![] bcast_S_S8 main_c_0
  let main_v3 : IVec S8 1 := cmpi .sle main_arg0 main_v2
  let main_v4 : IVec S8 1 := andi main_v1 main_v3
  main_v4
-- ==== Pre_finite.lean ====
abbrev S128x1024 : Shape := ⟨2, ![128, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  bcast_S_S1x1024x8 : S_.BroadcastsInDim S1x1024x8 (![] : Fin 0 → Fin S1x1024x8.rank)

variable [Facts]

def fn {F : FTy → Type} [FloatOps F] (main_arg0 : FVec F S128x1024 .bf16) (main_arg1 : FVec F S128x1024 .f32) (main_arg2 : FVec F S1x1024x1024 .f32) (main_arg3 : FVec F S1x1024 .f32) (main_arg4 : FVec F S1x1024x8 .f32) (main_arg5 : FVec F S1x8x1024x3584 .f32) (main_arg6 : FVec F S1x8x1024x3584 .f32) (main_arg7 : FVec F S1x8x3584x1024 .f32) (main_arg8 : FVec F S1024 .f32) : IVec S1x1024 1 × IVec S1x1024x8 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x8 .f32 := Host.absf main_arg4
  let main_cst_0 : FVec F S_ .f32 := constant S_ .f32 0x7F800000#32
  let main_v4 : FVec F S1x1024x8 .f32 := broadcastInDim S1x1024x8 ![] bcast_S_S1x1024x8 main_cst_0
  let main_v5 : IVec S1x1024x8 1 := cmpf .olt main_v3 main_v4
  (main_v2, main_v5)
-- ==== Pre_finite_router.lean ====
abbrev S16384x1024 : Shape := ⟨2, ![16384, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S_ : Shape := ⟨0, ![]⟩

class Facts : Prop where
  bcast_S_S1x1024 : S_.BroadcastsInDim S1x1024 (![] : Fin 0 → Fin S1x1024.rank)
  bcast_S_S1x1024x8 : S_.BroadcastsInDim S1x1024x8 (![] : Fin 0 → Fin S1x1024x8.rank)

variable [Facts]

def fn {F : FTy → Type} [FloatOps F] (main_arg0 : FVec F S16384x1024 .bf16) (main_arg1 : FVec F S16384x1024 .f32) (main_arg2 : FVec F S1x1024x1024 .f32) (main_arg3 : FVec F S1x1024 .f32) (main_arg4 : FVec F S1x1024x8 .f32) : IVec S1x1024 1 × IVec S1x1024x8 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x8 .f32 := Host.absf main_arg4
  let main_cst_0 : FVec F S_ .f32 := constant S_ .f32 0x7F800000#32
  let main_v4 : FVec F S1x1024x8 .f32 := broadcastInDim S1x1024x8 ![] bcast_S_S1x1024x8 main_cst_0
  let main_v5 : IVec S1x1024x8 1 := cmpf .olt main_v3 main_v4
  (main_v2, main_v5)
-- ==== Kernel.lean ====
abbrev S8 : Shape := ⟨1, ![8]⟩
abbrev S40960x1024 : Shape := ⟨2, ![40960, 1024]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S40 : Shape := ⟨1, ![40]⟩
abbrev S1 : Shape := ⟨1, ![1]⟩
abbrev S1x8 : Shape := ⟨2, ![1, 8]⟩
abbrev S40x1 : Shape := ⟨2, ![40, 1]⟩
abbrev S40x8 : Shape := ⟨2, ![40, 8]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 75
  | .vmem => 11
  | .smem => 2
  | _ => 0

abbrev bufTy : (tb : Table) → Fin (tcTables nBuf tb) → BufTy
  | .hbm, ⟨0, _⟩ => ⟨S8, .i32⟩
  | .hbm, ⟨1, _⟩ => ⟨S40960x1024, .f32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S40, .i32⟩
  | .hbm, ⟨36, _⟩ => ⟨S_, .i32⟩
  | .hbm, ⟨37, _⟩ => ⟨S40, .i32⟩
  | .hbm, ⟨38, _⟩ => ⟨S40, .i32⟩
  | .hbm, ⟨39, _⟩ => ⟨S1, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S40, .i32⟩
  | .hbm, ⟨44, _⟩ => ⟨S40, .i32⟩
  | .hbm, ⟨45, _⟩ => ⟨S1x8, .i32⟩
  | .hbm, ⟨46, _⟩ => ⟨S40x1, .i32⟩
  | .hbm, ⟨47, _⟩ => ⟨S40x8, .i32⟩
  | .hbm, ⟨48, _⟩ => ⟨S40x8, .i32⟩
  | .hbm, ⟨49, _⟩ => ⟨S40x8, .i1⟩
  | .hbm, ⟨50, _⟩ => ⟨S40x8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S40, .i32⟩
  | .hbm, ⟨56, _⟩ => ⟨S40, .i1⟩
  | .hbm, ⟨57, _⟩ => ⟨S_, .i32⟩
  | .hbm, ⟨58, _⟩ => ⟨S40, .i32⟩
  | .hbm, ⟨59, _⟩ => ⟨S40, .i32⟩
  | .hbm, ⟨60, _⟩ => ⟨S40, .i32⟩
  | .hbm, ⟨61, _⟩ => ⟨S40x1, .i32⟩
  | .hbm, ⟨62, _⟩ => ⟨S40, .i32⟩
  | .hbm, ⟨63, _⟩ => ⟨S40, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S40, .i32⟩
  | .hbm, ⟨68, _⟩ => ⟨S40, .i32⟩
  | .hbm, ⟨69, _⟩ => ⟨S_, .i32⟩
  | .hbm, ⟨70, _⟩ => ⟨S40, .i32⟩
  | .hbm, ⟨71, _⟩ => ⟨S8x1024x3584, .f32⟩
  | .hbm, ⟨72, _⟩ => ⟨S8x1024x3584, .f32⟩
  | .hbm, ⟨73, _⟩ => ⟨S8x3584x1024, .f32⟩
  | .hbm, ⟨74, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S40, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_c_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_c_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v22 : Ref sig .tc := ⟨.smem, 0, rfl⟩
abbrev main_v33 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_v22.idx, main_v33.idx], fun | 0 => main_v22.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c512_i32 : BitVec 32 := 512#32
  let v5 : BitVec 1 := Scalar.cmpi .sgt v1 c512_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c0_i32_2 : BitVec 32 := 0#32
  let v8 : BitVec 1 := Scalar.cmpi .sgt v1 c0_i32_2
  let c512_i32_3 : BitVec 32 := 512#32
  let v9 : BitVec 1 := Scalar.cmpi .sle v1 c512_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8 : Shape := ⟨1, ![8]⟩
abbrev S40960x1024 : Shape := ⟨2, ![40960, 1024]⟩
abbrev S1x8x1024x3584 : Shape := ⟨4, ![1, 8, 1024, 3584]⟩
abbrev S1x8x3584x1024 : Shape := ⟨4, ![1, 8, 3584, 1024]⟩
abbrev S_ : Shape := ⟨0, ![]⟩
abbrev S40960 : Shape := ⟨1, ![40960]⟩
abbrev S40960x1 : Shape := ⟨2, ![40960, 1]⟩
abbrev S1x8 : Shape := ⟨2, ![1, 8]⟩
abbrev S40960x8 : Shape := ⟨2, ![40960, 8]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S40960x3584 : Shape := ⟨2, ![40960, 3584]⟩

abbrev nBuf : Space → Nat
  | .hbm => 247
  | .vmem => 0
  | .smem => 0
  | _ => 0

abbrev hbmTy0_0 (i : Nat) : BufTy := match i % 128 with
  | 0 => ⟨S8, .i32⟩
  | 1 => ⟨S40960x1024, .f32⟩
  | 2 => ⟨S1x8x1024x3584, .f32⟩
  | 3 => ⟨S1x8x1024x3584, .f32⟩
  | 4 => ⟨S1x8x3584x1024, .f32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S_, .i32⟩
  | 12 => ⟨S_, .i32⟩
  | 13 => ⟨S8, .i32⟩
  | 14 => ⟨S8, .i32⟩
  | 15 => ⟨S8, .i32⟩
  | 16 => ⟨S_, .i32⟩
  | 17 => ⟨S8, .i32⟩
  | 18 => ⟨S8, .i1⟩
  | 19 => ⟨S8, .i32⟩
  | 20 => ⟨S8, .i32⟩
  | 21 => ⟨S_, .i32⟩
  | 22 => ⟨S8, .i32⟩
  | 23 => ⟨S8, .i1⟩
  | 24 => ⟨S8, .i1⟩
  | 25 => ⟨S_, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S40960, .i32⟩
  | 38 => ⟨S40960x1, .i32⟩
  | 39 => ⟨S1x8, .i32⟩
  | 40 => ⟨S40960x8, .i32⟩
  | 41 => ⟨S40960x8, .i32⟩
  | 42 => ⟨S40960x8, .i1⟩
  | 43 => ⟨S1x8, .i32⟩
  | 44 => ⟨S40960x8, .i32⟩
  | 45 => ⟨S40960x8, .i32⟩
  | 46 => ⟨S40960x8, .i1⟩
  | 47 => ⟨S40960x8, .i1⟩
  | 48 => ⟨S_, .f32⟩
  | 49 => ⟨S_, .f32⟩
  | 50 => ⟨S40960x8, .f32⟩
  | 51 => ⟨S40960x8, .f32⟩
  | 52 => ⟨S40960x8, .f32⟩
  | 53 => ⟨S_, .f32⟩
  | 54 => ⟨S40960x1024, .f32⟩
  | 55 => ⟨S40960x1, .f32⟩
  | 56 => ⟨S1x1x1024x3584, .f32⟩
  | 57 => ⟨S1024x3584, .f32⟩
  | 58 => ⟨S1x1x1024x3584, .f32⟩
  | 59 => ⟨S1024x3584, .f32⟩
  | 60 => ⟨S1x1x3584x1024, .f32⟩
  | 61 => ⟨S3584x1024, .f32⟩
  | 62 => ⟨S40960x3584, .f32⟩
  | 63 => ⟨S40960x3584, .f32⟩
  | 64 => ⟨S40960x3584, .f32⟩
  | 65 => ⟨S_, .f32⟩
  | 66 => ⟨S40960x3584, .f32⟩
  | 67 => ⟨S40960x3584, .f32⟩
  | 68 => ⟨S_, .f32⟩
  | 69 => ⟨S40960x3584, .f32⟩
  | 70 => ⟨S40960x3584, .f32⟩
  | 71 => ⟨S40960x3584, .f32⟩
  | 72 => ⟨S40960x3584, .f32⟩
  | 73 => ⟨S40960x3584, .f32⟩
  | 74 => ⟨S40960x1024, .f32⟩
  | 75 => ⟨S40960x1, .f32⟩
  | 76 => ⟨S40960x1024, .f32⟩
  | 77 => ⟨S40960x1024, .f32⟩
  | 78 => ⟨S40960x1024, .f32⟩
  | 79 => ⟨S40960x1, .f32⟩
  | 80 => ⟨S1x1x1024x3584, .f32⟩
  | 81 => ⟨S1024x3584, .f32⟩
  | 82 => ⟨S1x1x1024x3584, .f32⟩
  | 83 => ⟨S1024x3584, .f32⟩
  | 84 => ⟨S1x1x3584x1024, .f32⟩
  | 85 => ⟨S3584x1024, .f32⟩
  | 86 => ⟨S40960x3584, .f32⟩
  | 87 => ⟨S40960x3584, .f32⟩
  | 88 => ⟨S40960x3584, .f32⟩
  | 89 => ⟨S_, .f32⟩
  | 90 => ⟨S40960x3584, .f32⟩
  | 91 => ⟨S40960x3584, .f32⟩
  | 92 => ⟨S_, .f32⟩
  | 93 => ⟨S40960x3584, .f32⟩
  | 94 => ⟨S40960x3584, .f32⟩
  | 95 => ⟨S40960x3584, .f32⟩
  | 96 => ⟨S40960x3584, .f32⟩
  | 97 => ⟨S40960x3584, .f32⟩
  | 98 => ⟨S40960x1024, .f32⟩
  | 99 => ⟨S40960x1, .f32⟩
  | 100 => ⟨S40960x1024, .f32⟩
  | 101 => ⟨S40960x1024, .f32⟩
  | 102 => ⟨S40960x1024, .f32⟩
  | 103 => ⟨S40960x1, .f32⟩
  | 104 => ⟨S1x1x1024x3584, .f32⟩
  | 105 => ⟨S1024x3584, .f32⟩
  | 106 => ⟨S1x1x1024x3584, .f32⟩
  | 107 => ⟨S1024x3584, .f32⟩
  | 108 => ⟨S1x1x3584x1024, .f32⟩
  | 109 => ⟨S3584x1024, .f32⟩
  | 110 => ⟨S40960x3584, .f32⟩
  | 111 => ⟨S40960x3584, .f32⟩
  | 112 => ⟨S40960x3584, .f32⟩
  | 113 => ⟨S_, .f32⟩
  | 114 => ⟨S40960x3584, .f32⟩
  | 115 => ⟨S40960x3584, .f32⟩
  | 116 => ⟨S_, .f32⟩
  | 117 => ⟨S40960x3584, .f32⟩
  | 118 => ⟨S40960x3584, .f32⟩
  | 119 => ⟨S40960x3584, .f32⟩
  | 120 => ⟨S40960x3584, .f32⟩
  | 121 => ⟨S40960x3584, .f32⟩
  | 122 => ⟨S40960x1024, .f32⟩
  | 123 => ⟨S40960x1, .f32⟩
  | 124 => ⟨S40960x1024, .f32⟩
  | 125 => ⟨S40960x1024, .f32⟩
  | 126 => ⟨S40960x1024, .f32⟩
  | 127 => ⟨S40960x1, .f32⟩
  | _ => ⟨S8, .i32⟩

abbrev hbmTy0_1 (i : Nat) : BufTy := match i % 128 with
  | 0 => ⟨S1x1x1024x3584, .f32⟩
  | 1 => ⟨S1024x3584, .f32⟩
  | 2 => ⟨S1x1x1024x3584, .f32⟩
  | 3 => ⟨S1024x3584, .f32⟩
  | 4 => ⟨S1x1x3584x1024, .f32⟩
  | 5 => ⟨S3584x1024, .f32⟩
  | 6 => ⟨S40960x3584, .f32⟩
  | 7 => ⟨S40960x3584, .f32⟩
  | 8 => ⟨S40960x3584, .f32⟩
  | 9 => ⟨S_, .f32⟩
  | 10 => ⟨S40960x3584, .f32⟩
  | 11 => ⟨S40960x3584, .f32⟩
  | 12 => ⟨S_, .f32⟩
  | 13 => ⟨S40960x3584, .f32⟩
  | 14 => ⟨S40960x3584, .f32⟩
  | 15 => ⟨S40960x3584, .f32⟩
  | 16 => ⟨S40960x3584, .f32⟩
  | 17 => ⟨S40960x3584, .f32⟩
  | 18 => ⟨S40960x1024, .f32⟩
  | 19 => ⟨S40960x1, .f32⟩
  | 20 => ⟨S40960x1024, .f32⟩
  | 21 => ⟨S40960x1024, .f32⟩
  | 22 => ⟨S40960x1024, .f32⟩
  | 23 => ⟨S40960x1, .f32⟩
  | 24 => ⟨S1x1x1024x3584, .f32⟩
  | 25 => ⟨S1024x3584, .f32⟩
  | 26 => ⟨S1x1x1024x3584, .f32⟩
  | 27 => ⟨S1024x3584, .f32⟩
  | 28 => ⟨S1x1x3584x1024, .f32⟩
  | 29 => ⟨S3584x1024, .f32⟩
  | 30 => ⟨S40960x3584, .f32⟩
  | 31 => ⟨S40960x3584, .f32⟩
  | 32 => ⟨S40960x3584, .f32⟩
  | 33 => ⟨S_, .f32⟩
  | 34 => ⟨S40960x3584, .f32⟩
  | 35 => ⟨S40960x3584, .f32⟩
  | 36 => ⟨S_, .f32⟩
  | 37 => ⟨S40960x3584, .f32⟩
  | 38 => ⟨S40960x3584, .f32⟩
  | 39 => ⟨S40960x3584, .f32⟩
  | 40 => ⟨S40960x3584, .f32⟩
  | 41 => ⟨S40960x3584, .f32⟩
  | 42 => ⟨S40960x1024, .f32⟩
  | 43 => ⟨S40960x1, .f32⟩
  | 44 => ⟨S40960x1024, .f32⟩
  | 45 => ⟨S40960x1024, .f32⟩
  | 46 => ⟨S40960x1024, .f32⟩
  | 47 => ⟨S40960x1, .f32⟩
  | 48 => ⟨S1x1x1024x3584, .f32⟩
  | 49 => ⟨S1024x3584, .f32⟩
  | 50 => ⟨S1x1x1024x3584, .f32⟩
  | 51 => ⟨S1024x3584, .f32⟩
  | 52 => ⟨S1x1x3584x1024, .f32⟩
  | 53 => ⟨S3584x1024, .f32⟩
  | 54 => ⟨S40960x3584, .f32⟩
  | 55 => ⟨S40960x3584, .f32⟩
  | 56 => ⟨S40960x3584, .f32⟩
  | 57 => ⟨S_, .f32⟩
  | 58 => ⟨S40960x3584, .f32⟩
  | 59 => ⟨S40960x3584, .f32⟩
  | 60 => ⟨S_, .f32⟩
  | 61 => ⟨S40960x3584, .f32⟩
  | 62 => ⟨S40960x3584, .f32⟩
  | 63 => ⟨S40960x3584, .f32⟩
  | 64 => ⟨S40960x3584, .f32⟩
  | 65 => ⟨S40960x3584, .f32⟩
  | 66 => ⟨S40960x1024, .f32⟩
  | 67 => ⟨S40960x1, .f32⟩
  | 68 => ⟨S40960x1024, .f32⟩
  | 69 => ⟨S40960x1024, .f32⟩
  | 70 => ⟨S40960x1024, .f32⟩
  | 71 => ⟨S40960x1, .f32⟩
  | 72 => ⟨S1x1x1024x3584, .f32⟩
  | 73 => ⟨S1024x3584, .f32⟩
  | 74 => ⟨S1x1x1024x3584, .f32⟩
  | 75 => ⟨S1024x3584, .f32⟩
  | 76 => ⟨S1x1x3584x1024, .f32⟩
  | 77 => ⟨S3584x1024, .f32⟩
  | 78 => ⟨S40960x3584, .f32⟩
  | 79 => ⟨S40960x3584, .f32⟩
  | 80 => ⟨S40960x3584, .f32⟩
  | 81 => ⟨S_, .f32⟩
  | 82 => ⟨S40960x3584, .f32⟩
  | 83 => ⟨S40960x3584, .f32⟩
  | 84 => ⟨S_, .f32⟩
  | 85 => ⟨S40960x3584, .f32⟩
  | 86 => ⟨S40960x3584, .f32⟩
  | 87 => ⟨S40960x3584, .f32⟩
  | 88 => ⟨S40960x3584, .f32⟩
  | 89 => ⟨S40960x3584, .f32⟩
  | 90 => ⟨S40960x1024, .f32⟩
  | 91 => ⟨S40960x1, .f32⟩
  | 92 => ⟨S40960x1024, .f32⟩
  | 93 => ⟨S40960x1024, .f32⟩
  | 94 => ⟨S40960x1024, .f32⟩
  | 95 => ⟨S40960x1, .f32⟩
  | 96 => ⟨S1x1x1024x3584, .f32⟩
  | 97 => ⟨S1024x3584, .f32⟩
  | 98 => ⟨S1x1x1024x3584, .f32⟩
  | 99 => ⟨S1024x3584, .f32⟩
  | 100 => ⟨S1x1x3584x1024, .f32⟩
  | 101 => ⟨S3584x1024, .f32⟩
  | 102 => ⟨S40960x3584, .f32⟩
  | 103 => ⟨S40960x3584, .f32⟩
  | 104 => ⟨S40960x3584, .f32⟩
  | 105 => ⟨S_, .f32⟩
  | 106 => ⟨S40960x3584, .f32⟩
  | 107 => ⟨S40960x3584, .f32⟩
  | 108 => ⟨S_, .f32⟩
  | 109 => ⟨S40960x3584, .f32⟩
  | 110 => ⟨S40960x3584, .f32⟩
  | 111 => ⟨S40960x3584, .f32⟩
  | 112 => ⟨S40960x3584, .f32⟩
  | 113 => ⟨S40960x3584, .f32⟩
  | 114 => ⟨S40960x1024, .f32⟩
  | 115 => ⟨S40960x1, .f32⟩
  | 116 => ⟨S40960x1024, .f32⟩
  | 117 => ⟨S40960x1024, .f32⟩
  | 118 => ⟨S40960x1024, .f32⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call4_v0 : Ref sig .tc := ⟨.hbm, 87, rfl⟩
abbrev main_call4_v1 : Ref sig .tc := ⟨.hbm, 88, rfl⟩
abbrev main_call4_cst : Ref sig .tc := ⟨.hbm, 89, rfl⟩
abbrev main_call4_v2 : Ref sig .tc := ⟨.hbm, 90, rfl⟩
abbrev main_call4_v3 : Ref sig .tc := ⟨.hbm, 91, rfl⟩
abbrev main_call4_cst_0 : Ref sig .tc := ⟨.hbm, 92, rfl⟩
abbrev main_call4_v4 : Ref sig .tc := ⟨.hbm, 93, rfl⟩
abbrev main_call4_v5 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_call6_v0 : Ref sig .tc := ⟨.hbm, 135, rfl⟩
abbrev main_call6_v1 : Ref sig .tc := ⟨.hbm, 136, rfl⟩
abbrev main_call6_cst : Ref sig .tc := ⟨.hbm, 137, rfl⟩
abbrev main_call6_v2 : Ref sig .tc := ⟨.hbm, 138, rfl⟩
abbrev main_call6_v3 : Ref sig .tc := ⟨.hbm, 139, rfl⟩
abbrev main_call6_cst_0 : Ref sig .tc := ⟨.hbm, 140, rfl⟩
abbrev main_call6_v4 : Ref sig .tc := ⟨.hbm, 141, rfl⟩
abbrev main_call6_v5 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_call8_v0 : Ref sig .tc := ⟨.hbm, 183, rfl⟩
abbrev main_call8_v1 : Ref sig .tc := ⟨.hbm, 184, rfl⟩
abbrev main_call8_cst : Ref sig .tc := ⟨.hbm, 185, rfl⟩
abbrev main_call8_v2 : Ref sig .tc := ⟨.hbm, 186, rfl⟩
abbrev main_call8_v3 : Ref sig .tc := ⟨.hbm, 187, rfl⟩
abbrev main_call8_cst_0 : Ref sig .tc := ⟨.hbm, 188, rfl⟩
abbrev main_call8_v4 : Ref sig .tc := ⟨.hbm, 189, rfl⟩
abbrev main_call8_v5 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call9_v0 : Ref sig .tc := ⟨.hbm, 207, rfl⟩
abbrev main_call9_v1 : Ref sig .tc := ⟨.hbm, 208, rfl⟩
abbrev main_call9_cst : Ref sig .tc := ⟨.hbm, 209, rfl⟩
abbrev main_call9_v2 : Ref sig .tc := ⟨.hbm, 210, rfl⟩
abbrev main_call9_v3 : Ref sig .tc := ⟨.hbm, 211, rfl⟩
abbrev main_call9_cst_0 : Ref sig .tc := ⟨.hbm, 212, rfl⟩
abbrev main_call9_v4 : Ref sig .tc := ⟨.hbm, 213, rfl⟩
abbrev main_call9_v5 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_call10_v0 : Ref sig .tc := ⟨.hbm, 231, rfl⟩
abbrev main_call10_v1 : Ref sig .tc := ⟨.hbm, 232, rfl⟩
abbrev main_call10_cst : Ref sig .tc := ⟨.hbm, 233, rfl⟩
abbrev main_call10_v2 : Ref sig .tc := ⟨.hbm, 234, rfl⟩
abbrev main_call10_v3 : Ref sig .tc := ⟨.hbm, 235, rfl⟩
abbrev main_call10_cst_0 : Ref sig .tc := ⟨.hbm, 236, rfl⟩
abbrev main_call10_v4 : Ref sig .tc := ⟨.hbm, 237, rfl⟩
abbrev main_call10_v5 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩

abbrev nD : Nat := 1
abbrev τ : Topo := Topo.v7x

variable {F : FTy → Type} [FloatOps F]
-- ==== Kernel2.lean ====
abbrev S128x1024 : Shape := ⟨2, ![128, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1024x1024 : Shape := ⟨2, ![1024, 1024]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S8x1024x3584 : Shape := ⟨3, ![8, 1024, 3584]⟩
abbrev S8x3584x1024 : Shape := ⟨3, ![8, 3584, 1024]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x1024x512 : Shape := ⟨3, ![1, 1024, 512]⟩
abbrev S1x512x1024 : Shape := ⟨3, ![1, 512, 1024]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 28
  | .vmem => 21
  | .smem => 0
  | _ => 0

abbrev bufTy : (tb : Table) → Fin (tcTables nBuf tb) → BufTy
  | .hbm, ⟨0, _⟩ => ⟨S128x1024, .bf16⟩
  | .hbm, ⟨1, _⟩ => ⟨S128x1024, .f32⟩
  | .hbm, ⟨2, _⟩ => ⟨S1x1024x1024, .f32⟩
  | .hbm, ⟨3, _⟩ => ⟨S1x1024, .f32⟩
  | .hbm, ⟨4, _⟩ => ⟨S1x1024x8, .f32⟩
  | .hbm, ⟨5, _⟩ => ⟨S1x8x1024x3584, .f32⟩
  | .hbm, ⟨6, _⟩ => ⟨S1x8x1024x3584, .f32⟩
  | .hbm, ⟨7, _⟩ => ⟨S1x8x3584x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S1024x128, .f32⟩
  | .hbm, ⟨15, _⟩ => ⟨S1024x8, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S8x1024x3584, .f32⟩
  | .hbm, ⟨20, _⟩ => ⟨S8x1024x3584, .f32⟩
  | .hbm, ⟨21, _⟩ => ⟨S8x3584x1024, .f32⟩
  | .hbm, ⟨22, _⟩ => ⟨S1x1024, .f32⟩
  | .hbm, ⟨23, _⟩ => ⟨S128x1024, .f32⟩
  | .hbm, ⟨24, _⟩ => ⟨S128x1024, .bf16⟩
  | .hbm, ⟨25, _⟩ => ⟨S128x128, .f32⟩
  | .hbm, ⟨26, _⟩ => ⟨S1x128, .f32⟩
  | .hbm, ⟨27, _⟩ => ⟨S128x1024, .f32⟩
  | .local _ .vmem, ⟨0, _⟩ => ⟨S128x1024, .bf16⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x128, .f32⟩
  | .local _ .vmem, ⟨5, _⟩ => ⟨S128x1024, .f32⟩
  | .local _ .vmem, ⟨6, _⟩ => ⟨S128x1024, .bf16⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x1024, .bf16⟩
  | .local _ .vmem, ⟨11, _⟩ => ⟨S128x1024, .f32⟩
  | .local _ .vmem, ⟨12, _⟩ => ⟨S128x128, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x512x1024, .f32⟩
  | .local _ .vmem, ⟨18, _⟩ => ⟨S1x512x1024, .f32⟩
  | .local _ .vmem, ⟨19, _⟩ => ⟨S1x1024, .f32⟩
  | .local _ .vmem, ⟨20, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨3, ![1, 8, 7], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 1 → Memref sig .tc .vmem S128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false, false]
-- ==== Kernel2Ideal.lean ====
variable {F : FTy → Type} [FloatOps F] [Named F]
def κ : String → Option EReal := fun
  | "mask" => some ⊥
  | _ => none
-- ==== Reference2Ideal.lean ====
abbrev S128x1024 : Shape := ⟨2, ![128, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S1x8x1024x3584 : Shape := ⟨4, ![1, 8, 1024, 3584]⟩
abbrev S1x8x3584x1024 : Shape := ⟨4, ![1, 8, 3584, 1024]⟩
abbrev S1024 : Shape := ⟨1, ![1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1024x8 : Shape := ⟨2, ![1024, 8]⟩
abbrev S8x1024x3584 : Shape := ⟨3, ![8, 1024, 3584]⟩
abbrev S8x3584x1024 : Shape := ⟨3, ![8, 3584, 1024]⟩
abbrev S128x8 : Shape := ⟨2, ![128, 8]⟩
abbrev S128x2 : Shape := ⟨2, ![128, 2]⟩
abbrev S128x2x1 : Shape := ⟨3, ![128, 2, 1]⟩
abbrev S1x1x8 : Shape := ⟨3, ![1, 1, 8]⟩
abbrev S128x2x8 : Shape := ⟨3, ![128, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S128x3584 : Shape := ⟨2, ![128, 3584]⟩

abbrev nBuf : Space → Nat
  | .hbm => 265
  | .vmem => 0
  | .smem => 0
  | _ => 0

abbrev hbmTy0_0 (i : Nat) : BufTy := match i % 128 with
  | 0 => ⟨S128x1024, .bf16⟩
  | 1 => ⟨S128x1024, .f32⟩
  | 2 => ⟨S1x1024x1024, .f32⟩
  | 3 => ⟨S1x1024, .f32⟩
  | 4 => ⟨S1x1024x8, .f32⟩
  | 5 => ⟨S1x8x1024x3584, .f32⟩
  | 6 => ⟨S1x8x1024x3584, .f32⟩
  | 7 => ⟨S1x8x3584x1024, .f32⟩
  | 8 => ⟨S1024, .f32⟩
  | 9 => ⟨S128x1024, .f32⟩
  | 10 => ⟨S1024x1024, .f32⟩
  | 11 => ⟨S128x1024, .f32⟩
  | 12 => ⟨S128x1024, .f32⟩
  | 13 => ⟨S1024, .f32⟩
  | 14 => ⟨S128x1024, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1024, .f32⟩
  | 26 => ⟨S128x1024, .f32⟩
  | 27 => ⟨S1x1024, .f32⟩
  | 28 => ⟨S128x1024, .f32⟩
  | 29 => ⟨S128x1024, .f32⟩
  | 30 => ⟨S1024x8, .f32⟩
  | 31 => ⟨S8x1024x3584, .f32⟩
  | 32 => ⟨S8x1024x3584, .f32⟩
  | 33 => ⟨S8x3584x1024, .f32⟩
  | 34 => ⟨S128x8, .f32⟩
  | 35 => ⟨S128x2, .f32⟩
  | 36 => ⟨S128x2, .i32⟩
  | 37 => ⟨S_, .f32⟩
  | 38 => ⟨S128, .f32⟩
  | 39 => ⟨S_, .f32⟩
  | 40 => ⟨S128, .f32⟩
  | 41 => ⟨S128, .f32⟩
  | 42 => ⟨S128x1, .f32⟩
  | 43 => ⟨S128x2, .f32⟩
  | 44 => ⟨S128x2, .f32⟩
  | 45 => ⟨S128x2, .f32⟩
  | 46 => ⟨S_, .f32⟩
  | 47 => ⟨S128, .f32⟩
  | 48 => ⟨S128x1, .f32⟩
  | 49 => ⟨S128x2, .f32⟩
  | 50 => ⟨S128x2, .f32⟩
  | 51 => ⟨S128x2x1, .i32⟩
  | 52 => ⟨S1x1x8, .i32⟩
  | 53 => ⟨S128x2x8, .i32⟩
  | 54 => ⟨S128x2x8, .i32⟩
  | 55 => ⟨S128x2x8, .i1⟩
  | 56 => ⟨S128x2x8, .f32⟩
  | 57 => ⟨S128x2x1, .f32⟩
  | 58 => ⟨S128x2x8, .f32⟩
  | 59 => ⟨S128x2x8, .f32⟩
  | 60 => ⟨S_, .f32⟩
  | 61 => ⟨S128x8, .f32⟩
  | 62 => ⟨S_, .f32⟩
  | 63 => ⟨S128x1024, .f32⟩
  | 64 => ⟨S128x1, .f32⟩
  | 65 => ⟨S1x1024x3584, .f32⟩
  | 66 => ⟨S1024x3584, .f32⟩
  | 67 => ⟨S1x1024x3584, .f32⟩
  | 68 => ⟨S1024x3584, .f32⟩
  | 69 => ⟨S1x3584x1024, .f32⟩
  | 70 => ⟨S3584x1024, .f32⟩
  | 71 => ⟨S128x3584, .f32⟩
  | 72 => ⟨S128x3584, .f32⟩
  | 73 => ⟨S128x3584, .f32⟩
  | 74 => ⟨S_, .f32⟩
  | 75 => ⟨S128x3584, .f32⟩
  | 76 => ⟨S128x3584, .f32⟩
  | 77 => ⟨S_, .f32⟩
  | 78 => ⟨S128x3584, .f32⟩
  | 79 => ⟨S128x3584, .f32⟩
  | 80 => ⟨S128x3584, .f32⟩
  | 81 => ⟨S128x3584, .f32⟩
  | 82 => ⟨S128x3584, .f32⟩
  | 83 => ⟨S128x1024, .f32⟩
  | 84 => ⟨S128x1024, .f32⟩
  | 85 => ⟨S128x1024, .f32⟩
  | 86 => ⟨S128x1024, .f32⟩
  | 87 => ⟨S128x1, .f32⟩
  | 88 => ⟨S1x1024x3584, .f32⟩
  | 89 => ⟨S1024x3584, .f32⟩
  | 90 => ⟨S1x1024x3584, .f32⟩
  | 91 => ⟨S1024x3584, .f32⟩
  | 92 => ⟨S1x3584x1024, .f32⟩
  | 93 => ⟨S3584x1024, .f32⟩
  | 94 => ⟨S128x3584, .f32⟩
  | 95 => ⟨S128x3584, .f32⟩
  | 96 => ⟨S128x3584, .f32⟩
  | 97 => ⟨S_, .f32⟩
  | 98 => ⟨S128x3584, .f32⟩
  | 99 => ⟨S128x3584, .f32⟩
  | 100 => ⟨S_, .f32⟩
  | 101 => ⟨S128x3584, .f32⟩
  | 102 => ⟨S128x3584, .f32⟩
  | 103 => ⟨S128x3584, .f32⟩
  | 104 => ⟨S128x3584, .f32⟩
  | 105 => ⟨S128x3584, .f32⟩
  | 106 => ⟨S128x1024, .f32⟩
  | 107 => ⟨S128x1024, .f32⟩
  | 108 => ⟨S128x1024, .f32⟩
  | 109 => ⟨S128x1024, .f32⟩
  | 110 => ⟨S128x1, .f32⟩
  | 111 => ⟨S1x1024x3584, .f32⟩
  | 112 => ⟨S1024x3584, .f32⟩
  | 113 => ⟨S1x1024x3584, .f32⟩
  | 114 => ⟨S1024x3584, .f32⟩
  | 115 => ⟨S1x3584x1024, .f32⟩
  | 116 => ⟨S3584x1024, .f32⟩
  | 117 => ⟨S128x3584, .f32⟩
  | 118 => ⟨S128x3584, .f32⟩
  | 119 => ⟨S128x3584, .f32⟩
  | 120 => ⟨S_, .f32⟩
  | 121 => ⟨S128x3584, .f32⟩
  | 122 => ⟨S128x3584, .f32⟩
  | 123 => ⟨S_, .f32⟩
  | 124 => ⟨S128x3584, .f32⟩
  | 125 => ⟨S128x3584, .f32⟩
  | 126 => ⟨S128x3584, .f32⟩
  | 127 => ⟨S128x3584, .f32⟩
  | _ => ⟨S128x1024, .bf16⟩

abbrev hbmTy0_1 (i : Nat) : BufTy := match i % 128 with
  | 0 => ⟨S128x3584, .f32⟩
  | 1 => ⟨S128x1024, .f32⟩
  | 2 => ⟨S128x1024, .f32⟩
  | 3 => ⟨S128x1024, .f32⟩
  | 4 => ⟨S128x1024, .f32⟩
  | 5 => ⟨S128x1, .f32⟩
  | 6 => ⟨S1x1024x3584, .f32⟩
  | 7 => ⟨S1024x3584, .f32⟩
  | 8 => ⟨S1x1024x3584, .f32⟩
  | 9 => ⟨S1024x3584, .f32⟩
  | 10 => ⟨S1x3584x1024, .f32⟩
  | 11 => ⟨S3584x1024, .f32⟩
  | 12 => ⟨S128x3584, .f32⟩
  | 13 => ⟨S128x3584, .f32⟩
  | 14 => ⟨S128x3584, .f32⟩
  | 15 => ⟨S_, .f32⟩
  | 16 => ⟨S128x3584, .f32⟩
  | 17 => ⟨S128x3584, .f32⟩
  | 18 => ⟨S_, .f32⟩
  | 19 => ⟨S128x3584, .f32⟩
  | 20 => ⟨S128x3584, .f32⟩
  | 21 => ⟨S128x3584, .f32⟩
  | 22 => ⟨S128x3584, .f32⟩
  | 23 => ⟨S128x3584, .f32⟩
  | 24 => ⟨S128x1024, .f32⟩
  | 25 => ⟨S128x1024, .f32⟩
  | 26 => ⟨S128x1024, .f32⟩
  | 27 => ⟨S128x1024, .f32⟩
  | 28 => ⟨S128x1, .f32⟩
  | 29 => ⟨S1x1024x3584, .f32⟩
  | 30 => ⟨S1024x3584, .f32⟩
  | 31 => ⟨S1x1024x3584, .f32⟩
  | 32 => ⟨S1024x3584, .f32⟩
  | 33 => ⟨S1x3584x1024, .f32⟩
  | 34 => ⟨S3584x1024, .f32⟩
  | 35 => ⟨S128x3584, .f32⟩
  | 36 => ⟨S128x3584, .f32⟩
  | 37 => ⟨S128x3584, .f32⟩
  | 38 => ⟨S_, .f32⟩
  | 39 => ⟨S128x3584, .f32⟩
  | 40 => ⟨S128x3584, .f32⟩
  | 41 => ⟨S_, .f32⟩
  | 42 => ⟨S128x3584, .f32⟩
  | 43 => ⟨S128x3584, .f32⟩
  | 44 => ⟨S128x3584, .f32⟩
  | 45 => ⟨S128x3584, .f32⟩
  | 46 => ⟨S128x3584, .f32⟩
  | 47 => ⟨S128x1024, .f32⟩
  | 48 => ⟨S128x1024, .f32⟩
  | 49 => ⟨S128x1024, .f32⟩
  | 50 => ⟨S128x1024, .f32⟩
  | 51 => ⟨S128x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S128x3584, .f32⟩
  | 59 => ⟨S128x3584, .f32⟩
  | 60 => ⟨S128x3584, .f32⟩
  | 61 => ⟨S_, .f32⟩
  | 62 => ⟨S128x3584, .f32⟩
  | 63 => ⟨S128x3584, .f32⟩
  | 64 => ⟨S_, .f32⟩
  | 65 => ⟨S128x3584, .f32⟩
  | 66 => ⟨S128x3584, .f32⟩
  | 67 => ⟨S128x3584, .f32⟩
  | 68 => ⟨S128x3584, .f32⟩
  | 69 => ⟨S128x3584, .f32⟩
  | 70 => ⟨S128x1024, .f32⟩
  | 71 => ⟨S128x1024, .f32⟩
  | 72 => ⟨S128x1024, .f32⟩
  | 73 => ⟨S128x1024, .f32⟩
  | 74 => ⟨S128x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S128x3584, .f32⟩
  | 82 => ⟨S128x3584, .f32⟩
  | 83 => ⟨S128x3584, .f32⟩
  | 84 => ⟨S_, .f32⟩
  | 85 => ⟨S128x3584, .f32⟩
  | 86 => ⟨S128x3584, .f32⟩
  | 87 => ⟨S_, .f32⟩
  | 88 => ⟨S128x3584, .f32⟩
  | 89 => ⟨S128x3584, .f32⟩
  | 90 => ⟨S128x3584, .f32⟩
  | 91 => ⟨S128x3584, .f32⟩
  | 92 => ⟨S128x3584, .f32⟩
  | 93 => ⟨S128x1024, .f32⟩
  | 94 => ⟨S128x1024, .f32⟩
  | 95 => ⟨S128x1024, .f32⟩
  | 96 => ⟨S128x1024, .f32⟩
  | 97 => ⟨S128x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S128x3584, .f32⟩
  | 105 => ⟨S128x3584, .f32⟩
  | 106 => ⟨S128x3584, .f32⟩
  | 107 => ⟨S_, .f32⟩
  | 108 => ⟨S128x3584, .f32⟩
  | 109 => ⟨S128x3584, .f32⟩
  | 110 => ⟨S_, .f32⟩
  | 111 => ⟨S128x3584, .f32⟩
  | 112 => ⟨S128x3584, .f32⟩
  | 113 => ⟨S128x3584, .f32⟩
  | 114 => ⟨S128x3584, .f32⟩
  | 115 => ⟨S128x3584, .f32⟩
  | 116 => ⟨S128x1024, .f32⟩
  | 117 => ⟨S128x1024, .f32⟩
  | 118 => ⟨S128x1024, .f32⟩
  | 119 => ⟨S128x1024, .f32⟩
  | 120 => ⟨S128x1024, .f32⟩
  | 121 => ⟨S128x1024, .f32⟩
  | 122 => ⟨S_, .f32⟩
  | 123 => ⟨S128, .f32⟩
  | 124 => ⟨S128x1, .f32⟩
  | 125 => ⟨S_, .f32⟩
  | 126 => ⟨S128x1, .f32⟩
  | 127 => ⟨S128x1, .f32⟩
  | _ => ⟨S128x1024, .bf16⟩

abbrev hbmTy0_2 (i : Nat) : BufTy := match i % 128 with
  | 0 => ⟨S_, .f32⟩
  | 1 => ⟨S128x1, .f32⟩
  | 2 => ⟨S128x1, .f32⟩
  | 3 => ⟨S128x1, .f32⟩
  | 4 => ⟨S128x1024, .f32⟩
  | 5 => ⟨S128x1024, .f32⟩
  | 6 => ⟨S1x1024, .f32⟩
  | 7 => ⟨S128x1024, .f32⟩
  | 8 => ⟨S128x1024, .f32⟩
  | _ => ⟨S128x1024, .bf16⟩

abbrev hbmTy (i : Nat) : BufTy := match i / 128 with
  | 0 => hbmTy0_0 i
  | 1 => hbmTy0_1 i
  | 2 => hbmTy0_2 i
  | _ => ⟨S128x1024, .bf16⟩

abbrev bufTy : (tb : Table) → Fin (tcTables nBuf tb) → BufTy
  | .hbm, ⟨i, _⟩ => hbmTy i
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_call6_v0 : Ref sig .tc := ⟨.hbm, 187, rfl⟩
abbrev main_call6_v1 : Ref sig .tc := ⟨.hbm, 188, rfl⟩
abbrev main_call6_cst : Ref sig .tc := ⟨.hbm, 189, rfl⟩
abbrev main_call6_v2 : Ref sig .tc := ⟨.hbm, 190, rfl⟩
abbrev main_call6_v3 : Ref sig .tc := ⟨.hbm, 191, rfl⟩
abbrev main_call6_cst_0 : Ref sig .tc := ⟨.hbm, 192, rfl⟩
abbrev main_call6_v4 : Ref sig .tc := ⟨.hbm, 193, rfl⟩
abbrev main_call6_v5 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_call7_v0 : Ref sig .tc := ⟨.hbm, 210, rfl⟩
abbrev main_call7_v1 : Ref sig .tc := ⟨.hbm, 211, rfl⟩
abbrev main_call7_cst : Ref sig .tc := ⟨.hbm, 212, rfl⟩
abbrev main_call7_v2 : Ref sig .tc := ⟨.hbm, 213, rfl⟩
abbrev main_call7_v3 : Ref sig .tc := ⟨.hbm, 214, rfl⟩
abbrev main_call7_cst_0 : Ref sig .tc := ⟨.hbm, 215, rfl⟩
abbrev main_call7_v4 : Ref sig .tc := ⟨.hbm, 216, rfl⟩
abbrev main_call7_v5 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_call8_v0 : Ref sig .tc := ⟨.hbm, 233, rfl⟩
abbrev main_call8_v1 : Ref sig .tc := ⟨.hbm, 234, rfl⟩
abbrev main_call8_cst : Ref sig .tc := ⟨.hbm, 235, rfl⟩
abbrev main_call8_v2 : Ref sig .tc := ⟨.hbm, 236, rfl⟩
abbrev main_call8_v3 : Ref sig .tc := ⟨.hbm, 237, rfl⟩
abbrev main_call8_cst_0 : Ref sig .tc := ⟨.hbm, 238, rfl⟩
abbrev main_call8_v4 : Ref sig .tc := ⟨.hbm, 239, rfl⟩
abbrev main_call8_v5 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_cst_7 : Ref sig .tc := ⟨.hbm, 250, rfl⟩
abbrev main_v162 : Ref sig .tc := ⟨.hbm, 251, rfl⟩
abbrev main_v163 : Ref sig .tc := ⟨.hbm, 252, rfl⟩
abbrev main_cst_8 : Ref sig .tc := ⟨.hbm, 253, rfl⟩
abbrev main_v164 : Ref sig .tc := ⟨.hbm, 254, rfl⟩
abbrev main_v165 : Ref sig .tc := ⟨.hbm, 255, rfl⟩
abbrev main_cst_9 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S1024x2x1408 : Shape := ⟨3, ![1024, 2, 1408]⟩
abbrev S2x1024x1408 : Shape := ⟨3, ![2, 1024, 1408]⟩
abbrev S2816x1024 : Shape := ⟨2, ![2816, 1024]⟩
abbrev S512x512 : Shape := ⟨2, ![512, 512]⟩
abbrev S512x1024 : Shape := ⟨2, ![512, 1024]⟩
abbrev S1x1024x1408 : Shape := ⟨3, ![1, 1024, 1408]⟩
abbrev S1408x1024 : Shape := ⟨2, ![1408, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩

abbrev nBuf : Space → Nat
  | .hbm => 23
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2x1408, .bf16⟩
  | .hbm, ⟨15, _⟩ => ⟨S2x1024x1408, .bf16⟩
  | .hbm, ⟨16, _⟩ => ⟨S1024x2816, .f32⟩
  | .hbm, ⟨17, _⟩ => ⟨S1024x2816, .bf16⟩
  | .hbm, ⟨18, _⟩ => ⟨S1024x2x1408, .bf16⟩
  | .hbm, ⟨19, _⟩ => ⟨S2x1024x1408, .bf16⟩
  | .hbm, ⟨20, _⟩ => ⟨S2816x1024, .f32⟩
  | .hbm, ⟨21, _⟩ => ⟨S2816x1024, .bf16⟩
  | .hbm, ⟨22, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16384x512 : Shape := ⟨2, ![16384, 512]⟩
abbrev S16384x1024 : Shape := ⟨2, ![16384, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 48
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel4.lean ====
abbrev S128x1024 : Shape := ⟨2, ![128, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S1024x2560 : Shape := ⟨2, ![1024, 2560]⟩
abbrev S128x2560 : Shape := ⟨2, ![128, 2560]⟩
abbrev S128 : Shape := ⟨1, ![128]⟩
abbrev S128x1 : Shape := ⟨2, ![128, 1]⟩
abbrev S_ : Shape := ⟨0, ![]⟩
abbrev S1 : Shape := ⟨1, ![1]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512 : Shape := ⟨1, ![512]⟩
abbrev S8x128x128 : Shape := ⟨3, ![8, 128, 128]⟩
abbrev S8x128 : Shape := ⟨2, ![8, 128]⟩
abbrev S8x1x1 : Shape := ⟨3, ![8, 1, 1]⟩
abbrev S8x64 : Shape := ⟨2, ![8, 64]⟩
abbrev S8x1 : Shape := ⟨2, ![8, 1]⟩
abbrev S128x512 : Shape := ⟨2, ![128, 512]⟩
abbrev S128x128 : Shape := ⟨2, ![128, 128]⟩

abbrev nBuf : Space → Nat
  | .hbm => 68
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1024, .f32⟩
  | .hbm, ⟨8, _⟩ => ⟨S1x1024, .f32⟩
  | .hbm, ⟨9, _⟩ => ⟨S1024x2560, .f32⟩
  | .hbm, ⟨10, _⟩ => ⟨S1024x2560, .bf16⟩
  | .hbm, ⟨11, _⟩ => ⟨S128x2560, .f32⟩
  | .hbm, ⟨12, _⟩ => ⟨S_, .i32⟩
  | .hbm, ⟨13, _⟩ => ⟨S1, .i32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S1, .f32⟩
  | .hbm, ⟨23, _⟩ => ⟨S1x1, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S_, .f32⟩
  | .hbm, ⟨30, _⟩ => ⟨S1x48, .f32⟩
  | .hbm, ⟨31, _⟩ => ⟨S_, .f32⟩
  | .hbm, ⟨32, _⟩ => ⟨S1x8, .f32⟩
  | .hbm, ⟨33, _⟩ => ⟨S_, .f32⟩
  | .hbm, ⟨34, _⟩ => ⟨S1x48, .f32⟩
  | .hbm, ⟨35, _⟩ => ⟨S1x64, .f32⟩
  | .hbm, ⟨36, _⟩ => ⟨S1x8, .f32⟩
  | .hbm, ⟨37, _⟩ => ⟨S1x64, .f32⟩
  | .hbm, ⟨38, _⟩ => ⟨S1x64, .f32⟩
  | .hbm, ⟨39, _⟩ => ⟨S1x1x1x64, .f32⟩
  | .hbm, ⟨40, _⟩ => ⟨S1x1x2x64, .f32⟩
  | .hbm, ⟨41, _⟩ => ⟨S1x128, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S1x1x1x64, .f32⟩
  | .hbm, ⟨46, _⟩ => ⟨S1x1x2x64, .f32⟩
  | .hbm, ⟨47, _⟩ => ⟨S1x128, .f32⟩
  | .hbm, ⟨48, _⟩ => ⟨S512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S8x128x128, .f32⟩
  | .hbm, ⟨53, _⟩ => ⟨S8x128, .f32⟩
  | .hbm, ⟨54, _⟩ => ⟨S8x1x1, .f32⟩
  | .hbm, ⟨55, _⟩ => ⟨S8, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S8x1, .f32⟩
  | .hbm, ⟨60, _⟩ => ⟨S8, .f32⟩
  | .hbm, ⟨61, _⟩ => ⟨S8x64, .f32⟩
  | .hbm, ⟨62, _⟩ => ⟨S512, .f32⟩
  | .hbm, ⟨63, _⟩ => ⟨S1x512, .f32⟩
  | .hbm, ⟨64, _⟩ => ⟨S128x512, .f32⟩
  | .hbm, ⟨65, _⟩ => ⟨S128x1024, .f32⟩
  | .hbm, ⟨66, _⟩ => ⟨S128x512, .f32⟩
  | .hbm, ⟨67, _⟩ => ⟨S128x512, .bf16⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S128x2560, .f32⟩
  | .local _ .vmem, ⟨4, _⟩ => ⟨S128x2560, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x1024, .f32⟩
  | .local _ .vmem, ⟨14, _⟩ => ⟨S128x512, .f32⟩
  | .local _ .vmem, ⟨15, _⟩ => ⟨S128x512, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev grid1 : Pipeline.Grid := .none

abbrev stage1_0 : Fin 1 → Memref sig .tc .vmem S128x2560 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128x512 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
-- ==== Reference4Ideal.lean ====
abbrev S128x1024 : Shape := ⟨2, ![128, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S128 : Shape := ⟨1, ![128]⟩
abbrev S128x1 : Shape := ⟨2, ![128, 1]⟩
abbrev S1024x2560 : Shape := ⟨2, ![1024, 2560]⟩
abbrev S128x2560 : Shape := ⟨2, ![128, 2560]⟩
abbrev S1 : Shape := ⟨1, ![1]⟩
abbrev S128x512 : Shape := ⟨2, ![128, 512]⟩
abbrev S128x8x64 : Shape := ⟨3, ![128, 8, 64]⟩
abbrev S8 : Shape := ⟨1, ![8]⟩
abbrev S1x1 : Shape := ⟨2, ![1, 1]⟩
abbrev S1x8 : Shape := ⟨2, ![1, 8]⟩
abbrev S1x1x8 : Shape := ⟨3, ![1, 1, 8]⟩
abbrev S128x8x8 : Shape := ⟨3, ![128, 8, 8]⟩
abbrev S128x8x48 : Shape := ⟨3, ![128, 8, 48]⟩
abbrev S512 : Shape := ⟨1, ![512]⟩

abbrev nBuf : Space → Nat
  | .hbm => 107
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S1024x2560, .f32⟩
  | .hbm, ⟨25, _⟩ => ⟨S128x2560, .f32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S128x512, .f32⟩
  | .hbm, ⟨31, _⟩ => ⟨S128x8x64, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S1, .f32⟩
  | .hbm, ⟨41, _⟩ => ⟨S1x1, .f32⟩
  | .hbm, ⟨42, _⟩ => ⟨S1x8, .f32⟩
  | .hbm, ⟨43, _⟩ => ⟨S1x8, .f32⟩
  | .hbm, ⟨44, _⟩ => ⟨S1x8, .f32⟩
  | .hbm, ⟨45, _⟩ => ⟨S1x8, .f32⟩
  | .hbm, ⟨46, _⟩ => ⟨S1x1x8, .f32⟩
  | .hbm, ⟨47, _⟩ => ⟨S1x8, .f32⟩
  | .hbm, ⟨48, _⟩ => ⟨S1x1x8, .f32⟩
  | .hbm, ⟨49, _⟩ => ⟨S128x8x8, .f32⟩
  | .hbm, ⟨50, _⟩ => ⟨S128x8x8, .f32⟩
  | .hbm, ⟨51, _⟩ => ⟨S128x8x8, .f32⟩
  | .hbm, ⟨52, _⟩ => ⟨S128x8x8, .f32⟩
  | .hbm, ⟨53, _⟩ => ⟨S128x8x8, .f32⟩
  | .hbm, ⟨54, _⟩ => ⟨S128x8x8, .f32⟩
  | .hbm, ⟨55, _⟩ => ⟨S128x8x8, .f32⟩
  | .hbm, ⟨56, _⟩ => ⟨S128x8x8, .f32⟩
  | .hbm, ⟨57, _⟩ => ⟨S128x8x8, .f32⟩
  | .hbm, ⟨58, _⟩ => ⟨S128x8x8, .f32⟩
  | .hbm, ⟨59, _⟩ => ⟨S128x8x8, .f32⟩
  | .hbm, ⟨60, _⟩ => ⟨S128x8x8, .f32⟩
  | .hbm, ⟨61, _⟩ => ⟨S128x8x48, .f32⟩
  | .hbm, ⟨62, _⟩ => ⟨S128x8x64, .f32⟩
  | .hbm, ⟨63, _⟩ => ⟨S128x512, .f32⟩
  | .hbm, ⟨64, _⟩ => ⟨S128x512, .f32⟩
  | .hbm, ⟨65, _⟩ => ⟨S128x1024, .f32⟩
  | .hbm, ⟨66, _⟩ => ⟨S128x512, .f32⟩
  | .hbm, ⟨67, _⟩ => ⟨S_, .f32⟩
  | .hbm, ⟨68, _⟩ => ⟨S128x512, .f32⟩
  | .hbm, ⟨69, _⟩ => ⟨S128x512, .f32⟩
  | .hbm, ⟨70, _⟩ => ⟨S128x512, .f32⟩
  | .hbm, ⟨71, _⟩ => ⟨S_, .f32⟩
  | .hbm, ⟨72, _⟩ => ⟨S128x512, .f32⟩
  | .hbm, ⟨73, _⟩ => ⟨S128x512, .f32⟩
  | .hbm, ⟨74, _⟩ => ⟨S128x512, .f32⟩
  | .hbm, ⟨75, _⟩ => ⟨S128x512, .f32⟩
  | .hbm, ⟨76, _⟩ => ⟨S512, .f32⟩
  | .hbm, ⟨77, _⟩ => ⟨S512, .f32⟩
  | .hbm, ⟨78, _⟩ => ⟨S_, .f32⟩
  | .hbm, ⟨79, _⟩ => ⟨S128, .f32⟩
  | .hbm, ⟨80, _⟩ => ⟨S128x1, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S128x512, .f32⟩
  | .hbm, ⟨85, _⟩ => ⟨S128x512, .f32⟩
  | .hbm, ⟨86, _⟩ => ⟨S128x512, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S_, .f32⟩
  | .hbm, ⟨91, _⟩ => ⟨S128x1, .f32⟩
  | .hbm, ⟨92, _⟩ => ⟨S128x1, .f32⟩
  | .hbm, ⟨93, _⟩ => ⟨S128x512, .f32⟩
  | .hbm, ⟨94, _⟩ => ⟨S128x512, .f32⟩
  | .hbm, ⟨95, _⟩ => ⟨S_, .f32⟩
  | .hbm, ⟨96, _⟩ => ⟨S128x1, .f32⟩
  | .hbm, ⟨97, _⟩ => ⟨S128x1, .f32⟩
  | .hbm, ⟨98, _⟩ => ⟨S128x1, .f32⟩
  | .hbm, ⟨99, _⟩ => ⟨S128x512, .f32⟩
  | .hbm, ⟨100, _⟩ => ⟨S128x512, .f32⟩
  | .hbm, ⟨101, _⟩ => ⟨S1x512, .f32⟩
  | .hbm, ⟨102, _⟩ => ⟨S128x512, .f32⟩
  | .hbm, ⟨103, _⟩ => ⟨S128x512, .f32⟩
  | .hbm, ⟨104, _⟩ => ⟨S1x512, .f32⟩
  | .hbm, ⟨105, _⟩ => ⟨S128x512, .f32⟩
  | .hbm, ⟨106, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_6 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Kernel5.lean ====
abbrev S128x1024 : Shape := ⟨2, ![128, 1024]⟩
abbrev S1x128x3x1024 : Shape := ⟨4, ![1, 128, 3, 1024]⟩
abbrev S1x1024 : Shape := ⟨2, ![1, 1024]⟩
abbrev S1x1024x3096 : Shape := ⟨3, ![1, 1024, 3096]⟩
abbrev S1024x3096 : Shape := ⟨2, ![1024, 3096]⟩
abbrev S1024x256 : Shape := ⟨2, ![1024, 256]⟩
abbrev S1024x512 : Shape := ⟨2, ![1024, 512]⟩
abbrev S1024x16 : Shape := ⟨2, ![1024, 16]⟩
abbrev S1024x1024 : Shape := ⟨2, ![1024, 1024]⟩
abbrev S1024x4 : Shape := ⟨2, ![1024, 4]⟩
abbrev S_ : Shape := ⟨0, ![]⟩
abbrev S1024x104 : Shape := ⟨2, ![1024, 104]⟩
abbrev S1024x3200 : Shape := ⟨2, ![1024, 3200]⟩
abbrev S1024 : Shape := ⟨1, ![1024]⟩
abbrev S128x3200 : Shape := ⟨2, ![128, 3200]⟩
abbrev S128 : Shape := ⟨1, ![128]⟩
abbrev S128x1 : Shape := ⟨2, ![128, 1]⟩
abbrev S128x3x1024 : Shape := ⟨3, ![128, 3, 1024]⟩
abbrev S128x2x1024 : Shape := ⟨3, ![128, 2, 1024]⟩
abbrev S128x1x1024 : Shape := ⟨3, ![128, 1, 1024]⟩

abbrev nBuf : Space → Nat
  | .hbm => 26
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1x128x3x1024, .f32⟩
  | .hbm, ⟨2, _⟩ => ⟨S1x1024, .f32⟩
  | .hbm, ⟨3, _⟩ => ⟨S1x1024x3096, .f32⟩
  | .hbm, ⟨4, _⟩ => ⟨S1024x3096, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x16, .f32⟩
  | .hbm, ⟨9, _⟩ => ⟨S1024x512, .f32⟩
  | .hbm, ⟨10, _⟩ => ⟨S1024x1024, .f32⟩
  | .hbm, ⟨11, _⟩ => ⟨S1024x4, .f32⟩
  | .hbm, ⟨12, _⟩ => ⟨S1024x4, .f32⟩
  | .hbm, ⟨13, _⟩ => ⟨S1024x512, .f32⟩
  | .hbm, ⟨14, _⟩ => ⟨S_, .f32⟩
  | .hbm, ⟨15, _⟩ => ⟨S1024x104, .f32⟩
  | .hbm, ⟨16, _⟩ => ⟨S1024x3200, .f32⟩
  | .hbm, ⟨17, _⟩ => ⟨S1024x3200, .bf16⟩
  | .hbm, ⟨18, _⟩ => ⟨S1024, .f32⟩
  | .hbm, ⟨19, _⟩ => ⟨S1x1024, .f32⟩
  | .hbm, ⟨20, _⟩ => ⟨S128x3200, .f32⟩
  | .hbm, ⟨21, _⟩ => ⟨S128x3x1024, .f32⟩
  | .hbm, ⟨22, _⟩ => ⟨S128x2x1024, .f32⟩
  | .hbm, ⟨23, _⟩ => ⟨S128x1024, .f32⟩
  | .hbm, ⟨24, _⟩ => ⟨S128x1x1024, .f32⟩
  | .hbm, ⟨25, _⟩ => ⟨S128x3x1024, .f32⟩
  | .local _ .vmem, ⟨0, _⟩ => ⟨S128x1024, .f32⟩
  | .local _ .vmem, ⟨1, _⟩ => ⟨S1x1024, .f32⟩
  | .local _ .vmem, ⟨2, _⟩ => ⟨S1024x3200, .bf16⟩
  | .local _ .vmem, ⟨3, _⟩ => ⟨S128x3200, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference5Ideal.lean ====
abbrev S128x1024 : Shape := ⟨2, ![128, 1024]⟩
abbrev S1x128x3x1024 : Shape := ⟨4, ![1, 128, 3, 1024]⟩
abbrev S1x1024 : Shape := ⟨2, ![1, 1024]⟩
abbrev S1x1024x3096 : Shape := ⟨3, ![1, 1024, 3096]⟩
abbrev S1024 : Shape := ⟨1, ![1024]⟩
abbrev S_ : Shape := ⟨0, ![]⟩
abbrev S128 : Shape := ⟨1, ![128]⟩
abbrev S128x1 : Shape := ⟨2, ![128, 1]⟩
abbrev S1024x3096 : Shape := ⟨2, ![1024, 3096]⟩
abbrev S128x3096 : Shape := ⟨2, ![128, 3096]⟩
abbrev S128x3x1024 : Shape := ⟨3, ![128, 3, 1024]⟩
abbrev S128x1x1024 : Shape := ⟨3, ![128, 1, 1024]⟩
abbrev S128x4x1024 : Shape := ⟨3, ![128, 4, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x128x3x1024, .f32⟩
  | .hbm, ⟨2, _⟩ => ⟨S1x1024, .f32⟩
  | .hbm, ⟨3, _⟩ => ⟨S1x1024x3096, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1024, .f32⟩
  | .hbm, ⟨17, _⟩ => ⟨S128x1024, .f32⟩
  | .hbm, ⟨18, _⟩ => ⟨S1x1024, .f32⟩
  | .hbm, ⟨19, _⟩ => ⟨S128x1024, .f32⟩
  | .hbm, ⟨20, _⟩ => ⟨S128x1024, .f32⟩
  | .hbm, ⟨21, _⟩ => ⟨S1024x3096, .f32⟩
  | .hbm, ⟨22, _⟩ => ⟨S128x3096, .f32⟩
  | .hbm, ⟨23, _⟩ => ⟨S128x3x1024, .f32⟩
  | .hbm, ⟨24, _⟩ => ⟨S128x1024, .f32⟩
  | .hbm, ⟨25, _⟩ => ⟨S128x1x1024, .f32⟩
  | .hbm, ⟨26, _⟩ => ⟨S128x4x1024, .f32⟩
  | .hbm, ⟨27, _⟩ => ⟨S128x3x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S1024x2560 : Shape := ⟨2, ![1024, 2560]⟩
abbrev S16384x2560 : Shape := ⟨2, ![16384, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x128x128 : Shape := ⟨3, ![8, 128, 128]⟩
abbrev S8x128 : Shape := ⟨2, ![8, 128]⟩
abbrev S128x8 : Shape := ⟨2, ![128, 8]⟩
abbrev S4x512x4096 : Shape := ⟨3, ![4, 512, 4096]⟩
abbrev S16384x512 : Shape := ⟨2, ![16384, 512]⟩
abbrev S4x1024x4096 : Shape := ⟨3, ![4, 1024, 4096]⟩
abbrev S64x1x512 : Shape := ⟨3, ![64, 1, 512]⟩
abbrev S256x2560 : Shape := ⟨2, ![256, 2560]⟩
abbrev S256x128 : Shape := ⟨2, ![256, 128]⟩
abbrev S1x512x256 : Shape := ⟨3, ![1, 512, 256]⟩
abbrev S256x512 : Shape := ⟨2, ![256, 512]⟩
abbrev S1x1024x256 : Shape := ⟨3, ![1, 1024, 256]⟩
abbrev S1x1x512 : Shape := ⟨3, ![1, 1, 512]⟩
abbrev S512x256 : Shape := ⟨2, ![512, 256]⟩
abbrev S256 : Shape := ⟨1, ![256]⟩
abbrev S256x1 : Shape := ⟨2, ![256, 1]⟩
abbrev S128x128 : Shape := ⟨2, ![128, 128]⟩
abbrev S128x512 : Shape := ⟨2, ![128, 512]⟩
abbrev S1x128x128 : Shape := ⟨3, ![1, 128, 128]⟩
abbrev S128x1 : Shape := ⟨2, ![128, 1]⟩
abbrev S4x4096x512 : Shape := ⟨3, ![4, 4096, 512]⟩
abbrev S4x128x512 : Shape := ⟨3, ![4, 128, 512]⟩
abbrev S4x2x8x64x4096 : Shape := ⟨5, ![4, 2, 8, 64, 4096]⟩
abbrev S4x4096x2x8x64 : Shape := ⟨5, ![4, 4096, 2, 8, 64]⟩

abbrev nBuf : Space → Nat
  | .hbm => 66
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1024, .f32⟩
  | .hbm, ⟨8, _⟩ => ⟨S1x1024, .f32⟩
  | .hbm, ⟨9, _⟩ => ⟨S1024x2560, .f32⟩
  | .hbm, ⟨10, _⟩ => ⟨S1024x2560, .bf16⟩
  | .hbm, ⟨11, _⟩ => ⟨S16384x2560, .f32⟩
  | .hbm, ⟨12, _⟩ => ⟨S4096, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S4096x64, .f32⟩
  | .hbm, ⟨36, _⟩ => ⟨S4096x8, .f32⟩
  | .hbm, ⟨37, _⟩ => ⟨S4096x64, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S8x128x128, .f32⟩
  | .hbm, ⟨53, _⟩ => ⟨S8x128, .f32⟩
  | .hbm, ⟨54, _⟩ => ⟨S128x8, .f32⟩
  | .hbm, ⟨55, _⟩ => ⟨S4x512x4096, .bf16⟩
  | .hbm, ⟨56, _⟩ => ⟨S16384x512, .bf16⟩
  | .hbm, ⟨57, _⟩ => ⟨S4x512x4096, .bf16⟩
  | .hbm, ⟨58, _⟩ => ⟨S4x1024x4096, .f32⟩
  | .hbm, ⟨59, _⟩ => ⟨S64x1x512, .f32⟩
  | .hbm, ⟨60, _⟩ => ⟨S16384x512, .f32⟩
  | .hbm, ⟨61, _⟩ => ⟨S16384x512, .bf16⟩
  | .hbm, ⟨62, _⟩ => ⟨S4x4096x512, .f32⟩
  | .hbm, ⟨63, _⟩ => ⟨S4x128x512, .f32⟩
  | .hbm, ⟨64, _⟩ => ⟨S4x2x8x64x4096, .f32⟩
  | .hbm, ⟨65, _⟩ => ⟨S4x4096x2x8x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x2560, .f32⟩
  | .local _ .vmem, ⟨5, _⟩ => ⟨S512x2560, .f32⟩
  | .local _ .vmem, ⟨6, _⟩ => ⟨S256x2560, .f32⟩
  | .local _ .vmem, ⟨7, _⟩ => ⟨S256x2560, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x512, .f32⟩
  | .local _ .vmem, ⟨15, _⟩ => ⟨S1x512, .f32⟩
  | .local _ .vmem, ⟨16, _⟩ => ⟨S8x128x128, .f32⟩
  | .local _ .vmem, ⟨17, _⟩ => ⟨S128x8, .f32⟩
  | .local _ .vmem, ⟨18, _⟩ => ⟨S1x512x256, .bf16⟩
  | .local _ .vmem, ⟨19, _⟩ => ⟨S1x512x256, .bf16⟩
  | .local _ .vmem, ⟨20, _⟩ => ⟨S256x512, .bf16⟩
  | .local _ .vmem, ⟨21, _⟩ => ⟨S256x512, .bf16⟩
  | .local _ .vmem, ⟨22, _⟩ => ⟨S1x512x256, .bf16⟩
  | .local _ .vmem, ⟨23, _⟩ => ⟨S1x512x256, .bf16⟩
  | .local _ .vmem, ⟨24, _⟩ => ⟨S1x1024x256, .f32⟩
  | .local _ .vmem, ⟨25, _⟩ => ⟨S1x1024x256, .f32⟩
  | .local _ .vmem, ⟨26, _⟩ => ⟨S1x1x512, .f32⟩
  | .local _ .vmem, ⟨27, _⟩ => ⟨S1x1x512, .f32⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43_0 : Ref sig .tc := ⟨.hbm, 55, rfl⟩
abbrev main_v43_1 : Ref sig .tc := ⟨.hbm, 56, rfl⟩
abbrev main_v43_2 : Ref sig .tc := ⟨.hbm, 57, rfl⟩
abbrev main_v43_3 : Ref sig .tc := ⟨.hbm, 58, rfl⟩
abbrev main_v43_4 : Ref sig .tc := ⟨.hbm, 59, rfl⟩
abbrev main_v43_5 : Ref sig .tc := ⟨.hbm, 60, rfl⟩
abbrev main_v43_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc1_stg14_0 : Ref sig .tc := ⟨.vmem, 30, rfl⟩
abbrev cc1_stg14_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27
abbrev cc1_sem13_0 : DmaSem sig := 28
abbrev cc1_sem13_1 : DmaSem sig := 29
abbrev cc1_sem14_0 : DmaSem sig := 30
abbrev cc1_sem14_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_12 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_14 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1024x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== Reference6Ideal.lean ====
abbrev S16384x1024 : Shape := ⟨2, ![16384, 1024]⟩
abbrev S1x1024 : Shape := ⟨2, ![1, 1024]⟩
abbrev S1x1024x2560 : Shape := ⟨3, ![1, 1024, 2560]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2560 : Shape := ⟨2, ![1024, 2560]⟩
abbrev S16384x2560 : Shape := ⟨2, ![16384, 2560]⟩
abbrev S4x4096x2560 : Shape := ⟨3, ![4, 4096, 2560]⟩
abbrev S4x4096x512 : Shape := ⟨3, ![4, 4096, 512]⟩
abbrev S4x4096x8x64 : Shape := ⟨4, ![4, 4096, 8, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩
abbrev S512 : Shape := ⟨1, ![512]⟩
abbrev S4x4096 : Shape := ⟨2, ![4, 4096]⟩
abbrev S4x4096x1 : Shape := ⟨3, ![4, 4096, 1]⟩
abbrev S1x1x512 : Shape := ⟨3, ![1, 1, 512]⟩
abbrev S4x4096x1x8x64 : Shape := ⟨5, ![4, 4096, 1, 8, 64]⟩
abbrev S4x4096x2x8x64 : Shape := ⟨5, ![4, 4096, 2, 8, 64]⟩
abbrev S4x128x512 : Shape := ⟨3, ![4, 128, 512]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x2560, .f32⟩
  | .hbm, ⟨25, _⟩ => ⟨S16384x2560, .f32⟩
  | .hbm, ⟨26, _⟩ => ⟨S4x4096x2560, .f32⟩
  | .hbm, ⟨27, _⟩ => ⟨S4x4096x512, .f32⟩
  | .hbm, ⟨28, _⟩ => ⟨S4x4096x8x64, .f32⟩
  | .hbm, ⟨29, _⟩ => ⟨S4096, .i32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S4096, .f32⟩
  | .hbm, ⟨39, _⟩ => ⟨S4096x1, .f32⟩
  | .hbm, ⟨40, _⟩ => ⟨S1x8, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S4096x1x8, .f32⟩
  | .hbm, ⟨46, _⟩ => ⟨S4096x8, .f32⟩
  | .hbm, ⟨47, _⟩ => ⟨S4096x1x8, .f32⟩
  | .hbm, ⟨48, _⟩ => ⟨S4x4096x8x8, .f32⟩
  | .hbm, ⟨49, _⟩ => ⟨S4x4096x8x8, .f32⟩
  | .hbm, ⟨50, _⟩ => ⟨S1x4096x1x8, .f32⟩
  | .hbm, ⟨51, _⟩ => ⟨S4x4096x8x8, .f32⟩
  | .hbm, ⟨52, _⟩ => ⟨S4x4096x8x8, .f32⟩
  | .hbm, ⟨53, _⟩ => ⟨S1x4096x1x8, .f32⟩
  | .hbm, ⟨54, _⟩ => ⟨S4x4096x8x8, .f32⟩
  | .hbm, ⟨55, _⟩ => ⟨S4x4096x8x8, .f32⟩
  | .hbm, ⟨56, _⟩ => ⟨S4x4096x8x8, .f32⟩
  | .hbm, ⟨57, _⟩ => ⟨S1x4096x1x8, .f32⟩
  | .hbm, ⟨58, _⟩ => ⟨S4x4096x8x8, .f32⟩
  | .hbm, ⟨59, _⟩ => ⟨S4x4096x8x8, .f32⟩
  | .hbm, ⟨60, _⟩ => ⟨S1x4096x1x8, .f32⟩
  | .hbm, ⟨61, _⟩ => ⟨S4x4096x8x8, .f32⟩
  | .hbm, ⟨62, _⟩ => ⟨S4x4096x8x8, .f32⟩
  | .hbm, ⟨63, _⟩ => ⟨S4x4096x8x8, .f32⟩
  | .hbm, ⟨64, _⟩ => ⟨S4x4096x8x48, .f32⟩
  | .hbm, ⟨65, _⟩ => ⟨S4x4096x8x64, .f32⟩
  | .hbm, ⟨66, _⟩ => ⟨S4x4096x512, .f32⟩
  | .hbm, ⟨67, _⟩ => ⟨S4x4096x8x64, .f32⟩
  | .hbm, ⟨68, _⟩ => ⟨S4x4096x512, .f32⟩
  | .hbm, ⟨69, _⟩ => ⟨S_, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S_, .f32⟩
  | .hbm, ⟨74, _⟩ => ⟨S4x4096x512, .f32⟩
  | .hbm, ⟨75, _⟩ => ⟨S4x4096x512, .f32⟩
  | .hbm, ⟨76, _⟩ => ⟨S4x4096x512, .f32⟩
  | .hbm, ⟨77, _⟩ => ⟨S4x4096x512, .f32⟩
  | .hbm, ⟨78, _⟩ => ⟨S512, .f32⟩
  | .hbm, ⟨79, _⟩ => ⟨S512, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x512, .f32⟩
  | .hbm, ⟨87, _⟩ => ⟨S4x4096x512, .f32⟩
  | .hbm, ⟨88, _⟩ => ⟨S4x4096x512, .f32⟩
  | .hbm, ⟨89, _⟩ => ⟨S_, .f32⟩
  | .hbm, ⟨90, _⟩ => ⟨S4x4096, .f32⟩
  | .hbm, ⟨91, _⟩ => ⟨S4x4096x1, .f32⟩
  | .hbm, ⟨92, _⟩ => ⟨S_, .f32⟩
  | .hbm, ⟨93, _⟩ => ⟨S4x4096x1, .f32⟩
  | .hbm, ⟨94, _⟩ => ⟨S4x4096x1, .f32⟩
  | .hbm, ⟨95, _⟩ => ⟨S4x4096x512, .f32⟩
  | .hbm, ⟨96, _⟩ => ⟨S4x4096x512, .f32⟩
  | .hbm, ⟨97, _⟩ => ⟨S_, .f32⟩
  | .hbm, ⟨98, _⟩ => ⟨S4x4096x1, .f32⟩
  | .hbm, ⟨99, _⟩ => ⟨S4x4096x1, .f32⟩
  | .hbm, ⟨100, _⟩ => ⟨S4x4096x1, .f32⟩
  | .hbm, ⟨101, _⟩ => ⟨S4x4096x512, .f32⟩
  | .hbm, ⟨102, _⟩ => ⟨S4x4096x512, .f32⟩
  | .hbm, ⟨103, _⟩ => ⟨S1x1x512, .f32⟩
  | .hbm, ⟨104, _⟩ => ⟨S4x4096x512, .f32⟩
  | .hbm, ⟨105, _⟩ => ⟨S4x4096x512, .f32⟩
  | .hbm, ⟨106, _⟩ => ⟨S1x1x512, .f32⟩
  | .hbm, ⟨107, _⟩ => ⟨S4x4096x512, .f32⟩
  | .hbm, ⟨108, _⟩ => ⟨S4x4096x512, .f32⟩
  | .hbm, ⟨109, _⟩ => ⟨S4x4096x1x8x64, .f32⟩
  | .hbm, ⟨110, _⟩ => ⟨S4x4096x1x8x64, .f32⟩
  | .hbm, ⟨111, _⟩ => ⟨S4x4096x2x8x64, .f32⟩
  | .hbm, ⟨112, _⟩ => ⟨S4x128x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_cst_9 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S1x1024x3096 : Shape := ⟨3, ![1, 1024, 3096]⟩
abbrev S1024x3096 : Shape := ⟨2, ![1024, 3096]⟩
abbrev S1024x256 : Shape := ⟨2, ![1024, 256]⟩
abbrev S1024x512 : Shape := ⟨2, ![1024, 512]⟩
abbrev S1024x16 : Shape := ⟨2, ![1024, 16]⟩
abbrev S1024x1024 : Shape := ⟨2, ![1024, 1024]⟩
abbrev S1024x4 : Shape := ⟨2, ![1024, 4]⟩
abbrev S_ : Shape := ⟨0, ![]⟩
abbrev S1024x104 : Shape := ⟨2, ![1024, 104]⟩
abbrev S1024x3200 : Shape := ⟨2, ![1024, 3200]⟩
abbrev S1024 : Shape := ⟨1, ![1024]⟩
abbrev S16384x3200 : Shape := ⟨2, ![16384, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S16384x256 : Shape := ⟨2, ![16384, 256]⟩
abbrev S16384x512 : Shape := ⟨2, ![16384, 512]⟩
abbrev S16384x16 : Shape := ⟨2, ![16384, 16]⟩
abbrev S16384x4 : Shape := ⟨2, ![16384, 4]⟩

abbrev nBuf : Space → Nat
  | .hbm => 29
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3096, .f32⟩
  | .hbm, ⟨3, _⟩ => ⟨S1024x3096, .f32⟩
  | .hbm, ⟨4, _⟩ => ⟨S1024x256, .f32⟩
  | .hbm, ⟨5, _⟩ => ⟨S1024x256, .f32⟩
  | .hbm, ⟨6, _⟩ => ⟨S1024x512, .f32⟩
  | .hbm, ⟨7, _⟩ => ⟨S1024x16, .f32⟩
  | .hbm, ⟨8, _⟩ => ⟨S1024x512, .f32⟩
  | .hbm, ⟨9, _⟩ => ⟨S1024x1024, .f32⟩
  | .hbm, ⟨10, _⟩ => ⟨S1024x4, .f32⟩
  | .hbm, ⟨11, _⟩ => ⟨S1024x4, .f32⟩
  | .hbm, ⟨12, _⟩ => ⟨S1024x512, .f32⟩
  | .hbm, ⟨13, _⟩ => ⟨S_, .f32⟩
  | .hbm, ⟨14, _⟩ => ⟨S1024x104, .f32⟩
  | .hbm, ⟨15, _⟩ => ⟨S1024x3200, .f32⟩
  | .hbm, ⟨16, _⟩ => ⟨S1024x3200, .bf16⟩
  | .hbm, ⟨17, _⟩ => ⟨S1024, .f32⟩
  | .hbm, ⟨18, _⟩ => ⟨S1x1024, .f32⟩
  | .hbm, ⟨19, _⟩ => ⟨S16384x3200, .f32⟩
  | .hbm, ⟨20, _⟩ => ⟨S16384x256, .f32⟩
  | .hbm, ⟨21, _⟩ => ⟨S16384x256, .f32⟩
  | .hbm, ⟨22, _⟩ => ⟨S16384x512, .f32⟩
  | .hbm, ⟨23, _⟩ => ⟨S16384x16, .f32⟩
  | .hbm, ⟨24, _⟩ => ⟨S16384x512, .f32⟩
  | .hbm, ⟨25, _⟩ => ⟨S16384x1024, .f32⟩
  | .hbm, ⟨26, _⟩ => ⟨S16384x4, .f32⟩
  | .hbm, ⟨27, _⟩ => ⟨S16384x4, .f32⟩
  | .hbm, ⟨28, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S1x1024 : Shape := ⟨2, ![1, 1024]⟩
abbrev S1x1024x3096 : Shape := ⟨3, ![1, 1024, 3096]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3096 : Shape := ⟨2, ![1024, 3096]⟩
abbrev S16384x3096 : Shape := ⟨2, ![16384, 3096]⟩
abbrev S16384x256 : Shape := ⟨2, ![16384, 256]⟩
abbrev S16384x512 : Shape := ⟨2, ![16384, 512]⟩
abbrev S16384x16 : Shape := ⟨2, ![16384, 16]⟩
abbrev S16384x4 : Shape := ⟨2, ![16384, 4]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3096, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x3096, .f32⟩
  | .hbm, ⟨21, _⟩ => ⟨S16384x3096, .f32⟩
  | .hbm, ⟨22, _⟩ => ⟨S16384x256, .f32⟩
  | .hbm, ⟨23, _⟩ => ⟨S16384x256, .f32⟩
  | .hbm, ⟨24, _⟩ => ⟨S16384x512, .f32⟩
  | .hbm, ⟨25, _⟩ => ⟨S16384x16, .f32⟩
  | .hbm, ⟨26, _⟩ => ⟨S16384x512, .f32⟩
  | .hbm, ⟨27, _⟩ => ⟨S16384x1024, .f32⟩
  | .hbm, ⟨28, _⟩ => ⟨S16384x4, .f32⟩
  | .hbm, ⟨29, _⟩ => ⟨S16384x4, .f32⟩
  | .hbm, ⟨30, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel8.lean ====
abbrev S16384x1024 : Shape := ⟨2, ![16384, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S1024x1024 : Shape := ⟨2, ![1024, 1024]⟩
abbrev S1024 : Shape := ⟨1, ![1024]⟩
abbrev S16384x128 : Shape := ⟨2, ![16384, 128]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128 : Shape := ⟨1, ![128]⟩
abbrev S16384x8 : Shape := ⟨2, ![16384, 8]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x1024, .f32⟩
  | .hbm, ⟨3, _⟩ => ⟨S1x1024, .f32⟩
  | .hbm, ⟨4, _⟩ => ⟨S1x1024x8, .f32⟩
  | .hbm, ⟨5, _⟩ => ⟨S_, .f32⟩
  | .hbm, ⟨6, _⟩ => ⟨S1024x128, .f32⟩
  | .hbm, ⟨7, _⟩ => ⟨S1024x8, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x128, .f32⟩
  | .hbm, ⟨18, _⟩ => ⟨S1x128, .f32⟩
  | .hbm, ⟨19, _⟩ => ⟨S16384x8, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel8Ideal.lean ====
variable {F : FTy → Type} [FloatOps F] [Named F]
def κ : String → Option EReal := fun
  | "mask" => some ⊥
  | _ => none
-- ==== Reference8Ideal.lean ====
abbrev S16384x1024 : Shape := ⟨2, ![16384, 1024]⟩
abbrev S1x1024x1024 : Shape := ⟨3, ![1, 1024, 1024]⟩
abbrev S1x1024 : Shape := ⟨2, ![1, 1024]⟩
abbrev S1x1024x8 : Shape := ⟨3, ![1, 1024, 8]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x8 : Shape := ⟨2, ![1024, 8]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x1024, .f32⟩
  | .hbm, ⟨3, _⟩ => ⟨S1x1024, .f32⟩
  | .hbm, ⟨4, _⟩ => ⟨S1x1024x8, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x8, .f32⟩
  | .hbm, ⟨27, _⟩ => ⟨S16384x8, .f32⟩
  | .hbm, ⟨28, _⟩ => ⟨S16384x2, .f32⟩
  | .hbm, ⟨29, _⟩ => ⟨S16384x2, .i32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x2, .f32⟩
  | .hbm, ⟨37, _⟩ => ⟨S16384x2, .f32⟩
  | .hbm, ⟨38, _⟩ => ⟨S16384x2, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x2, .f32⟩
  | .hbm, ⟨43, _⟩ => ⟨S16384x2, .f32⟩
  | .hbm, ⟨44, _⟩ => ⟨S16384x2x1, .i32⟩
  | .hbm, ⟨45, _⟩ => ⟨S1x1x8, .i32⟩
  | .hbm, ⟨46, _⟩ => ⟨S16384x2x8, .i32⟩
  | .hbm, ⟨47, _⟩ => ⟨S16384x2x8, .i32⟩
  | .hbm, ⟨48, _⟩ => ⟨S16384x2x8, .i1⟩
  | .hbm, ⟨49, _⟩ => ⟨S16384x2x8, .f32⟩
  | .hbm, ⟨50, _⟩ => ⟨S16384x2x1, .f32⟩
  | .hbm, ⟨51, _⟩ => ⟨S16384x2x8, .f32⟩
  | .hbm, ⟨52, _⟩ => ⟨S16384x2x8, .f32⟩
  | .hbm, ⟨53, _⟩ => ⟨S_, .f32⟩
  | .hbm, ⟨54, _⟩ => ⟨S16384x8, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Proof.Body.lean ====
/- The body of the grouped expert product at one grid point, run once for every combination of its three conditions:
   what it leaves in the output block and in the scratch block, as functions of what it found. -/
module

public import proofs.«01_k».proof.Proof.Gen.KernelIdeal.Skeleton
public import proofs.«01_k».proof.Proof.Gen.KernelIdeal.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Exec
public import Idealize.ShloMosaic.Lib.Tactic

@[expose] public section

set_option maxRecDepth 16384
set_option Elab.async false

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them: each tile's expert, each tile's number of rows in use. -/
abbrev tb0 : Memref sig .tc .smem S40 .i32 := Memref.whole main_v22
abbrev tb1 : Memref sig .tc .smem S40 .i32 := Memref.whole main_v33
/-- The scratch block: the tile's rows, rounded once. -/
abbrev sc0 : Memref sig .tc .vmem S1024x1024 .bf16 := Memref.whole cc0_scratch0

/-- The number of rows in use the body reads at point `i`. -/
def word (T : S40.Idx → Elt F .i32) (i : grid0.Coords) : Elt F .i32 :=
  View.readAt (Elt F) (tb1).view (Rect.unit (s := S40) (k0_off1 i) S1.size (k0_off1_inb i)).toLoadRect T (Shape.Idx.first (numel1_S1.symm ▸ Nat.one_pos))

/-- The output block once the point has started: zero at a tile's first point. -/
def startOut (i : grid0.Coords) (o : S1024x1024.Idx → Elt F .f32) : S1024x1024.Idx → Elt F .f32 :=
  if k0_cond1 i = 1#1 then k0_pay1 else o

/-- The scratch block once the point has started: the tile's rows at a tile's first point. -/
def startRows (i : grid0.Coords) (x : S1024x1024.Idx → Elt F .f32) (xb : S1024x1024.Idx → Elt F .bf16) : S1024x1024.Idx → Elt F .bf16 :=
  if k0_cond1 i = 1#1 then k0_pay2 x else xb

/-- The output block after the point's products: all rows when more than half are in use, the first half when some
    are, none otherwise. -/
def stepOut (u : Elt F .i32) (xb : S1024x1024.Idx → Elt F .bf16) (wg wu : S1x1024x512.Idx → Elt F .f32) (wd : S1x512x1024.Idx → Elt F .f32)
    (o : S1024x1024.Idx → Elt F .f32) : S1024x1024.Idx → Elt F .f32 :=
  if k0_cond2 u = 1#1 then k0_pay3 xb wg wu o wd
  else if k0_cond3 u = 1#1 then
    VecWindow.put o ![0, 0] S512x1024.size
      (k0_pay4 (VecWindow.window xb ![0, 0] S512x1024.size inb_S1024x1024_S512x1024_0_0) wg wu
        (VecWindow.window o ![0, 0] S512x1024.size inb_S1024x1024_S512x1024_0_0) wd)
  else o

section Reads
variable {κ : Kind} {sp : Space} {e : EltTy}

/-- A whole-block store leaves its payload, whatever came before. -/
theorem read_full (v : View sig κ sp S1024x1024 e) (f : v.ty.Contents (Elt F)) (inb) (w : (Rect.unit (s := S1024x1024) ![0, 0] ![1024, 1024] inb).shape.Idx → Elt F e) (L : List (View.Piece (Elt F) S1024x1024 e)) :
    v.read (Elt F) (v.writes (Elt F) f (⟨Rect.unit (s := S1024x1024) ![0, 0] ![1024, 1024] inb, w⟩ :: L)) = w :=
  View.read_writes_full v f inb w L

/-- A store of the first 512 rows lays its payload over what was there. -/
theorem read_half (v : View sig κ sp S1024x1024 e) (f : v.ty.Contents (Elt F)) (inb) (w : (Rect.unit (s := S1024x1024) ![0, 0] ![512, 1024] inb).shape.Idx → Elt F e) (L : List (View.Piece (Elt F) S1024x1024 e)) :
    v.read (Elt F) (v.writes (Elt F) f (⟨Rect.unit (s := S1024x1024) ![0, 0] ![512, 1024] inb, w⟩ :: L)) = VecWindow.put (v.read (Elt F) (v.writes (Elt F) f L)) ![0, 0] S512x1024.size w :=
  View.read_writes_cons_put v f inb w L rfl

/-- A load of the whole block reads the block. -/
theorem load_full (v : View sig κ sp S1024x1024 e) (f : v.ty.Contents (Elt F)) (inb) :
    v.readAt (Elt F) (Rect.unit (s := S1024x1024) ![0, 0] ![1024, 1024] inb).toLoadRect f = v.read (Elt F) f :=
  View.readAt_full v f inb

/-- A load of the first 512 rows reads that window of the block. -/
theorem load_half (v : View sig κ sp S1024x1024 e) (f : v.ty.Contents (Elt F)) (inb) :
    v.readAt (Elt F) (Rect.unit (s := S1024x1024) ![0, 0] ![512, 1024] inb).toLoadRect f = VecWindow.window (v.read (Elt F) f) ![0, 0] S512x1024.size inb_S1024x1024_S512x1024_0_0 :=
  View.readAt_unit v f inb rfl inb_S1024x1024_S512x1024_0_0

/-- A load of a whole weight block of gates or of ups. -/
theorem load_up (v : View sig κ sp S1x1024x512 e) (f : v.ty.Contents (Elt F)) (inb) :
    v.readAt (Elt F) (Rect.unit (s := S1x1024x512) ![0, 0, 0] ![1, 1024, 512] inb).toLoadRect f = v.read (Elt F) f :=
  View.readAt_full v f inb

/-- A load of a whole weight block of downs. -/
theorem load_down (v : View sig κ sp S1x512x1024 e) (f : v.ty.Contents (Elt F)) (inb) :
    v.readAt (Elt F) (Rect.unit (s := S1x512x1024) ![0, 0, 0] ![1, 512, 1024] inb).toLoadRect f = v.read (Elt F) f :=
  View.readAt_full v f inb

end Reads

set_option maxHeartbeats 8000000 in
/-- The body at a point whose conditions are `b1`, `b2`, `b3` (never both `b2` and `b3`). -/
theorem body_run (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole)
    (T0 T1 : S40.Idx → Elt F .i32) (x0 : S1024x1024.Idx → Elt F .f32) (x1 x2 : S1x1024x512.Idx → Elt F .f32) (x3 : S1x512x1024.Idx → Elt F .f32)
    (o : S1024x1024.Idx → Elt F .f32) (xb : S1024x1024.Idx → Elt F .bf16) (h23 : k0_cond2 (word T1 i) = 1#1 → ¬ k0_cond3 (word T1 i) = 1#1)
    (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (tb0.view.loc (c : Thread nD τ) ↦{fullShare.right} T0)
      ∗ (tb1.view.loc (c : Thread nD τ) ↦{fullShare.right} T1)
      ∗ (arg8.view.loc (c : Thread nD τ) ↦[arg8.view.set]{fullShare} arg8.view.rep o)
      ∗ (sc0.view.loc (c : Thread nD τ) ↦[sc0.view.set]{fullShare} sc0.view.rep xb)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tb0.view.loc (c : Thread nD τ) ↦{fullShare.right} T0)
          ∗ (tb1.view.loc (c : Thread nD τ) ↦{fullShare.right} T1)
          ∗ owns (c : Thread nD τ) arg8 fullShare (stepOut (word T1 i) (startRows i x0 xb) x1 x2 x3 (startOut i o))
          ∗ owns (c : Thread nD τ) sc0 fullShare (startRows i x0 xb)) -∗ K ⟨⟩))
      ⊢ wp frame (wpE (defs₀ (F := F)) Variants.none c none) Set.univ (cc0_moe_grouped i tb0 (Memref.isWhole_whole _) tb1 (Memref.isWhole_whole _) arg4 harg4 arg5 harg5 arg6 harg6 arg7 harg7 arg8 harg8 sc0 (Memref.isWhole_whole _)) K := by
  rw [cc0_moe_grouped_eq_skeleton]; unfold cc0_moe_grouped_skel
  unfold word at h23
  have hS0 : sc0.IsWhole := Memref.isWhole_whole _
  have hT0 : tb0.IsWhole := Memref.isWhole_whole _
  have hT1 : tb1.IsWhole := Memref.isWhole_whole _
  by_cases k0_h1 : k0_cond1 i = 1#1 <;>
  by_cases k0_h2 : k0_cond2 (View.readAt (Elt F) (tb1).view (Rect.unit (s := S40) (k0_off1 i) S1.size (k0_off1_inb i)).toLoadRect T1 (Shape.Idx.first (numel1_S1.symm ▸ Nat.one_pos))) = 1#1
  · have k0_h3 := h23 k0_h2
    iintro ⟨H0, H1, H2, H3, HT0, HT1, HO4, HS0, Hk⟩
    sl_exec! (disch := first | (guard_target = k0_cond1 _ = _; exact k0_h1) | (guard_target = k0_cond2 _ = _; exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · unfold owns; iexists _; isplitr; swap
      · iexact HO4
      · ipureintro
        unfold stepOut startRows startOut word
        simp only [if_pos k0_h1, if_pos k0_h2]
        sl_unfold_run_names
        simp only [View.readCov, read_full, read_half, load_full, load_half, load_up, load_down, View.read_rep, View.writes_nil]
    · unfold owns; iexists _; isplitr; swap
      · iexact HS0
      · ipureintro
        unfold startRows
        simp only [if_pos k0_h1]
        sl_unfold_run_names
        simp only [View.readCov, read_full, read_half, load_full, load_half, load_up, load_down, View.read_rep, View.writes_nil]
  · by_cases k0_h3 : k0_cond3 (View.readAt (Elt F) (tb1).view (Rect.unit (s := S40) (k0_off1 i) S1.size (k0_off1_inb i)).toLoadRect T1 (Shape.Idx.first (numel1_S1.symm ▸ Nat.one_pos))) = 1#1
    · iintro ⟨H0, H1, H2, H3, HT0, HT1, HO4, HS0, Hk⟩
      sl_exec! (disch := first | (guard_target = k0_cond1 _ = _; exact k0_h1) | (guard_target = ¬(k0_cond2 _ = _); exact k0_h2) | (guard_target = k0_cond3 _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · unfold owns; iexists _; isplitr; swap
        · iexact HO4
        · ipureintro
          unfold stepOut startRows startOut word
          simp only [if_pos k0_h1, if_neg k0_h2, if_pos k0_h3]
          sl_unfold_run_names
          simp only [View.readCov, read_full, read_half, load_full, load_half, load_up, load_down, View.read_rep, View.writes_nil]
      · unfold owns; iexists _; isplitr; swap
        · iexact HS0
        · ipureintro
          unfold startRows
          simp only [if_pos k0_h1]
          sl_unfold_run_names
          simp only [View.readCov, read_full, read_half, load_full, load_half, load_up, load_down, View.read_rep, View.writes_nil]
    · iintro ⟨H0, H1, H2, H3, HT0, HT1, HO4, HS0, Hk⟩
      sl_exec! (disch := first | (guard_target = k0_cond1 _ = _; exact k0_h1) | (guard_target = ¬(k0_cond2 _ = _); exact k0_h2) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · unfold owns; iexists _; isplitr; swap
        · iexact HO4
        · ipureintro
          unfold stepOut startRows startOut word
          simp only [if_pos k0_h1, if_neg k0_h2, if_neg k0_h3]
          sl_unfold_run_names
          simp only [View.readCov, read_full, read_half, load_full, load_half, load_up, load_down, View.read_rep, View.writes_nil]
      · unfold owns; iexists _; isplitr; swap
        · iexact HS0
        · ipureintro
          unfold startRows
          simp only [if_pos k0_h1]
          sl_unfold_run_names
          simp only [View.readCov, read_full, read_half, load_full, load_half, load_up, load_down, View.read_rep, View.writes_nil]
  · have k0_h3 := h23 k0_h2
    iintro ⟨H0, H1, H2, H3, HT0, HT1, HO4, HS0, Hk⟩
    sl_exec! (disch := first | (guard_target = ¬(k0_cond1 _ = _); exact k0_h1) | (guard_target = k0_cond2 _ = _; exact k0_h2) | (guard_target = ¬(k0_cond3 _ = _); exact k0_h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · unfold owns; iexists _; isplitr; swap
      · iexact HO4
      · ipureintro
        unfold stepOut startRows startOut word
        simp only [if_neg k0_h1, if_pos k0_h2]
        sl_unfold_run_names
        simp only [View.readCov, read_full, read_half, load_full, load_half, load_up, load_down, View.read_rep, View.writes_nil]
    · unfold owns; iexists _; isplitr; swap
      · iexact HS0
      · ipureintro
        unfold startRows
        simp only [if_neg k0_h1]
        sl_unfold_run_names
        simp only [View.readCov, read_full, read_half, load_full, load_half, load_up, load_down, View.read_rep, View.writes_nil]
  · by_cases k0_h3 : k0_cond3 (View.readAt (Elt F) (tb1).view (Rect.unit (s := S40) (k0_off1 i) S1.size (k0_off1_inb i)).toLoadRect T1 (Shape.Idx.first (numel1_S1.symm ▸ Nat.one_pos))) = 1#1
    · iintro ⟨H0, H1, H2, H3, HT0, HT1, HO4, HS0, Hk⟩
      sl_exec! (disch := first | (guard_target = ¬(k0_cond1 _ = _); exact k0_h1) | (guard_target = ¬(k0_cond2 _ = _); exact k0_h2) | (guard_target = k0_cond3 _ = _; exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · unfold owns; iexists _; isplitr; swap
        · iexact HO4
        · ipureintro
          unfold stepOut startRows startOut word
          simp only [if_neg k0_h1, if_neg k0_h2, if_pos k0_h3]
          sl_unfold_run_names
          simp only [View.readCov, read_full, read_half, load_full, load_half, load_up, load_down, View.read_rep, View.writes_nil]
      · unfold owns; iexists _; isplitr; swap
        · iexact HS0
        · ipureintro
          unfold startRows
          simp only [if_neg k0_h1]
          sl_unfold_run_names
          simp only [View.readCov, read_full, read_half, load_full, load_half, load_up, load_down, View.read_rep, View.writes_nil]
    · iintro ⟨H0, H1, H2, H3, HT0, HT1, HO4, HS0, Hk⟩
      sl_exec! (disch := first | (guard_target = ¬(k0_cond1 _ = _); exact k0_h1) | (guard_target = ¬(k0_cond2 _ = _); exact k0_h2) | (guard_target = ¬(k0_cond3 _ = _); exact k0_h3))
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HO4]
      · unfold owns; iexists _; isplitr; swap
        · iexact HO4
        · ipureintro
          unfold stepOut startRows startOut word
          simp only [if_neg k0_h1, if_neg k0_h2, if_neg k0_h3]
          sl_unfold_run_names
          simp only [View.readCov, read_full, read_half, load_full, load_half, load_up, load_down, View.read_rep, View.writes_nil]
      · unfold owns; iexists _; isplitr; swap
        · iexact HS0
        · ipureintro
          unfold startRows
          simp only [if_neg k0_h1]
          sl_unfold_run_names
          simp only [View.readCov, read_full, read_half, load_full, load_half, load_up, load_down, View.read_rep, View.writes_nil]

end Cert.KernelIdeal.Run

end
-- ==== Proof.Run.lean ====
/- The run of the grouped expert product at any admissible tables: what the output block and the scratch block hold
   after every grid point, the pipeline's proof data, its body's obligation, and the launch. -/
module

public import proofs.«01_k».proof.Proof.Body
public import Idealize.ShloMosaic.Lib.Pipeline.Quiescent
public import Idealize.ShloMosaic.Lib.Pipeline.Kit
public import Idealize.ShloMosaic.Lib.Claim
public import Idealize.ShloMosaic.Lib.Affine

@[expose] public section

set_option maxRecDepth 16384
set_option Elab.async false

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions -/

/-- More than half in use and at most half in use exclude each other. -/
theorem conds_excl (u : BitVec 32) (h : k0_cond2 u = 1#1) : ¬ k0_cond3 u = 1#1 := by
  intro h3
  have h2 := IntOp.cmpi_sgt.mp ((Scalar.guard_iff _).mp h)
  have h4 := IntOp.cmpi_sle.mp (IntOp.andi_eq_one.mp ((Scalar.guard_iff _).mp h3)).2
  omega

/-- The tile a point works on. -/
def tile (i : grid0.Coords) : S40.Idx := fun a => ⟨(i 0).val, by
  have h : (i 0).val < 40 := (i 0).isLt
  fin_cases a; exact h⟩

theorem off1_eq : ∀ i : grid0.Coords, k0_off1 i 0 = (i 0).val := by decide +kernel

theorem emb_off1 (i : grid0.Coords) (y : (Rect.unit (s := S40) (k0_off1 i) S1.size (k0_off1_inb i)).shape.Idx) :
    (Rect.unit (s := S40) (k0_off1 i) S1.size (k0_off1_inb i)).emb y = tile i := by
  funext a
  apply Fin.ext
  fin_cases a
  show k0_off1 i 0 + 1 * (y 0).val = (i 0).val
  have hy : (y 0).val < 1 := (y 0).isLt
  rw [off1_eq]; omega

/-- The word read is the table's at the point's tile. -/
theorem word_eq (T : S40.Idx → Elt F .i32) (i : grid0.Coords) : word T i = T (tile i) :=
  congrArg T (emb_off1 i _)

/-- The first condition holds at a tile's first point. -/
theorem cond1_iff : ∀ t : Fin grid0.N, (k0_cond1 (grid0.coords t) = 1#1 ↔ t.val % 7 = 0) := by decide +kernel

section Run
variable (a : (pcfg0 (F := F)).Adm)

abbrev cfgA : Pipeline.Cfg sig Λ₀ := cfg0 (F := F) a
abbrev pcsA : Fin 1 → Pipeline.Cfg sig Λ₀ := Pipeline.pin (pcfgs (F := F)) fun _ => a

/-- The number of rows in use at a point, and the point's coordinates. -/
abbrev crd (t : Fin (cfgA a).N) : grid0.Coords := (cfgA a).grid.coords t
abbrev wrd (t : Fin (cfgA a).N) : Elt F .i32 := word (a.1 1) (crd a t)

theorem word_eq_atD (i : grid0.Coords) : a.1.atD 1 (k0_off1 i) = word (F := F) (a.1 1) i := by
  have h : ∀ b, k0_off1 i b + 1 ≤ S40.size b := fun b => by fin_cases b; exact k0_off1_inb i 0
  refine Eq.trans ((dif_pos h).trans (congrArg (a.1 1) (funext fun b => Fin.ext ?_))) (word_eq (F := F) (a.1 1) i).symm
  fin_cases b
  exact off1_eq i

abbrev ms0 (t : Fin (cfgA a).N) : Memref sig .tc .vmem S1024x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S1024x1024 .f32 := spec0_4.stage ((cfgA a).slots t (4 : Fin 5))
abbrev hs4 (t : Fin (cfgA a).N) : (ms4 a t).IsWhole := hstage0_4 (((cfgA a).slots t (4 : Fin 5)).cast nbuf0_4)

/-! ## The schedule of the output window -/

theorem tr4 : ∀ i : grid0.Coords, cc0_transform_4 i 0 = (i 0).val := by decide +kernel

theorem flush4 (t : Fin (cfgA a).N) : ((cfgA a).win (4 : Fin 5)).flush t = true ↔ t.val % 7 = 6 :=
  Pipeline.Window.flush_reads ((cfgA a).win (4 : Fin 5)) rfl (0 : Fin 2) (show 1 < grid0.bound (0 : Fin 2) by decide) (show grid0.fixedAfter reads0_4 (0 : Fin 2) = true by decide)
    (fun i i' h => by
      have e : cc0_transform_4 i 0 = cc0_transform_4 i' 0 := congrFun h 0
      rw [tr4, tr4] at e
      exact Fin.ext e) (P := 7) (m := 6) (show grid0.stride (0 : Fin 2) = 7 by decide) rfl t

theorem idle4 (t : Fin (cfgA a).N) : (cfgA a).idle (4 : Fin 5) ((cfgA a).grid.coords t)
    = (!(k0_cond1 (crd a t) == 1#1) && !(k0_cond2 (wrd a t) == 1#1) && !(k0_cond3 (wrd a t) == 1#1)) := by
  show (!(k0_cond1 (crd a t) == 1#1) && !(k0_cond2 (a.1.atD 1 (k0_off1 (crd a t))) == 1#1) && !(k0_cond3 (a.1.atD 1 (k0_off1 (crd a t))) == 1#1)) = _
  rw [word_eq_atD]

theorem fresh4 (t : Fin (cfgA a).N) : (cfgA a).fresh (4 : Fin 5) t.val = decide (t.val % 7 = 0) :=
  Pipeline.Cfg.fresh_tab (cfgA a) (4 : Fin 5) (fun n => decide (n % 7 = 0)) rfl (fun t => by
    have hN : t.val < 280 := lt_of_lt_of_eq t.isLt N_0
    by_cases h6 : t.val % 7 = 6
    · rw [(flush4 a t).2 h6]; simp; omega
    · have hf : ((cfgA a).win (4 : Fin 5)).flush t = false := by
        rw [← Bool.not_eq_true, flush4]; exact h6
      rw [hf, idle4]
      by_cases h0 : t.val % 7 = 0
      · rw [(cond1_iff t).2 h0]; simp; omega
      · simp [h0]; omega) t.val (Nat.le_of_lt t.isLt)

/-! ## What the output block and the scratch block hold after each point -/

variable (V : (c : Dev nD) → (b : Ref sig .tc) → Buf (Elt F) ((c.tc : Thread nD τ).loc b))

/-- Window `w`'s block at point `t`, read off its array at the region's entry. -/
def iblk (c : Dev nD) (w : Fin (cfgA a).W) (t : Fin (cfgA a).N) : (((cfgA a).win w).xblock (crd a t)).Idx → Elt F ((cfgA a).win w).elt :=
  (((cfgA a).win w).blk t).view.read (Elt F) (V c (Pipeline.arrRef spec0 w))

abbrev St (F : FTy → Type) : Type := (S1024x1024.Idx → Elt F .f32) × (S1024x1024.Idx → Elt F .bf16)

/-- One point's step. -/
def step (c : Dev nD) (t : Fin (cfgA a).N) (p : St F) : St F :=
  (stepOut (wrd a t) (startRows (crd a t) (iblk a V c (0 : Fin 5) t) p.2) (iblk a V c (1 : Fin 5) t) (iblk a V c (2 : Fin 5) t) (iblk a V c (3 : Fin 5) t) (startOut (crd a t) p.1),
    startRows (crd a t) (iblk a V c (0 : Fin 5) t) p.2)

/-- What the two blocks hold after point `n`. -/
def traj (c : Dev nD) : (n : ℕ) → n < (cfgA a).N → St F
  | 0, h => step a V c ⟨0, h⟩ (k0_pay1, k0_pay2 k0_pay1)
  | n + 1, h => step a V c ⟨n + 1, h⟩ (traj c n (Nat.lt_of_succ_lt h))

/-- What they hold before position `n`. -/
def prev (c : Dev nD) (n : ℕ) (h : n ≤ (cfgA a).N) : St F :=
  match n, h with
  | 0, _ => (k0_pay1, k0_pay2 k0_pay1)
  | n + 1, h => traj a V c n h

theorem traj_eq (c : Dev nD) (t : Fin (cfgA a).N) : traj a V c t.val t.isLt = step a V c t (prev a V c t.val (Nat.le_of_lt t.isLt)) := by
  obtain ⟨n, hn⟩ := t
  cases n <;> rfl

/-- At a tile's first point what was held before is not read. -/
theorem step_first (c : Dev nD) (t : Fin (cfgA a).N) (h : t.val % 7 = 0) (p q : St F) : step a V c t p = step a V c t q := by
  unfold step startOut startRows
  simp only [if_pos ((cond1_iff t).2 h)]

/-- At an idle point the output block is kept. -/
theorem step_idle (c : Dev nD) (t : Fin (cfgA a).N) (h : (cfgA a).idle (4 : Fin 5) ((cfgA a).grid.coords t) = true) (p : St F) : (step a V c t p).1 = p.1 := by
  rw [idle4] at h
  simp only [Bool.and_eq_true, Bool.not_eq_true', beq_eq_false_iff_ne, ne_eq] at h
  unfold step startOut stepOut
  simp only [if_neg h.1.1, if_neg h.1.2, if_neg h.2]

/-! ## The proof data -/

/-- The invariant before position `n`: the scratch block at what the recursion says inside a tile, anything at its
    start; the random register; the body's halves of the tables. -/
def Phi (c : Dev nD) (n : Fin ((cfgA a).N + 1)) : sProp 𝕄 :=
  iprop((∃ x, ⌜n.val % 7 ≠ 0 → x = (prev a V c n.val (Nat.le_of_lt_succ n.isLt)).2⌝ ∗ owns (c : Thread nD τ) sc0 fullShare x)
    ∗ (∃ r, prngReg c r)
    ∗ (tb0.view.loc (c : Thread nD τ) ↦{fullShare.right} a.1 0) ∗ (tb1.view.loc (c : Thread nD τ) ↦{fullShare.right} a.1 1))

def dats (_ : Fin 1) (c : Dev nD) : Dat τ (Elt F) Unit ℕ (UR sig nD τ) ℕ (cfgA a) c where
  A w := V c (Pipeline.arrRef spec0 w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => (traj a V c t.val t.isLt).1
  Φ t := Phi a V c t
  q _ := fullShare
  owed _ := 0

theorem after_0 (c : Dev nD) (t : Fin (cfgA a).N) : (dats a V 0 c).after (0 : Fin 5) t = iblk a V c (0 : Fin 5) t := rfl
theorem after_1 (c : Dev nD) (t : Fin (cfgA a).N) : (dats a V 0 c).after (1 : Fin 5) t = iblk a V c (1 : Fin 5) t := rfl
theorem after_2 (c : Dev nD) (t : Fin (cfgA a).N) : (dats a V 0 c).after (2 : Fin 5) t = iblk a V c (2 : Fin 5) t := rfl
theorem after_3 (c : Dev nD) (t : Fin (cfgA a).N) : (dats a V 0 c).after (3 : Fin 5) t = iblk a V c (3 : Fin 5) t := rfl
theorem after_4 (c : Dev nD) (t : Fin (cfgA a).N) : (dats a V 0 c).after (4 : Fin 5) t = (traj a V c t.val t.isLt).1 := rfl

theorem before_0 (c : Dev nD) (t : Fin (cfgA a).N) (d) : (dats a V 0 c).before (0 : Fin 5) t d = iblk a V c (0 : Fin 5) t :=
  ((dats a V 0 c).before_in_eq_fetched (0 : Fin 5) rfl (fun _ => rfl) (fun _ _ _ => rfl) (fun t => by rw [after_0]; unfold Dat.blockOf iblk; rfl) t d).trans
    (by unfold Dat.fetched Dat.blockOf iblk; rfl)

theorem before_1 (c : Dev nD) (t : Fin (cfgA a).N) (d) : (dats a V 0 c).before (1 : Fin 5) t d = iblk a V c (1 : Fin 5) t :=
  ((dats a V 0 c).before_in_eq_fetched (1 : Fin 5) rfl (fun _ => rfl) (fun _ _ _ => rfl) (fun t => by rw [after_1]; unfold Dat.blockOf iblk; rfl) t d).trans
    (by unfold Dat.fetched Dat.blockOf iblk; rfl)

theorem before_2 (c : Dev nD) (t : Fin (cfgA a).N) (d) : (dats a V 0 c).before (2 : Fin 5) t d = iblk a V c (2 : Fin 5) t :=
  ((dats a V 0 c).before_in_eq_fetched (2 : Fin 5) rfl (fun _ => rfl) (fun _ _ _ => rfl) (fun t => by rw [after_2]; unfold Dat.blockOf iblk; rfl) t d).trans
    (by unfold Dat.fetched Dat.blockOf iblk; rfl)

theorem before_3 (c : Dev nD) (t : Fin (cfgA a).N) (d) : (dats a V 0 c).before (3 : Fin 5) t d = iblk a V c (3 : Fin 5) t :=
  ((dats a V 0 c).before_in_eq_fetched (3 : Fin 5) rfl (fun _ => rfl) (fun _ _ _ => rfl) (fun t => by rw [after_3]; unfold Dat.blockOf iblk; rfl) t d).trans
    (by unfold Dat.fetched Dat.blockOf iblk; rfl)

theorem prev_pos (c : Dev nD) (n : ℕ) (h : n ≤ (cfgA a).N) (h0 : n ≠ 0) : prev a V c n h = traj a V c (n - 1) (by omega) := by
  cases n with
  | zero => exact absurd rfl h0
  | succ n => rfl

theorem carry4 (c : Dev nD) : ∀ (t : Fin (cfgA a).N) (ht : t.val ≠ 0), (cfgA a).idle (4 : Fin 5) ((cfgA a).grid.coords t) = true → (cfgA a).fresh (4 : Fin 5) t.val = false →
    (dats a V 0 c).after (4 : Fin 5) t = (dats a V 0 c).after (4 : Fin 5) ⟨t.val - 1, by omega⟩ := by
  intro t ht hi hf
  rw [after_4, after_4, traj_eq, step_idle a V c t hi, prev_pos a V c t.val _ ht]

/-- The output block when the body runs: anything at a tile's first point, else what the point before left. -/
theorem before_4 (c : Dev nD) (t : Fin (cfgA a).N) (d) :
    (dats a V 0 c).before (4 : Fin 5) t d = if t.val % 7 = 0 then d else (prev a V c t.val (Nat.le_of_lt t.isLt)).1 := by
  rw [(dats a V 0 c).before_out_traj (4 : Fin 5) rfl (fun _ _ => rfl) (carry4 a V c) t.val t rfl d, fresh4]
  by_cases h0 : t.val % 7 = 0
  · simp only [h0, decide_true, ↓reduceIte]
  · have h1 : t.val ≠ 0 := fun h => h0 (by rw [h])
    simp only [h0, decide_false, Bool.false_eq_true, ↓reduceIte, after_4, prev_pos a V c t.val _ h1]

/-- The step from what the pipeline holds is the recursion's, whatever a tile's first point found. -/
theorem step_before (c : Dev nD) (t : Fin (cfgA a).N) (d : S1024x1024.Idx → Elt F .f32) (x : S1024x1024.Idx → Elt F .bf16)
    (hx : t.val % 7 ≠ 0 → x = (prev a V c t.val (Nat.le_of_lt t.isLt)).2) :
    step a V c t (if t.val % 7 = 0 then d else (prev a V c t.val (Nat.le_of_lt t.isLt)).1, x) = traj a V c t.val t.isLt := by
  rw [traj_eq]
  by_cases h0 : t.val % 7 = 0
  · exact step_first a V c t h0 _ _
  · rw [if_neg h0, hx h0]

/-! ## The body's obligation -/

abbrev bodyAt (t : Fin (cfgA a).N) : Prog (TpuEff nD τ sig (Elt F) Λ₀ .tc) PUnit :=
  cc0_moe_grouped (crd a t) tb0 (Memref.isWhole_whole _) tb1 (Memref.isWhole_whole _) (ms0 a t) (hs0 a t) (ms1 a t) (hs1 a t) (ms2 a t) (hs2 a t) (ms3 a t) (hs3 a t) (ms4 a t) (hs4 a t) sc0 (Memref.isWhole_whole _)

/-- The output window's part of the post, from the recursion's contents. -/
theorem post4 (c : Dev nD) (t : Fin (cfgA a).N) :
    owns (c : Thread nD τ) (ms4 a t) fullShare (traj a V c t.val t.isLt).1
      ⊢ (match (cfgA a).idle (4 : Fin 5) ((cfgA a).grid.coords t) with
                | true =>
                  match ((cfgA a).win (4 : Fin 5)).flush t with
                  | false => iprop(∃ d, owns (c : Thread nD τ) (((cfgA a).win (4 : Fin 5)).stage ((cfgA a).slots t (4 : Fin 5))) fullShare ((dats a V 0 c).before (4 : Fin 5) t d))
                  | true => owns (c : Thread nD τ) (((cfgA a).win (4 : Fin 5)).stage ((cfgA a).slots t (4 : Fin 5))) fullShare ((dats a V 0 c).after (4 : Fin 5) t)
                | false => owns (c : Thread nD τ) (((cfgA a).win (4 : Fin 5)).stage ((cfgA a).slots t (4 : Fin 5))) fullShare ((dats a V 0 c).after (4 : Fin 5) t) : sProp 𝕄) := by
  cases hi : (cfgA a).idle (4 : Fin 5) ((cfgA a).grid.coords t)
  · iintro H; iexact H
  · cases hf : ((cfgA a).win (4 : Fin 5)).flush t
    · have h0 : t.val % 7 ≠ 0 := fun h0 => by
        rw [idle4, (cond1_iff t).2 h0] at hi; simp at hi
      have e : (traj a V c t.val t.isLt).1 = (dats a V 0 c).before (4 : Fin 5) t k0_pay1 := by
        rw [before_4, if_neg h0, traj_eq, step_idle a V c t hi]
      rw [e]
      iintro H; iexists (k0_pay1 : S1024x1024.Idx → Elt F .f32); iexact H
    · iintro H; iexact H

set_option maxHeartbeats 4000000 in
theorem sound_body (c : Dev nD) (t : Fin (cfgA a).N) :
    iprop((dats a V 0 c).Φ t.castSucc ∗ (dats a V 0 c).owesAt () t.castSucc
        ∗ (∃ d, owns (c : Thread nD τ) (ms0 a t) fullShare ((dats a V 0 c).before (0 : Fin 5) t d))
        ∗ (∃ d, owns (c : Thread nD τ) (ms1 a t) fullShare ((dats a V 0 c).before (1 : Fin 5) t d))
        ∗ (∃ d, owns (c : Thread nD τ) (ms2 a t) fullShare ((dats a V 0 c).before (2 : Fin 5) t d))
        ∗ (∃ d, owns (c : Thread nD τ) (ms3 a t) fullShare ((dats a V 0 c).before (3 : Fin 5) t d))
        ∗ (∃ d, owns (c : Thread nD τ) (ms4 a t) fullShare ((dats a V 0 c).before (4 : Fin 5) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  rw [bigSep_W0]
  simp only [before_0, before_1, before_2, before_3, after_0, after_1, after_2, after_3]
  rewrite [show (dats a V 0 c).Φ t.succ = Phi a V c t.succ from rfl, show (dats a V 0 c).Φ t.castSucc = Phi a V c t.castSucc from rfl,
    show (dats a V 0 c).owesAt () t.succ = (dats a V 0 c).owesAt () t.castSucc from rfl]
  unfold Phi
  iintro ⟨⟨⟨%x, %hx, HS⟩, Hr, HT0, HT1⟩, Ho, ⟨%d0, H0⟩, ⟨%d1, H1⟩, ⟨%d2, H2⟩, ⟨%d3, H3⟩, ⟨%d4, H4⟩⟩
  rewrite [before_4]
  have hst := step_before a V c t d4 x hx
  iapply (body_run c (crd a t) (ms0 a t) (hs0 a t) (ms1 a t) (hs1 a t) (ms2 a t) (hs2 a t) (ms3 a t) (hs3 a t) (ms4 a t) (hs4 a t) (a.1 0) (a.1 1)
    (iblk a V c (0 : Fin 5) t) (iblk a V c (1 : Fin 5) t) (iblk a V c (2 : Fin 5) t) (iblk a V c (3 : Fin 5) t)
    (if t.val % 7 = 0 then d4 else (prev a V c t.val (Nat.le_of_lt t.isLt)).1) x (fun h => conds_excl _ h) _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iapply rep_of_owns; iexact H4
  isplitl [HS]; · iapply rep_of_owns; iexact HS
  iintro ⟨H0, H1, H2, H3, HT0, HT1, H4, HS⟩
  have e1 := congrArg Prod.fst hst
  have e2 := congrArg Prod.snd hst
  unfold step at e1 e2
  simp only at e1 e2
  rewrite [e1, e2]
  isplitl [HS HT0 HT1 Hr]
  · isplitl [HS]
    · iexists _; isplitr; swap
      · iexact HS
      · ipureintro; intro _; rfl
    isplitl [Hr]; · iexact Hr
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply (post4 a V c t); iexact H4

theorem body_obligation (c : Dev nD) : BodyObligation (dats a V 0 c) (defs₀ (F := F)) Variants.none () Set.univ := fun t => by
  rw [bigSep_W0]
  exact sound_body a V c t

/-! ## The launch -/

theorem share_eq (c : Dev nD) (w : Fin (cfgA a).W) : (dats a V 0 c).share w = fullShare := by unfold Dat.share; split <;> rfl

/-- The two tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v22) ↦{q 0} v 0) ∗ (((c : Thread nD τ).loc main_v33) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(Pipeline.ΦA spec0 c ∗ Pipeline.ΦT pre0 a.1 c) ⊢ (dats a V 0 c).Φ 0 := by
  unfold Pipeline.ΦA Pipeline.ΦT
  rw [prefHeld_eq, scopedRest0_eq, show (dats a V 0 c).Φ 0 = Phi a V c 0 from rfl]
  unfold Phi
  iintro ⟨⟨⟨%f, HS⟩, Hr⟩, HT0, HT1⟩
  isplitl [HS]
  · iexists f; isplitr
    · ipureintro; intro h; exact absurd rfl h
    · rw [owns_whole]; iexact HS
  isplitl [Hr]; · iexact Hr
  isplitl [HT0]; · iexact HT0
  iexact HT1

theorem phi_exit (c : Dev nD) : (dats a V 0 c).Φ (Fin.last (cfgA a).N) ⊢ Pipeline.ΦA spec0 c := by
  unfold Pipeline.ΦA
  rw [scopedRest0_eq, show (dats a V 0 c).Φ (Fin.last (cfgA a).N) = Phi a V c (Fin.last _) from rfl]
  unfold Phi
  simp only [owns_whole]
  iintro ⟨⟨%x, -, HS⟩, Hr, -, -⟩
  isplitl [HS]
  · iexists x; iexact HS
  iexact Hr

end Run

/-! ## The program -/

/-- The host operations before the region, in order. -/
abbrev opss : List (List (HloOp τ sig (Elt F))) := [hostOps0, hostOps0_1, hostOps0_2, hostOps0_3, hostOps0_4, hostOps0_5, hostOps0_6]

theorem ops_fresh : (opss (F := F)).Forall fun ops => ops.Forall fun op => op.fresh = ∅ := by
  simp only [opss, List.forall_cons, hostOps0, hostOps0_1, hostOps0_2, hostOps0_3, hostOps0_4, hostOps0_5, hostOps0_6, List.Forall]
  repeat' constructor

variable (m : (ℓ : Loc nD τ sig) → Buf (Elt F) ℓ) (ρ : Dev nD → PrngReg)

/-- Every buffer's contents at the region's entry. -/
abbrev entry (c : Dev nD) (b : Ref sig .tc) : Buf (Elt F) ((c.tc : Thread nD τ).loc b) :=
  StableHlo.after (opss (F := F)).flatten (fun b => m (c, b)) b

/-- The tables' contents at the region's entry. -/
def tables : pre0.Contents (Elt F) := fun k => entry m 0 (pre0.ref k)

/-- The run: at tables the region admits, every execution ends with the output at what the pipeline computes and every
    other array as at the region's entry. -/
theorem run_main (hok : ok0 (tables m)) :
    θ_run (defs (F := F)) (onTc (τ := τ) (main (F := F))) (s₀ m ρ) (fun r =>
      Pipeline.FramePost (pcsA (F := F) ⟨tables m, hok⟩) (dats ⟨tables m, hok⟩ (entry m)) 0 (entry m) r ∧ r.2.sem = fun _ => 0) :=
  Pipeline.θ_run_frameP_track (pcfgs (F := F)) (fun _ => ⟨tables m, hok⟩) (dats ⟨tables m, hok⟩ (entry m)) 0 launch0 (defs₀ (F := F)) Variants.none
    m ρ (main (F := F))
    (hbody := fun c => (body_obligation ⟨tables m, hok⟩ (entry m) c).loose)
    (hshare := fun c w => share_eq ⟨tables m, hok⟩ (entry m) c w) (howed := fun _ _ => rfl)
    (V := entry m)
    (hmain := Pipeline.hmainP_prefixes (pcfgs (F := F)) 0 (defs₀ (F := F)) Variants.none m (main (F := F)) opss
      ⟨hostOps0_sub, hostOps0_1_sub, hostOps0_2_sub, hostOps0_3_sub, hostOps0_4_sub, hostOps0_5_sub, hostOps0_6_sub⟩
      ops_fresh (fun c => main_chain c))
    (hA := fun _ _ => rfl)
    (hpf := fun c k => by rw [Subsingleton.elim c 0]; rfl)
    (hin := fun c => phi_intro ⟨tables m, hok⟩ (entry m) c)
    (hout := fun c => phi_exit ⟨tables m, hok⟩ (entry m) c)
    (Q' := _) (hQ' := fun _ h => h)

end Cert.KernelIdeal.Run

end
-- ==== Proof.Tables.lean ====
/- The two tables of the call, as functions of the counts: which expert's segment a tile of rows lies in, and how many of its rows belong to that segment. -/
module

public import proofs.«01_k».proof.Proof.Run
public import Idealize.ShloMosaic.Lib.StableHlo.RunRead
public import Idealize.ShloMosaic.Lib.Routing.Words
public import Idealize.ShloMosaic.Lib.Routing.Ops
public import Idealize.ShloMosaic.Lib.Routing.OpsPair
public import Idealize.ShloMosaic.Lib.Routing.OpsSet
public import Idealize.ShloMosaic.Lib.Routing.Model

@[expose] public section

set_option maxRecDepth 16384
set_option Elab.async false

noncomputable section

namespace Cert.KernelIdeal.Run

open Cert.KernelIdeal Cert.KernelIdeal.Gen
open Idealize.ShloMosaic Idealize.ShloMosaic.TcCoe Idealize.ShloMosaic.Tactic
open Idealize.ShloMosaic.StableHlo
open Idealize.ShloMosaic.Routing Idealize.ShloMosaic.ValueIdx

/-- A count rounded up to a multiple of 1024, as the host computes it. -/
def padW (x : IVec S8 32) : IVec S8 32 :=
  muli (pyDiv bcast_S_S8 (subi (addi x (broadcastInDim S8 ![] bcast_S_S8 (constantI S_ 32 1024#32))) (broadcastInDim S8 ![] bcast_S_S8 (constantI S_ 32 1#32)))
    (id (constantI S_ 32 1024#32))) (broadcastInDim S8 ![] bcast_S_S8 (constantI S_ 32 1024#32))

/-- The ends of the segments. -/
def endsW (x : IVec S8 32) : IVec S8 32 :=
  Host.reduceWindow IntOp.addi ![8] ![1] ![7] ![0] (padW x) (broadcastInDim S_ ![] bcast_S_S_ (constantI S_ 32 0#32)) reduceWindows_S8_S8_w8s1p7_0 h_S_

/-- Where each tile begins. -/
def tileW : IVec S40 32 := muli (iotaInDim S40 32 0) (broadcastInDim S40 ![] bcast_S_S40 (constantI S_ 32 1024#32))

/-- The segment of each tile: how many segments end at or before it. -/
def expertW (x : IVec S8 32) : IVec S40 32 :=
  Host.reduce IntOp.addi
    (extui 32 (cmpi .sle
        (broadcastInDim S40x8 ![0, 1] bcast_S1x8_S40x8_0_1 (broadcastInDim S1x8 ![1] bcast_S8_S1x8_1 (endsW x)))
        (broadcastInDim S40x8 ![0, 1] bcast_S40x1_S40x8_0_1 (broadcastInDim S40x1 ![0] bcast_S40_S40x1_0
          (minsi tileW (broadcastInDim S40 ![] bcast_S_S40
            (subi (shapeCast S_ (extractStridedSlice S1 ![7] (endsW x) slices_S8_S1_7) shapeCasts_S1_S_) (constantI S_ 32 1#32)))))))
      natLt_1_32)
    (constantI S_ 32 0#32) reducesTo_S40x8_S40_d1 h_S_

/-- How many rows of each tile belong to its segment. -/
def rowsW (x : IVec S8 32) : IVec S40 32 :=
  minsi (broadcastInDim S40 ![] bcast_S_S40 (id (constantI S_ 32 1024#32)))
    (maxsi (broadcastInDim S40 ![] bcast_S_S40 (id (constantI S_ 32 0#32)))
      (subi (Host.gather gather_S8_S40x1_S40_n_0_n_n_0_1_1 (addi (subi (endsW x) (padW x)) x)
          (broadcastInDim S40x1 ![0] bcast_S40_S40x1_0
            (select (cmpi .slt (expertW x) (broadcastInDim S40 ![] bcast_S_S40 (constantI S_ 32 0#32)))
              (addi (expertW x) (broadcastInDim S40 ![] bcast_S_S40 (constantI S_ 32 8#32))) (expertW x))))
        tileW))

section Entry
variable {F : FTy → Type} [FloatOps F]

theorem entry_v22 (m : (ℓ : Loc nD τ sig) → Buf (Elt F) ℓ) (c : Dev nD) : entry m c main_v22 = expertW (m (c, main_arg0)) := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  after_reads_simp
  rfl

theorem entry_v33 (m : (ℓ : Loc nD τ sig) → Buf (Elt F) ℓ) (c : Dev nD) : entry m c main_v33 = rowsW (m (c, main_arg0)) := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  after_reads_simp
  rfl

theorem entry_v34 (m : (ℓ : Loc nD τ sig) → Buf (Elt F) ℓ) (c : Dev nD) :
    entry m c main_v34 = shapeCast S8x1024x3584 (m (c, main_arg2)) shapeCasts_S1x8x1024x3584_S8x1024x3584 := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  after_reads_simp
  rfl

theorem entry_v35 (m : (ℓ : Loc nD τ sig) → Buf (Elt F) ℓ) (c : Dev nD) :
    entry m c main_v35 = shapeCast S8x1024x3584 (m (c, main_arg3)) shapeCasts_S1x8x1024x3584_S8x1024x3584 := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  after_reads_simp
  rfl

theorem entry_v36 (m : (ℓ : Loc nD τ sig) → Buf (Elt F) ℓ) (c : Dev nD) :
    entry m c main_v36 = shapeCast S8x3584x1024 (m (c, main_arg4)) shapeCasts_S1x8x3584x1024_S8x3584x1024 := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  after_reads_simp
  rfl

theorem entry_arg (m : (ℓ : Loc nD τ sig) → Buf (Elt F) ℓ) (c : Dev nD) :
    entry m c main_arg0 = m (c, main_arg0) ∧ entry m c main_arg1 = m (c, main_arg1) ∧ entry m c main_arg2 = m (c, main_arg2)
      ∧ entry m c main_arg3 = m (c, main_arg3) ∧ entry m c main_arg4 = m (c, main_arg4) := by
  unfold entry opss
  simp only [List.flatten_cons, List.flatten_nil, List.append_nil, hostOps0, hostOps0_1, hostOps0_2, hostOps0_3, hostOps0_4, hostOps0_5, hostOps0_6, List.cons_append, List.nil_append, TRef.binary, TRef.nullary, TRef.unary, TRef.ternary, TRef.toBuf, TRef.ofBuf, cast_eq]
  refine ⟨?_, ?_, ?_, ?_, ?_⟩ <;> after_reads_simp

end Entry

end Cert.KernelIdeal.Run

end
-- ==== Proof.Words.lean ====
/- The tables' words, for counts between 0 and 32768. -/
module

public import proofs.«01_k».proof.Proof.Tables

@[expose] public section

set_option maxRecDepth 16384
set_option Elab.async false

noncomputable section

namespace Cert.KernelIdeal.Run

open Cert.KernelIdeal Cert.KernelIdeal.Gen
open Idealize.ShloMosaic Idealize.ShloMosaic.TcCoe
open Idealize.ShloMosaic.StableHlo
open Idealize.ShloMosaic.Routing Idealize.ShloMosaic.ValueIdx

/-! ## The layout in natural numbers -/

/-- A count rounded up to whole tiles. -/
def pd (f : ℕ → ℕ) (n : ℕ) : ℕ := (f n + 1023) / 1024 * 1024

/-- Where segment `k` begins; segment `k` ends at `en f (k + 1)`. -/
def en (f : ℕ → ℕ) (k : ℕ) : ℕ := ((List.range k).map (pd f)).sum

/-- Segment `q` ends at or before tile `r`, and is not the last that holds a row. -/
def Past (f : ℕ → ℕ) (r q : ℕ) : Prop := en f (q + 1) ≤ 1024 * r ∧ en f (q + 1) < en f 8

instance (f : ℕ → ℕ) (r : ℕ) : DecidablePred (Past f r) := fun q => inferInstanceAs (Decidable (_ ∧ _))

/-- The segment of tile `r`. -/
def te (f : ℕ → ℕ) (r : ℕ) : ℕ := Nat.count (Past f r) 8

/-- How many rows of tile `r` belong to its segment. -/
def tr (f : ℕ → ℕ) (r : ℕ) : ℕ := min 1024 (en f (te f r) + f (te f r) - 1024 * r)

theorem en_succ (f : ℕ → ℕ) (k : ℕ) : en f (k + 1) = en f k + pd f k := by
  unfold en
  rw [List.range_succ, List.map_append, List.sum_append, List.map_singleton, List.sum_singleton]

theorem en_mono (f : ℕ → ℕ) {a b : ℕ} (h : a ≤ b) : en f a ≤ en f b := by
  induction b, h using Nat.le_induction with
  | base => exact le_rfl
  | succ n hn ih => exact ih.trans (by rw [en_succ]; exact Nat.le_add_right _ _)

theorem en_dvd (f : ℕ → ℕ) (k : ℕ) : 1024 ∣ en f k := by
  induction k with
  | zero => exact dvd_zero _
  | succ n ih => rw [en_succ]; exact dvd_add ih (Dvd.intro_left _ rfl)

theorem le_pd (f : ℕ → ℕ) (n : ℕ) : f n ≤ pd f n := by unfold pd; omega

theorem pd_le (f : ℕ → ℕ) (n : ℕ) (h : f n ≤ 32768) : pd f n ≤ 32768 := by unfold pd; omega

theorem en_le (f : ℕ → ℕ) (k : ℕ) (h : ∀ n, n < k → f n ≤ 32768) : en f k ≤ k * 32768 := by
  induction k with
  | zero => exact le_of_eq rfl
  | succ n ih =>
    have h1 := ih fun a ha => h a (by omega)
    have h2 := pd_le f n (h n (by omega))
    rw [en_succ]; omega

/-- A predicate that holds on an initial stretch is counted by where it stops. -/
theorem count_initial (P : ℕ → Prop) [DecidablePred P] (hP : ∀ q, P (q + 1) → P q) (n : ℕ) : ∀ q, q < n → (P q ↔ q < Nat.count P n) := by
  induction n with
  | zero => intro q h; omega
  | succ n ih =>
    have hle : Nat.count P n ≤ n := Nat.count_le _
    have hdown : ∀ a b, a ≤ b → P b → P a := by
      intro a b hab
      induction b, hab using Nat.le_induction with
      | base => exact id
      | succ k hk ih2 => exact fun h => ih2 (hP k h)
    intro q hq
    rw [Nat.count_succ]
    by_cases hn : P n
    · have hall : Nat.count P n = n := by
        by_contra hne
        have hlt : Nat.count P n < n := by omega
        exact absurd ((ih _ hlt).1 (hdown _ _ hlt.le hn)) (lt_irrefl _)
      simp only [hn, if_true]
      exact ⟨fun _ => by omega, fun _ => hdown q n (by omega) hn⟩
    · simp only [hn, if_false, Nat.add_zero]
      rcases Nat.lt_succ_iff_lt_or_eq.1 hq with h | h
      · exact ih q h
      · subst h; exact ⟨fun h => absurd h hn, fun h => by omega⟩

theorem past_iff (f : ℕ → ℕ) (r q : ℕ) (hq : q < 8) : Past f r q ↔ q < te f r :=
  count_initial (Past f r) (fun q h => ⟨(en_mono f (by omega)).trans h.1, lt_of_le_of_lt (en_mono f (by omega)) h.2⟩) 8 q hq

theorem te_lt (f : ℕ → ℕ) (r : ℕ) : te f r < 8 := by
  by_contra h
  have h1 : te f r = 8 := le_antisymm (Nat.count_le _) (not_lt.1 h)
  exact absurd ((past_iff f r 7 (by decide)).2 (by omega)).2 (lt_irrefl _)

theorem tr_le (f : ℕ → ℕ) (r : ℕ) : tr f r ≤ 1024 := Nat.min_le_left _ _

/-- A row belongs to segment `e` exactly when `e` is its tile's segment and the row is among the tile's rows. -/
theorem member_iff (f : ℕ → ℕ) (R e : ℕ) (he : e < 8) :
    (en f e ≤ R ∧ R < en f e + f e) ↔ (e = te f (R / 1024) ∧ R % 1024 < tr f (R / 1024)) := by
  have hdm := Nat.div_add_mod R 1024
  have hml : R % 1024 < 1024 := Nat.mod_lt _ (by decide)
  constructor
  · rintro ⟨h1, h2⟩
    have h3 := le_pd f e
    have h4 := en_succ f e
    obtain ⟨k, hk⟩ := en_dvd f e
    have h5 : en f e ≤ 1024 * (R / 1024) := by
      rw [hk] at h1 ⊢
      have : k ≤ R / 1024 := (Nat.le_div_iff_mul_le (by decide)).2 (by omega)
      omega
    obtain ⟨k', hk'⟩ := en_dvd f (e + 1)
    have h6 : 1024 * (R / 1024) < en f (e + 1) := by omega
    have hmax : en f (e + 1) ≤ en f 8 := en_mono f (by omega)
    have hte : e = te f (R / 1024) := by
      have ha : ¬ e < te f (R / 1024) := fun h => by
        have := ((past_iff f (R / 1024) e he).2 h).1
        omega
      have hb : ∀ q, q < e → q < te f (R / 1024) := fun q hq => by
        refine (past_iff f (R / 1024) q (by omega)).1 ⟨?_, ?_⟩
        · exact (en_mono f (by omega)).trans h5
        · exact lt_of_le_of_lt (en_mono f (show q + 1 ≤ e by omega)) (by omega)
      by_contra hne
      have hlt : te f (R / 1024) < e := by omega
      exact absurd (hb _ hlt) (lt_irrefl _)
    refine ⟨hte, ?_⟩
    unfold tr
    rw [← hte]
    refine lt_min hml ?_
    omega
  · rintro ⟨h1, h2⟩
    unfold tr at h2
    rw [← h1] at h2
    have h3 := lt_of_lt_of_le h2 (Nat.min_le_right _ _)
    refine ⟨?_, by omega⟩
    rcases Nat.eq_zero_or_pos e with h0 | h0
    · subst h0; exact Nat.zero_le _
    · have := ((past_iff f (R / 1024) (e - 1) (by omega)).2 (by omega)).1
      rw [show e - 1 + 1 = e by omega] at this
      omega

/-! ## Words -/

theorem sle_min_pred {a b c : ℕ} (ha : a < 2 ^ 31) (hb : b < 2 ^ 31) (hc : c < 2 ^ 31) :
    IntOp.cmpi .sle (BitVec.ofNat 32 a) (IntOp.minsi (BitVec.ofNat 32 b) (BitVec.ofNat 32 c - 1#32)) = 1#1 ↔ a ≤ b ∧ a < c := by
  have e1 : (BitVec.ofNat 32 a).toInt = a := by rw [StableHlo.Predicate.toInt_ofNat_small _ ha]
  have e2 : (BitVec.ofNat 32 b).toInt = b := by rw [StableHlo.Predicate.toInt_ofNat_small _ hb]
  have e3 : (BitVec.ofNat 32 c - 1#32).toInt = (c : ℤ) - 1 := by
    rw [BitVec.toInt_sub, StableHlo.Predicate.toInt_ofNat_small _ hc]
    rw [show ((1#32 : BitVec 32).toInt) = 1 by decide]
    rw [Int.bmod_eq_of_le] <;> omega
  rw [IntOp.cmpi_sle, IntOp.minsi]
  simp only [BitVec.slt, e2, e3]
  split_ifs with h
  · rw [e1, e2]; simp only [decide_eq_true_eq] at h; omega
  · rw [e1, e3]; simp only [decide_eq_true_eq] at h; omega

theorem clip_word {a b : ℕ} (ha : a < 2 ^ 31) (hb : b < 2 ^ 31) :
    IntOp.minsi 1024#32 (IntOp.maxsi 0#32 (BitVec.ofNat 32 a - BitVec.ofNat 32 b)) = BitVec.ofNat 32 (min 1024 (a - b)) := by
  have e3 : (BitVec.ofNat 32 a - BitVec.ofNat 32 b).toInt = (a : ℤ) - b := by
    rw [BitVec.toInt_sub, StableHlo.Predicate.toInt_ofNat_small _ ha, StableHlo.Predicate.toInt_ofNat_small _ hb]
    rw [Int.bmod_eq_of_le] <;> omega
  have e0 : (0#32 : BitVec 32).toInt = 0 := by decide
  have e4 : (1024#32 : BitVec 32).toInt = 1024 := by decide
  have hmx : IntOp.maxsi 0#32 (BitVec.ofNat 32 a - BitVec.ofNat 32 b) = BitVec.ofNat 32 (a - b) := by
    unfold IntOp.maxsi
    simp only [BitVec.slt, e0, e3, decide_eq_true_eq]
    split_ifs with h
    · first
        | (rw [show a - b = 0 by omega]; done)
        | exact ofNat32_sub (by omega)
    · first
        | (rw [show a - b = 0 by omega]; done)
        | exact ofNat32_sub (by omega)
  rw [hmx]
  have e5 : (BitVec.ofNat 32 (a - b)).toInt = ((a - b : ℕ) : ℤ) := by rw [StableHlo.Predicate.toInt_ofNat_small _ (by omega)]
  unfold IntOp.minsi
  simp only [BitVec.slt, e4, e5, decide_eq_true_eq]
  split_ifs with h
  · rw [Nat.min_eq_left (by omega)]
  · rw [Nat.min_eq_right (by omega)]

theorem minsi_ap {s : Shape} (x y : IVec s 32) (i : s.Idx) : minsi x y i = IntOp.minsi (x i) (y i) := rfl
theorem maxsi_ap {s : Shape} (x y : IVec s 32) (i : s.Idx) : maxsi x y i = IntOp.maxsi (x i) (y i) := rfl
theorem cmpi_ap {s : Shape} (p : CmpIPredicate) (x y : IVec s 32) (i : s.Idx) : cmpi p x y i = IntOp.cmpi p (x i) (y i) := rfl
theorem select_ap {s : Shape} {α : Type} (c : IVec s 1) (x y : s.Idx → α) (i : s.Idx) : select c x y i = Scalar.select (c i) (x i) (y i) := rfl

section Words
variable (x : IVec S8 32) (f : ℕ → ℕ) (hx : ∀ e : Fin 8, x (ix1 e) = BitVec.ofNat 32 (f e.val)) (hf : ∀ n, n < 8 → f n ≤ 32768)
include hx hf

theorem padW_at (e : Fin 8) : padW x (ix1 e) = BitVec.ofNat 32 (pd f e.val) := by
  have h := hf e.val e.isLt
  unfold padW
  rw [muli_ap]
  rw [pyDiv_ap (a := f e.val + 1023) (b := 1024) bcast_S_S8 _ _ (ix1 e) ?_ rfl (by omega) (by decide) (by decide)]
  · rw [bc0]
    show BitVec.ofNat 32 _ * BitVec.ofNat 32 1024 = _
    rw [← BitVec.ofNat_mul]; rfl
  · rw [subi_ap, addi_ap, bc0, bc0, hx]
    show BitVec.ofNat 32 (f e.val) + BitVec.ofNat 32 1024 - BitVec.ofNat 32 1 = _
    rw [← BitVec.ofNat_add, ofNat32_sub (by omega)]; rfl

theorem endsW_at (e : Fin 8) : endsW x (ix1 e) = BitVec.ofNat 32 (en f (e.val + 1)) :=
  cumsum1 (N := 8) (Nm1 := 7) rfl (padW x) (pd f) (padW_at x f hx hf) _ (bc0 _ _ _) _ _ e

omit hx hf in
theorem tileW_at (r : Fin 40) : tileW (ix1 r) = BitVec.ofNat 32 (1024 * r.val) := by
  unfold tileW
  rw [muli_ap, iota1_ap, bc0]
  show BitVec.ofNat 32 _ * BitVec.ofNat 32 1024 = _
  rw [← BitVec.ofNat_mul, Nat.mul_comm]

theorem expertW_at (r : Fin 40) : expertW x (ix1 r) = BitVec.ofNat 32 (te f r.val) := by
  have hb : ∀ k, k ≤ 8 → en f k < 2 ^ 31 := fun k hk => by
    have := en_le f k fun n hn => hf n (by omega)
    omega
  unfold expertW
  refine reduce_count (by decide) _ _ _ _ r (Past f r.val) fun q => ?_
  rw [cmpi_ap, bcCols, bcRows, minsi_ap, tileW_at, endsW_at x f hx hf, bc0, subi_ap]
  have e7 : shapeCast S_ (extractStridedSlice S1 ![7] (endsW x) slices_S8_S1_7) shapeCasts_S1_S_ ValueIdx.ix0 = BitVec.ofNat 32 (en f 8) := by
    rw [shapeCast_apply _ _ ValueIdx.ix0 (ix1 (0 : Fin 1)) rfl]
    rw [slice1 7 _ _ (0 : Fin 1) (by decide)]
    exact endsW_at x f hx hf ⟨7, by decide⟩
  rw [e7]
  exact sle_min_pred (hb _ (by omega)) (by omega) (hb 8 le_rfl)

theorem rowsW_at (r : Fin 40) : rowsW x (ix1 r) = BitVec.ofNat 32 (tr f r.val) := by
  have hb : ∀ k, k ≤ 8 → en f k ≤ 262144 := fun k hk => by
    have := en_le f k fun n hn => hf n (by omega)
    omega
  have hte := te_lt f r.val
  unfold rowsW
  rw [minsi_ap, maxsi_ap, bc0, bc0, subi_ap, tileW_at]
  rw [gather_take1 gather_S8_S40x1_S40_n_0_n_n_0_1_1 rfl rfl rfl rfl _ _ r ⟨te f r.val, hte⟩ ?_ (by decide)]
  · rw [addi_ap, subi_ap, endsW_at x f hx hf, padW_at x f hx hf, hx]
    rw [ofNat32_sub (by rw [en_succ]; omega), ← BitVec.ofNat_add]
    have h1 := hf _ hte
    have h2 := hb _ hte.le
    have h3 := en_succ f (te f r.val)
    refine (clip_word (by show _ < _; dsimp only; omega) (by omega)).trans ?_
    unfold tr
    congr 2
    show en f (te f r.val + 1) - pd f (te f r.val) + f (te f r.val) - _ = _
    omega
  · rw [bcCol, select_ap, cmpi_ap, bc0]
    refine (wrap_of_lt _ _ ?_).trans (expertW_at x f hx hf r)
    rw [expertW_at x f hx hf r, BitVec.toNat_ofNat]
    omega

end Words

end Cert.KernelIdeal.Run

end
-- ==== Proof.Admit.lean ====
/- The tables that counts between 0 and 32768 give are admissible: every block the call fetches lies inside its array. -/
module

public import proofs.«01_k».proof.Proof.Words
public import proofs.«01_k».proof.Pre_counts_in_range
public import proofs.«01_k».proof.Pre_counts_and_padding

@[expose] public section

set_option maxRecDepth 16384
set_option Elab.async false

noncomputable section

namespace Cert.KernelIdeal.Run

open Cert.KernelIdeal Cert.KernelIdeal.Gen
open Idealize.ShloMosaic Idealize.ShloMosaic.TcCoe Idealize.SL.Sem
open Idealize.ShloMosaic.Routing Idealize.ShloMosaic.ValueIdx

/-! ## The counts -/

/-- The counts as natural numbers. -/
def cnt (x : IVec S8 32) (n : ℕ) : ℕ := if h : n < 8 then (x (ix1 ⟨n, h⟩)).toNat else 0

/-- Counts between 0 and 32768. -/
def InRange (x : IVec S8 32) : Prop := ∀ e : Fin 8, 0 ≤ (x (ix1 e)).toInt ∧ (x (ix1 e)).toInt ≤ 32768

theorem cnt_eq (x : IVec S8 32) (e : Fin 8) : x (ix1 e) = BitVec.ofNat 32 (cnt x e.val) := by
  unfold cnt
  rw [dif_pos e.isLt]
  exact BitVec.eq_of_toNat_eq (by rw [BitVec.toNat_ofNat, Nat.mod_eq_of_lt (x (ix1 e)).isLt])

theorem cnt_le (x : IVec S8 32) (h : InRange x) (n : ℕ) (hn : n < 8) : cnt x n ≤ 32768 := by
  unfold cnt
  rw [dif_pos hn]
  have h1 := h ⟨n, hn⟩
  have h2 := toNat_lt_of_toInt_nonneg _ h1.1
  have h3 := BitVec.toInt_eq_toNat_of_lt (x := x (ix1 ⟨n, hn⟩)) (by omega)
  omega

theorem range_of_words (x : IVec S8 32) (h : ∀ e : Fin 8, IntOp.andi (IntOp.cmpi .sge (x (ix1 e)) 0#32) (IntOp.cmpi .sle (x (ix1 e)) 32768#32) = 1#1) :
    InRange x := fun e => by
  have h1 := IntOp.andi_eq_one.mp (h e)
  have h2 := IntOp.cmpi_sge.mp h1.1
  have h3 := IntOp.cmpi_sle.mp h1.2
  exact ⟨h2, h3⟩

section Pre
variable {F : FTy → Type} [FloatOps F]

theorem range_of_pre [Cert.Pre_counts_in_range.Facts] (x : IVec S8 32) (y) (wg) (wu) (wd)
    (h : Cert.Pre_counts_in_range.fn (F := F) x y wg wu wd = fun _ => 1#1) : InRange x :=
  range_of_words x fun e => congrFun h (ix1 e)

theorem range_of_pre_padding [Cert.Pre_counts_and_padding.Facts] (x : IVec S8 32) (y) (wg) (wu) (wd)
    (h : (Cert.Pre_counts_and_padding.fn (F := F) x y wg wu wd).1 = fun _ => 1#1) : InRange x :=
  range_of_words x fun e => congrFun h (ix1 e)

end Pre

/-! ## The index maps -/

section Maps
variable {F : FTy → Type} [FloatOps F]

theorem at_eq (pf : pre0.Contents (Elt F)) (i : grid0.Coords) :
    (pf.at 0 (Rect.unit (s := S40) (k0_off1 i) S1.size (k0_off1_inb i)) numel1_S1 : BitVec 32) = pf 0 (tile i)
      ∧ (pf.at 1 (Rect.unit (s := S40) (k0_off1 i) S1.size (k0_off1_inb i)) numel1_S1 : BitVec 32) = pf 1 (tile i) :=
  ⟨congrArg (pf 0) (emb_off1 i _), congrArg (pf 1) (emb_off1 i _)⟩

/-- The column block a point fetches: its own when the tile has rows in use, else the last. -/
def colBlock (u : ℕ) (i : grid0.Coords) : ℕ := if 0 < u then (i 1).val else 6

theorem colBlock_lt (u : ℕ) (i : grid0.Coords) : colBlock u i < 7 := by
  have h : (i 1).val < 7 := (i 1).isLt
  unfold colBlock; split_ifs <;> omega

theorem select_col (u : ℕ) (hu : u ≤ 1024) (i : grid0.Coords) :
    (Scalar.select (Scalar.cmpi .sgt (BitVec.ofNat 32 u) 0#32) (BitVec.ofNat 32 (i 1).val) 6#32).toNat = colBlock u i := by
  have h : (i 1).val < 7 := (i 1).isLt
  have e : IntOp.cmpi .sgt (BitVec.ofNat 32 u) 0#32 = 1#1 ↔ 0 < u := by
    rw [IntOp.cmpi_sgt, StableHlo.Predicate.toInt_ofNat_small u (by omega), StableHlo.Predicate.toInt_ofNat_small 0 (by omega)]
    show ((0 : ℕ) : ℤ) < (u : ℤ) ↔ 0 < u
    omega
  unfold colBlock Scalar.select
  by_cases hp : 0 < u
  · rw [if_pos hp]
    rw [show Scalar.cmpi .sgt (BitVec.ofNat 32 u) 0#32 = 1#1 from e.2 hp]
    show (BitVec.ofNat 32 (i 1).val).toNat = _
    rw [BitVec.toNat_ofNat]; omega
  · rw [if_neg hp]
    have : Scalar.cmpi .sgt (BitVec.ofNat 32 u) 0#32 = 0#1 := by
      have hne : ¬ Scalar.cmpi .sgt (BitVec.ofNat 32 u) 0#32 = 1#1 := fun hh => hp (e.1 hh)
      generalize Scalar.cmpi .sgt (BitVec.ofNat 32 u) 0#32 = b at hne ⊢
      revert hne; revert b; decide
    rw [this]; rfl

variable (pf : pre0.Contents (Elt F)) (i : grid0.Coords) (e u : ℕ) (he : e < 8) (hu : u ≤ 1024)
  (h0 : (pf 0 (tile i) : BitVec 32) = BitVec.ofNat 32 e) (h1 : (pf 1 (tile i) : BitVec 32) = BitVec.ofNat 32 u)
include he hu h0 h1

theorem map1 : cc0_transform_1 k0_off1_inb numel1_S1 pf i = ![e, 0, colBlock u i] := by
  have hA : cc0_transform_1 k0_off1_inb numel1_S1 pf i
      = ![(pf 0 (tile i) : BitVec 32).toNat, 0, (Scalar.select (Scalar.cmpi .sgt (pf 1 (tile i) : BitVec 32) 0#32) (BitVec.ofNat 32 (i 1).val) 6#32).toNat] := by
    rw [← (at_eq pf i).1, ← (at_eq pf i).2]; rfl
  rw [hA, h0, h1, select_col u hu i, BitVec.toNat_ofNat, Nat.mod_eq_of_lt (by omega)]

theorem map2 : cc0_transform_2 k0_off1_inb numel1_S1 pf i = ![e, 0, colBlock u i] := by
  have hA : cc0_transform_2 k0_off1_inb numel1_S1 pf i
      = ![(pf 0 (tile i) : BitVec 32).toNat, 0, (Scalar.select (Scalar.cmpi .sgt (pf 1 (tile i) : BitVec 32) 0#32) (BitVec.ofNat 32 (i 1).val) 6#32).toNat] := by
    rw [← (at_eq pf i).1, ← (at_eq pf i).2]; rfl
  rw [hA, h0, h1, select_col u hu i, BitVec.toNat_ofNat, Nat.mod_eq_of_lt (by omega)]

theorem map3 : cc0_transform_3 k0_off1_inb numel1_S1 pf i = ![e, colBlock u i, 0] := by
  have hA : cc0_transform_3 k0_off1_inb numel1_S1 pf i
      = ![(pf 0 (tile i) : BitVec 32).toNat, (Scalar.select (Scalar.cmpi .sgt (pf 1 (tile i) : BitVec 32) 0#32) (BitVec.ofNat 32 (i 1).val) 6#32).toNat, 0] := by
    rw [← (at_eq pf i).1, ← (at_eq pf i).2]; rfl
  rw [hA, h0, h1, select_col u hu i, BitVec.toNat_ofNat, Nat.mod_eq_of_lt (by omega)]

end Maps

/-! ## The tables of the run -/

section Tables
variable {F : FTy → Type} [FloatOps F] (m : (ℓ : Loc nD τ sig) → Buf (Elt F) ℓ)

/-- The counts of the run. -/
abbrev cts : IVec S8 32 := m (0, Proc.devRef .tc main_arg0)

theorem tables_0 (h : InRange (cts m)) (i : grid0.Coords) :
    (tables m 0 (tile i) : BitVec 32) = BitVec.ofNat 32 (te (cnt (cts m)) (i 0).val) := by
  have e1 : tables m 0 = expertW (cts m) := entry_v22 m 0
  have e2 : tile i = ix1 (⟨(i 0).val, (i 0).isLt⟩ : Fin 40) := by
    funext a; fin_cases a; rfl
  rw [show (tables m 0 (tile i) : BitVec 32) = expertW (cts m) (tile i) from congrFun e1 _, e2]
  exact expertW_at (cts m) (cnt (cts m)) (cnt_eq _) (cnt_le _ h) ⟨(i 0).val, (i 0).isLt⟩

theorem tables_1 (h : InRange (cts m)) (i : grid0.Coords) :
    (tables m 1 (tile i) : BitVec 32) = BitVec.ofNat 32 (tr (cnt (cts m)) (i 0).val) := by
  have e1 : tables m 1 = rowsW (cts m) := entry_v33 m 0
  have e2 : tile i = ix1 (⟨(i 0).val, (i 0).isLt⟩ : Fin 40) := by
    funext a; fin_cases a; rfl
  rw [show (tables m 1 (tile i) : BitVec 32) = rowsW (cts m) (tile i) from congrFun e1 _, e2]
  exact rowsW_at (cts m) (cnt (cts m)) (cnt_eq _) (cnt_le _ h) ⟨(i 0).val, (i 0).isLt⟩

theorem tables_ok (h : InRange (cts m)) : ok0 (tables m) := by
  refine ⟨fun i => ⟨fun a => ?_, Or.inl rfl⟩, fun i => ⟨fun a => ?_, Or.inl rfl⟩, fun i => ⟨fun a => ?_, Or.inl rfl⟩⟩
  · have h8 := te_lt (cnt (cts m)) (i 0).val
    have h7 := colBlock_lt (tr (cnt (cts m)) (i 0).val) i
    rw [map1 (tables m) i _ _ h8 (tr_le _ _) (tables_0 m h i) (tables_1 m h i)]
    fin_cases a
    · show (te _ _ + 1) * 1 ≤ 8; omega
    · show (0 + 1) * 1024 ≤ 1024; omega
    · show (colBlock _ _ + 1) * 512 ≤ 3584; omega
  · have h8 := te_lt (cnt (cts m)) (i 0).val
    have h7 := colBlock_lt (tr (cnt (cts m)) (i 0).val) i
    rw [map2 (tables m) i _ _ h8 (tr_le _ _) (tables_0 m h i) (tables_1 m h i)]
    fin_cases a
    · show (te _ _ + 1) * 1 ≤ 8; omega
    · show (0 + 1) * 1024 ≤ 1024; omega
    · show (colBlock _ _ + 1) * 512 ≤ 3584; omega
  · have h8 := te_lt (cnt (cts m)) (i 0).val
    have h7 := colBlock_lt (tr (cnt (cts m)) (i 0).val) i
    rw [map3 (tables m) i _ _ h8 (tr_le _ _) (tables_0 m h i) (tables_1 m h i)]
    fin_cases a
    · show (te _ _ + 1) * 1 ≤ 8; omega
    · show (colBlock _ _ + 1) * 512 ≤ 3584; omega
    · show (0 + 1) * 1024 ≤ 1024; omega

/-! ## The arguments at the end -/

/-- The run's post: the output array at what the blocks written back hold, and the arguments unchanged. -/
theorem run_args (h : InRange (cts m)) (ρ : Dev nD → PrngReg) :
    θ_run (defs (F := F)) (onTc (τ := τ) (main (F := F))) (s₀ m ρ) (fun r =>
      (∀ c : Dev nD,
        r.2.mem ((c.tc : Thread nD τ).loc main_v37) = (dats ⟨tables m, tables_ok m h⟩ (entry m) 0 c).arrAt (4 : Fin 5) (cfgA ⟨tables m, tables_ok m h⟩).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine (θ_run (defs (F := F)) _ _).mono (fun r hr => ?_) (run_main m ρ (tables_ok m h))
  refine ⟨fun c => ?_, hr.2⟩
  obtain ⟨hw, hb⟩ := hr.1 c
  obtain ⟨a0, a1, a2, a3, a4⟩ := entry_arg m c
  refine ⟨hw (4 : Fin 5), ?_, ?_, ?_, ?_, ?_⟩
  · exact (hb main_arg0 (show main_arg0 ∈ Pipeline.restRefs sig spec0 from Pipeline.mem_restRefs_of _ rfl (by decide))).trans a0
  · exact ((hw (0 : Fin 5)).trans ((dats ⟨tables m, tables_ok m h⟩ (entry m) 0 c).arrAt_in (0 : Fin 5) rfl _)).trans a1
  · exact (hb main_arg2 (show main_arg2 ∈ Pipeline.restRefs sig spec0 from Pipeline.mem_restRefs_of _ rfl (by decide))).trans a2
  · exact (hb main_arg3 (show main_arg3 ∈ Pipeline.restRefs sig spec0 from Pipeline.mem_restRefs_of _ rfl (by decide))).trans a3
  · exact (hb main_arg4 (show main_arg4 ∈ Pipeline.restRefs sig spec0 from Pipeline.mem_restRefs_of _ rfl (by decide))).trans a4

end Tables

end Cert.KernelIdeal.Run

end
-- ==== Proof.Spec.lean ====
/- The gated product of one row with one expert, over the extended reals: what both programs compute. -/
module

public import Idealize.ShloMosaic.Lib.Pointwise

@[expose] public section

set_option Elab.async false

noncomputable section

namespace Cert.Experts

open Idealize.ShloMosaic

abbrev Rows : Type := (⟨2, ![40960, 1024]⟩ : Shape).Idx → EReal
abbrev Up : Type := (⟨4, ![1, 8, 1024, 3584]⟩ : Shape).Idx → EReal
abbrev Down : Type := (⟨4, ![1, 8, 3584, 1024]⟩ : Shape).Idx → EReal

/-- Row `R` against column `k` of expert `e`. -/
def lin (x : Rows) (w : Up) (R : Fin 40960) (e : Fin 8) (k : Fin 3584) : EReal :=
  ∑ d : Fin 1024, x (ix2 R d) * w (ix4 0 e d k)

/-- The gated column: `silu (x wg) * (x wu)`. -/
def act (x : Rows) (wg wu : Up) (R : Fin 40960) (e : Fin 8) (k : Fin 3584) : EReal :=
  lin x wg R e k * Ideal.logistic (lin x wg R e k) * lin x wu R e k

/-- Row `R` through expert `e`, at output column `j`. -/
def swi (x : Rows) (wg wu : Up) (wd : Down) (R : Fin 40960) (e : Fin 8) (j : Fin 1024) : EReal :=
  ∑ k : Fin 3584, act x wg wu R e k * wd (ix4 0 e k j)

/-- One column's term of `swi`, at any natural number. -/
def term (x : Rows) (wg wu : Up) (wd : Down) (R : Fin 40960) (e : Fin 8) (j : Fin 1024) (n : ℕ) : EReal :=
  if h : n < 3584 then act x wg wu R e ⟨n, h⟩ * wd (ix4 0 e ⟨n, h⟩ j) else 0

/-- The product over the first `n` columns. -/
def upTo (x : Rows) (wg wu : Up) (wd : Down) (R : Fin 40960) (e : Fin 8) (j : Fin 1024) (n : ℕ) : EReal :=
  ∑ k ∈ Finset.range n, term x wg wu wd R e j k

theorem upTo_zero (x : Rows) (wg wu : Up) (wd : Down) (R : Fin 40960) (e : Fin 8) (j : Fin 1024) : upTo x wg wu wd R e j 0 = 0 :=
  Finset.sum_range_zero _

/-- 512 more columns. -/
theorem upTo_add (x : Rows) (wg wu : Up) (wd : Down) (R : Fin 40960) (e : Fin 8) (j : Fin 1024) (n : ℕ) (f : Fin 512 → EReal)
    (h : ∀ k : Fin 512, f k = term x wg wu wd R e j (n + k.val)) :
    upTo x wg wu wd R e j n + ∑ k : Fin 512, f k = upTo x wg wu wd R e j (n + 512) := by
  have h2 : ∑ k : Fin 512, f k = ∑ k ∈ Finset.range 512, term x wg wu wd R e j (n + k) := by
    rw [Finset.sum_range]
    exact Finset.sum_congr rfl fun k _ => h k
  unfold upTo
  rw [h2, Finset.sum_range_add]

theorem upTo_all (x : Rows) (wg wu : Up) (wd : Down) (R : Fin 40960) (e : Fin 8) (j : Fin 1024) :
    upTo x wg wu wd R e j 3584 = swi x wg wu wd R e j := by
  unfold upTo swi
  rw [Finset.sum_range]
  exact Finset.sum_congr rfl fun k _ => dif_pos k.isLt

/-- A zero row gives zero. -/
theorem swi_zero (x : Rows) (wg wu : Up) (wd : Down) (R : Fin 40960) (e : Fin 8) (j : Fin 1024) (h : ∀ d, x (ix2 R d) = 0) :
    swi x wg wu wd R e j = 0 := by
  have hl : ∀ w k, lin x w R e k = 0 := fun w k =>
    Finset.sum_eq_zero fun d _ => by rw [h d, zero_mul]
  refine Finset.sum_eq_zero fun k _ => ?_
  unfold act
  rw [hl, hl, zero_mul, zero_mul, zero_mul]

end Cert.Experts

end
-- ==== Proof.Pay.lean ====
/- The payloads at an index, over the extended reals. -/
module

public import proofs.«01_k».proof.Proof.Body
public import proofs.«01_k».proof.Proof.Spec

@[expose] public section

set_option maxRecDepth 16384
set_option Elab.async false

noncomputable section

namespace Cert.KernelIdeal.Run

open Cert.KernelIdeal Cert.KernelIdeal.Gen
open Idealize.ShloMosaic Idealize.ShloMosaic.TcCoe

/-- A row of a tile against a column of a block of 512. -/
def blin {n : ℕ} (xb : (⟨2, ![n, 1024]⟩ : Shape).Idx → EReal) (w : S1x1024x512.Idx → EReal) (p : Fin n) (k : Fin 512) : EReal :=
  ∑ d : Fin 1024, xb (ix2 p d) * w (ix3 0 d k)

/-- The product of one block of 512 columns. -/
def bsum {n : ℕ} (xb : (⟨2, ![n, 1024]⟩ : Shape).Idx → EReal) (wg wu : S1x1024x512.Idx → EReal) (wd : S1x512x1024.Idx → EReal) (p : Fin n) (j : Fin 1024) : EReal :=
  ∑ k : Fin 512, (blin xb wg p k * Ideal.logistic (blin xb wg p k) * blin xb wu p k) * wd (ix3 0 k j)

theorem pay1_at (p j : Fin 1024) : k0_pay1 (F := Ideal) (ix2 p j) = 0 := by
  pointwise [k0_pay1]

theorem pay2_at (x : S1024x1024.Idx → EReal) (p j : Fin 1024) : k0_pay2 (F := Ideal) x (ix2 p j) = x (ix2 p j) := by
  pointwise [k0_pay2]

theorem pay3_at (xb : S1024x1024.Idx → EReal) (wg wu : S1x1024x512.Idx → EReal) (o : S1024x1024.Idx → EReal) (wd : S1x512x1024.Idx → EReal) (p j : Fin 1024) :
    k0_pay3 (F := Ideal) xb wg wu o wd (ix2 p j) = o (ix2 p j) + bsum xb wg wu wd p j := by
  pointwise [k0_pay3]
  rfl

theorem pay4_at (xb : S512x1024.Idx → EReal) (wg wu : S1x1024x512.Idx → EReal) (o : S512x1024.Idx → EReal) (wd : S1x512x1024.Idx → EReal) (p : Fin 512) (j : Fin 1024) :
    k0_pay4 (F := Ideal) xb wg wu o wd (ix2 p j) = o (ix2 p j) + bsum xb wg wu wd p j := by
  pointwise [k0_pay4]
  rfl

/-- A row of a window at offset zero is the row. -/
theorem window_at (x : S1024x1024.Idx → EReal) (inb) (p : Fin 512) (j : Fin 1024) :
    VecWindow.window x ![0, 0] S512x1024.size inb (ix2 p j) = x (ix2 (⟨p.val, by omega⟩ : Fin 1024) j) := by
  refine congrArg x (funext fun b => Fin.ext ?_)
  fin_cases b
  · show 0 + 1 * p.val = p.val; omega
  · show 0 + 1 * j.val = j.val; omega

theorem put_low (x : S1024x1024.Idx → EReal) (w : S512x1024.Idx → EReal) (p j : Fin 1024) (h : p.val < 512) :
    VecWindow.put x ![0, 0] S512x1024.size w (ix2 p j) = w (ix2 (⟨p.val, h⟩ : Fin 512) j) := by
  have hh : ∀ b : Fin 2, (![0, 0] : Fin 2 → ℕ) b ≤ (ix2 p j b).val ∧ (ix2 p j b).val < (![0, 0] : Fin 2 → ℕ) b + S512x1024.size b := fun b => by
    fin_cases b
    · exact ⟨Nat.zero_le _, by show p.val < 0 + 512; omega⟩
    · exact ⟨Nat.zero_le _, by show j.val < 0 + 1024; omega⟩
  refine (dif_pos hh).trans (congrArg w (funext fun b => Fin.ext ?_))
  fin_cases b
  · show p.val - 0 = p.val; omega
  · show j.val - 0 = j.val; omega

theorem put_high (x : S1024x1024.Idx → EReal) (w : S512x1024.Idx → EReal) (p j : Fin 1024) (h : ¬ p.val < 512) :
    VecWindow.put x ![0, 0] S512x1024.size w (ix2 p j) = x (ix2 p j) := by
  refine dif_neg fun hh => h ?_
  have := (hh 0).2
  have h2 : p.val < 0 + 512 := this
  omega

end Cert.KernelIdeal.Run

end
-- ==== Proof.Blocks.lean ====
/- The blocks a point fetches, at an index: rows of the argument and columns of the tile's expert. -/
module

public import proofs.«01_k».proof.Proof.Admit
public import proofs.«01_k».proof.Proof.Pay

@[expose] public section

set_option maxRecDepth 16384
set_option Elab.async false

noncomputable section

namespace Cert.KernelIdeal.Run

open Cert.KernelIdeal Cert.KernelIdeal.Gen
open Idealize.ShloMosaic Idealize.ShloMosaic.TcCoe
open Cert.Experts

theorem coord0 : ∀ t : Fin grid0.N, ((grid0.coords t) 0).val = t.val / 7 := by decide +kernel
theorem coord1 : ∀ t : Fin grid0.N, ((grid0.coords t) 1).val = t.val % 7 := by decide +kernel

/-! ## The weights' leading axis dropped -/

theorem up_at (w : Up) (e : Fin 8) (d : Fin 1024) (k : Fin 3584) :
    (shapeCast S8x1024x3584 w shapeCasts_S1x8x1024x3584_S8x1024x3584 : S8x1024x3584.Idx → EReal) (ix3 e d k) = w (ix4 0 e d k) := by
  pointwise

theorem down_at (w : Down) (e : Fin 8) (k : Fin 3584) (j : Fin 1024) :
    (shapeCast S8x3584x1024 w shapeCasts_S1x8x3584x1024_S8x3584x1024 : S8x3584x1024.Idx → EReal) (ix3 e k j) = w (ix4 0 e k j) := by
  pointwise

section Blocks
variable (a : (pcfg0 (F := Ideal)).Adm) (V : (c : Dev nD) → (b : Ref sig .tc) → Buf (Elt Ideal) ((c.tc : Thread nD τ).loc b)) (c : Dev nD)

/-- The row of the argument a tile's row is. -/
abbrev row (r : ℕ) (hr : r < 40) (p : Fin 1024) : Fin 40960 := ⟨r * 1024 + p.val, by omega⟩
/-- The column a block's column is. -/
abbrev col (f : ℕ) (hf : f < 7) (k : Fin 512) : Fin 3584 := ⟨f * 512 + k.val, by omega⟩

theorem tdiv (t : Fin (cfgA a).N) : t.val / 7 < 40 := by
  have : t.val < 280 := t.isLt
  omega

theorem blk0_read (t : Fin (cfgA a).N) (p d : Fin 1024) :
    (iblk a V c (0 : Fin 5) t : S1024x1024.Idx → EReal) (ix2 p d) = (V c main_arg1 : S40960x1024.Idx → EReal) (ix2 (row (t.val / 7) (tdiv a t) p) d) := by
  refine congrArg (V c main_arg1) (funext fun b => Fin.ext ?_)
  have h0 := coord0 t
  fin_cases b
  · show cc0_transform_0 (grid0.coords t) 0 * 1024 + 1 * p.val = t.val / 7 * 1024 + p.val
    rw [show cc0_transform_0 (grid0.coords t) 0 = t.val / 7 from (tr4 _).trans h0]; omega
  · show 0 * 1024 + 1 * d.val = d.val
    omega

theorem blk1_read (t : Fin (cfgA a).N) (E f : ℕ) (hE : E < 8) (hf : f < 7)
    (hm : cc0_transform_1 k0_off1_inb numel1_S1 a.1 (grid0.coords t) = ![E, 0, f]) (d : Fin 1024) (k : Fin 512) :
    (iblk a V c (1 : Fin 5) t : S1x1024x512.Idx → EReal) (ix3 0 d k) = (V c main_v34 : S8x1024x3584.Idx → EReal) (ix3 (⟨E, hE⟩ : Fin 8) d (col f hf k)) := by
  refine congrArg (V c main_v34) (funext fun b => Fin.ext ?_)
  fin_cases b
  · show cc0_transform_1 k0_off1_inb numel1_S1 a.1 (grid0.coords t) 0 * 1 + 1 * 0 = E
    rw [hm]; show E * 1 + 1 * 0 = _; omega
  · show cc0_transform_1 k0_off1_inb numel1_S1 a.1 (grid0.coords t) 1 * 1024 + 1 * d.val = d.val
    rw [hm]; show 0 * 1024 + 1 * d.val = _; omega
  · show cc0_transform_1 k0_off1_inb numel1_S1 a.1 (grid0.coords t) 2 * 512 + 1 * k.val = f * 512 + k.val
    rw [hm]; show f * 512 + 1 * k.val = _; omega

theorem blk2_read (t : Fin (cfgA a).N) (E f : ℕ) (hE : E < 8) (hf : f < 7)
    (hm : cc0_transform_2 k0_off1_inb numel1_S1 a.1 (grid0.coords t) = ![E, 0, f]) (d : Fin 1024) (k : Fin 512) :
    (iblk a V c (2 : Fin 5) t : S1x1024x512.Idx → EReal) (ix3 0 d k) = (V c main_v35 : S8x1024x3584.Idx → EReal) (ix3 (⟨E, hE⟩ : Fin 8) d (col f hf k)) := by
  refine congrArg (V c main_v35) (funext fun b => Fin.ext ?_)
  fin_cases b
  · show cc0_transform_2 k0_off1_inb numel1_S1 a.1 (grid0.coords t) 0 * 1 + 1 * 0 = E
    rw [hm]; show E * 1 + 1 * 0 = _; omega
  · show cc0_transform_2 k0_off1_inb numel1_S1 a.1 (grid0.coords t) 1 * 1024 + 1 * d.val = d.val
    rw [hm]; show 0 * 1024 + 1 * d.val = _; omega
  · show cc0_transform_2 k0_off1_inb numel1_S1 a.1 (grid0.coords t) 2 * 512 + 1 * k.val = f * 512 + k.val
    rw [hm]; show f * 512 + 1 * k.val = _; omega

theorem blk3_read (t : Fin (cfgA a).N) (E f : ℕ) (hE : E < 8) (hf : f < 7)
    (hm : cc0_transform_3 k0_off1_inb numel1_S1 a.1 (grid0.coords t) = ![E, f, 0]) (k : Fin 512) (j : Fin 1024) :
    (iblk a V c (3 : Fin 5) t : S1x512x1024.Idx → EReal) (ix3 0 k j) = (V c main_v36 : S8x3584x1024.Idx → EReal) (ix3 (⟨E, hE⟩ : Fin 8) (col f hf k) j) := by
  refine congrArg (V c main_v36) (funext fun b => Fin.ext ?_)
  fin_cases b
  · show cc0_transform_3 k0_off1_inb numel1_S1 a.1 (grid0.coords t) 0 * 1 + 1 * 0 = E
    rw [hm]; show E * 1 + 1 * 0 = _; omega
  · show cc0_transform_3 k0_off1_inb numel1_S1 a.1 (grid0.coords t) 1 * 512 + 1 * k.val = f * 512 + k.val
    rw [hm]; show f * 512 + 1 * k.val = _; omega
  · show cc0_transform_3 k0_off1_inb numel1_S1 a.1 (grid0.coords t) 2 * 1024 + 1 * j.val = j.val
    rw [hm]; show 0 * 1024 + 1 * j.val = _; omega

/-- The word a point reads: its tile's number of rows in use. -/
theorem wrd_eq (t : Fin (cfgA a).N) (u : ℕ) (h1 : (a.1 1 (tile (crd a t)) : BitVec 32) = BitVec.ofNat 32 u) : (wrd a t : BitVec 32) = BitVec.ofNat 32 u :=
  (word_eq (F := Ideal) (a.1 1) (crd a t)).trans h1

end Blocks

/-- More than half in use. -/
theorem cond2_iff (u : ℕ) (hu : u ≤ 1024) : k0_cond2 (BitVec.ofNat 32 u) = 1#1 ↔ 512 < u := by
  have e : k0_cond2 (BitVec.ofNat 32 u) = 1#1 ↔ IntOp.cmpi .sgt (BitVec.ofNat 32 u) (BitVec.ofNat 32 512) = 1#1 := Scalar.guard_iff _
  rw [e, IntOp.cmpi_sgt, StableHlo.Predicate.toInt_ofNat_small u (by omega), StableHlo.Predicate.toInt_ofNat_small 512 (by omega)]
  omega

/-- Some in use and at most half. -/
theorem cond3_iff (u : ℕ) (hu : u ≤ 1024) : k0_cond3 (BitVec.ofNat 32 u) = 1#1 ↔ 0 < u ∧ u ≤ 512 := by
  have e : k0_cond3 (BitVec.ofNat 32 u) = 1#1 ↔ IntOp.andi (IntOp.cmpi .sgt (BitVec.ofNat 32 u) (BitVec.ofNat 32 0)) (IntOp.cmpi .sle (BitVec.ofNat 32 u) (BitVec.ofNat 32 512)) = 1#1 := Scalar.guard_iff _
  rw [e, IntOp.andi_eq_one, IntOp.cmpi_sgt, IntOp.cmpi_sle, StableHlo.Predicate.toInt_ofNat_small u (by omega), StableHlo.Predicate.toInt_ofNat_small 512 (by omega), StableHlo.Predicate.toInt_ofNat_small 0 (by omega)]
  omega

end Cert.KernelIdeal.Run

end
-- ==== Proof.Traj.lean ====
/- What the output block and the scratch block hold after every point, at an index: the scratch block the tile's rows, the
   output block the product over the columns met so far. -/
module

public import proofs.«01_k».proof.Proof.Blocks

@[expose] public section

set_option maxRecDepth 16384
set_option Elab.async false

noncomputable section

namespace Cert.KernelIdeal.Run

open Cert.KernelIdeal Cert.KernelIdeal.Gen
open Idealize.ShloMosaic Idealize.ShloMosaic.TcCoe
open Cert.Experts

/-- The rows of a tile the body computes when `u` are in use: all when more than half are, else the first half. -/
abbrev Busy (u p : ℕ) : Prop := 512 < u ∨ (0 < u ∧ p < 512)

theorem bsum_window (xb : S1024x1024.Idx → EReal) (inb) (wg wu : S1x1024x512.Idx → EReal) (wd : S1x512x1024.Idx → EReal) (p : Fin 512) (j : Fin 1024) :
    bsum (n := 512) (VecWindow.window xb ![0, 0] S512x1024.size inb) wg wu wd p j = bsum (n := 1024) xb wg wu wd (⟨p.val, by omega⟩ : Fin 1024) j := by
  have hb : ∀ w k, blin (n := 512) (VecWindow.window xb ![0, 0] S512x1024.size inb) w p k = blin (n := 1024) xb w (⟨p.val, by omega⟩ : Fin 1024) k := fun w k =>
    Finset.sum_congr rfl fun d _ => congrArg (· * _) (window_at xb inb p d)
  unfold bsum
  exact Finset.sum_congr rfl fun k _ => by rw [hb, hb]

theorem stepOut_at (u : ℕ) (hu : u ≤ 1024) (w : BitVec 32) (hw : w = BitVec.ofNat 32 u) (xb : S1024x1024.Idx → EReal) (wg wu : S1x1024x512.Idx → EReal) (wd : S1x512x1024.Idx → EReal)
    (o : S1024x1024.Idx → EReal) (p j : Fin 1024) :
    stepOut (F := Ideal) w xb wg wu wd o (ix2 p j) = if Busy u p.val then o (ix2 p j) + bsum (n := 1024) xb wg wu wd p j else o (ix2 p j) := by
  subst hw
  unfold stepOut
  by_cases h2 : 512 < u
  · rw [if_pos ((cond2_iff u hu).2 h2), if_pos (Or.inl h2)]
    exact pay3_at xb wg wu o wd p j
  · rw [if_neg fun hh => h2 ((cond2_iff u hu).1 hh)]
    by_cases h3 : 0 < u
    · rw [if_pos ((cond3_iff u hu).2 ⟨h3, by omega⟩)]
      by_cases hp : p.val < 512
      · rw [if_pos (Or.inr ⟨h3, hp⟩)]
        refine (put_low _ _ p j hp).trans ((pay4_at _ wg wu _ wd _ j).trans ?_)
        rw [bsum_window]
        exact congrArg (· + _) (window_at o _ (⟨p.val, hp⟩ : Fin 512) j)
      · rw [if_neg (by omega)]
        exact put_high _ _ p j hp
    · rw [if_neg fun hh => h3 ((cond3_iff u hu).1 hh).1, if_neg (by omega)]

section Traj
variable (a : (pcfg0 (F := Ideal)).Adm) (V : (c : Dev nD) → (b : Ref sig .tc) → Buf (Elt Ideal) ((c.tc : Thread nD τ).loc b)) (c : Dev nD)
variable (x : Rows) (wg wu : Up) (wd : Down) (E U : ℕ → ℕ) (hE : ∀ r, E r < 8) (hU : ∀ r, U r ≤ 1024)
variable (hT0 : ∀ i : grid0.Coords, (a.1 0 (tile i) : BitVec 32) = BitVec.ofNat 32 (E (i 0).val))
variable (hT1 : ∀ i : grid0.Coords, (a.1 1 (tile i) : BitVec 32) = BitVec.ofNat 32 (U (i 0).val))
variable (hx : (V c main_arg1 : S40960x1024.Idx → EReal) = x)
variable (hg : (V c main_v34 : S8x1024x3584.Idx → EReal) = shapeCast S8x1024x3584 wg shapeCasts_S1x8x1024x3584_S8x1024x3584)
variable (hu : (V c main_v35 : S8x1024x3584.Idx → EReal) = shapeCast S8x1024x3584 wu shapeCasts_S1x8x1024x3584_S8x1024x3584)
variable (hd : (V c main_v36 : S8x3584x1024.Idx → EReal) = shapeCast S8x3584x1024 wd shapeCasts_S1x8x3584x1024_S8x3584x1024)
include hE hU hT0 hT1 hx hg hu hd

/-- A point with rows in use adds its 512 columns. -/
theorem bsum_blk (t : Fin (cfgA a).N) (hpos : 0 < U (t.val / 7)) (xb : S1024x1024.Idx → EReal) (p j : Fin 1024)
    (hxb : ∀ d, xb (ix2 p d) = x (ix2 (row (t.val / 7) (tdiv a t) p) d)) :
    upTo x wg wu wd (row (t.val / 7) (tdiv a t) p) ⟨E (t.val / 7), hE _⟩ j (t.val % 7 * 512)
        + bsum (n := 1024) xb (iblk a V c (1 : Fin 5) t) (iblk a V c (2 : Fin 5) t) (iblk a V c (3 : Fin 5) t) p j
      = upTo x wg wu wd (row (t.val / 7) (tdiv a t) p) ⟨E (t.val / 7), hE _⟩ j (t.val % 7 * 512 + 512) := by
  have hf : t.val % 7 < 7 := Nat.mod_lt _ (by decide)
  have h0 := coord0 t
  have h1 := coord1 t
  have a0 := hT0 (grid0.coords t)
  have a1 := hT1 (grid0.coords t)
  rw [h0] at a0 a1
  have m1 := map1 a.1 (grid0.coords t) _ _ (hE _) (hU _) a0 a1
  have m2 := map2 a.1 (grid0.coords t) _ _ (hE _) (hU _) a0 a1
  have m3 := map3 a.1 (grid0.coords t) _ _ (hE _) (hU _) a0 a1
  rw [colBlock, if_pos hpos, h1] at m1 m2 m3
  have l1 : ∀ k : Fin 512, blin (n := 1024) xb (iblk a V c (1 : Fin 5) t) p k = lin x wg (row (t.val / 7) (tdiv a t) p) ⟨E (t.val / 7), hE _⟩ (col (t.val % 7) hf k) := fun k =>
    Finset.sum_congr rfl fun d _ => by
      rw [hxb d]
      refine congrArg (_ * ·) ((blk1_read a V c t _ _ (hE _) hf m1 d k).trans ?_)
      rw [hg]; exact up_at wg _ _ _
  have l2 : ∀ k : Fin 512, blin (n := 1024) xb (iblk a V c (2 : Fin 5) t) p k = lin x wu (row (t.val / 7) (tdiv a t) p) ⟨E (t.val / 7), hE _⟩ (col (t.val % 7) hf k) := fun k =>
    Finset.sum_congr rfl fun d _ => by
      rw [hxb d]
      refine congrArg (_ * ·) ((blk2_read a V c t _ _ (hE _) hf m2 d k).trans ?_)
      rw [hu]; exact up_at wu _ _ _
  have l3 : ∀ k : Fin 512, (iblk a V c (3 : Fin 5) t : S1x512x1024.Idx → EReal) (ix3 0 k j) = wd (ix4 0 ⟨E (t.val / 7), hE _⟩ (col (t.val % 7) hf k) j) := fun k => by
    refine (blk3_read a V c t _ _ (hE _) hf m3 k j).trans ?_
    rw [hd]; exact down_at wd _ _ _
  unfold bsum
  refine upTo_add x wg wu wd _ _ j _ _ fun k => ?_
  have hk : t.val % 7 * 512 + k.val < 3584 := by omega
  rw [l1, l2]
  refine (congrArg (_ * ·) (l3 k)).trans ?_
  unfold term
  rw [dif_pos hk]
  rfl

theorem traj_at : ∀ (n : ℕ) (hn : n < (cfgA a).N),
    (∀ p d : Fin 1024, ((traj a V c n hn).2 : S1024x1024.Idx → EReal) (ix2 p d) = x (ix2 (row (n / 7) (tdiv a ⟨n, hn⟩) p) d))
    ∧ (∀ p j : Fin 1024, ((traj a V c n hn).1 : S1024x1024.Idx → EReal) (ix2 p j)
        = if Busy (U (n / 7)) p.val then upTo x wg wu wd (row (n / 7) (tdiv a ⟨n, hn⟩) p) ⟨E (n / 7), hE _⟩ j (n % 7 * 512 + 512) else 0) := by
  intro n
  induction n using Nat.strong_induction_on with
  | _ n ih =>
  intro hn
  rw [show traj a V c n hn = step a V c ⟨n, hn⟩ (prev a V c n (Nat.le_of_lt hn)) from traj_eq a V c ⟨n, hn⟩]
  generalize hq : prev a V c n (Nat.le_of_lt hn) = q
  have hc := cond1_iff (⟨n, hn⟩ : Fin grid0.N)
  have hrows : ∀ p d : Fin 1024, (startRows (F := Ideal) (crd a ⟨n, hn⟩) (iblk a V c (0 : Fin 5) ⟨n, hn⟩) q.2 : S1024x1024.Idx → EReal) (ix2 p d)
      = x (ix2 (row (n / 7) (tdiv a ⟨n, hn⟩) p) d) := by
    intro p d
    unfold startRows
    by_cases h0 : n % 7 = 0
    · rw [if_pos (hc.2 h0)]
      refine (pay2_at _ p d).trans ((blk0_read a V c ⟨n, hn⟩ p d).trans ?_)
      rw [hx]
    · rw [if_neg fun hh => h0 (hc.1 hh), ← hq, prev_pos a V c n _ (by omega)]
      have hi := (ih (n - 1) (by omega) (by omega)).1 p d
      have e1 : (n - 1) / 7 = n / 7 := by omega
      simp only [e1] at hi
      exact hi
  have hout : ∀ p j : Fin 1024, (startOut (F := Ideal) (crd a ⟨n, hn⟩) q.1 : S1024x1024.Idx → EReal) (ix2 p j)
      = if Busy (U (n / 7)) p.val then upTo x wg wu wd (row (n / 7) (tdiv a ⟨n, hn⟩) p) ⟨E (n / 7), hE _⟩ j (n % 7 * 512) else 0 := by
    intro p j
    unfold startOut
    by_cases h0 : n % 7 = 0
    · rw [if_pos (hc.2 h0), h0, Nat.zero_mul, upTo_zero, ite_self]
      exact pay1_at p j
    · rw [if_neg fun hh => h0 (hc.1 hh), ← hq, prev_pos a V c n _ (by omega)]
      have hi := (ih (n - 1) (by omega) (by omega)).2 p j
      have e1 : (n - 1) / 7 = n / 7 := by omega
      have e2 : (n - 1) % 7 * 512 + 512 = n % 7 * 512 := by omega
      simp only [e1, e2] at hi
      exact hi
  refine ⟨hrows, fun p j => ?_⟩
  have h0 := coord0 ⟨n, hn⟩
  have a1 := hT1 (grid0.coords ⟨n, hn⟩)
  rw [h0] at a1
  refine (stepOut_at (U (n / 7)) (hU _) _ (wrd_eq a ⟨n, hn⟩ _ a1) _ _ _ _ _ p j).trans ?_
  rw [hout p j]
  by_cases hb : Busy (U (n / 7)) p.val
  · rw [if_pos hb, if_pos hb, if_pos hb]
    exact bsum_blk a V c x wg wu wd E U hE hU hT0 hT1 hx hg hu hd ⟨n, hn⟩ (show 0 < U (n / 7) from by rcases hb with h | h <;> omega) _ p j (hrows p)
  · rw [if_neg hb, if_neg hb, if_neg hb]

end Traj

section Out

/-- The output array at the end: a computed row is that row through its tile's expert, and the others are zero. -/
def outG (x : Rows) (wg wu : Up) (wd : Down) (E U : ℕ → ℕ) (hE : ∀ r, E r < 8) : S40960x1024.Idx → EReal := fun i =>
  if Busy (U ((i 0).val / 1024)) ((i 0).val % 1024) then swi x wg wu wd (i 0) ⟨E ((i 0).val / 1024), hE _⟩ (i 1) else 0

variable (a : (pcfg0 (F := Ideal)).Adm) (V : (c : Dev nD) → (b : Ref sig .tc) → Buf (Elt Ideal) ((c.tc : Thread nD τ).loc b)) (c : Dev nD)

/-- Where the output's block at a point lies. -/
theorem blk4_emb (t : Fin (cfgA a).N) (p j : Fin 1024) :
    ((((cfgA a).win (4 : Fin 5)).blk t).view.emb (ix2 p j : S1024x1024.Idx) : S40960x1024.Idx) = ix2 (row (t.val / 7) (tdiv a t) p) j := by
  funext b
  apply Fin.ext
  have h0 := coord0 t
  fin_cases b
  · show cc0_transform_4 (grid0.coords t) 0 * 1024 + 1 * p.val = t.val / 7 * 1024 + p.val
    rw [tr4, h0]; omega
  · show 0 * 1024 + 1 * j.val = j.val
    omega

theorem blk4_mem (t : Fin (cfgA a).N) (p j : Fin 1024) :
    (ix2 (row (t.val / 7) (tdiv a t) p) j : S40960x1024.Idx) ∈ (((cfgA a).win (4 : Fin 5)).blk t).view.set := by
  rw [← blk4_emb a t p j]
  exact (((cfgA a).win (4 : Fin 5)).blk t).view.emb_mem_set _

/-- Every row lies in a block written back at its tile's last point. -/
theorem cover4 (i : S40960x1024.Idx) : ∃ t : Fin (cfgA a).N, ((cfgA a).win (4 : Fin 5)).flush t = true ∧ i ∈ (((cfgA a).win (4 : Fin 5)).blk t).view.set := by
  have hi0 : (i 0).val < 40960 := (i 0).isLt
  have ht : (i 0).val / 1024 * 7 + 6 < (cfgA a).N := by
    show _ < 280
    omega
  generalize hq : (⟨(i 0).val / 1024 * 7 + 6, ht⟩ : Fin (cfgA a).N) = t
  have hv : t.val = (i 0).val / 1024 * 7 + 6 := by rw [← hq]
  have h2 := blk4_mem a t (⟨(i 0).val % 1024, Nat.mod_lt _ (by decide)⟩ : Fin 1024) (i 1)
  have h3 : (ix2 (row (t.val / 7) (tdiv a t) (⟨(i 0).val % 1024, Nat.mod_lt _ (by decide)⟩ : Fin 1024)) (i 1) : S40960x1024.Idx) = i := by
    funext b
    apply Fin.ext
    fin_cases b
    · show t.val / 7 * 1024 + (i 0).val % 1024 = (i 0).val
      omega
    · rfl
  rw [h3] at h2
  exact ⟨t, (flush4 a t).2 (by omega), h2⟩

variable (x : Rows) (wg wu : Up) (wd : Down) (E U : ℕ → ℕ) (hE : ∀ r, E r < 8) (hU : ∀ r, U r ≤ 1024)
variable (hT0 : ∀ i : grid0.Coords, (a.1 0 (tile i) : BitVec 32) = BitVec.ofNat 32 (E (i 0).val))
variable (hT1 : ∀ i : grid0.Coords, (a.1 1 (tile i) : BitVec 32) = BitVec.ofNat 32 (U (i 0).val))
variable (hx : (V c main_arg1 : S40960x1024.Idx → EReal) = x)
variable (hg : (V c main_v34 : S8x1024x3584.Idx → EReal) = shapeCast S8x1024x3584 wg shapeCasts_S1x8x1024x3584_S8x1024x3584)
variable (hu : (V c main_v35 : S8x1024x3584.Idx → EReal) = shapeCast S8x1024x3584 wu shapeCasts_S1x8x1024x3584_S8x1024x3584)
variable (hd : (V c main_v36 : S8x3584x1024.Idx → EReal) = shapeCast S8x3584x1024 wd shapeCasts_S1x8x3584x1024_S8x3584x1024)
include hU hT0 hT1 hx hg hu hd

theorem after_at (t : Fin (cfgA a).N) (h6 : t.val % 7 = 6) (p j : Fin 1024) :
    ((traj a V c t.val t.isLt).1 : S1024x1024.Idx → EReal) (ix2 p j) = outG x wg wu wd E U hE (ix2 (row (t.val / 7) (tdiv a t) p) j) := by
  refine ((traj_at a V c x wg wu wd E U hE hU hT0 hT1 hx hg hu hd t.val t.isLt).2 p j).trans ?_
  have e1 : (t.val / 7 * 1024 + p.val) / 1024 = t.val / 7 := by omega
  have e2 : (t.val / 7 * 1024 + p.val) % 1024 = p.val := by omega
  unfold outG
  show _ = if Busy (U ((t.val / 7 * 1024 + p.val) / 1024)) ((t.val / 7 * 1024 + p.val) % 1024) then
    swi x wg wu wd (row (t.val / 7) (tdiv a t) p) ⟨E ((t.val / 7 * 1024 + p.val) / 1024), hE _⟩ j else 0
  simp only [e1, e2, h6]
  rw [upTo_all]

theorem after_blk (t : Fin (cfgA a).N) (h6 : t.val % 7 = 6) (y : S1024x1024.Idx) :
    ((traj a V c t.val t.isLt).1 : S1024x1024.Idx → EReal) y = outG x wg wu wd E U hE ((((cfgA a).win (4 : Fin 5)).blk t).view.emb y) := by
  have hy : ∃ p j : Fin 1024, y = ix2 p j := ⟨y 0, y 1, by funext b; fin_cases b <;> rfl⟩
  obtain ⟨p, j, rfl⟩ := hy
  exact (after_at a V c x wg wu wd E U hE hU hT0 hT1 hx hg hu hd t h6 p j).trans (congrArg (outG x wg wu wd E U hE) (blk4_emb a t p j)).symm

theorem arr_eq : (dats a V 0 c).arrAt (4 : Fin 5) (cfgA a).N = outG x wg wu wd E U hE :=
  Pipeline.Dat.arrAt_eq_of_cover (dats a V 0 c) (4 : Fin 5) (outG x wg wu wd E U hE)
    (fun t hf => funext fun y => after_blk a V c x wg wu wd E U hE hU hT0 hT1 hx hg hu hd t ((flush4 a t).1 hf) y)
    (fun i => cover4 a i)

end Out

end Cert.KernelIdeal.Run

end
-- ==== Proof.Ref.lean ====
/- The reference at an index, over the extended reals: the sum over the experts of each expert's product on the rows of
   its segment. -/
module

public import proofs.«01_k».proof.Proof.Gen.ReferenceIdeal.Run
public import proofs.«01_k».proof.Proof.Spec
public import proofs.«01_k».proof.Proof.Admit
public import Idealize.ShloMosaic.Lib.Pointwise
public import Idealize.ShloMosaic.Lib.Tactic.CleanTypes

@[expose] public section

set_option maxRecDepth 16384
set_option Elab.async false

noncomputable section

namespace Cert.ReferenceIdeal.Value

open Cert.ReferenceIdeal Cert.ReferenceIdeal.Gen
open Idealize.ShloMosaic Idealize.ShloMosaic.TcCoe Idealize.ShloMosaic.HloOp
open Cert.Experts

variable (V0 : Valuation τ sig (Elt Ideal))

abbrev cR : IVec S8 32 := V0 (Proc.devRef .tc main_arg0)
abbrev xR : Rows := V0 (Proc.devRef .tc main_arg1)
abbrev gR : Up := V0 (Proc.devRef .tc main_arg2)
abbrev uR : Up := V0 (Proc.devRef .tc main_arg3)
abbrev dR : Down := V0 (Proc.devRef .tc main_arg4)

theorem v30_at (R : Fin 40960) (k : Fin 3584) : (res_main_v30 V0 : FVec Ideal S40960x3584 .f32) (ix2 R k) = lin (xR V0) (gR V0) R 0 k := by
  unfold res_main_v30
  clean_types
  pointwise
  rfl

theorem v46_at (R : Fin 40960) (k : Fin 3584) : (res_main_v46 V0 : FVec Ideal S40960x3584 .f32) (ix2 R k) = lin (xR V0) (gR V0) R 1 k := by
  unfold res_main_v46
  clean_types
  pointwise
  rfl

theorem v62_at (R : Fin 40960) (k : Fin 3584) : (res_main_v62 V0 : FVec Ideal S40960x3584 .f32) (ix2 R k) = lin (xR V0) (gR V0) R 2 k := by
  unfold res_main_v62
  clean_types
  pointwise
  rfl

theorem v78_at (R : Fin 40960) (k : Fin 3584) : (res_main_v78 V0 : FVec Ideal S40960x3584 .f32) (ix2 R k) = lin (xR V0) (gR V0) R 3 k := by
  unfold res_main_v78
  clean_types
  pointwise
  rfl

theorem v94_at (R : Fin 40960) (k : Fin 3584) : (res_main_v94 V0 : FVec Ideal S40960x3584 .f32) (ix2 R k) = lin (xR V0) (gR V0) R 4 k := by
  unfold res_main_v94
  clean_types
  pointwise
  rfl

theorem v110_at (R : Fin 40960) (k : Fin 3584) : (res_main_v110 V0 : FVec Ideal S40960x3584 .f32) (ix2 R k) = lin (xR V0) (gR V0) R 5 k := by
  unfold res_main_v110
  clean_types
  pointwise
  rfl

theorem v126_at (R : Fin 40960) (k : Fin 3584) : (res_main_v126 V0 : FVec Ideal S40960x3584 .f32) (ix2 R k) = lin (xR V0) (gR V0) R 6 k := by
  unfold res_main_v126
  clean_types
  pointwise
  rfl

theorem v142_at (R : Fin 40960) (k : Fin 3584) : (res_main_v142 V0 : FVec Ideal S40960x3584 .f32) (ix2 R k) = lin (xR V0) (gR V0) R 7 k := by
  unfold res_main_v142
  clean_types
  pointwise
  rfl

/-- Whether row `R` lies in expert `e`'s segment, as the number the reference multiplies by. -/
abbrev mask (R : Fin 40960) (e : Fin 8) : EReal := (res_main_v21 V0 : FVec Ideal S40960x8 .f32) (ix2 R e)

theorem v102_at (R : Fin 40960) (j : Fin 1024) :
    (res_main_v102 V0 : FVec Ideal S40960x1024 .f32) (ix2 R j)
      = mask V0 R 0 * swi (xR V0) (gR V0) (uR V0) (dR V0) R 0 j + mask V0 R 1 * swi (xR V0) (gR V0) (uR V0) (dR V0) R 1 j
        + mask V0 R 2 * swi (xR V0) (gR V0) (uR V0) (dR V0) R 2 j + mask V0 R 3 * swi (xR V0) (gR V0) (uR V0) (dR V0) R 3 j
        + mask V0 R 4 * swi (xR V0) (gR V0) (uR V0) (dR V0) R 4 j := by
  unfold res_main_v102
  clean_types
  simp only [id_eq]
  pointwise
  simp only [v30_at, v46_at, v62_at, v78_at, v94_at]
  rfl

theorem out_at (R : Fin 40960) (j : Fin 1024) :
    (val3 V0 (Proc.devRef .tc main_v150) : FVec Ideal S40960x1024 .f32) (ix2 R j)
      = ∑ e : Fin 8, mask V0 R e * swi (xR V0) (gR V0) (uR V0) (dR V0) R e j := by
  rw [Fin.sum_univ_eight, val3_main_v150]
  clean_types
  simp only [id_eq]
  pointwise
  simp only [v110_at, v126_at, v142_at, v102_at]
  rfl

/-! ## The segments -/

theorem v6_eq : (res_main_v6 V0 : IVec S8 32) = Cert.KernelIdeal.Run.padW (cR V0) := rfl

theorem v8_eq : (res_main_v8 V0 : IVec S8 32) = subi (Cert.KernelIdeal.Run.endsW (cR V0)) (Cert.KernelIdeal.Run.padW (cR V0)) := rfl

open Cert.KernelIdeal.Run (InRange cnt cnt_eq cnt_le en en_succ en_le te tr padW_at endsW_at member_iff te_lt pd)

theorem ix1_eq (e : Fin 8) : (ix1 e : S8.Idx) = ValueIdx.ix1 e := by
  funext b; fin_cases b; rfl

/-- Where segment `e` starts. -/
theorem v8_at (h : InRange (cR V0)) (e : Fin 8) : (res_main_v8 V0 : IVec S8 32) (ix1 e) = BitVec.ofNat 32 (en (cnt (cR V0)) e.val) := by
  rw [v8_eq, ix1_eq]
  show Cert.KernelIdeal.Run.endsW (cR V0) (ValueIdx.ix1 e) - Cert.KernelIdeal.Run.padW (cR V0) (ValueIdx.ix1 e) = _
  rw [endsW_at _ _ (cnt_eq _) (cnt_le _ h), padW_at _ _ (cnt_eq _) (cnt_le _ h), Routing.ofNat32_sub (by rw [en_succ]; omega), en_succ]
  congr 1; omega

theorem v11_at (R : Fin 40960) : (res_main_v11 V0 : IVec S40960x1 32) (ix2 R 0) = BitVec.ofNat 32 R.val := by
  unfold res_main_v11
  clean_types
  pointwise

/-- The words of the comparison with a segment, at any row. -/
theorem seg_word (f : ℕ → ℕ) (R e : ℕ) (hR : R < 40960) (he : e < 8) (hf : ∀ n, n < 8 → f n ≤ 32768) :
    IntOp.andi (IntOp.cmpi .sge (BitVec.ofNat 32 R) (BitVec.ofNat 32 (en f e)))
      (IntOp.cmpi .slt (BitVec.ofNat 32 R) (IntOp.addi (BitVec.ofNat 32 (en f e)) (BitVec.ofNat 32 (f e)))) = 1#1 ↔ (en f e ≤ R ∧ R < en f e + f e) := by
  have h1 := en_le f e fun n hn => hf n (by omega)
  have h2 := hf e he
  rw [IntOp.andi_eq_one, IntOp.cmpi_sge, IntOp.cmpi_slt]
  show _ ∧ (BitVec.ofNat 32 R).toInt < (BitVec.ofNat 32 (en f e) + BitVec.ofNat 32 (f e)).toInt ↔ _
  rw [← BitVec.ofNat_add, StableHlo.Predicate.toInt_ofNat_small R (by omega), StableHlo.Predicate.toInt_ofNat_small (en f e) (by omega),
    StableHlo.Predicate.toInt_ofNat_small (en f e + f e) (by omega)]
  omega

theorem mask_at (h : InRange (cR V0)) (R : Fin 40960) (e : Fin 8) :
    mask V0 R e = if e.val = te (cnt (cR V0)) (R.val / 1024) ∧ R.val % 1024 < tr (cnt (cR V0)) (R.val / 1024) then 1 else 0 := by
  have hw := seg_word (cnt (cR V0)) R.val e.val R.isLt e.isLt (cnt_le _ h)
  have hm := member_iff (cnt (cR V0)) R.val e.val e.isLt
  unfold mask res_main_v21
  clean_types
  pointwise
  rw [v11_at, v8_at V0 h, show (V0 (Proc.devRef .tc main_arg0) : IVec S8 32) (ix1 e) = BitVec.ofNat 32 (cnt (cR V0) e.val) from (congrArg _ (ix1_eq e)).trans (cnt_eq _ e)]
  by_cases hs : en (cnt (cR V0)) e.val ≤ R.val ∧ R.val < en (cnt (cR V0)) e.val + cnt (cR V0) e.val
  · rw [if_pos (hm.1 hs), hw.2 hs]; rfl
  · rw [if_neg fun hh => hs (hm.2 hh)]
    have hz := fun hh => hs (hw.1 hh)
    rcases BitVec.eq_zero_or_eq_one (IntOp.andi (IntOp.cmpi .sge (BitVec.ofNat 32 R.val) (BitVec.ofNat 32 (en (cnt (cR V0)) e.val)))
      (IntOp.cmpi .slt (BitVec.ofNat 32 R.val) (IntOp.addi (BitVec.ofNat 32 (en (cnt (cR V0)) e.val)) (BitVec.ofNat 32 (cnt (cR V0) e.val))))) with e0 | e1
    · rw [e0]; rfl
    · exact absurd e1 hz

/-- The reference at a row in use is that row through its tile's expert; elsewhere it is zero. -/
theorem value_at (h : InRange (cR V0)) (R : Fin 40960) (j : Fin 1024) :
    (val3 V0 (Proc.devRef .tc main_v150) : FVec Ideal S40960x1024 .f32) (ix2 R j)
      = if R.val % 1024 < tr (cnt (cR V0)) (R.val / 1024) then
          swi (xR V0) (gR V0) (uR V0) (dR V0) R ⟨te (cnt (cR V0)) (R.val / 1024), te_lt _ _⟩ j else 0 := by
  rw [out_at]
  simp only [mask_at V0 h]
  by_cases hp : R.val % 1024 < tr (cnt (cR V0)) (R.val / 1024)
  · rw [if_pos hp, Finset.sum_eq_single (⟨te (cnt (cR V0)) (R.val / 1024), te_lt _ _⟩ : Fin 8)]
    · rw [if_pos ⟨rfl, hp⟩, one_mul]
    · intro e _ hne
      rw [if_neg fun hh => hne (Fin.ext hh.1), zero_mul]
    · exact fun hh => absurd (Finset.mem_univ _) hh
  · rw [if_neg hp]
    have hz : (∑ e : Fin 8, (if e.val = te (cnt (cR V0)) (R.val / 1024) ∧ R.val % 1024 < tr (cnt (cR V0)) (R.val / 1024) then (1 : EReal) else 0)
        * swi (xR V0) (gR V0) (uR V0) (dR V0) R e j) = 0 :=
      Finset.sum_eq_zero fun e _ => by rw [if_neg fun hh => hp hh.2, zero_mul]
    exact hz

end Cert.ReferenceIdeal.Value

end
-- ==== Proof.Pad.lean ====
/- The precondition on the padding, read off its program: a row no segment holds is zero. -/
module

public import proofs.«01_k».proof.Proof.Ref
public import proofs.«01_k».proof.Proof.Gen.Pre_counts_and_padding
public import Idealize.ShloMosaic.Lib.Routing.OpsOrder

@[expose] public section

set_option maxRecDepth 16384
set_option Elab.async false

noncomputable section

namespace Cert.Pre_counts_and_padding

open Cert.Pre_counts_and_padding
open Idealize.ShloMosaic
open Cert.Experts

theorem pad_at [Facts] (x : IVec S8 32) (y : Rows) (wg wu : Up) (wd : Down) (R : Fin 40960) (d : Fin 1024) :
    (fn (F := Ideal) x y wg wu wd).2 (ix2 R d)
      = IntOp.ori (Finset.fold IntOp.ori (0#1) (fun e : Fin 8 =>
          IntOp.andi (IntOp.cmpi .sge (BitVec.ofNat 32 R.val) (subi (Cert.KernelIdeal.Run.endsW x) (Cert.KernelIdeal.Run.padW x) (ix1 e)))
            (IntOp.cmpi .slt (BitVec.ofNat 32 R.val) (IntOp.addi (subi (Cert.KernelIdeal.Run.endsW x) (Cert.KernelIdeal.Run.padW x) (ix1 e)) (x (ix1 e))))) Finset.univ)
        (BitVec.ofBool (decide (y (ix2 R d) = 0))) := by
  unfold fn fn_part1
  dsimp only
  pointwise
  rfl

open Cert.KernelIdeal.Run (InRange cnt cnt_eq cnt_le en en_succ te tr padW_at endsW_at member_iff te_lt)

theorem starts_at (x : IVec S8 32) (h : InRange x) (e : Fin 8) :
    subi (Cert.KernelIdeal.Run.endsW x) (Cert.KernelIdeal.Run.padW x) (ix1 e) = BitVec.ofNat 32 (en (cnt x) e.val) := by
  rw [Cert.ReferenceIdeal.Value.ix1_eq]
  show Cert.KernelIdeal.Run.endsW x (ValueIdx.ix1 e) - Cert.KernelIdeal.Run.padW x (ValueIdx.ix1 e) = _
  rw [endsW_at _ _ (cnt_eq _) (cnt_le _ h), padW_at _ _ (cnt_eq _) (cnt_le _ h), Routing.ofNat32_sub (by rw [en_succ]; omega), en_succ]
  congr 1; omega

/-- A row past its tile's rows in use is zero. -/
theorem row_zero [Facts] (x : IVec S8 32) (y : Rows) (wg wu : Up) (wd : Down) (h : InRange x)
    (h2 : (fn (F := Ideal) x y wg wu wd).2 = fun _ => 1#1) (R : Fin 40960) (hR : ¬ R.val % 1024 < tr (cnt x) (R.val / 1024)) (d : Fin 1024) :
    y (ix2 R d) = 0 := by
  have hp := (pad_at x y wg wu wd R d).symm.trans (congrFun h2 (ix2 R d))
  have hf : Finset.fold IntOp.ori (0#1) (fun e : Fin 8 =>
          IntOp.andi (IntOp.cmpi .sge (BitVec.ofNat 32 R.val) (subi (Cert.KernelIdeal.Run.endsW x) (Cert.KernelIdeal.Run.padW x) (ix1 e)))
            (IntOp.cmpi .slt (BitVec.ofNat 32 R.val) (IntOp.addi (subi (Cert.KernelIdeal.Run.endsW x) (Cert.KernelIdeal.Run.padW x) (ix1 e)) (x (ix1 e))))) Finset.univ ≠ 1#1 := by
    intro hh
    obtain ⟨e, _, he⟩ := (Routing.fold_ori _ _).1 hh
    rw [starts_at x h, show x (ix1 e) = BitVec.ofNat 32 (cnt x e.val) from (congrArg _ (Cert.ReferenceIdeal.Value.ix1_eq e)).trans (cnt_eq _ e)] at he
    have hs := (Cert.ReferenceIdeal.Value.seg_word (cnt x) R.val e.val R.isLt e.isLt (cnt_le _ h)).1 he
    exact hR ((member_iff (cnt x) R.val e.val e.isLt).1 hs).2
  rcases BitVec.eq_zero_or_eq_one (Finset.fold IntOp.ori (0#1) (fun e : Fin 8 =>
          IntOp.andi (IntOp.cmpi .sge (BitVec.ofNat 32 R.val) (subi (Cert.KernelIdeal.Run.endsW x) (Cert.KernelIdeal.Run.padW x) (ix1 e)))
            (IntOp.cmpi .slt (BitVec.ofNat 32 R.val) (IntOp.addi (subi (Cert.KernelIdeal.Run.endsW x) (Cert.KernelIdeal.Run.padW x) (ix1 e)) (x (ix1 e))))) Finset.univ) with e0 | e1
  · rw [e0] at hp
    by_contra hy
    rw [decide_eq_false hy] at hp
    revert hp; decide
  · exact absurd e1 hf

end Cert.Pre_counts_and_padding

end
-- ==== Proof.Value.lean ====
/- The two programs' results agree. -/
module

public import proofs.«01_k».proof.Proof.Traj
public import proofs.«01_k».proof.Proof.Pad

@[expose] public section

set_option maxRecDepth 16384
set_option Elab.async false

noncomputable section

namespace Cert.KernelIdeal.Run

open Cert.KernelIdeal Cert.KernelIdeal.Gen
open Idealize.ShloMosaic Idealize.ShloMosaic.TcCoe
open Cert.Experts

/-- What the kernel's output array ends holding. -/
def kernelOut (x : IVec S8 32) (y : Rows) (wg wu : Up) (wd : Down) : S40960x1024.Idx → EReal :=
  outG y wg wu wd (te (cnt x)) (tr (cnt x)) (te_lt (cnt x))

theorem kernel_final_of (m : (ℓ : Loc nD τ sig) → Buf (Elt Ideal) ℓ) (h : InRange (cts m)) (c : Dev nD) (a : (pcfg0 (F := Ideal)).Adm) (ha : a.1 = tables m) :
    (dats a (entry m) 0 c).arrAt (4 : Fin 5) (cfgA a).N
      = kernelOut (cts m) (m (c, Proc.devRef .tc main_arg1)) (m (c, Proc.devRef .tc main_arg2)) (m (c, Proc.devRef .tc main_arg3)) (m (c, Proc.devRef .tc main_arg4)) := by
  have t0 : ∀ i : grid0.Coords, (a.1 0 (tile i) : BitVec 32) = BitVec.ofNat 32 (te (cnt (cts m)) (i 0).val) := fun i => by
    rw [ha]; exact tables_0 m h i
  have t1 : ∀ i : grid0.Coords, (a.1 1 (tile i) : BitVec 32) = BitVec.ofNat 32 (tr (cnt (cts m)) (i 0).val) := fun i => by
    rw [ha]; exact tables_1 m h i
  have e1 := (entry_arg m c).2.1
  have e2 := entry_v34 m c
  have e3 := entry_v35 m c
  have e4 := entry_v36 m c
  generalize entry m = V at e1 e2 e3 e4
  exact arr_eq a V c _ _ _ _ (te (cnt (cts m))) (tr (cnt (cts m))) (te_lt _) (tr_le _) t0 t1 e1 e2 e3 e4

theorem kernel_final (m : (ℓ : Loc nD τ sig) → Buf (Elt Ideal) ℓ) (h : InRange (cts m)) (c : Dev nD) :
    (dats ⟨tables m, tables_ok m h⟩ (entry m) 0 c).arrAt (4 : Fin 5) (cfgA ⟨tables m, tables_ok m h⟩).N
      = kernelOut (cts m) (m (c, Proc.devRef .tc main_arg1)) (m (c, Proc.devRef .tc main_arg2)) (m (c, Proc.devRef .tc main_arg3)) (m (c, Proc.devRef .tc main_arg4)) :=
  kernel_final_of m h c ⟨tables m, tables_ok m h⟩ rfl

/-- The reference's result is the kernel's. -/
theorem reference_final [Cert.Pre_counts_and_padding.Facts] (V0 : Valuation Cert.ReferenceIdeal.τ Cert.ReferenceIdeal.sig (Elt Ideal))
    (h : InRange (Cert.ReferenceIdeal.Value.cR V0))
    (h2 : (Cert.Pre_counts_and_padding.fn (F := Ideal) (Cert.ReferenceIdeal.Value.cR V0) (Cert.ReferenceIdeal.Value.xR V0) (Cert.ReferenceIdeal.Value.gR V0)
      (Cert.ReferenceIdeal.Value.uR V0) (Cert.ReferenceIdeal.Value.dR V0)).2 = fun _ => 1#1) :
    (Cert.ReferenceIdeal.Value.val3 V0 (Proc.devRef .tc Cert.ReferenceIdeal.main_v150) : S40960x1024.Idx → EReal)
      = kernelOut (Cert.ReferenceIdeal.Value.cR V0) (Cert.ReferenceIdeal.Value.xR V0) (Cert.ReferenceIdeal.Value.gR V0) (Cert.ReferenceIdeal.Value.uR V0) (Cert.ReferenceIdeal.Value.dR V0) := by
  funext i
  have hi : ∃ (R : Fin 40960) (j : Fin 1024), i = ix2 R j := ⟨i 0, i 1, by funext b; fin_cases b <;> rfl⟩
  obtain ⟨R, j, rfl⟩ := hi
  refine (Cert.ReferenceIdeal.Value.value_at V0 h R j).trans ?_
  show _ = if Busy (tr (cnt (Cert.ReferenceIdeal.Value.cR V0)) (R.val / 1024)) (R.val % 1024) then
    swi _ _ _ _ R ⟨te (cnt (Cert.ReferenceIdeal.Value.cR V0)) (R.val / 1024), te_lt _ _⟩ j else 0
  by_cases hp : R.val % 1024 < tr (cnt (Cert.ReferenceIdeal.Value.cR V0)) (R.val / 1024)
  · rw [if_pos hp, if_pos (by unfold Busy; omega)]
  · rw [if_neg hp, swi_zero _ _ _ _ R _ j fun d => Cert.Pre_counts_and_padding.row_zero _ _ _ _ _ h h2 R hp d, ite_self]

end Cert.KernelIdeal.Run

end
-- ==== Proof.MoeRun.lean ====
/- The launch of the two kernels: what the output array holds at the end. -/
module

public import proofs.«01_k».proof.Proof.Gen.Kernel2Ideal.Frame

@[expose] public section

set_option maxRecDepth 16384
set_option Elab.async false

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every run ends with the arguments as launched and the output array as the second kernel leaves it. -/
theorem run : θ_run defs (onTc (τ := τ) (main (F := F))) ⟨m, fun _ => 0, ρ⟩ (fun r => (∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩), funext fun g => hz g (.inr (no_unscoped g.2))⟩)

/-- The output array's contents are the second kernel's blocks written back. -/
theorem out_eq (c : Dev nD) : W3 m ρ c (Proc.devRef .tc main_v13) = (dat1 (V2 m ρ) c).arrAt (7 : Fin 8) cfg1.N := W3_arr m ρ c (7 : Fin 8)

end Cert.Kernel2Ideal.Moe

end
-- ==== Proof.MoeOut.lean ====
/- What a point of either kernel leaves in its output blocks, as the payloads of its input blocks. -/
module

public import proofs.«01_k».proof.Proof.Gen.Kernel2Ideal.Frame
public import Idealize.ShloMosaic.Lib.Pointwise
public import Idealize.ShloMosaic.Lib.Pipeline.Value

@[expose] public section

set_option maxRecDepth 16384
set_option Elab.async false

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → ℕ) = fun _ => 0 := funext fun b => by fin_cases b <;> rfl
theorem hz3 : (![0, 0, 0] : Fin 3 → ℕ) = fun _ => 0 := funext fun b => by fin_cases b <;> rfl

theorem out0_A_5_eq (c : Dev nD) (i : grid0.Coords) (arg1 : Memref sig .tc .vmem S128x1024 .bf16) (harg1 : arg1.IsWhole) (arg2 : Memref sig .tc .vmem S128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S128x1024 .bf16) (x1 : Vec F S128x1024 .f32) (x2 : Vec F S1024x1024 .bf16) (x3 : Vec F S1x1024 .f32) (x4 : Vec F S1024x128 .f32) :
    out0_A_5 c i arg1 harg1 arg2 harg2 arg3 harg3 arg4 harg4 arg5 harg5 arg6 harg6 arg7 harg7 arg8 harg8 arg9 harg9 arg10 harg10 hc0 x0 x1 x2 x3 x4 = k0_pay3 x1 x0 x2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S1024x1024) hz2, View.ld_unit_zero (S := S1x1024) hz2, View.ld_unit_zero (S := S1024x128) hz2, shapeCast_self]

theorem out0_A_6_eq (c : Dev nD) (i : grid0.Coords) (arg1 : Memref sig .tc .vmem S128x1024 .bf16) (harg1 : arg1.IsWhole) (arg2 : Memref sig .tc .vmem S128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S128x1024 .bf16) (x1 : Vec F S128x1024 .f32) (x2 : Vec F S1024x1024 .bf16) (x3 : Vec F S1x1024 .f32) (x4 : Vec F S1024x128 .f32) :
    out0_A_6 c i arg1 harg1 arg2 harg2 arg3 harg3 arg4 harg4 arg5 harg5 arg6 harg6 arg7 harg7 arg8 harg8 arg9 harg9 arg10 harg10 hc0 x0 x1 x2 x3 x4 = k0_pay5 x1 x0 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S1024x1024) hz2, View.ld_unit_zero (S := S1x1024) hz2, View.ld_unit_zero (S := S1024x128) hz2, shapeCast_self]

theorem out0_A_7_eq (c : Dev nD) (i : grid0.Coords) (arg1 : Memref sig .tc .vmem S128x1024 .bf16) (harg1 : arg1.IsWhole) (arg2 : Memref sig .tc .vmem S128x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x1024 .f32) (harg6 : arg6.IsWhole) (arg7 : Memref sig .tc .vmem S128x1024 .bf16) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S128x1024 .bf16) (x1 : Vec F S128x1024 .f32) (x2 : Vec F S1024x1024 .bf16) (x3 : Vec F S1x1024 .f32) (x4 : Vec F S1024x128 .f32) :
    ∃ v96 v100 : FVec F S128x1 .f32, out0_A_7 c i arg1 harg1 arg2 harg2 arg3 harg3 arg4 harg4 arg5 harg5 arg6 harg6 arg7 harg7 arg8 harg8 arg9 harg9 arg10 harg10 hc0 x0 x1 x2 x3 x4 = k0_pay1 (iota .tc S128x128 32 [1] iota_S128x128_d1_w32) (k0_pay13 (iota .tc S128x128 32 [1] iota_S128x128_d1_w32) (k0_pay6 x1 x0 x2 x3) (k0_pay7 x1 x0 x2 x3) (k0_pay9 x4) (k0_pay10 x4)) (k0_pay16 (iota .tc S128x128 32 [1] iota_S128x128_d1_w32) (k0_pay6 x1 x0 x2 x3) (k0_pay7 x1 x0 x2 x3) (k0_pay9 x4) (k0_pay10 x4)) (k0_pay18 (iota .tc S128x128 32 [1] iota_S128x128_d1_w32) (k0_pay6 x1 x0 x2 x3) (k0_pay7 x1 x0 x2 x3) (k0_pay9 x4) (k0_pay10 x4)) (k0_pay19 (iota .tc S128x128 32 [1] iota_S128x128_d1_w32) (k0_pay6 x1 x0 x2 x3) (k0_pay7 x1 x0 x2 x3) (k0_pay9 x4) (k0_pay10 x4)) v96 v100 (k0_pay28 (k0_pay18 (iota .tc S128x128 32 [1] iota_S128x128_d1_w32) (k0_pay6 x1 x0 x2 x3) (k0_pay7 x1 x0 x2 x3) (k0_pay9 x4) (k0_pay10 x4)) (k0_pay19 (iota .tc S128x128 32 [1] iota_S128x128_d1_w32) (k0_pay6 x1 x0 x2 x3) (k0_pay7 x1 x0 x2 x3) (k0_pay9 x4) (k0_pay10 x4)) (k0_pay20 (iota .tc S128x128 32 [1] iota_S128x128_d1_w32) (k0_pay6 x1 x0 x2 x3) (k0_pay7 x1 x0 x2 x3) (k0_pay9 x4) (k0_pay10 x4)) (k0_pay21 (iota .tc S128x128 32 [1] iota_S128x128_d1_w32) (k0_pay6 x1 x0 x2 x3) (k0_pay7 x1 x0 x2 x3) (k0_pay9 x4) (k0_pay10 x4))) k0_pay29 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S1024x1024) hz2, View.ld_unit_zero (S := S1x1024) hz2, View.ld_unit_zero (S := S1024x128) hz2, shapeCast_self]
  exact ⟨_, _, rfl⟩

theorem out1_A_7_eq (c : Dev nD) (i : grid1.Coords) (arg3 : Memref sig .tc .vmem S128x1024 .bf16) (harg3 : arg3.IsWhole) (arg4 : Memref sig .tc .vmem S128x1024 .f32) (harg4 : arg4.IsWhole) (arg5 : Memref sig .tc .vmem S128x128 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S128x1024 .f32) (harg10 : arg10.IsWhole) (hc0 : cond1_0 i) (hc1 : ¬cond1_1 i)
    (x0 : Vec F S128x1024 .bf16) (x1 : Vec F S128x1024 .f32) (x2 : Vec F S128x128 .f32) (x3 : Vec F S1x1024x512 .f32) (x4 : Vec F S1x1024x512 .f32) (x5 : Vec F S1x512x1024 .f32) (x6 : Vec F S1x1024 .f32) :
    out1_A_7 c i arg3 harg3 arg4 harg4 arg5 harg5 arg6 harg6 arg7 harg7 arg8 harg8 arg9 harg9 arg10 harg10 hc0 hc1 x0 x1 x2 x3 x4 x5 x6 = k1_pay1 (k1_pay4 x0 x3 x4) (k1_pay5 i x2) (k1_pay6 (k1_pay3 x1)) (k1_pay7 x5) (constant S128x1024 .f32 0x00000000#32) := by
  unfold out1_A_7
  rw [View.read_writes_eq_canon _ _ _ (cover1_A_7 c i arg3 harg3 arg4 harg4 arg5 harg5 arg6 harg6 arg7 harg7 arg8 harg8 arg9 harg9 arg10 harg10 hc0 hc1 x0 x1 x2 x3 x4 x5 x6)]
  unfold kernelRun1_A
  dsimp only
  try sl_unfold_words
  rw [View.canon_cons_unit_zero (S := S128x1024) hz2, View.readCov_unit_zero (S := S128x1024) _ hz2]
  simp only [View.readAt_eq_ld, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S128x128) hz2, View.ld_unit_zero (S := S1x1024x512) hz3, View.ld_unit_zero (S := S1x512x1024) hz3, View.ld_unit_zero (S := S1x1024) hz2, shapeCast_self]

theorem out1_B_7_eq (c : Dev nD) (i : grid1.Coords) (arg3 : Memref sig .tc .vmem S128x1024 .bf16) (harg3 : arg3.IsWhole) (arg4 : Memref sig .tc .vmem S128x1024 .f32) (harg4 : arg4.IsWhole) (arg5 : Memref sig .tc .vmem S128x128 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S128x1024 .f32) (harg10 : arg10.IsWhole) (hc0 : ¬cond1_0 i) (hc1 : ¬cond1_1 i)
    (x0 : Vec F S128x1024 .bf16) (x1 : Vec F S128x1024 .f32) (x2 : Vec F S128x128 .f32) (x3 : Vec F S1x1024x512 .f32) (x4 : Vec F S1x1024x512 .f32) (x5 : Vec F S1x512x1024 .f32) (x6 : Vec F S1x1024 .f32) (xo7 : Vec F S128x1024 .f32) :
    out1_B_7 c i arg3 harg3 arg4 harg4 arg5 harg5 arg6 harg6 arg7 harg7 arg8 harg8 arg9 harg9 arg10 harg10 hc0 hc1 x0 x1 x2 x3 x4 x5 x6 xo7 = k1_pay1 (k1_pay4 x0 x3 x4) (k1_pay5 i x2) (k1_pay6 xo7) (k1_pay7 x5) (constant S128x1024 .f32 0x00000000#32) := by
  unfold out1_B_7
  rw [View.read_writes_eq_canon _ _ _ (cover1_B_7 c i arg3 harg3 arg4 harg4 arg5 harg5 arg6 harg6 arg7 harg7 arg8 harg8 arg9 harg9 arg10 harg10 hc0 hc1 x0 x1 x2 x3 x4 x5 x6 xo7)]
  unfold kernelRun1_B
  dsimp only
  try sl_unfold_words
  rw [View.canon_unit_zero hz2]
  simp only [View.readAt_eq_ld, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S128x128) hz2, View.ld_unit_zero (S := S1x1024x512) hz3, View.ld_unit_zero (S := S1x512x1024) hz3, View.ld_unit_zero (S := S1x1024) hz2, shapeCast_self]

theorem out1_C_7_eq (c : Dev nD) (i : grid1.Coords) (arg3 : Memref sig .tc .vmem S128x1024 .bf16) (harg3 : arg3.IsWhole) (arg4 : Memref sig .tc .vmem S128x1024 .f32) (harg4 : arg4.IsWhole) (arg5 : Memref sig .tc .vmem S128x128 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1x1024 .f32) (harg9 : arg9.IsWhole) (arg10 : Memref sig .tc .vmem S128x1024 .f32) (harg10 : arg10.IsWhole) (hc0 : ¬cond1_0 i) (hc1 : cond1_1 i)
    (x0 : Vec F S128x1024 .bf16) (x1 : Vec F S128x1024 .f32) (x2 : Vec F S128x128 .f32) (x3 : Vec F S1x1024x512 .f32) (x4 : Vec F S1x1024x512 .f32) (x5 : Vec F S1x512x1024 .f32) (x6 : Vec F S1x1024 .f32) (xo7 : Vec F S128x1024 .f32) :
    out1_C_7 c i arg3 harg3 arg4 harg4 arg5 harg5 arg6 harg6 arg7 harg7 arg8 harg8 arg9 harg9 arg10 harg10 hc0 hc1 x0 x1 x2 x3 x4 x5 x6 xo7 = k1_pay2 (k1_pay1 (k1_pay4 x0 x3 x4) (k1_pay5 i x2) (k1_pay6 xo7) (k1_pay7 x5) (constant S128x1024 .f32 0x00000000#32)) x6 := by
  unfold out1_C_7
  rw [View.read_writes_eq_canon _ _ _ (cover1_C_7 c i arg3 harg3 arg4 harg4 arg5 harg5 arg6 harg6 arg7 harg7 arg8 harg8 arg9 harg9 arg10 harg10 hc0 hc1 x0 x1 x2 x3 x4 x5 x6 xo7)]
  unfold kernelRun1_C
  dsimp only
  try sl_unfold_words
  rw [View.canon_cons_unit_zero (S := S128x1024) hz2, View.readCov_unit_zero (S := S128x1024) _ hz2]
  simp only [View.readAt_eq_ld, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S128x1024) hz2, View.ld_unit_zero (S := S128x128) hz2, View.ld_unit_zero (S := S1x1024x512) hz3, View.ld_unit_zero (S := S1x512x1024) hz3, View.ld_unit_zero (S := S1x1024) hz2, shapeCast_self]

end Cert.Kernel2Ideal.Moe

end
-- ==== Proof.MoeSpec.lean ====
/- The routed layer of one token over the extended reals, what both programs compute of it: the projection with its
   residual, the norm, the router's logits, the two chosen experts with their weights, and the experts' products. -/
module

public import Idealize.ShloMosaic.Lib.Pointwise
public import Idealize.ShloMosaic.Lib.SortNet.Extract
public import Idealize.ShloMosaic.Lib.StableHlo.Predicate
public import Idealize.ShloMosaic.Lib.SortFacts

@[expose] public section

set_option Elab.async false

noncomputable section

namespace Cert.Routed

open Idealize.ShloMosaic

abbrev Tok : Type := (⟨2, ![128, 1024]⟩ : Shape).Idx → EReal
abbrev Proj : Type := (⟨3, ![1, 1024, 1024]⟩ : Shape).Idx → EReal
abbrev Rout : Type := (⟨3, ![1, 1024, 8]⟩ : Shape).Idx → EReal
abbrev Nrm : Type := (⟨2, ![1, 1024]⟩ : Shape).Idx → EReal
abbrev Up : Type := (⟨4, ![1, 8, 1024, 3584]⟩ : Shape).Idx → EReal
abbrev Down : Type := (⟨4, ![1, 8, 3584, 1024]⟩ : Shape).Idx → EReal

/-- The residual plus the projected mixers' output. -/
def x1 (mix x : Tok) (wo : Proj) (p : Fin 128) (d : Fin 1024) : EReal :=
  x (ix2 p d) + ∑ k : Fin 1024, mix (ix2 p k) * wo (ix3 0 k d)

/-- A row over its root mean square, times the norm's weights. -/
def rms (f w : Fin 1024 → EReal) (d : Fin 1024) : EReal :=
  f d * Ideal.rsqrt (Ideal.div (∑ j : Fin 1024, f j * f j) (Ideal.ofBits .f32 1149239296#32) + Ideal.ofBits .f32 897988541#32) * w d

/-- The experts' input. -/
def hn (mix x : Tok) (wo : Proj) (nf : Nrm) (p : Fin 128) : Fin 1024 → EReal :=
  rms (x1 mix x wo p) fun d => nf (ix2 0 d)

/-- A row against expert `e`'s router column. -/
def lg (h : Fin 1024 → EReal) (rt : Rout) (e : Fin 8) : EReal :=
  ∑ d : Fin 1024, h d * rt (ix3 0 d e)

/-- A row against column `k` of expert `e`. -/
def col (h : Fin 1024 → EReal) (w : Up) (e : Fin 8) (k : Fin 3584) : EReal :=
  ∑ d : Fin 1024, h d * w (ix4 0 e d k)

/-- The gated column. -/
def act (h : Fin 1024 → EReal) (wg wu : Up) (e : Fin 8) (k : Fin 3584) : EReal :=
  col h wg e k * Ideal.logistic (col h wg e k) * col h wu e k

/-- A row through expert `e`, at output column `j`. -/
def swi (h : Fin 1024 → EReal) (wg wu : Up) (wd : Down) (e : Fin 8) (j : Fin 1024) : EReal :=
  ∑ k : Fin 3584, act h wg wu e k * wd (ix4 0 e k j)

/-- `a` is the first position of the greatest of eight, `b` the first position of the greatest of the other seven. -/
structure Top (l : Fin 8 → EReal) (a b : Fin 8) : Prop where
  ne : b ≠ a
  fst : ∀ k, l k ≤ l a
  least : ∀ k, k < a → l k < l a
  snd : ∀ k, k ≠ a → l k ≤ l b
  least2 : ∀ k, k ≠ a → k < b → l k < l b

def ratio (l : Fin 8 → EReal) (a b : Fin 8) : EReal := Ideal.exp (l b - l a)

/-- The weight of expert `e` when `a` and `b` are chosen. -/
def gate (l : Fin 8 → EReal) (a b e : Fin 8) : EReal :=
  (if e = a then Ideal.div 1 (1 + ratio l a b) else 0) + (if e = b then Ideal.div (ratio l a b) (1 + ratio l a b) else 0)

/-- The residual stream after the experts. -/
def x2 (xr h : Fin 1024 → EReal) (g : Fin 8 → EReal) (wg wu : Up) (wd : Down) (j : Fin 1024) : EReal :=
  xr j + ∑ e : Fin 8, g e * swi h wg wu wd e j

/-! ## Real values -/

def Real' (v : EReal) : Prop := ∃ r : ℝ, v = (r : EReal)

theorem Real'.add {u v : EReal} (hu : Real' u) (hv : Real' v) : Real' (u + v) := by
  obtain ⟨a, rfl⟩ := hu; obtain ⟨b, rfl⟩ := hv; exact ⟨a + b, (EReal.coe_add a b).symm⟩

theorem Real'.mul {u v : EReal} (hu : Real' u) (hv : Real' v) : Real' (u * v) := by
  obtain ⟨a, rfl⟩ := hu; obtain ⟨b, rfl⟩ := hv; exact ⟨a * b, (EReal.coe_mul a b).symm⟩

theorem Real'.sum {n : ℕ} {f : Fin n → EReal} (hf : ∀ k, Real' (f k)) : Real' (∑ k, f k) := by
  choose r hr using hf
  refine ⟨∑ k, r k, ?_⟩
  rw [Finset.sum_congr rfl fun k _ => hr k]
  induction (Finset.univ : Finset (Fin n)) using Finset.induction_on with
  | empty => simp
  | insert a s h ih => rw [Finset.sum_insert h, Finset.sum_insert h, ih, EReal.coe_add]

/-- A real less itself is zero. -/
theorem Real'.sub_self {v : EReal} (h : Real' v) : v - v = 0 := by
  obtain ⟨a, rfl⟩ := h
  rw [← EReal.coe_sub, _root_.sub_self]; rfl

theorem Real'.of_ne {v : EReal} (h1 : v ≠ ⊤) (h2 : v ≠ ⊥) : Real' v := ⟨v.toReal, (EReal.coe_toReal h1 h2).symm⟩

theorem size_eq : Ideal.ofBits .f32 1149239296#32 = ((1024 : ℝ) : EReal) := by
  simp [Ideal.ofBits, Ideal.ieee, -EReal.coe_mul]; norm_num

theorem eps_pos : ∃ r : ℝ, 0 < r ∧ Ideal.ofBits .f32 897988541#32 = (r : EReal) := by
  refine ⟨_, ?_, by simp [Ideal.ofBits, Ideal.ieee, -EReal.coe_mul]; rfl⟩
  norm_num

theorem rms_real {f w : Fin 1024 → EReal} (hf : ∀ k, Real' (f k)) (hw : ∀ k, Real' (w k)) (d : Fin 1024) : Real' (rms f w d) := by
  choose r hr using hf
  obtain ⟨e, he, hE⟩ := eps_pos
  have hs : ∑ j : Fin 1024, f j * f j = ((∑ j : Fin 1024, r j * r j : ℝ) : EReal) := by
    rw [Finset.sum_congr rfl fun k _ => by rw [hr k, ← EReal.coe_mul]]
    induction (Finset.univ : Finset (Fin 1024)) using Finset.induction_on with
    | empty => simp
    | insert a s h ih => rw [Finset.sum_insert h, Finset.sum_insert h, ih, EReal.coe_add]
  have h0 : 0 ≤ ∑ j : Fin 1024, r j * r j := Finset.sum_nonneg fun j _ => mul_self_nonneg _
  unfold rms
  refine ((hr d ▸ ⟨_, rfl⟩ : Real' (f d)).mul ?_).mul (hw d)
  rw [hs, size_eq, hE]
  have hd : Ideal.div ((∑ j : Fin 1024, r j * r j : ℝ) : EReal) ((1024 : ℝ) : EReal) = (((∑ j : Fin 1024, r j * r j) * (1024)⁻¹ : ℝ) : EReal) := by
    unfold Ideal.div
    rw [if_neg (by exact_mod_cast (by norm_num : (1024 : ℝ) ≠ 0)), ← EReal.coe_inv, ← EReal.coe_mul]
  rw [hd, ← EReal.coe_add]
  have hp : 0 < (∑ j : Fin 1024, r j * r j) * (1024)⁻¹ + e := by positivity
  refine ⟨(Real.sqrt ((∑ j : Fin 1024, r j * r j) * (1024)⁻¹ + e))⁻¹, ?_⟩
  show (if _ < (0 : ℝ) then _ else if _ = (0 : ℝ) then _ else _) = _
  rw [if_neg (not_lt.mpr hp.le), if_neg hp.ne']

theorem sq_nonneg' (v : EReal) : 0 ≤ v * v := by
  induction v with
  | bot => simp
  | top => simp
  | coe r => exact_mod_cast mul_self_nonneg r

/-- A row with an infinite entry has an infinite mean square, so the norm is zero there. -/
theorem rms_infinite {f w : Fin 1024 → EReal} {k : Fin 1024} (hk : f k * f k = ⊤) (d : Fin 1024) : rms f w d = 0 := by
  have hs : ∑ j : Fin 1024, f j * f j = ⊤ :=
    top_le_iff.mp (hk.symm.le.trans (Finset.single_le_sum (f := fun j => f j * f j) (fun j _ => sq_nonneg' (f j)) (Finset.mem_univ k)))
  obtain ⟨e, he, hE⟩ := eps_pos
  have hd : Ideal.div (⊤ : EReal) ((1024 : ℝ) : EReal) = ⊤ := by
    unfold Ideal.div
    rw [if_neg (by exact_mod_cast (by norm_num : (1024 : ℝ) ≠ 0)), ← EReal.coe_inv]
    exact EReal.top_mul_coe_of_pos (by norm_num)
  unfold rms
  rw [hs, size_eq, hE, hd, EReal.top_add_coe, Ideal.rsqrt_top, mul_zero, zero_mul]

/-- The norm is real wherever its weights are, whatever the row. -/
theorem rms_real_of {f w : Fin 1024 → EReal} (hw : ∀ k, Real' (w k)) (d : Fin 1024) : Real' (rms f w d) := by
  by_cases hf : ∀ k, Real' (f k)
  · exact rms_real hf hw d
  · obtain ⟨k, hk⟩ := not_forall.mp hf
    refine ⟨0, rms_infinite (k := k) ?_ d⟩
    by_cases h1 : f k = ⊤
    · rw [h1]; simp
    · by_cases h2 : f k = ⊥
      · rw [h2]; simp
      · exact absurd (Real'.of_ne h1 h2) hk

theorem ratio_pos {l : Fin 8 → EReal} (hl : ∀ k, Real' (l k)) (a b : Fin 8) : ∃ r : ℝ, 0 < r ∧ ratio l a b = (r : EReal) := by
  obtain ⟨u, hu⟩ := hl a
  obtain ⟨v, hv⟩ := hl b
  refine ⟨Real.exp (v - u), Real.exp_pos _, ?_⟩
  unfold ratio
  rw [hu, hv, ← EReal.coe_sub]; rfl

theorem div_pos {u v : ℝ} (hv : 0 < v) : Ideal.div (u : EReal) (v : EReal) = ((u * v⁻¹ : ℝ) : EReal) := by
  unfold Ideal.div
  rw [if_neg (by exact_mod_cast hv.ne'), ← EReal.coe_inv, ← EReal.coe_mul]

/-- An expert's weight is a real number, not negative. -/
theorem gate_real {l : Fin 8 → EReal} (hl : ∀ k, Real' (l k)) (a b e : Fin 8) : ∃ r : ℝ, 0 ≤ r ∧ gate l a b e = (r : EReal) := by
  obtain ⟨E, hE, hr⟩ := ratio_pos hl a b
  have h1 : (1 : EReal) + (E : EReal) = ((1 + E : ℝ) : EReal) := by rw [EReal.coe_add]; rfl
  have hp : 0 < 1 + E := by linarith
  unfold gate
  rw [hr, h1, show (1 : EReal) = ((1 : ℝ) : EReal) from rfl, div_pos hp, div_pos hp]
  refine ⟨(if e = a then 1 * (1 + E)⁻¹ else 0) + (if e = b then E * (1 + E)⁻¹ else 0), ?_, ?_⟩
  · have := (inv_pos.mpr hp).le
    split_ifs <;> positivity
  · rw [EReal.coe_add]
    split_ifs <;> rfl

/-- A real that is not negative distributes over a sum, whatever the terms. -/
theorem gate_mul_sum {c : ℝ} (hc : 0 ≤ c) (s : Finset ℕ) (f : ℕ → EReal) : (c : EReal) * ∑ k ∈ s, f k = ∑ k ∈ s, (c : EReal) * f k := by
  induction s using Finset.induction_on with
  | empty => simp
  | insert a s h ih =>
    rw [Finset.sum_insert h, Finset.sum_insert h, EReal.left_distrib_of_nonneg_of_ne_top (by exact_mod_cast hc) (EReal.coe_ne_top c), ih]

/-! ## The columns in blocks -/

/-- One block of 512 columns of expert `n / 7`: block `n % 7`. -/
def blk (h : Fin 1024 → EReal) (wg wu : Up) (wd : Down) (j : Fin 1024) (n : ℕ) : EReal :=
  if hh : n < 56 then ∑ k : Fin 512, act h wg wu ⟨n / 7, by omega⟩ ⟨n % 7 * 512 + k.val, by omega⟩ * wd (ix4 0 (⟨n / 7, by omega⟩ : Fin 8) (⟨n % 7 * 512 + k.val, by omega⟩ : Fin 3584) j) else 0

/-- A weight at any natural number. -/
def gateN (g : Fin 8 → EReal) (n : ℕ) : EReal := if hh : n / 7 < 8 then g ⟨n / 7, hh⟩ else 0

/-- The first `n` blocks. -/
def acc (xr h : Fin 1024 → EReal) (g : Fin 8 → EReal) (wg wu : Up) (wd : Down) (j : Fin 1024) (n : ℕ) : EReal :=
  xr j + ∑ i ∈ Finset.range n, gateN g i * blk h wg wu wd j i

theorem acc_succ (xr h : Fin 1024 → EReal) (g : Fin 8 → EReal) (wg wu : Up) (wd : Down) (j : Fin 1024) (n : ℕ) :
    acc xr h g wg wu wd j (n + 1) = acc xr h g wg wu wd j n + gateN g n * blk h wg wu wd j n := by
  unfold acc
  rw [Finset.sum_range_succ, add_assoc]

/-- Seven blocks are an expert. -/
theorem blk_sum (h : Fin 1024 → EReal) (wg wu : Up) (wd : Down) (e : Fin 8) (j : Fin 1024) :
    ∑ f ∈ Finset.range 7, blk h wg wu wd j (e.val * 7 + f) = swi h wg wu wd e j := by
  let t : ℕ → EReal := fun n => if hh : n < 3584 then act h wg wu e ⟨n, hh⟩ * wd (ix4 0 e (⟨n, hh⟩ : Fin 3584) j) else 0
  have hb : ∀ f < 7, blk h wg wu wd j (e.val * 7 + f) = ∑ k ∈ Finset.range 512, t (f * 512 + k) := fun f hf => by
    have he := e.isLt
    unfold blk
    rw [dif_pos (by omega), Finset.sum_range]
    refine Finset.sum_congr rfl fun k _ => ?_
    have hk := k.isLt
    have e1 : (⟨(e.val * 7 + f) / 7, by omega⟩ : Fin 8) = e := Fin.ext (by show (e.val * 7 + f) / 7 = e.val; omega)
    have e2 : (⟨(e.val * 7 + f) % 7 * 512 + k.val, by omega⟩ : Fin 3584) = ⟨f * 512 + k.val, by omega⟩ := Fin.ext (by show (e.val * 7 + f) % 7 * 512 + k.val = f * 512 + k.val; omega)
    rw [e1, e2]
    have ht : t (f * 512 + k.val) = act h wg wu e ⟨f * 512 + k.val, by omega⟩ * wd (ix4 0 e (⟨f * 512 + k.val, by omega⟩ : Fin 3584) j) := dif_pos (by omega)
    exact ht.symm
  have hs : ∀ n ≤ 7, ∑ f ∈ Finset.range n, blk h wg wu wd j (e.val * 7 + f) = ∑ k ∈ Finset.range (n * 512), t k := fun n => by
    induction n with
    | zero => intro _; simp
    | succ n ih => intro hn; rw [Finset.sum_range_succ, ih (by omega), hb n (by omega), show (n + 1) * 512 = n * 512 + 512 by omega, Finset.sum_range_add]
  rw [hs 7 (le_refl _)]
  unfold swi
  rw [show 7 * 512 = 3584 from rfl, Finset.sum_range]
  exact Finset.sum_congr rfl fun k _ => dif_pos k.isLt

/-- All fifty-six blocks are the eight experts. -/
theorem acc_all (xr h : Fin 1024 → EReal) (g : Fin 8 → EReal) (hg : ∀ e, ∃ r : ℝ, 0 ≤ r ∧ g e = (r : EReal)) (wg wu : Up) (wd : Down) (j : Fin 1024) :
    acc xr h g wg wu wd j 56 = x2 xr h g wg wu wd j := by
  let G : ℕ → EReal := fun e => if hh : e < 8 then g ⟨e, hh⟩ * swi h wg wu wd ⟨e, hh⟩ j else 0
  have hs : ∀ E ≤ 8, ∑ i ∈ Finset.range (E * 7), gateN g i * blk h wg wu wd j i = ∑ e ∈ Finset.range E, G e := fun E => by
    induction E with
    | zero => intro _; simp
    | succ E ih =>
      intro hE
      obtain ⟨r, hr, he⟩ := hg ⟨E, by omega⟩
      rw [show (E + 1) * 7 = E * 7 + 7 by omega, Finset.sum_range_add, ih (by omega), Finset.sum_range_succ G]
      congr 1
      have hG : G E = g ⟨E, by omega⟩ * swi h wg wu wd ⟨E, by omega⟩ j := dif_pos (by omega)
      rw [hG, ← blk_sum, he, gate_mul_sum hr]
      refine Finset.sum_congr rfl fun f hf => ?_
      have := Finset.mem_range.mp hf
      unfold gateN
      rw [dif_pos (by omega), ← he]
      congr 2
      exact Fin.ext (by show (E * 7 + f) / 7 = E; omega)
  unfold acc x2
  rw [show (56 : ℕ) = 8 * 7 from rfl, hs 8 (le_refl _), Finset.sum_range]
  exact congrArg (xr j + ·) (Finset.sum_congr rfl fun e _ => dif_pos e.isLt)

/-! ## The two greatest among 128 lanes -/

/-- The least word of a family of small ones. -/
theorem least_word (g : Fin 128 → BitVec 32) (u : Fin 128 → ℕ) (hg : ∀ k, g k = BitVec.ofNat 32 (u k)) (hu : ∀ k, u k ≤ 128) (a : ℕ) (k0 : Fin 128)
    (h0 : u k0 = a) (hle : ∀ k, a ≤ u k) : Finset.fold IntOp.minsi (2147483647#32) g Finset.univ = BitVec.ofNat 32 a := by
  have ti : ∀ n ≤ 128, (BitVec.ofNat 32 n).toInt = (n : ℤ) := fun n hn => StableHlo.Predicate.toInt_ofNat_small n (by omega)
  apply BitVec.eq_of_toInt_eq
  have hf : (Finset.fold IntOp.minsi (2147483647#32) g Finset.univ).toInt = Finset.fold min ((2147483647#32 : BitVec 32).toInt) (fun k => (g k).toInt) Finset.univ :=
    (Finset.fold_hom (m := BitVec.toInt) (fun x y => SortNet.toInt_minsi x y)).symm
  rw [hf, ti a (h0 ▸ hu k0)]
  have ha : a ≤ 128 := h0 ▸ hu k0
  refine le_antisymm ?_ ?_
  · refine (Finset.fold_min_le _).mpr (Or.inr ⟨k0, Finset.mem_univ _, ?_⟩)
    rw [hg, ti _ (hu _), h0]
  · refine (Finset.le_fold_min _).mpr ⟨?_, fun k _ => ?_⟩
    · have : (2147483647#32 : BitVec 32).toInt = 2147483647 := by decide
      rw [this]; omega
    · rw [hg, ti _ (hu _)]; exact_mod_cast hle k

variable {l : Fin 8 → EReal} {a b : Fin 8}

/-- The eight logits in 128 lanes, nothing in the rest. -/
def lanes (l : Fin 8 → EReal) (k : Fin 128) : EReal := if h : k.val < 8 then l ⟨k.val, h⟩ else ⊥

/-- The same with one lane emptied. -/
def lanes2 (l : Fin 8 → EReal) (a : Fin 8) (k : Fin 128) : EReal := if k.val = a.val then ⊥ else lanes l k

theorem lanes_le (T : Top l a b) (k : Fin 128) : lanes l k ≤ l a := by
  unfold lanes; split
  · exact T.fst _
  · exact bot_le

theorem lanes_self (l : Fin 8 → EReal) (e : Fin 8) : lanes l ⟨e.val, by omega⟩ = l e := dif_pos e.isLt

theorem lanes2_le (T : Top l a b) (k : Fin 128) : lanes2 l a k ≤ l b := by
  unfold lanes2 lanes; split
  · exact bot_le
  · split
    · rename_i h h'
      exact T.snd _ fun he => h (congrArg Fin.val he)
    · exact bot_le

theorem lanes2_self (h : b ≠ a) : lanes2 l a ⟨b.val, by omega⟩ = l b := by
  unfold lanes2
  rw [if_neg fun he => h (Fin.ext he), lanes_self]

theorem max_lanes (T : Top l a b) : Finset.fold max ⊥ (lanes l) Finset.univ = l a :=
  le_antisymm ((Finset.fold_max_le _).mpr ⟨bot_le, fun k _ => lanes_le T k⟩)
    ((Finset.le_fold_max _).mpr (Or.inr ⟨⟨a.val, by omega⟩, Finset.mem_univ _, (lanes_self l a).ge⟩))

theorem max_lanes2 (T : Top l a b) : Finset.fold max ⊥ (lanes2 l a) Finset.univ = l b :=
  le_antisymm ((Finset.fold_max_le _).mpr ⟨bot_le, fun k _ => lanes2_le T k⟩)
    ((Finset.le_fold_max _).mpr (Or.inr ⟨⟨b.val, by omega⟩, Finset.mem_univ _, (lanes2_self T.ne).ge⟩))

theorem Real'.ne_bot {v : EReal} (h : Real' v) : v ≠ ⊥ := by
  obtain ⟨r, rfl⟩ := h; exact EReal.coe_ne_bot r

theorem first_lanes (hl : ∀ k, Real' (l k)) (T : Top l a b) :
    Finset.fold IntOp.minsi (2147483647#32) (fun k : Fin 128 => if lanes l k = l a then BitVec.ofNat 32 k.val else 128#32) Finset.univ = BitVec.ofNat 32 a.val := by
  classical
  refine least_word _ (fun k => if lanes l k = l a then k.val else 128) (fun k => ?_) (fun k => ?_) a.val ⟨a.val, by omega⟩ (if_pos (lanes_self l a)) fun k => ?_
  · split <;> rfl
  · split <;> omega
  · split
    · rename_i h
      by_contra hc
      have hk : k.val < 8 := by have := a.isLt; omega
      have e : lanes l k = l ⟨k.val, hk⟩ := dif_pos hk
      have hlt : (⟨k.val, hk⟩ : Fin 8) < a := by
        show k.val < a.val
        omega
      exact absurd (e.symm.trans h) (T.least ⟨k.val, hk⟩ hlt).ne
    · omega

theorem first_lanes2 (hl : ∀ k, Real' (l k)) (T : Top l a b) :
    Finset.fold IntOp.minsi (2147483647#32) (fun k : Fin 128 => if lanes2 l a k = l b then BitVec.ofNat 32 k.val else 128#32) Finset.univ = BitVec.ofNat 32 b.val := by
  classical
  refine least_word _ (fun k => if lanes2 l a k = l b then k.val else 128) (fun k => ?_) (fun k => ?_) b.val ⟨b.val, by omega⟩ (if_pos (lanes2_self T.ne)) fun k => ?_
  · split <;> rfl
  · split <;> omega
  · split
    · rename_i h
      by_contra hc
      have hk : k.val < 8 := by have := b.isLt; omega
      have hka : k.val ≠ a.val := fun he => by
        have : lanes2 l a k = ⊥ := if_pos he
        exact (hl b).ne_bot (h.symm.trans this)
      have e : lanes2 l a k = l ⟨k.val, hk⟩ := (if_neg hka).trans (dif_pos hk)
      have hlt : (⟨k.val, hk⟩ : Fin 8) < b := by
        show k.val < b.val
        omega
      exact absurd (e.symm.trans h) (T.least2 ⟨k.val, hk⟩ (fun he => hka (congrArg Fin.val he)) hlt).ne
    · omega

/-! ## The stable sort's first two positions -/

/-- Greater first, and of equals the earlier position. -/
def First (l : Fin 8 → EReal) (k k' : Fin 8) : Prop := l k' < l k ∨ (l k = l k' ∧ k < k')

theorem First.le {l : Fin 8 → EReal} {k k' : Fin 8} (h : First l k k') : l k' ≤ l k := h.elim le_of_lt fun h => h.1.ge

theorem insert_first (l : Fin 8 → EReal) (R : Fin 8 → Fin 8 → Bool) (hR : ∀ k k', R k k' = true ↔ l k' < l k) (q : Fin 8) (s : List (Fin 8))
    (hs : s.Pairwise (First l)) (hq : ∀ k ∈ s, q < k) : (insertBefore R q s).Pairwise (First l) := by
  induction s with
  | nil => exact List.pairwise_singleton _ _
  | cons b s ih =>
    rw [List.pairwise_cons] at hs
    unfold insertBefore
    split
    · rename_i h
      refine List.pairwise_cons.mpr ⟨fun c hc => ?_, ih hs.2 fun k hk => hq k (List.mem_cons_of_mem _ hk)⟩
      rcases List.mem_cons.mp ((perm_insertBefore R q s).mem_iff.mp hc) with rfl | hc'
      · exact Or.inl ((hR b c).mp h)
      · exact hs.1 c hc'
    · rename_i h
      have hle : l b ≤ l q := not_lt.mp fun hlt => h ((hR b q).mpr hlt)
      have key : ∀ c, q < c → l c ≤ l q → First l q c := fun c hc hl => hl.lt_or_eq.elim Or.inl fun e => Or.inr ⟨e.symm, hc⟩
      refine List.pairwise_cons.mpr ⟨fun c hc => ?_, List.pairwise_cons.mpr hs⟩
      rcases List.mem_cons.mp hc with rfl | hc'
      · exact key c (hq c List.mem_cons_self) hle
      · exact key c (hq c (List.mem_cons_of_mem _ hc')) ((hs.1 c hc').le.trans hle)

theorem sort_first (l : Fin 8 → EReal) (R : Fin 8 → Fin 8 → Bool) (hR : ∀ k k', R k k' = true ↔ l k' < l k) (s : List (Fin 8))
    (hs : s.Pairwise (· < ·)) : (stableSort R s).Pairwise (First l) := by
  induction s with
  | nil => exact List.Pairwise.nil
  | cons q s ih =>
    rw [List.pairwise_cons] at hs
    unfold stableSort
    exact insert_first l R hR q _ (ih hs.2) fun k hk => hs.1 k ((perm_stableSort R s).mem_iff.mp hk)

theorem sorted_first (l : Fin 8 → EReal) (R : Fin 8 → Fin 8 → Bool) (hR : ∀ k k', R k k' = true ↔ l k' < l k) (i j : Fin 8) (h : i < j) :
    First l (sortedFrom R i) (sortedFrom R j) := by
  have hp : ∀ a b : Fin (sortPositions 8 R).length, a < b → First l ((sortPositions 8 R).get a) ((sortPositions 8 R).get b) :=
    List.pairwise_iff_get.mp (sort_first l R hR (List.finRange 8) (List.pairwise_lt_finRange 8))
  unfold sortedFrom
  exact hp _ _ (by simp only [Fin.lt_def, Fin.val_cast]; exact h)

/-- The first two positions of the stable descending sort. -/
theorem top_sorted (l : Fin 8 → EReal) (R : Fin 8 → Fin 8 → Bool) (hR : ∀ k k', R k k' = true ↔ l k' < l k) :
    Top l (sortedFrom R 0) (sortedFrom R 1) := by
  have F := sorted_first l R hR
  have S := sortedFrom_surjective R
  have I := sortedFrom_injective R
  have F0 : ∀ k, k ≠ sortedFrom R 0 → First l (sortedFrom R 0) k := fun k hk => by
    obtain ⟨i, rfl⟩ := S k
    exact F 0 i (Fin.pos_of_ne_zero fun h => hk (by rw [h]))
  have F1 : ∀ k, k ≠ sortedFrom R 0 → k ≠ sortedFrom R 1 → First l (sortedFrom R 1) k := fun k hk hk1 => by
    obtain ⟨i, rfl⟩ := S k
    have h0 : i ≠ 0 := fun h => hk (by rw [h])
    have h1 : i ≠ 1 := fun h => hk1 (by rw [h])
    refine F 1 i ?_
    have := i.isLt
    have a0 : i.val ≠ 0 := fun h => h0 (Fin.ext h)
    have a1 : i.val ≠ 1 := fun h => h1 (Fin.ext h)
    show 1 < i.val
    omega
  refine ⟨fun h => absurd (I h) (by decide), fun k => ?_, fun k hk => ?_, fun k hk => ?_, fun k hk hk' => ?_⟩
  · by_cases e : k = sortedFrom R 0
    · rw [e]
    · exact (F0 k e).le
  · exact (F0 k hk.ne).elim id fun h => absurd h.2 (lt_asymm hk)
  · by_cases e : k = sortedFrom R 1
    · rw [e]
    · exact (F1 k hk e).le
  · exact (F1 k hk hk'.ne).elim id fun h => absurd h.2 (lt_asymm hk')

end Cert.Routed

end
-- ==== Proof.MoePay.lean ====
/- The router's and the experts' payloads at an index, over the extended reals. -/
module

public import proofs.«01_k».proof.Proof.MoeOut
public import proofs.«01_k».proof.Proof.MoeSpec
public import Idealize.ShloMosaic.Lib.Tactic.CleanTypes

@[expose] public section

set_option maxRecDepth 16384
set_option Elab.async false

noncomputable section

namespace Cert.Kernel2Ideal.Moe

open Cert.Kernel2Ideal Cert.Kernel2Ideal.Gen
open Idealize.ShloMosaic Idealize.ShloMosaic.TcCoe
open Cert.Routed

theorem sel_slt {α : Type} (m n : ℕ) (hm : m ≤ 1024) (hn : n ≤ 1024) (u v : α) :
    Scalar.select (IntOp.cmpi .slt (BitVec.ofNat 32 m) (BitVec.ofNat 32 n)) u v = if m < n then u else v := by
  unfold Scalar.select
  refine if_congr ?_ rfl rfl
  show IntOp.cmpi .slt (BitVec.ofNat 32 m) (BitVec.ofNat 32 n) = 1#1 ↔ _
  rw [IntOp.cmpi_slt, StableHlo.Predicate.toInt_ofNat_small m (by omega), StableHlo.Predicate.toInt_ofNat_small n (by omega)]
  omega

theorem ofNat_inj {m n : ℕ} (hm : m ≤ 1024) (hn : n ≤ 1024) : BitVec.ofNat 32 m = BitVec.ofNat 32 n ↔ m = n := by
  refine ⟨fun h => ?_, fun h => by rw [h]⟩
  have := congrArg BitVec.toNat h
  rw [BitVec.toNat_ofNat, BitVec.toNat_ofNat] at this
  omega

theorem sel_eq {α : Type} (m n : ℕ) (hm : m ≤ 1024) (hn : n ≤ 1024) (u v : α) :
    Scalar.select (IntOp.cmpi .eq (BitVec.ofNat 32 m) (BitVec.ofNat 32 n)) u v = if m = n then u else v := by
  unfold Scalar.select
  refine if_congr ?_ rfl rfl
  show IntOp.cmpi .eq (BitVec.ofNat 32 m) (BitVec.ofNat 32 n) = 1#1 ↔ _
  rw [IntOp.cmpi_eq, ofNat_inj hm hn]

theorem mask_eq : (Named.named (F := Ideal) κ "mask" (φ := .f32) 4048155338#32 : EReal) = ⊥ :=
  IdealRules.named_const.ideal_named_scalar κ "mask" (φ := .f32) _ ⊥ rfl

theorem ninf_eq : Ideal.ofBits .f32 4286578688#32 = ⊥ := by
  simp [Ideal.ofBits, Ideal.ieee]

section Router
variable (mix x : S128x1024.Idx → EReal) (w : S1024x1024.Idx → EReal) (n : S1x1024.Idx → EReal) (r : S1024x128.Idx → EReal)
variable (wo : Proj) (nf : Nrm) (rt : Rout)

/-- The block of lane numbers. -/
abbrev lane : S128x128.Idx → BitVec 32 := iota .tc S128x128 32 [1] iota_S128x128_d1_w32

theorem lane_at (p k : Fin 128) : lane (ix2 p k) = BitVec.ofNat 32 k.val := by
  unfold lane
  pointwise []

variable (hw : ∀ k d, w (ix2 k d) = wo (ix3 0 k d)) (hn' : ∀ d, n (ix2 0 d) = nf (ix2 0 d))
include hw

theorem proj_at (p : Fin 128) (d : Fin 1024) : k0_pay3 (F := Ideal) x mix w (ix2 p d) = x1 mix x wo p d := by
  pointwise [k0_pay3]
  unfold x1
  simp only [hw]

include hn'

theorem norm_at (p : Fin 128) (d : Fin 1024) : k0_pay4 (F := Ideal) x mix w n (ix2 p d) = hn mix x wo nf p d := by
  pointwise [k0_pay4]
  simp only [proj_at mix x w wo hw, hn']
  rfl

theorem hi_at (p : Fin 128) (d : Fin 1024) : k0_pay6 (F := Ideal) x mix w n (ix2 p d) = hn mix x wo nf p d := by
  pointwise [k0_pay6]
  exact norm_at mix x w n wo nf hw hn' p d

theorem out6_at (p : Fin 128) (d : Fin 1024) : k0_pay5 (F := Ideal) x mix w n (ix2 p d) = hn mix x wo nf p d := by
  pointwise [k0_pay5]
  exact norm_at mix x w n wo nf hw hn' p d

theorem lo_at (p : Fin 128) (d : Fin 1024) (h : Real' (hn mix x wo nf p d)) : k0_pay7 (F := Ideal) x mix w n (ix2 p d) = 0 := by
  pointwise [k0_pay7]
  rw [norm_at mix x w n wo nf hw hn', hi_at mix x w n wo nf hw hn']
  exact h.sub_self

omit hw hn'

theorem rhi_at (d : Fin 1024) (k : Fin 128) : k0_pay9 (F := Ideal) r (ix2 d k) = r (ix2 d k) := by
  pointwise [k0_pay9, k0_pay8]

theorem rlo_at (d : Fin 1024) (k : Fin 128) (h : Real' (r (ix2 d k))) : k0_pay10 (F := Ideal) r (ix2 d k) = 0 := by
  pointwise [k0_pay10, k0_pay9, k0_pay8]
  exact h.sub_self

end Router

/-! ## The choice, from the masked logits -/

section Choice
variable (A B : S128x1024.Idx → EReal) (C D : S1024x128.Idx → EReal) (p : Fin 128) (l : Fin 8 → EReal)

/-- With nothing in the low halves the masked logits are the rows against the router, in the first eight lanes. -/
theorem logits_at (rt : Rout) (h : Fin 1024 → EReal) (hA : ∀ d, A (ix2 p d) = h d) (hB : ∀ d, B (ix2 p d) = 0)
    (hC : ∀ (d : Fin 1024) (e : Fin 8), C (ix2 d (⟨e.val, by omega⟩ : Fin 128)) = rt (ix3 0 d e)) (hD : ∀ (d : Fin 1024) (e : Fin 8), D (ix2 d (⟨e.val, by omega⟩ : Fin 128)) = 0)
    (k : Fin 128) : k0_pay11 (F := Ideal) lane A B C D (ix2 p k) = lanes (lg h rt) k := by
  pointwise [k0_pay11]
  rw [sel_slt _ 8 (by omega) (by omega), mask_eq]
  unfold lanes
  split
  · rename_i hk
    have e1 : ∀ d, C (ix2 d k) = rt (ix3 0 d ⟨k.val, hk⟩) := fun d => hC d ⟨k.val, hk⟩
    have e2 : ∀ d, D (ix2 d k) = 0 := fun d => hD d ⟨k.val, hk⟩
    simp only [hA, hB, e1, e2, mul_zero, zero_mul, Finset.sum_const_zero, add_zero]
    rfl
  · rfl

variable (hL : ∀ k : Fin 128, k0_pay11 (F := Ideal) lane A B C D (ix2 p k) = lanes l k)
variable {a b : Fin 8} (hl : ∀ k, Real' (l k)) (T : Top l a b)
include hL T

theorem m1_at : k0_pay12 (F := Ideal) lane A B C D (ix2 p 0) = l a := by
  pointwise [k0_pay12]
  simp only [hL, ninf_eq]
  exact max_lanes T

include hl

theorem e1_at : k0_pay13 (F := Ideal) lane A B C D (ix2 p 0) = BitVec.ofNat 32 a.val := by
  pointwise [k0_pay13]
  simp only [hL, m1_at A B C D p l hL T, lane_at]
  exact first_lanes hl T

theorem rest_at (k : Fin 128) : k0_pay14 (F := Ideal) lane A B C D (ix2 p k) = lanes2 l a k := by
  pointwise [k0_pay14]
  rw [e1_at A B C D p l hL hl T, sel_eq _ _ (by omega) (by omega), mask_eq, hL]
  rfl

theorem m2_at : k0_pay15 (F := Ideal) lane A B C D (ix2 p 0) = l b := by
  pointwise [k0_pay15]
  simp only [rest_at A B C D p l hL hl T, ninf_eq]
  exact max_lanes2 T

theorem e2_at : k0_pay16 (F := Ideal) lane A B C D (ix2 p 0) = BitVec.ofNat 32 b.val := by
  pointwise [k0_pay16]
  simp only [rest_at A B C D p l hL hl T, m2_at A B C D p l hL hl T, lane_at]
  exact first_lanes2 hl T

theorem g1_at : k0_pay18 (F := Ideal) lane A B C D (ix2 p 0) = Ideal.div 1 (1 + ratio l a b) := by
  pointwise [k0_pay18, k0_pay17]
  rw [m1_at A B C D p l hL T, m2_at A B C D p l hL hl T]
  rfl

theorem g2_at : k0_pay19 (F := Ideal) lane A B C D (ix2 p 0) = Ideal.div (ratio l a b) (1 + ratio l a b) := by
  pointwise [k0_pay19, k0_pay17]
  rw [m1_at A B C D p l hL T, m2_at A B C D p l hL hl T]
  rfl

theorem weights_at (e : Fin 8) :
    k0_pay28 (F := Ideal) (k0_pay18 (F := Ideal) lane A B C D) (k0_pay19 (F := Ideal) lane A B C D) (k0_pay20 (F := Ideal) lane A B C D) (k0_pay21 (F := Ideal) lane A B C D) (ix2 p (⟨e.val, by omega⟩ : Fin 128)) = gate l a b e := by
  pointwise [k0_pay28, k0_pay20, k0_pay21]
  rw [g1_at A B C D p l hL hl T, g2_at A B C D p l hL hl T, e1_at A B C D p l hL hl T, e2_at A B C D p l hL hl T,
    sel_eq _ _ (by omega) (by omega), sel_eq _ _ (by omega) (by omega)]
  unfold gate
  simp only [Fin.ext_iff]

end Choice

/-- The first eight lanes of the router's table are the experts' weights: the other entries stand in lanes 8 to 13. -/
theorem table_at (u v : S128x1.Idx → BitVec 32) (f g s t : S128x1.Idx → EReal) (q : S128x128.Idx → EReal) (p : Fin 128) (e : Fin 8) :
    k0_pay1 (F := Ideal) lane u v f g s t q k0_pay29 (ix2 p (⟨e.val, by omega⟩ : Fin 128)) = q (ix2 p (⟨e.val, by omega⟩ : Fin 128)) := by
  have he := e.isLt
  pointwise [k0_pay1, k0_pay29]
  rw [sel_eq e.val 13 (by omega) (by omega), sel_eq e.val 12 (by omega) (by omega), sel_eq e.val 11 (by omega) (by omega),
    sel_eq e.val 10 (by omega) (by omega), sel_eq e.val 9 (by omega) (by omega), sel_eq e.val 8 (by omega) (by omega),
    if_neg (by omega), if_neg (by omega), if_neg (by omega), if_neg (by omega), if_neg (by omega), if_neg (by omega)]

/-! ## The experts -/

/-- The weight a point of expert `e` reads. -/
theorem pick_at (i : grid1.Coords) (q : S128x128.Idx → EReal) (p : Fin 128) (e : Fin 8) (h : (i 1).val = e.val) :
    k1_pay5 (F := Ideal) i q (ix2 p 0) = q (ix2 p (⟨e.val, by omega⟩ : Fin 128)) := by
  have he := e.isLt
  pointwise [k1_pay5]
  rw [h]
  have hk : ∀ k : Fin 128, Scalar.select (IntOp.cmpi .eq (BitVec.ofNat 32 k.val) (BitVec.ofNat 32 e.val)) (q (ix2 p k)) 0 = if k = (⟨e.val, by omega⟩ : Fin 128) then q (ix2 p k) else 0 := fun k => by
    rw [sel_eq _ _ (by omega) (by omega)]
    exact if_congr ⟨fun h => Fin.ext h, fun h => congrArg Fin.val h⟩ rfl rfl
  rw [Finset.sum_congr rfl fun k _ => hk k, Finset.sum_ite_eq' Finset.univ, if_pos (Finset.mem_univ _)]

/-- A point's addition to a row. -/
theorem step_at (xb : S128x1024.Idx → EReal) (wg wu : S1x1024x512.Idx → EReal) (wd : S1x512x1024.Idx → EReal) (gt : S128x1.Idx → EReal) (o : S128x1024.Idx → EReal) (p : Fin 128) (j : Fin 1024) :
    k1_pay1 (F := Ideal) (k1_pay4 (F := Ideal) xb wg wu) gt (k1_pay6 (F := Ideal) o) (k1_pay7 (F := Ideal) wd) (constant S128x1024 .f32 0x00000000#32) (ix2 p j) =
      o (ix2 p j) + gt (ix2 p 0) * ∑ k : Fin 512, ((∑ d : Fin 1024, xb (ix2 p d) * wg (ix3 0 d k)) * Ideal.logistic (∑ d : Fin 1024, xb (ix2 p d) * wg (ix3 0 d k)) * ∑ d : Fin 1024, xb (ix2 p d) * wu (ix3 0 d k)) * wd (ix3 0 k j) := by
  pointwise [k1_pay1, k1_pay4, k1_pay6, k1_pay7]

theorem first_at (o : S128x1024.Idx → EReal) (p : Fin 128) (j : Fin 1024) : k1_pay3 (F := Ideal) o (ix2 p j) = o (ix2 p j) := by
  pointwise [k1_pay3]

theorem final_at (o : S128x1024.Idx → EReal) (w : S1x1024.Idx → EReal) (p : Fin 128) (j : Fin 1024) :
    k1_pay2 (F := Ideal) o w (ix2 p j) = rms (fun d => o (ix2 p d)) (fun d => w (ix2 0 d)) j := by
  pointwise [k1_pay2]
  rfl

end Cert.Kernel2Ideal.Moe

end
-- ==== Proof.MoeBlocks.lean ====
/- Where the router's and the experts' blocks lie, and the router's three output arrays. -/
module

public import proofs.«01_k».proof.Proof.MoePay
public import Idealize.ShloMosaic.Lib.Routing.OpsSet
public import Idealize.ShloMosaic.Lib.Routing.OpsPair

@[expose] public section

set_option maxRecDepth 16384
set_option Elab.async false

noncomputable section

namespace Cert.Kernel2Ideal.Moe

open Cert.Kernel2Ideal Cert.Kernel2Ideal.Gen
open Idealize.ShloMosaic Idealize.ShloMosaic.TcCoe
open Cert.Routed

/-! ## The router padded to a lane row -/

/-- The scattered router: its eight columns stand in the first eight lanes. -/
theorem scatter_at (x0 : S1024x128.Idx → EReal) (idx : S1.Idx → BitVec 32) (u : S1024x8.Idx → EReal) (hidx : ∀ i, idx i = 0#32) (d : Fin 1024) (e : Fin 8) :
    Host.scatter scatter_S1024x128_S1_S1024x8_01_n_1_0 (fun _ b => b) x0 idx u (ix2 d (⟨e.val, by omega⟩ : Fin 128)) = u (ix2 d e) := by
  have hs0 : ∀ k : S1024x8.Idx, scatter_S1024x128_S1_S1024x8_01_n_1_0.start k idx 0 = 0 := fun k => by
    unfold ScatterDims.start
    rw [dif_neg (by decide)]
  have hs1 : ∀ k : S1024x8.Idx, scatter_S1024x128_S1_S1024x8_01_n_1_0.start k idx 1 = 0 := fun k => by
    unfold ScatterDims.start
    rw [dif_pos (by decide), hidx]; rfl
  have hw0 : ∀ k : S1024x8.Idx, scatter_S1024x128_S1_S1024x8_01_n_1_0.window k 0 = (k 0).val := fun k => by
    unfold ScatterDims.window
    rw [dif_pos (by decide)]; rfl
  have hw1 : ∀ k : S1024x8.Idx, scatter_S1024x128_S1_S1024x8_01_n_1_0.window k 1 = (k 1).val := fun k => by
    unfold ScatterDims.window
    rw [dif_pos (by decide)]; rfl
  have lands : ∀ k : S1024x8.Idx, scatter_S1024x128_S1_S1024x8_01_n_1_0.resultIdx? k idx = some (ix2 d (⟨e.val, by omega⟩ : Fin 128)) ↔ (k 0).val = d.val ∧ (k 1).val = e.val := fun k => by
    refine (Routing.resultIdx?_ix2 scatter_S1024x128_S1_S1024x8_01_n_1_0 k idx d (⟨e.val, by omega⟩ : Fin 128)).trans ?_
    rw [hs0, hs1, hw0, hw1]
    show (0 : ℤ) + ((k 0).val : ℤ) = (d.val : ℤ) ∧ (0 : ℤ) + ((k 1).val : ℤ) = (e.val : ℤ) ↔ _
    omega
  refine Routing.scatter_set_hit scatter_S1024x128_S1_S1024x8_01_n_1_0 x0 idx u _ (u (ix2 d e)) (fun k hk => ?_) (ix2 d e) ((lands _).2 ⟨rfl, rfl⟩)
  have h := (lands k).1 hk
  refine congrArg u (funext fun b => ?_)
  fin_cases b
  · exact Fin.ext h.1
  · exact Fin.ext h.2

section Regions
variable (V : (c : Dev nD) → (b : Ref sig .tc) → Buf (Elt Ideal) ((c.tc : Thread nD τ).loc b)) (c : Dev nD)

/-! ## The router's blocks: every one is its whole array -/

theorem z0_0 : ∀ i : grid0.Coords, cc0_transform_0 i 0 = 0 := by decide +kernel
theorem z0_1 : ∀ i : grid0.Coords, cc0_transform_1 i 0 = 0 := by decide +kernel
theorem z0_5 : ∀ i : grid0.Coords, cc0_transform_5 i 0 = 0 := by decide +kernel
theorem z0_6 : ∀ i : grid0.Coords, cc0_transform_6 i 0 = 0 := by decide +kernel
theorem z0_7 : ∀ i : grid0.Coords, cc0_transform_7 i 0 = 0 := by decide +kernel

theorem blk0_0 (t : Fin cfg0.N) : (iblk0 V c 0 t : S128x1024.Idx → EReal) = V c main_arg0 := by
  funext y
  refine congrArg (V c main_arg0) (funext fun b => Fin.ext ?_)
  fin_cases b
  · show cc0_transform_0 (grid0.coords t) 0 * 128 + 1 * (y 0).val = (y 0).val
    rw [z0_0]; omega
  · show 0 * 1024 + 1 * (y 1).val = (y 1).val
    omega

theorem blk0_1 (t : Fin cfg0.N) : (iblk0 V c 1 t : S128x1024.Idx → EReal) = V c main_arg1 := by
  funext y
  refine congrArg (V c main_arg1) (funext fun b => Fin.ext ?_)
  fin_cases b
  · show cc0_transform_1 (grid0.coords t) 0 * 128 + 1 * (y 0).val = (y 0).val
    rw [z0_1]; omega
  · show 0 * 1024 + 1 * (y 1).val = (y 1).val
    omega

theorem blk0_2 (t : Fin cfg0.N) : (iblk0 V c 2 t : S1024x1024.Idx → EReal) = V c main_v1 := by
  funext y
  refine congrArg (V c main_v1) (funext fun b => Fin.ext ?_)
  fin_cases b
  · show 0 * 1024 + 1 * (y 0).val = (y 0).val
    omega
  · show 0 * 1024 + 1 * (y 1).val = (y 1).val
    omega

theorem blk0_3 (t : Fin cfg0.N) : (iblk0 V c 3 t : S1x1024.Idx → EReal) = V c main_v3 := by
  funext y
  refine congrArg (V c main_v3) (funext fun b => Fin.ext ?_)
  fin_cases b
  · show 0 * 1 + 1 * (y 0).val = (y 0).val
    omega
  · show 0 * 1024 + 1 * (y 1).val = (y 1).val
    omega

theorem blk0_4 (t : Fin cfg0.N) : (iblk0 V c 4 t : S1024x128.Idx → EReal) = V c main_v7 := by
  funext y
  refine congrArg (V c main_v7) (funext fun b => Fin.ext ?_)
  fin_cases b
  · show 0 * 1024 + 1 * (y 0).val = (y 0).val
    omega
  · show 0 * 128 + 1 * (y 1).val = (y 1).val
    omega

/-! ## The router's output arrays -/

theorem emb0_5 (t : Fin cfg0.N) (y : S128x1024.Idx) : (((cfg0.win (5 : Fin 9)).blk t).view.emb y : S128x1024.Idx) = y := by
  funext b
  apply Fin.ext
  fin_cases b
  · show cc0_transform_5 (grid0.coords t) 0 * 128 + 1 * (y 0).val = (y 0).val
    rw [z0_5]; omega
  · show 0 * 1024 + 1 * (y 1).val = (y 1).val
    omega

theorem emb0_6 (t : Fin cfg0.N) (y : S128x1024.Idx) : (((cfg0.win (6 : Fin 9)).blk t).view.emb y : S128x1024.Idx) = y := by
  funext b
  apply Fin.ext
  fin_cases b
  · show cc0_transform_6 (grid0.coords t) 0 * 128 + 1 * (y 0).val = (y 0).val
    rw [z0_6]; omega
  · show 0 * 1024 + 1 * (y 1).val = (y 1).val
    omega

theorem emb0_7 (t : Fin cfg0.N) (y : S128x128.Idx) : (((cfg0.win (7 : Fin 9)).blk t).view.emb y : S128x128.Idx) = y := by
  funext b
  apply Fin.ext
  fin_cases b
  · show cc0_transform_7 (grid0.coords t) 0 * 128 + 1 * (y 0).val = (y 0).val
    rw [z0_7]; omega
  · show 0 * 128 + 1 * (y 1).val = (y 1).val
    omega

theorem arr0_5' (G : S128x1024.Idx → EReal) (hG : ∀ t, (outsAt0 V c t).1 = G) : (dat0 V c).arrAt (5 : Fin 9) cfg0.N = G :=
  Pipeline.Dat.arrAt_eq_of_cover (dat0 V c) (5 : Fin 9) G
    (fun t hf => (after0_5 V c t).trans ((hG t).trans (funext fun y => (congrArg G (emb0_5 t y)).symm)))
    (fun i => ⟨t0_0, flush0_5 _, by
      have h := ((cfg0.win (5 : Fin 9)).blk t0_0).view.emb_mem_set i
      rwa [emb0_5] at h⟩)

theorem out0_5 (t : Fin cfg0.N) : (outsAt0 V c t).1 = k0_pay3 (F := Ideal) (V c main_arg1) (V c main_arg0) (V c main_v1) := by
  unfold outsAt0
  dsimp only
  rw [out0_A_5_eq, blk0_0, blk0_1, blk0_2]

theorem arr0_5 : (dat0 V c).arrAt (5 : Fin 9) cfg0.N = k0_pay3 (F := Ideal) (V c main_arg1) (V c main_arg0) (V c main_v1) :=
  arr0_5' V c _ (out0_5 V c)

theorem arr0_6' (G : S128x1024.Idx → EReal) (hG : ∀ t, (outsAt0 V c t).2.1 = G) : (dat0 V c).arrAt (6 : Fin 9) cfg0.N = G :=
  Pipeline.Dat.arrAt_eq_of_cover (dat0 V c) (6 : Fin 9) G
    (fun t hf => (after0_6 V c t).trans ((hG t).trans (funext fun y => (congrArg G (emb0_6 t y)).symm)))
    (fun i => ⟨t0_0, flush0_6 _, by
      have h := ((cfg0.win (6 : Fin 9)).blk t0_0).view.emb_mem_set i
      rwa [emb0_6] at h⟩)

theorem out0_6 (t : Fin cfg0.N) : (outsAt0 V c t).2.1 = k0_pay5 (F := Ideal) (V c main_arg1) (V c main_arg0) (V c main_v1) (V c main_v3) := by
  unfold outsAt0
  dsimp only
  rw [out0_A_6_eq, blk0_0, blk0_1, blk0_2, blk0_3]

theorem arr0_6 : (dat0 V c).arrAt (6 : Fin 9) cfg0.N = k0_pay5 (F := Ideal) (V c main_arg1) (V c main_arg0) (V c main_v1) (V c main_v3) :=
  arr0_6' V c _ (out0_6 V c)

/-- The router's table holds, in lane `e` of a row, what the choice writes there. -/
theorem arr0_7 : ∃ v96 v100 : FVec Ideal S128x1 .f32, (dat0 V c).arrAt (7 : Fin 9) cfg0.N =
    (let A := k0_pay6 (F := Ideal) (V c main_arg1) (V c main_arg0) (V c main_v1) (V c main_v3)
     let B := k0_pay7 (F := Ideal) (V c main_arg1) (V c main_arg0) (V c main_v1) (V c main_v3)
     let C := k0_pay9 (F := Ideal) (V c main_v7)
     let D := k0_pay10 (F := Ideal) (V c main_v7)
     k0_pay1 (F := Ideal) lane (k0_pay13 (F := Ideal) lane A B C D) (k0_pay16 (F := Ideal) lane A B C D) (k0_pay18 (F := Ideal) lane A B C D) (k0_pay19 (F := Ideal) lane A B C D) v96 v100
       (k0_pay28 (F := Ideal) (k0_pay18 (F := Ideal) lane A B C D) (k0_pay19 (F := Ideal) lane A B C D) (k0_pay20 (F := Ideal) lane A B C D) (k0_pay21 (F := Ideal) lane A B C D)) k0_pay29) := by
  have h : ∃ v96 v100 : FVec Ideal S128x1 .f32, (outsAt0 V c t0_0).2.2.1 =
    (let A := k0_pay6 (F := Ideal) (V c main_arg1) (V c main_arg0) (V c main_v1) (V c main_v3)
     let B := k0_pay7 (F := Ideal) (V c main_arg1) (V c main_arg0) (V c main_v1) (V c main_v3)
     let C := k0_pay9 (F := Ideal) (V c main_v7)
     let D := k0_pay10 (F := Ideal) (V c main_v7)
     k0_pay1 (F := Ideal) lane (k0_pay13 (F := Ideal) lane A B C D) (k0_pay16 (F := Ideal) lane A B C D) (k0_pay18 (F := Ideal) lane A B C D) (k0_pay19 (F := Ideal) lane A B C D) v96 v100
       (k0_pay28 (F := Ideal) (k0_pay18 (F := Ideal) lane A B C D) (k0_pay19 (F := Ideal) lane A B C D) (k0_pay20 (F := Ideal) lane A B C D) (k0_pay21 (F := Ideal) lane A B C D)) k0_pay29) := by
    unfold outsAt0
    dsimp only
    have h := out0_A_7_eq (F := Ideal) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) (hcond0_0 t0_0) (iblk0 V c 0 t0_0) (iblk0 V c 1 t0_0) (iblk0 V c 2 t0_0) (iblk0 V c 3 t0_0) (iblk0 V c 4 t0_0)
    simp only [blk0_0, blk0_1, blk0_2, blk0_3, blk0_4] at h ⊢
    exact h
  obtain ⟨v96, v100, h⟩ := h
  refine ⟨v96, v100, ?_⟩
  rw [← h]
  exact Pipeline.Dat.arrAt_eq_of_cover (dat0 V c) (7 : Fin 9) ((outsAt0 V c t0_0).2.2.1)
    (fun t hf => funext fun y => by
      obtain rfl : t = t0_0 := fin_N0 t
      exact (congrArg ((outsAt0 V c t0_0).2.2.1) (emb0_7 t0_0 y)).symm)
    (fun i => ⟨t0_0, flush0_7 _, by
      have h := ((cfg0.win (7 : Fin 9)).blk t0_0).view.emb_mem_set i
      rwa [emb0_7] at h⟩)

/-! ## The experts' blocks -/

theorem c1_0 : ∀ i : grid1.Coords, (i 0).val = 0 := fun i => by have := (i 0).isLt; show _ = 0; change (i 0).val < 1 at this; omega
theorem c1_1 (t : Fin cfg1.N) : ((grid1.coords t) 1).val = t.val / 7 := by
  have h : ((grid1.coords t) 1).val = t.val / 7 % 8 := Pipeline.Grid.coords_val t 1 (by decide) rfl
  have := t.isLt
  change t.val < 56 at this
  omega
theorem c1_2 (t : Fin cfg1.N) : ((grid1.coords t) 2).val = t.val % 7 := by
  have h : ((grid1.coords t) 2).val = t.val / 1 % 7 := Pipeline.Grid.coords_val t 2 (by decide) rfl
  omega

theorem z1_0 : ∀ i : grid1.Coords, cc1_transform_0 i 0 = 0 := by decide +kernel
theorem z1_1 : ∀ i : grid1.Coords, cc1_transform_1 i 0 = 0 := by decide +kernel
theorem z1_2 : ∀ i : grid1.Coords, cc1_transform_2 i 0 = 0 := by decide +kernel
theorem z1_7 : ∀ i : grid1.Coords, cc1_transform_7 i 0 = 0 := by decide +kernel
theorem e1_3 : ∀ i : grid1.Coords, cc1_transform_3 i 0 = (i 1).val ∧ cc1_transform_3 i 2 = (i 2).val := by decide +kernel
theorem e1_4 : ∀ i : grid1.Coords, cc1_transform_4 i 0 = (i 1).val ∧ cc1_transform_4 i 2 = (i 2).val := by decide +kernel
theorem e1_5 : ∀ i : grid1.Coords, cc1_transform_5 i 0 = (i 1).val ∧ cc1_transform_5 i 1 = (i 2).val := by decide +kernel

theorem blk1_0 (t : Fin cfg1.N) : (iblk1 V c 0 t : S128x1024.Idx → EReal) = V c main_v12_1 := by
  funext y
  refine congrArg (V c main_v12_1) (funext fun b => Fin.ext ?_)
  fin_cases b
  · show cc1_transform_0 (grid1.coords t) 0 * 128 + 1 * (y 0).val = (y 0).val
    rw [z1_0]; omega
  · show 0 * 1024 + 1 * (y 1).val = (y 1).val
    omega

theorem blk1_1 (t : Fin cfg1.N) : (iblk1 V c 1 t : S128x1024.Idx → EReal) = V c main_v12_0 := by
  funext y
  refine congrArg (V c main_v12_0) (funext fun b => Fin.ext ?_)
  fin_cases b
  · show cc1_transform_1 (grid1.coords t) 0 * 128 + 1 * (y 0).val = (y 0).val
    rw [z1_1]; omega
  · show 0 * 1024 + 1 * (y 1).val = (y 1).val
    omega

theorem blk1_2 (t : Fin cfg1.N) : (iblk1 V c 2 t : S128x128.Idx → EReal) = V c main_v12_2 := by
  funext y
  refine congrArg (V c main_v12_2) (funext fun b => Fin.ext ?_)
  fin_cases b
  · show cc1_transform_2 (grid1.coords t) 0 * 128 + 1 * (y 0).val = (y 0).val
    rw [z1_2]; omega
  · show 0 * 128 + 1 * (y 1).val = (y 1).val
    omega

theorem lt56 (t : Fin cfg1.N) : t.val < 56 := t.isLt

theorem blk1_3 (t : Fin cfg1.N) (d : Fin 1024) (k : Fin 512) :
    (iblk1 V c 3 t : S1x1024x512.Idx → EReal) (ix3 0 d k) = (V c main_v8 : S8x1024x3584.Idx → EReal) (ix3 (⟨t.val / 7, by have := lt56 t; omega⟩ : Fin 8) d (⟨t.val % 7 * 512 + k.val, by omega⟩ : Fin 3584)) := by
  refine congrArg (V c main_v8) (funext fun b => Fin.ext ?_)
  fin_cases b
  · show cc1_transform_3 (grid1.coords t) 0 * 1 + 1 * 0 = t.val / 7
    rw [(e1_3 _).1, c1_1]; omega
  · show 0 * 1024 + 1 * d.val = d.val
    omega
  · show cc1_transform_3 (grid1.coords t) 2 * 512 + 1 * k.val = t.val % 7 * 512 + k.val
    rw [(e1_3 _).2, c1_2]; omega

theorem blk1_4 (t : Fin cfg1.N) (d : Fin 1024) (k : Fin 512) :
    (iblk1 V c 4 t : S1x1024x512.Idx → EReal) (ix3 0 d k) = (V c main_v9 : S8x1024x3584.Idx → EReal) (ix3 (⟨t.val / 7, by have := lt56 t; omega⟩ : Fin 8) d (⟨t.val % 7 * 512 + k.val, by omega⟩ : Fin 3584)) := by
  refine congrArg (V c main_v9) (funext fun b => Fin.ext ?_)
  fin_cases b
  · show cc1_transform_4 (grid1.coords t) 0 * 1 + 1 * 0 = t.val / 7
    rw [(e1_4 _).1, c1_1]; omega
  · show 0 * 1024 + 1 * d.val = d.val
    omega
  · show cc1_transform_4 (grid1.coords t) 2 * 512 + 1 * k.val = t.val % 7 * 512 + k.val
    rw [(e1_4 _).2, c1_2]; omega

theorem blk1_5 (t : Fin cfg1.N) (k : Fin 512) (j : Fin 1024) :
    (iblk1 V c 5 t : S1x512x1024.Idx → EReal) (ix3 0 k j) = (V c main_v10 : S8x3584x1024.Idx → EReal) (ix3 (⟨t.val / 7, by have := lt56 t; omega⟩ : Fin 8) (⟨t.val % 7 * 512 + k.val, by omega⟩ : Fin 3584) j) := by
  refine congrArg (V c main_v10) (funext fun b => Fin.ext ?_)
  fin_cases b
  · show cc1_transform_5 (grid1.coords t) 0 * 1 + 1 * 0 = t.val / 7
    rw [(e1_5 _).1, c1_1]; omega
  · show cc1_transform_5 (grid1.coords t) 1 * 512 + 1 * k.val = t.val % 7 * 512 + k.val
    rw [(e1_5 _).2, c1_2]; omega
  · show 0 * 1024 + 1 * j.val = j.val
    omega

theorem blk1_6 (t : Fin cfg1.N) : (iblk1 V c 6 t : S1x1024.Idx → EReal) = V c main_v11 := by
  funext y
  refine congrArg (V c main_v11) (funext fun b => Fin.ext ?_)
  fin_cases b
  · show 0 * 1 + 1 * (y 0).val = (y 0).val
    omega
  · show 0 * 1024 + 1 * (y 1).val = (y 1).val
    omega

theorem emb1_7 (t : Fin cfg1.N) (y : S128x1024.Idx) : (((cfg1.win (7 : Fin 8)).blk t).view.emb y : S128x1024.Idx) = y := by
  funext b
  apply Fin.ext
  fin_cases b
  · show cc1_transform_7 (grid1.coords t) 0 * 128 + 1 * (y 0).val = (y 0).val
    rw [z1_7]; omega
  · show 0 * 1024 + 1 * (y 1).val = (y 1).val
    omega

/-- The experts' output array is what its last point leaves. -/
theorem arr1_7 (G : S128x1024.Idx → EReal) (hG : ∀ t : Fin cfg1.N, t.val = 55 → outsAt1 V c t.val t.isLt = G) : (dat1 V c).arrAt (7 : Fin 8) cfg1.N = G :=
  Pipeline.Dat.arrAt_eq_of_cover (dat1 V c) (7 : Fin 8) G
    (fun t hf => (hG t (by have h := (flush1_7 t).1 hf; have h' := lt56 t; omega)).trans (funext fun y => (congrArg G (emb1_7 t y)).symm))
    (fun i => ⟨⟨55, by decide⟩, (flush1_7 _).2 rfl, by
      have h := ((cfg1.win (7 : Fin 8)).blk ⟨55, by decide⟩).view.emb_mem_set i
      rwa [emb1_7] at h⟩)

end Regions

end Cert.Kernel2Ideal.Moe

end
-- ==== Proof.MoeAcc.lean ====
/- The experts' accumulation over the grid, and the array it leaves. -/
module

public import proofs.«01_k».proof.Proof.MoeBlocks

@[expose] public section

set_option maxRecDepth 16384
set_option Elab.async false

noncomputable section

namespace Cert.Kernel2Ideal.Moe

open Cert.Kernel2Ideal Cert.Kernel2Ideal.Gen
open Idealize.ShloMosaic Idealize.ShloMosaic.TcCoe
open Cert.Routed

/-- An expert's lane is one of the 128. -/
theorem lane_lt (e : Fin 8) : e.val < 128 := Nat.lt_trans e.isLt (by decide)

section Acc
variable (V : (c : Dev nD) → (b : Ref sig .tc) → Buf (Elt Ideal) ((c.tc : Thread nD τ).loc b)) (c : Dev nD)
variable (xr h : Fin 128 → Fin 1024 → EReal) (g : Fin 128 → Fin 8 → EReal) (wg wu : Up) (wd : Down) (nf : Fin 1024 → EReal)
variable (hx : ∀ p j, (V c main_v12_0 : S128x1024.Idx → EReal) (ix2 p j) = xr p j)
variable (hh : ∀ p j, (V c main_v12_1 : S128x1024.Idx → EReal) (ix2 p j) = h p j)
variable (hg : ∀ (p : Fin 128) (e : Fin 8), (V c main_v12_2 : S128x128.Idx → EReal) (ix2 p (⟨e.val, lane_lt e⟩ : Fin 128)) = g p e)
variable (hwg : ∀ (e : Fin 8) (d : Fin 1024) (k : Fin 3584), (V c main_v8 : S8x1024x3584.Idx → EReal) (ix3 e d k) = wg (ix4 0 e d k))
variable (hwu : ∀ (e : Fin 8) (d : Fin 1024) (k : Fin 3584), (V c main_v9 : S8x1024x3584.Idx → EReal) (ix3 e d k) = wu (ix4 0 e d k))
variable (hwd : ∀ (e : Fin 8) (k : Fin 3584) (j : Fin 1024), (V c main_v10 : S8x3584x1024.Idx → EReal) (ix3 e k j) = wd (ix4 0 e k j))
variable (hnf : ∀ d, (V c main_v11 : S1x1024.Idx → EReal) (ix2 0 d) = nf d)

/-- What a point makes of the block `o` it finds. -/
abbrev stepO (t : Fin cfg1.N) (o : S128x1024.Idx → EReal) : S128x1024.Idx → EReal :=
  k1_pay1 (F := Ideal) (k1_pay4 (F := Ideal) (iblk1 V c 0 t) (iblk1 V c 3 t) (iblk1 V c 4 t)) (k1_pay5 (F := Ideal) (grid1.coords t) (iblk1 V c 2 t)) (k1_pay6 (F := Ideal) o) (k1_pay7 (F := Ideal) (iblk1 V c 5 t)) (constant S128x1024 .f32 0x00000000#32)

section Step
include hh hg hwg hwu hwd

theorem point_at (t : Fin cfg1.N) (o : S128x1024.Idx → EReal) (p : Fin 128) (j : Fin 1024) :
    stepO V c t o (ix2 p j) = o (ix2 p j) + gateN (g p) t.val * blk (h p) wg wu wd j t.val := by
  have ht := lt56 t
  have e7 : t.val / 7 < 8 := by omega
  refine (step_at _ _ _ _ _ _ p j).trans ?_
  rw [pick_at (grid1.coords t) _ p (⟨t.val / 7, e7⟩ : Fin 8) (c1_1 t)]
  simp only [blk1_0, blk1_2, blk1_3, blk1_4, blk1_5, hh, hwg, hwu, hwd]
  have hgt : (V c main_v12_2 : S128x128.Idx → EReal) (ix2 p (⟨t.val / 7, by omega⟩ : Fin 128)) = g p ⟨t.val / 7, e7⟩ := hg p ⟨t.val / 7, e7⟩
  rw [hgt]
  unfold gateN blk
  rw [dif_pos e7, dif_pos ht]
  rfl

end Step

section Sum
include hx hh hg hwg hwu hwd

theorem acc_at (n : ℕ) (hn : n < cfg1.N) (h55 : n < 55) (p : Fin 128) (j : Fin 1024) :
    (outsAt1 V c n hn : S128x1024.Idx → EReal) (ix2 p j) = acc (xr p) (h p) (g p) wg wu wd j (n + 1) := by
  induction n with
  | zero =>
    have e : outsAt1 V c 0 hn = stepO V c ⟨0, hn⟩ (k1_pay3 (F := Ideal) (iblk1 V c 1 ⟨0, hn⟩)) :=
      (outsAt1_A V c ⟨0, hn⟩ rfl (by show ¬ 0 % 56 = 55; decide)).trans (out1_A_7_eq ..)
    refine (congrFun e (ix2 p j)).trans ?_
    rw [point_at V c h g wg wu wd hh hg hwg hwu hwd, first_at, blk1_1, hx, acc_succ]
    unfold acc
    rw [Finset.range_zero, Finset.sum_empty, add_zero]
  | succ n ih =>
    have e : outsAt1 V c (n + 1) hn = stepO V c ⟨n + 1, hn⟩ (outsAt1 V c n (Nat.lt_of_succ_lt hn)) :=
      (outsAt1_B V c ⟨n + 1, hn⟩ (by show ¬ (n + 1) % 56 = 0; omega) (by show ¬ (n + 1) % 56 = 55; omega)).trans (out1_B_7_eq ..)
    refine (congrFun e (ix2 p j)).trans ?_
    rw [point_at V c h g wg wu wd hh hg hwg hwu hwd, ih (Nat.lt_of_succ_lt hn) (by omega), ← acc_succ]

include hnf

/-- The last point adds its block and divides each row by its root mean square. -/
theorem last_at (hr : ∀ p e, ∃ r : ℝ, 0 ≤ r ∧ g p e = (r : EReal)) (t : Fin cfg1.N) (h55 : t.val = 55) (p : Fin 128) (j : Fin 1024) :
    (outsAt1 V c t.val t.isLt : S128x1024.Idx → EReal) (ix2 p j) = rms (x2 (xr p) (h p) (g p) wg wu wd) nf j := by
  have e : outsAt1 V c t.val t.isLt = k1_pay2 (F := Ideal) (stepO V c t (outsAt1 V c (t.val - 1) (Nat.lt_of_le_of_lt (Nat.sub_le _ _) t.isLt))) (iblk1 V c 6 t) :=
    (outsAt1_C V c t (by omega) (by omega)).trans (out1_C_7_eq ..)
  refine (congrFun e (ix2 p j)).trans ?_
  rw [final_at, blk1_6]
  simp only [hnf]
  have hs : (fun d => stepO V c t (outsAt1 V c (t.val - 1) (Nat.lt_of_le_of_lt (Nat.sub_le _ _) t.isLt)) (ix2 p d)) = x2 (xr p) (h p) (g p) wg wu wd := funext fun d => by
    rw [point_at V c h g wg wu wd hh hg hwg hwu hwd, acc_at V c xr h g wg wu wd hx hh hg hwg hwu hwd _ _ (by omega), ← acc_all _ _ _ (hr p)]
    have e1 : t.val - 1 + 1 = t.val := by omega
    rw [e1, ← acc_succ, h55]
  rw [hs]

theorem arr1_eq (hr : ∀ p e, ∃ r : ℝ, 0 ≤ r ∧ g p e = (r : EReal)) :
    (dat1 V c).arrAt (7 : Fin 8) cfg1.N = fun i : S128x1024.Idx => rms (x2 (xr (i 0)) (h (i 0)) (g (i 0)) wg wu wd) nf (i 1) :=
  arr1_7 V c _ fun t h55 => funext fun y => by
    have hy : ∃ (p : Fin 128) (j : Fin 1024), y = (ix2 p j : S128x1024.Idx) := ⟨y 0, y 1, by funext b; fin_cases b <;> rfl⟩
    obtain ⟨p, j, rfl⟩ := hy
    exact last_at V c xr h g wg wu wd nf hx hh hg hwg hwu hwd hnf hr t h55 p j

end Sum

end Acc

end Cert.Kernel2Ideal.Moe

end
-- ==== Proof.MoeRef.lean ====
/- The routed layer's reference at an index, over the extended reals. -/
module

public import proofs.«01_k».proof.Proof.Gen.Reference2Ideal.Run
public import proofs.«01_k».proof.Proof.MoeSpec
public import Idealize.ShloMosaic.Lib.Pointwise
public import Idealize.ShloMosaic.Lib.Tactic.CleanTypes

@[expose] public section

set_option maxRecDepth 16384
set_option Elab.async false

noncomputable section

namespace Cert.Reference2Ideal.Value

open Cert.Reference2Ideal Cert.Reference2Ideal.Gen
open Idealize.ShloMosaic Idealize.ShloMosaic.TcCoe Idealize.ShloMosaic.HloOp
open Cert.Routed

variable (V0 : Valuation τ sig (Elt Ideal))

abbrev mR : Tok := V0 (Proc.devRef .tc main_arg0)
abbrev xR : Tok := V0 (Proc.devRef .tc main_arg1)
abbrev oR : Proj := V0 (Proc.devRef .tc main_arg2)
abbrev nR : Nrm := V0 (Proc.devRef .tc main_arg3)
abbrev tR : Rout := V0 (Proc.devRef .tc main_arg4)
abbrev gR : Up := V0 (Proc.devRef .tc main_arg5)
abbrev uR : Up := V0 (Proc.devRef .tc main_arg6)
abbrev dR : Down := V0 (Proc.devRef .tc main_arg7)
abbrev fR : (⟨1, ![1024]⟩ : Shape).Idx → EReal := V0 (Proc.devRef .tc main_arg8)

/-- The experts' input of token `p`. -/
abbrev hR (p : Fin 128) : Fin 1024 → EReal := hn (mR V0) (xR V0) (oR V0) (nR V0) p

theorem v3_at (p : Fin 128) (d : Fin 1024) : (res_main_v3 V0 : FVec Ideal S128x1024 .f32) (ix2 p d) = x1 (mR V0) (xR V0) (oR V0) p d := by
  unfold res_main_v3
  clean_types
  pointwise
  rfl

theorem v17_at (p : Fin 128) (d : Fin 1024) : (res_main_v17 V0 : FVec Ideal S128x1024 .f32) (ix2 p d) = hR V0 p d := by
  unfold res_main_v17
  clean_types
  pointwise
  simp only [v3_at]
  rfl

theorem v22_at (p : Fin 128) (e : Fin 8) : (res_main_v22 V0 : FVec Ideal S128x8 .f32) (ix2 p e) = lg (hR V0 p) (tR V0) e := by
  unfold res_main_v22
  clean_types
  pointwise
  simp only [v17_at]
  rfl

/-! ## The choice -/

/-- The order in which token `p`'s logits are sorted. -/
def before (l : Fin 8 → EReal) (k k' : Fin 8) : Bool := FloatOps.cmpfTotal (F := Ideal) (φ := .f32) .gt (l k) (l k') == 1#1

theorem before_iff (l : Fin 8 → EReal) (k k' : Fin 8) : before l k k' = true ↔ l k' < l k := by
  unfold before
  show (BitVec.ofBool (decide (l k' < l k)) == 1#1) = true ↔ _
  by_cases h : l k' < l k
  · simp [h]
  · simp [h]

/-- The expert in place `q` of token `p`. -/
def pick (l : Fin 8 → EReal) (q : Fin 2) : Fin 8 := sortedFrom (before l) ⟨q.val, by omega⟩

theorem pick_top (l : Fin 8 → EReal) : Top l (pick l 0) (pick l 1) := top_sorted l (before l) (before_iff l)

theorem along_eq (p : Fin 128) (e k : Fin 8) : (ix2 p e : S128x8.Idx).along 1 k = ix2 p k := by
  funext b
  fin_cases b <;> rfl

theorem sort_at (t : S128x8.Idx → EReal) (y : S128x8.Idx → BitVec 32) (p : Fin 128) (e : Fin 8) :
    (Host.sort2 S128x8 1 (fun l r : EReal × BitVec 32 => FloatOps.cmpfTotal (F := Ideal) (φ := .f32) .gt l.1 r.1) t y).1 (ix2 p e) = t (ix2 p (sortedFrom (before fun k => t (ix2 p k)) e))
    ∧ (Host.sort2 S128x8 1 (fun l r : EReal × BitVec 32 => FloatOps.cmpfTotal (F := Ideal) (φ := .f32) .gt l.1 r.1) t y).2 (ix2 p e) = y (ix2 p (sortedFrom (before fun k => t (ix2 p k)) e)) := by
  unfold Host.sort2
  rw [dif_pos (show 1 < S128x8.rank by decide)]
  have ha : ∀ k : Fin 8, (ix2 p e : S128x8.Idx).along (⟨1, Nat.one_lt_two⟩ : Fin S128x8.rank) k = ix2 p k := fun k => along_eq p e k
  have hb : (fun k k' : Fin 8 => FloatOps.cmpfTotal (F := Ideal) (φ := .f32) .gt (t ((ix2 p e : S128x8.Idx).along (⟨1, Nat.one_lt_two⟩ : Fin S128x8.rank) k)) (t ((ix2 p e : S128x8.Idx).along (⟨1, Nat.one_lt_two⟩ : Fin S128x8.rank) k')) == 1#1) = before fun k => t (ix2 p k) := by
    funext k k'
    rw [ha, ha]; rfl
  constructor
  · exact (congrArg t (ha _)).trans (congrArg (fun B : Fin 8 → Fin 8 → Bool => t (ix2 p (sortedFrom B e))) hb)
  · exact (congrArg y (ha _)).trans (congrArg (fun B : Fin 8 → Fin 8 → Bool => y (ix2 p (sortedFrom B e))) hb)

theorem cut_at {α : Type} (t : S128x8.Idx → α) (h : S128x8.Slices (fun _ => 0) S128x2) (p : Fin 128) (q : Fin 2) :
    extractStridedSlice S128x2 (fun _ => 0) t h (ix2 p q) = t (ix2 p (⟨q.val, by omega⟩ : Fin 8)) := by
  unfold extractStridedSlice
  refine congrArg t (funext fun b => Fin.ext ?_)
  fin_cases b
  · show 0 + p.val = p.val
    omega
  · show 0 + q.val = q.val
    omega

theorem top_at (t : S128x8.Idx → EReal) (h : S128x8.Slices (fun _ => 0) S128x2) (p : Fin 128) (q : Fin 2) :
    (Host.topK S128x2 1 (FloatOps.cmpfTotal (F := Ideal) (φ := .f32) .gt) t h).1 (ix2 p q) = t (ix2 p (pick (fun k => t (ix2 p k)) q))
    ∧ (Host.topK S128x2 1 (FloatOps.cmpfTotal (F := Ideal) (φ := .f32) .gt) t h).2 (ix2 p q) = BitVec.ofNat 32 (pick (fun k => t (ix2 p k)) q).val := by
  unfold Host.topK
  dsimp only
  rw [cut_at, cut_at, (sort_at _ _ _ _).1, (sort_at _ _ _ _).2]
  refine ⟨rfl, ?_⟩
  rw [dif_pos (show 1 < S128x8.rank by decide)]
  rfl

/-- Token `p`'s logits, and its two experts. -/
abbrev lR (p : Fin 128) : Fin 8 → EReal := lg (hR V0 p) (tR V0)
abbrev aR (p : Fin 128) : Fin 8 := pick (lR V0 p) 0
abbrev bR (p : Fin 128) : Fin 8 := pick (lR V0 p) 1

theorem logits_eq (p : Fin 128) : (fun k => (res_main_v22 V0 : FVec Ideal S128x8 .f32) (ix2 p k)) = lR V0 p := funext fun k => v22_at V0 p k

theorem values_at (p : Fin 128) (q : Fin 2) : (res_main_values V0 : FVec Ideal S128x2 .f32) (ix2 p q) = lR V0 p (pick (lR V0 p) q) := by
  unfold res_main_values
  clean_types
  refine (top_at (res_main_v22 V0) sliceFits_S128x8_S128x2 p q).1.trans ?_
  rw [logits_eq, v22_at]

theorem index_at (p : Fin 128) (q : Fin 2) :
    ((Host.topK S128x2 1 (FloatOps.cmpfTotal (F := Ideal) (φ := .f32) .gt) (res_main_v22 V0) sliceFits_S128x8_S128x2).2 : IVec S128x2 32) (ix2 p q) = BitVec.ofNat 32 (pick (lR V0 p) q).val := by
  refine (top_at (res_main_v22 V0) sliceFits_S128x8_S128x2 p q).2.trans ?_
  rw [logits_eq]

theorem v29_at (p : Fin 128) (q : Fin 2) : (res_main_v29 V0 : FVec Ideal S128x2 .f32) (ix2 p q) = Ideal.exp (lR V0 p (pick (lR V0 p) q) - lR V0 p (aR V0 p)) := by
  have hb : Ideal.ofBits .f32 4286578688#32 = ⊥ := by simp [Ideal.ofBits, Ideal.ieee]
  have hm : Finset.fold max ⊥ (fun x : Fin 2 => lR V0 p (pick (lR V0 p) x)) Finset.univ = lR V0 p (aR V0 p) :=
    le_antisymm ((Finset.fold_max_le _).mpr ⟨bot_le, fun k _ => (pick_top (lR V0 p)).fst _⟩)
      ((Finset.le_fold_max _).mpr (Or.inr ⟨0, Finset.mem_univ _, le_refl _⟩))
  unfold res_main_v29
  clean_types
  pointwise
  simp only [values_at, hb, hm, max_bot_left]

theorem onehot (a e : Fin 8) : (FloatOps.uitofp (F := Ideal) FTy.f32 (IntOp.cmpi .eq (BitVec.ofNat 32 a.val) (BitVec.ofNat 32 e.val)) : EReal) = if e = a then 1 else 0 := by
  by_cases h : e = a
  · subst h
    rw [if_pos rfl, IntOp.cmpi_eq.2 rfl]
    show (((1#1 : BitVec 1).toNat : ℝ) : EReal) = 1
    simp
  · have hne : ¬ BitVec.ofNat 32 a.val = BitVec.ofNat 32 e.val := fun hh => h (Fin.ext (by
      have := congrArg BitVec.toNat hh
      rw [BitVec.toNat_ofNat, BitVec.toNat_ofNat] at this
      omega))
    rw [if_neg h]
    rcases BitVec.eq_zero_or_eq_one (IntOp.cmpi .eq (BitVec.ofNat 32 a.val) (BitVec.ofNat 32 e.val)) with e0 | e1
    · rw [e0]
      show (((0#1 : BitVec 1).toNat : ℝ) : EReal) = 0
      simp
    · exact absurd (IntOp.cmpi_eq.1 e1) hne

theorem v38_at (p : Fin 128) (e : Fin 8) (hl : ∀ k, Real' (lR V0 p k)) : (res_main_v38 V0 : FVec Ideal S128x8 .f32) (ix2 p e) = gate (lR V0 p) (aR V0 p) (bR V0 p) e := by
  have h0 : Ideal.exp (lR V0 p (pick (lR V0 p) 0) - lR V0 p (aR V0 p)) = 1 := by
    rw [(hl _).sub_self]
    show ((Real.exp 0 : ℝ) : EReal) = 1
    rw [Real.exp_zero]; rfl
  unfold res_main_v38
  clean_types
  pointwise
  simp only [index_at, v29_at, onehot, Fin.sum_univ_two, h0]
  unfold gate
  simp only [ite_mul, one_mul, zero_mul]
  rfl

/-! ## The experts -/

theorem v47_at (p : Fin 128) (k : Fin 3584) : (res_main_v47 V0 : FVec Ideal S128x3584 .f32) (ix2 p k) = col (hR V0 p) (gR V0) 0 k := by
  unfold res_main_v47 res_main_v19; clean_types; pointwise; simp only [v17_at]; rfl

theorem v62_at (p : Fin 128) (k : Fin 3584) : (res_main_v62 V0 : FVec Ideal S128x3584 .f32) (ix2 p k) = col (hR V0 p) (gR V0) 1 k := by
  unfold res_main_v62 res_main_v19; clean_types; pointwise; simp only [v17_at]; rfl

theorem v77_at (p : Fin 128) (k : Fin 3584) : (res_main_v77 V0 : FVec Ideal S128x3584 .f32) (ix2 p k) = col (hR V0 p) (gR V0) 2 k := by
  unfold res_main_v77 res_main_v19; clean_types; pointwise; simp only [v17_at]; rfl

theorem v92_at (p : Fin 128) (k : Fin 3584) : (res_main_v92 V0 : FVec Ideal S128x3584 .f32) (ix2 p k) = col (hR V0 p) (gR V0) 3 k := by
  unfold res_main_v92 res_main_v19; clean_types; pointwise; simp only [v17_at]; rfl

theorem v107_at (p : Fin 128) (k : Fin 3584) : (res_main_v107 V0 : FVec Ideal S128x3584 .f32) (ix2 p k) = col (hR V0 p) (gR V0) 4 k := by
  unfold res_main_v107 res_main_v19; clean_types; pointwise; simp only [v17_at]; rfl

theorem v122_at (p : Fin 128) (k : Fin 3584) : (res_main_v122 V0 : FVec Ideal S128x3584 .f32) (ix2 p k) = col (hR V0 p) (gR V0) 5 k := by
  unfold res_main_v122 res_main_v19; clean_types; pointwise; simp only [v17_at]; rfl

theorem v137_at (p : Fin 128) (k : Fin 3584) : (res_main_v137 V0 : FVec Ideal S128x3584 .f32) (ix2 p k) = col (hR V0 p) (gR V0) 6 k := by
  unfold res_main_v137 res_main_v19; clean_types; pointwise; simp only [v17_at]; rfl

theorem v152_at (p : Fin 128) (k : Fin 3584) : (res_main_v152 V0 : FVec Ideal S128x3584 .f32) (ix2 p k) = col (hR V0 p) (gR V0) 7 k := by
  unfold res_main_v152 res_main_v19; clean_types; pointwise; simp only [v17_at]; rfl

abbrev wR (p : Fin 128) (e : Fin 8) : EReal := (res_main_v38 V0 : FVec Ideal S128x8 .f32) (ix2 p e)

theorem v114_at (p : Fin 128) (j : Fin 1024) :
    (res_main_v114 V0 : FVec Ideal S128x1024 .f32) (ix2 p j)
      = wR V0 p 0 * swi (hR V0 p) (gR V0) (uR V0) (dR V0) 0 j + wR V0 p 1 * swi (hR V0 p) (gR V0) (uR V0) (dR V0) 1 j
        + wR V0 p 2 * swi (hR V0 p) (gR V0) (uR V0) (dR V0) 2 j + wR V0 p 3 * swi (hR V0 p) (gR V0) (uR V0) (dR V0) 3 j
        + wR V0 p 4 * swi (hR V0 p) (gR V0) (uR V0) (dR V0) 4 j := by
  unfold res_main_v114 res_main_v20 res_main_v21
  clean_types
  pointwise
  simp only [v17_at, v47_at, v62_at, v77_at, v92_at, v107_at]
  rfl

theorem v160_at (p : Fin 128) (j : Fin 1024) :
    (res_main_v160 V0 : FVec Ideal S128x1024 .f32) (ix2 p j)
      = x2 (x1 (mR V0) (xR V0) (oR V0) p) (hR V0 p) (wR V0 p) (gR V0) (uR V0) (dR V0) j := by
  unfold res_main_v160 res_main_v20 res_main_v21
  clean_types
  pointwise
  simp only [v3_at, v17_at, v122_at, v137_at, v152_at, v114_at]
  unfold x2
  rw [Fin.sum_univ_eight]
  rfl

theorem out_at (hl : ∀ p k, Real' (lR V0 p k)) (p : Fin 128) (j : Fin 1024) :
    (val4 V0 (Proc.devRef .tc main_v173) : FVec Ideal S128x1024 .f32) (ix2 p j)
      = rms (x2 (x1 (mR V0) (xR V0) (oR V0) p) (hR V0 p) (gate (lR V0 p) (aR V0 p) (bR V0 p)) (gR V0) (uR V0) (dR V0)) (fun d => fR V0 (ix1 d)) j := by
  have hw : wR V0 p = gate (lR V0 p) (aR V0 p) (bR V0 p) := funext fun e => v38_at V0 p e (hl p)
  rw [val4_main_v173]
  clean_types
  pointwise
  simp only [v160_at, hw]
  rfl

end Cert.Reference2Ideal.Value

end
-- ==== Proof.MoeValue.lean ====
/- What the host prepares for the two kernels, the finite weights' real values, and the two programs' results. -/
module

public import proofs.«01_k».proof.Defs
public import proofs.«01_k».proof.Proof.MoeRun
public import proofs.«01_k».proof.Proof.MoeAcc
public import proofs.«01_k».proof.Proof.MoeRef
public import proofs.«01_k».proof.Proof.Gen.Pre_finite
public import Idealize.ShloMosaic.Lib.StableHlo.RunRead

@[expose] public section

set_option maxRecDepth 16384
set_option Elab.async false

noncomputable section

namespace Cert.Kernel2Ideal.Moe

open Cert.Kernel2Ideal Cert.Kernel2Ideal.Gen
open Idealize.ShloMosaic Idealize.ShloMosaic.TcCoe Idealize.ShloMosaic.Tactic
open Idealize.ShloMosaic.StableHlo
open Cert.Routed

/-! ## The host's arrays at entry -/

section Entry
variable (m : (ℓ : Loc nD τ sig) → Buf (Elt Ideal) ℓ) (ρ : Dev nD → PrngReg) (c : Dev nD)

abbrev mK : Tok := m (c, Proc.devRef .tc main_arg0)
abbrev xK : Tok := m (c, Proc.devRef .tc main_arg1)
abbrev oK : Proj := m (c, Proc.devRef .tc main_arg2)
abbrev nK : Nrm := m (c, Proc.devRef .tc main_arg3)
abbrev tK : Rout := m (c, Proc.devRef .tc main_arg4)
abbrev gK : Up := m (c, Proc.devRef .tc main_arg5)
abbrev uK : Up := m (c, Proc.devRef .tc main_arg6)
abbrev dK : Down := m (c, Proc.devRef .tc main_arg7)
abbrev fK : S1024.Idx → EReal := m (c, Proc.devRef .tc main_arg8)

theorem entry_v1 : (V1 m ρ c main_v1 : S1024x1024.Idx → EReal) = (truncf .bf16 (shapeCast S1024x1024 (oK m c : FVec Ideal S1x1024x1024 .f32) shapeCasts_S1x1024x1024_S1024x1024) bitsLt_bf16_f32 : FVec Ideal S1024x1024 .bf16) := by
  simp only [V1, W1, hostOps0, TRef.binary, TRef.nullary, TRef.unary, TRef.ternary, TRef.toBuf, TRef.ofBuf, cast_eq]
  after_reads_simp
  rfl

theorem entry_v3 : (V1 m ρ c main_v3 : S1x1024.Idx → EReal) = broadcastInDim S1x1024 ![1] bcast_S1024_S1x1024_1 (shapeCast S1024 (nK m c) shapeCasts_S1x1024_S1024) := by
  simp only [V1, W1, hostOps0, TRef.binary, TRef.nullary, TRef.unary, TRef.ternary, TRef.toBuf, TRef.ofBuf, cast_eq]
  after_reads_simp
  rfl

theorem entry_v7 : (V1 m ρ c main_v7 : S1024x128.Idx → EReal) = Host.scatter scatter_S1024x128_S1_S1024x8_01_n_1_0 (fun _ b => b)
    (broadcastInDim S1024x128 ![] bcast_S_S1024x128 (constant (F := Ideal) S_ .f32 0x00000000#32)) (broadcastInDim S1 ![] bcast_S_S1 (constantI S_ 32 0#32))
    (shapeCast S1024x8 (tK m c) shapeCasts_S1x1024x8_S1024x8) := by
  simp only [V1, W1, hostOps0, TRef.binary, TRef.nullary, TRef.unary, TRef.ternary, TRef.toBuf, TRef.ofBuf, cast_eq]
  after_reads_simp
  rfl

theorem entry_v8 : (V1 m ρ c main_v8 : S8x1024x3584.Idx → EReal) = shapeCast S8x1024x3584 (gK m c) shapeCasts_S1x8x1024x3584_S8x1024x3584 := by
  simp only [V1, W1, hostOps0, TRef.binary, TRef.nullary, TRef.unary, TRef.ternary, TRef.toBuf, TRef.ofBuf, cast_eq]
  after_reads_simp
  rfl

theorem entry_v9 : (V1 m ρ c main_v9 : S8x1024x3584.Idx → EReal) = shapeCast S8x1024x3584 (uK m c) shapeCasts_S1x8x1024x3584_S8x1024x3584 := by
  simp only [V1, W1, hostOps0, TRef.binary, TRef.nullary, TRef.unary, TRef.ternary, TRef.toBuf, TRef.ofBuf, cast_eq]
  after_reads_simp
  rfl

theorem entry_v10 : (V1 m ρ c main_v10 : S8x3584x1024.Idx → EReal) = shapeCast S8x3584x1024 (dK m c) shapeCasts_S1x8x3584x1024_S8x3584x1024 := by
  simp only [V1, W1, hostOps0, TRef.binary, TRef.nullary, TRef.unary, TRef.ternary, TRef.toBuf, TRef.ofBuf, cast_eq]
  after_reads_simp
  rfl

theorem entry_v11 : (V1 m ρ c main_v11 : S1x1024.Idx → EReal) = broadcastInDim S1x1024 ![1] bcast_S1024_S1x1024_1 (fK m c) := by
  simp only [V1, W1, hostOps0, TRef.binary, TRef.nullary, TRef.unary, TRef.ternary, TRef.toBuf, TRef.ofBuf, cast_eq]
  after_reads_simp

theorem entry_arg0 : V1 m ρ c main_arg0 = m (c, Proc.devRef .tc main_arg0) := W1_args m ρ c main_arg0 (by decide)
theorem entry_arg1 : V1 m ρ c main_arg1 = m (c, Proc.devRef .tc main_arg1) := W1_args m ρ c main_arg1 (by decide)

theorem v1_at (k d : Fin 1024) : (V1 m ρ c main_v1 : S1024x1024.Idx → EReal) (ix2 k d) = oK m c (ix3 0 k d) := by
  rw [entry_v1]
  generalize oK m c = u
  pointwise

theorem v3_at (d : Fin 1024) : (V1 m ρ c main_v3 : S1x1024.Idx → EReal) (ix2 0 d) = nK m c (ix2 0 d) := by
  rw [entry_v3]
  generalize nK m c = u
  pointwise

theorem v7_at (d : Fin 1024) (e : Fin 8) : (V1 m ρ c main_v7 : S1024x128.Idx → EReal) (ix2 d (⟨e.val, by omega⟩ : Fin 128)) = tK m c (ix3 0 d e) := by
  rw [entry_v7]
  refine (scatter_at _ _ _ (fun i => rfl) d e).trans ?_
  generalize tK m c = u
  pointwise

theorem v8_at (e : Fin 8) (d : Fin 1024) (k : Fin 3584) : (V1 m ρ c main_v8 : S8x1024x3584.Idx → EReal) (ix3 e d k) = gK m c (ix4 0 e d k) := by
  rw [entry_v8]
  generalize gK m c = u
  pointwise

theorem v9_at (e : Fin 8) (d : Fin 1024) (k : Fin 3584) : (V1 m ρ c main_v9 : S8x1024x3584.Idx → EReal) (ix3 e d k) = uK m c (ix4 0 e d k) := by
  rw [entry_v9]
  generalize uK m c = u
  pointwise

theorem v10_at (e : Fin 8) (k : Fin 3584) (j : Fin 1024) : (V1 m ρ c main_v10 : S8x3584x1024.Idx → EReal) (ix3 e k j) = dK m c (ix4 0 e k j) := by
  rw [entry_v10]
  generalize dK m c = u
  pointwise

theorem v11_at (d : Fin 1024) : (V1 m ρ c main_v11 : S1x1024.Idx → EReal) (ix2 0 d) = fK m c (ix1 d) := by
  rw [entry_v11]
  generalize fK m c = u
  pointwise

end Entry

/-! ## The finite weights -/

theorem pinf_eq : Ideal.ofBits .f32 2139095040#32 = ⊤ := by
  simp [Ideal.ofBits, Ideal.ieee]

/-- A value whose magnitude is less than infinity is a real number. -/
theorem real_of_lt {v : EReal} (h : BitVec.ofBool (decide (max v (-v) < Ideal.ofBits .f32 2139095040#32)) = 1#1) : Real' v := by
  rw [pinf_eq] at h
  have h' : max v (-v) < ⊤ := by
    by_contra hn
    rw [decide_eq_false hn] at h
    exact absurd h (by decide)
  refine Real'.of_ne (fun e => ?_) (fun e => ?_)
  · rw [e] at h'; exact absurd h' (by simp)
  · rw [e] at h'; exact absurd h' (by simp)

section Finite
variable (a0 : Tok) (a1 : Tok) (a2 : Proj) (a3 : Nrm) (a4 : Rout) (a5 a6 : Up) (a7 : Down) (a8 : S1024.Idx → EReal)

theorem real_norm (h : (Cert.Pre_finite.fn (F := Ideal) a0 a1 a2 a3 a4 a5 a6 a7 a8).1 = fun _ => 1#1) (i : S1x1024.Idx) : Real' (a3 i) := real_of_lt (congrFun h i)
theorem real_router (h : (Cert.Pre_finite.fn (F := Ideal) a0 a1 a2 a3 a4 a5 a6 a7 a8).2 = fun _ => 1#1) (i : S1x1024x8.Idx) : Real' (a4 i) := real_of_lt (congrFun h i)

end Finite

/-- The router's weights and its norm's are real numbers. -/
structure AllReal (nf : Nrm) (rt : Rout) : Prop where
  nf : ∀ i, Real' (nf i)
  rt : ∀ i, Real' (rt i)

section Real
variable {mix x : Tok} {wo : Proj} {nf : Nrm} {rt : Rout} (h : AllReal nf rt)
include h

theorem hn_real (p : Fin 128) (d : Fin 1024) : Real' (hn mix x wo nf p d) := rms_real_of (fun _ => h.nf _) d

theorem lg_real (p : Fin 128) (e : Fin 8) : Real' (lg (hn mix x wo nf p) rt e) := Real'.sum fun _ => (hn_real h p _).mul (h.rt _)

end Real

/-! ## The router's arrays -/

section Arrays
variable (V : (c : Dev nD) → (b : Ref sig .tc) → Buf (Elt Ideal) ((c.tc : Thread nD τ).loc b)) (c : Dev nD)
variable (mix x : Tok) (wo : Proj) (nf : Nrm) (rt : Rout)
variable (h0 : V c main_arg0 = mix) (h1 : V c main_arg1 = x)
variable (hw : ∀ k d, (V c main_v1 : S1024x1024.Idx → EReal) (ix2 k d) = wo (ix3 0 k d))
variable (hn' : ∀ d, (V c main_v3 : S1x1024.Idx → EReal) (ix2 0 d) = nf (ix2 0 d))
variable (hr : ∀ (d : Fin 1024) (e : Fin 8), (V c main_v7 : S1024x128.Idx → EReal) (ix2 d (⟨e.val, by omega⟩ : Fin 128)) = rt (ix3 0 d e))
include h0 h1 hw

theorem x_arr (p : Fin 128) (d : Fin 1024) : ((dat0 V c).arrAt (5 : Fin 9) cfg0.N : S128x1024.Idx → EReal) (ix2 p d) = x1 mix x wo p d := by
  rw [arr0_5, h0, h1]
  exact proj_at mix x _ wo hw p d

include hn'

theorem h_arr (p : Fin 128) (d : Fin 1024) : ((dat0 V c).arrAt (6 : Fin 9) cfg0.N : S128x1024.Idx → EReal) (ix2 p d) = hn mix x wo nf p d := by
  rw [arr0_6, h0, h1]
  exact out6_at mix x _ _ wo nf hw hn' p d

include hr

theorem g_arr (hf : AllReal nf rt) (p : Fin 128) (a b : Fin 8) (T : Top (lg (hn mix x wo nf p) rt) a b) (e : Fin 8) :
    ((dat0 V c).arrAt (7 : Fin 9) cfg0.N : S128x128.Idx → EReal) (ix2 p (⟨e.val, by omega⟩ : Fin 128)) = gate (lg (hn mix x wo nf p) rt) a b e := by
  obtain ⟨u, v, h⟩ := arr0_7 V c
  rw [h, h0, h1]
  dsimp only
  refine (table_at _ _ _ _ _ _ _ p e).trans ?_
  refine weights_at _ _ _ _ p _ (fun k => ?_) (lg_real hf p) T e
  exact logits_at _ _ _ _ p rt _ (fun d => hi_at mix x _ _ wo nf hw hn' p d) (fun d => lo_at mix x _ _ wo nf hw hn' p d (hn_real hf p d))
    (fun d e => (rhi_at _ d _).trans (hr d e)) (fun d e => rlo_at _ d _ (by rw [hr d e]; exact hf.rt _)) k

end Arrays

/-! ## The result -/

/-- What the routed layer ends holding. -/
def routedOut (mix x : Tok) (wo : Proj) (nf : Nrm) (rt : Rout) (wg wu : Up) (wd : Down) (fn : S1024.Idx → EReal) (i : S128x1024.Idx) : EReal :=
  rms (x2 (x1 mix x wo (i 0)) (hn mix x wo nf (i 0))
    (gate (lg (hn mix x wo nf (i 0)) rt) (Cert.Reference2Ideal.Value.pick (lg (hn mix x wo nf (i 0)) rt) 0) (Cert.Reference2Ideal.Value.pick (lg (hn mix x wo nf (i 0)) rt) 1)) wg wu wd)
    (fun d => fn (ix1 d)) (i 1)

section Final
variable (m : (ℓ : Loc nD τ sig) → Buf (Elt Ideal) ℓ) (ρ : Dev nD → PrngReg) (c : Dev nD)

theorem V2_of (b : Ref sig .tc) (hb : ∀ w, Pipeline.arrRef spec0 w ≠ b) : V2 m ρ c b = V1 m ρ c b := W2_of_ne m ρ c b hb

theorem V2_x : V2 m ρ c main_v12_0 = (dat0 (V1 m ρ) c).arrAt (5 : Fin 9) cfg0.N := W2_arr m ρ c (5 : Fin 9)
theorem V2_h : V2 m ρ c main_v12_1 = (dat0 (V1 m ρ) c).arrAt (6 : Fin 9) cfg0.N := W2_arr m ρ c (6 : Fin 9)
theorem V2_g : V2 m ρ c main_v12_2 = (dat0 (V1 m ρ) c).arrAt (7 : Fin 9) cfg0.N := W2_arr m ρ c (7 : Fin 9)

theorem kernel_final (hf : AllReal (nK m c) (tK m c)) :
    (W3 m ρ c (Proc.devRef .tc main_v13) : S128x1024.Idx → EReal) = routedOut (mK m c) (xK m c) (oK m c) (nK m c) (tK m c) (gK m c) (uK m c) (dK m c) (fK m c) := by
  rw [out_eq]
  have a0 := entry_arg0 m ρ c
  have a1 := entry_arg1 m ρ c
  have b1 := v1_at m ρ c
  have b3 := v3_at m ρ c
  have b7 := v7_at m ρ c
  have e0 := V2_x m ρ c
  have e1 := V2_h m ρ c
  have e2 := V2_g m ρ c
  have e8 := (V2_of m ρ c main_v8 (by decide))
  have e9 := (V2_of m ρ c main_v9 (by decide))
  have e10 := (V2_of m ρ c main_v10 (by decide))
  have e11 := (V2_of m ρ c main_v11 (by decide))
  have b8 := v8_at m ρ c
  have b9 := v9_at m ρ c
  have b10 := v10_at m ρ c
  have b11 := v11_at m ρ c
  generalize V2 m ρ = V' at *
  generalize V1 m ρ = V at *
  refine (arr1_eq V' c (x1 (mK m c) (xK m c) (oK m c)) (hn (mK m c) (xK m c) (oK m c) (nK m c))
    (fun p => gate (lg (hn (mK m c) (xK m c) (oK m c) (nK m c) p) (tK m c)) (Cert.Reference2Ideal.Value.pick (lg (hn (mK m c) (xK m c) (oK m c) (nK m c) p) (tK m c)) 0)
      (Cert.Reference2Ideal.Value.pick (lg (hn (mK m c) (xK m c) (oK m c) (nK m c) p) (tK m c)) 1))
    (gK m c) (uK m c) (dK m c) (fun d => fK m c (ix1 d)) ?_ ?_ ?_ ?_ ?_ ?_ ?_ ?_).trans rfl
  · intro p j; rw [e0]; exact x_arr V c _ _ _ a0 a1 b1 p j
  · intro p j; rw [e1]; exact h_arr V c _ _ _ _ a0 a1 b1 b3 p j
  · intro p e; rw [e2]; exact g_arr V c _ _ _ _ _ a0 a1 b1 b3 b7 hf p _ _ (Cert.Reference2Ideal.Value.pick_top _) e
  · intro e d k; rw [e8]; exact b8 e d k
  · intro e d k; rw [e9]; exact b9 e d k
  · intro e k j; rw [e10]; exact b10 e k j
  · intro d; rw [e11]; exact b11 d
  · intro p e; exact gate_real (lg_real hf p) _ _ e

/-- The reference's result is the kernel's. -/
theorem reference_final (V0 : Valuation Cert.Reference2Ideal.τ Cert.Reference2Ideal.sig (Elt Ideal))
    (hf : AllReal (Cert.Reference2Ideal.Value.nR V0) (Cert.Reference2Ideal.Value.tR V0)) :
    (Cert.Reference2Ideal.Value.val4 V0 (Proc.devRef .tc Cert.Reference2Ideal.main_v173) : S128x1024.Idx → EReal)
      = routedOut (Cert.Reference2Ideal.Value.mR V0) (Cert.Reference2Ideal.Value.xR V0) (Cert.Reference2Ideal.Value.oR V0) (Cert.Reference2Ideal.Value.nR V0) (Cert.Reference2Ideal.Value.tR V0)
        (Cert.Reference2Ideal.Value.gR V0) (Cert.Reference2Ideal.Value.uR V0) (Cert.Reference2Ideal.Value.dR V0) (Cert.Reference2Ideal.Value.fR V0) := by
  funext i
  have hi : ∃ (p : Fin 128) (j : Fin 1024), i = ix2 p j := ⟨i 0, i 1, by funext b; fin_cases b <;> rfl⟩
  obtain ⟨p, j, rfl⟩ := hi
  exact (Cert.Reference2Ideal.Value.out_at V0 (lg_real hf) p j).trans rfl

end Final

end Cert.Kernel2Ideal.Moe

end
-- ==== Proof.DenseOut.lean ====
/- What a point of the prompt's dense kernel leaves in its output block and in its scratch. -/
module

public import proofs.«01_k».proof.Proof.Gen.Kernel3Ideal.Value
public import Idealize.ShloMosaic.Lib.Pointwise
public import Idealize.ShloMosaic.Lib.Pipeline.Value

@[expose] public section

set_option maxRecDepth 16384
set_option Elab.async false

noncomputable section

namespace Cert.Kernel3Ideal.Dense

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → ℕ) = fun _ => 0 := funext fun b => by fin_cases b <;> rfl
theorem hz3 : (![0, 0, 0] : Fin 3 → ℕ) = fun _ => 0 := funext fun b => by fin_cases b <;> rfl

/-- The first 512 rows of the output projection. -/
abbrev top (w : Vec F S1024x1024 .bf16) : Vec F S512x1024 .bf16 := View.ld w (Rect.unit (s := S1024x1024) ![0, 0] S512x1024.size inb_S1024x1024_S512x1024_0_0)
/-- The last 512 rows of the output projection. -/
abbrev bot (w : Vec F S1024x1024 .bf16) : Vec F S512x1024 .bf16 := View.ld w (Rect.unit (s := S1024x1024) ![512, 0] S512x1024.size inb_S1024x1024_S512x1024_512_0)

theorem out0_A_8_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (hc0 : cond0_0 i)
    (x0 : Vec F S512x512 .bf16) (x1 : Vec F S512x512 .bf16) (x2 : Vec F S512x1024 .f32) (x3 : Vec F S1024x1024 .bf16) (x4 : Vec F S1x1024 .f32) (x5 : Vec F S1x1024x1408 .bf16) (x6 : Vec F S1x1024x1408 .bf16) (x7 : Vec F S1408x1024 .bf16) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay3 (k0_pay2 x2 x0 (top x3) x1 (bot x3) x4) x5 x6 (k0_pay1 x2 x0 (top x3) x1 (bot x3)) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  try sl_unfold_words
  rw [View.canon_cons_unit_zero (S := S512x1024) hz2, View.readCov_unit_zero (S := S512x1024) _ hz2, View.readCov_unit_zero (S := S512x1024) _ hz2]
  simp only [View.readAt_eq_ld, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, Memref.IsWhole.read_unread harg11, View.ld_unit_zero (S := S512x512) hz2, View.ld_unit_zero (S := S512x1024) hz2, View.ld_unit_zero (S := S1x1024) hz2, View.ld_unit_zero (S := S1x1024x1408) hz3, View.ld_unit_zero (S := S1408x1024) hz2, shapeCast_self]

theorem sout0_A_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (hc0 : cond0_0 i)
    (x0 : Vec F S512x512 .bf16) (x1 : Vec F S512x512 .bf16) (x2 : Vec F S512x1024 .f32) (x3 : Vec F S1024x1024 .bf16) (x4 : Vec F S1x1024 .f32) (x5 : Vec F S1x1024x1408 .bf16) (x6 : Vec F S1x1024x1408 .bf16) (x7 : Vec F S1408x1024 .bf16) :
    sout0_A_0 c i arg2 harg2 arg3 harg3 arg4 harg4 arg5 harg5 arg6 harg6 arg7 harg7 arg8 harg8 arg9 harg9 arg10 harg10 arg11 harg11 hc0 x0 x1 x2 x3 x4 x5 x6 x7 = k0_pay2 x2 x0 (top x3) x1 (bot x3) x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  try sl_unfold_words
  rw [View.canon_unit_zero hz2]
  simp only [View.readAt_eq_ld, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, Memref.IsWhole.read_unread harg11, View.ld_unit_zero (S := S512x512) hz2, View.ld_unit_zero (S := S512x1024) hz2, View.ld_unit_zero (S := S1x1024) hz2, View.ld_unit_zero (S := S1x1024x1408) hz3, View.ld_unit_zero (S := S1408x1024) hz2, shapeCast_self]

theorem out0_B_8_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024x1408 .bf16) (harg7 : arg7.IsWhole) (arg8 : Memref sig .tc .vmem S1x1024x1408 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (hc0 : ¬cond0_0 i)
    (x0 : Vec F S512x512 .bf16) (x1 : Vec F S512x512 .bf16) (x2 : Vec F S512x1024 .f32) (x3 : Vec F S1024x1024 .bf16) (x4 : Vec F S1x1024 .f32) (x5 : Vec F S1x1024x1408 .bf16) (x6 : Vec F S1x1024x1408 .bf16) (x7 : Vec F S1408x1024 .bf16) (xo8 : Vec F S512x1024 .f32) (xs0 : Vec F S512x1024 .bf16) :
    out0_B_8 c i arg2 harg2 arg3 harg3 arg4 harg4 arg5 harg5 arg6 harg6 arg7 harg7 arg8 harg8 arg9 harg9 arg10 harg10 arg11 harg11 hc0 x0 x1 x2 x3 x4 x5 x6 x7 xo8 xs0 = k0_pay3 xs0 x5 x6 xo8 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xo8 xs0)]
  unfold kernelRun0_B
  dsimp only
  try sl_unfold_words
  rw [View.canon_unit_zero hz2]
  simp only [View.readAt_eq_ld, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, Memref.IsWhole.read_unread harg11, View.ld_unit_zero (S := S512x512) hz2, View.ld_unit_zero (S := S512x1024) hz2, View.ld_unit_zero (S := S1x1024) hz2, View.ld_unit_zero (S := S1x1024x1408) hz3, View.ld_unit_zero (S := S1408x1024) hz2, shapeCast_self]

end Cert.Kernel3Ideal.Dense

end
-- ==== Proof.DenseSpec.lean ====
/- The even layer after its mixers, for the prompt, row by row over the extended reals. -/
module

public import proofs.«01_k».proof.Proof.MoeSpec

@[expose] public section

set_option maxRecDepth 16384
set_option Elab.async false

noncomputable section

namespace Cert.Dense

open Idealize.ShloMosaic
open Cert.Routed (rms)

abbrev Half : Type := (⟨2, ![16384, 512]⟩ : Shape).Idx → EReal
abbrev Tok : Type := (⟨2, ![16384, 1024]⟩ : Shape).Idx → EReal
abbrev Proj : Type := (⟨3, ![1, 1024, 1024]⟩ : Shape).Idx → EReal
abbrev Nrm : Type := (⟨2, ![1, 1024]⟩ : Shape).Idx → EReal
abbrev Up : Type := (⟨3, ![1, 1024, 2816]⟩ : Shape).Idx → EReal
abbrev Down : Type := (⟨3, ![1, 2816, 1024]⟩ : Shape).Idx → EReal

theorem half_lo (k : Fin 512) : k.val < 1024 := by omega
theorem half_hi (k : Fin 512) : 512 + k.val < 1024 := by omega
theorem hid_lo (k : Fin 1408) : k.val < 2816 := by omega
theorem hid_hi (k : Fin 1408) : 1408 + k.val < 2816 := by omega

/-- Row `k` of the projection's upper half. -/
abbrev lo (k : Fin 512) : Fin 1024 := ⟨k.val, half_lo k⟩
/-- Row `k` of the projection's lower half. -/
abbrev hi (k : Fin 512) : Fin 1024 := ⟨512 + k.val, half_hi k⟩
/-- Hidden column `k` of the first block. -/
abbrev lo2 (k : Fin 1408) : Fin 2816 := ⟨k.val, hid_lo k⟩
/-- Hidden column `k` of the second block. -/
abbrev hi2 (k : Fin 1408) : Fin 2816 := ⟨1408 + k.val, hid_hi k⟩

/-- The residual row after the output projection of both mixers. -/
def x1 (a b : Half) (x : Tok) (w : Proj) (p : Fin 16384) (d : Fin 1024) : EReal :=
  x (ix2 p d) + (∑ k : Fin 512, a (ix2 p k) * w (ix3 0 (lo k) d) + ∑ k : Fin 512, b (ix2 p k) * w (ix3 0 (hi k) d))

/-- The feed-forward's input row. -/
def hn (a b : Half) (x : Tok) (w : Proj) (nf : Nrm) (p : Fin 16384) : Fin 1024 → EReal :=
  rms (x1 a b x w p) fun d => nf (ix2 0 d)

/-- A row's gated hidden column `k`. -/
def act (h : Fin 1024 → EReal) (wg wu : Up) (k : Fin 2816) : EReal :=
  (∑ d : Fin 1024, h d * wg (ix3 0 d k)) * Ideal.logistic (∑ d : Fin 1024, h d * wg (ix3 0 d k)) * ∑ d : Fin 1024, h d * wu (ix3 0 d k)

/-- A row through the feed-forward, its hidden columns in two blocks, on top of the residual row. -/
def out (xr h : Fin 1024 → EReal) (wg wu : Up) (wd : Down) (j : Fin 1024) : EReal :=
  xr j + (∑ k : Fin 1408, act h wg wu (lo2 k) * wd (ix3 0 (lo2 k) j) + ∑ k : Fin 1408, act h wg wu (hi2 k) * wd (ix3 0 (hi2 k) j))

/-- What the layer ends holding. -/
def dense (a b : Half) (x : Tok) (w : Proj) (nf : Nrm) (wg wu : Up) (wd : Down) : Tok := fun i =>
  out (x1 a b x w (i 0)) (hn a b x w nf (i 0)) wg wu wd (i 1)

/-- A sum over 1024 rows is one over the upper half and one over the lower half. -/
theorem sum_halves (f : Fin 1024 → EReal) : ∑ k : Fin 1024, f k = ∑ k : Fin 512, f (lo k) + ∑ k : Fin 512, f (hi k) :=
  Fin.sum_univ_add (M := EReal) (a := 512) (b := 512) f

/-- A sum over the hidden columns is one over each of the two blocks. -/
theorem sum_hidden (f : Fin 2816 → EReal) : ∑ k : Fin 2816, f k = ∑ k : Fin 1408, f (lo2 k) + ∑ k : Fin 1408, f (hi2 k) :=
  Fin.sum_univ_add (M := EReal) (a := 1408) (b := 1408) f

end Cert.Dense

end
-- ==== Proof.DensePay.lean ====
/- The dense kernel's payloads at an index, over the extended reals. -/
module

public import proofs.«01_k».proof.Proof.DenseOut
public import proofs.«01_k».proof.Proof.DenseSpec
public import Idealize.ShloMosaic.Lib.Tactic.CleanTypes

@[expose] public section

set_option maxRecDepth 16384
set_option Elab.async false

noncomputable section

namespace Cert.Kernel3Ideal.Dense

open Cert.Kernel3Ideal Cert.Kernel3Ideal.Gen
open Idealize.ShloMosaic Idealize.ShloMosaic.TcCoe
open Cert.Dense

theorem top_at (w : S1024x1024.Idx → EReal) (k : Fin 512) (d : Fin 1024) : (top (F := Ideal) w : S512x1024.Idx → EReal) (ix2 k d) = w (ix2 (lo k) d) := by
  refine congrArg w (funext fun b => Fin.ext ?_)
  fin_cases b
  · show 0 + 1 * k.val = k.val
    omega
  · show 0 + 1 * d.val = d.val
    omega

theorem bot_at (w : S1024x1024.Idx → EReal) (k : Fin 512) (d : Fin 1024) : (bot (F := Ideal) w : S512x1024.Idx → EReal) (ix2 k d) = w (ix2 (hi k) d) := by
  refine congrArg w (funext fun b => Fin.ext ?_)
  fin_cases b
  · show 512 + 1 * k.val = 512 + k.val
    omega
  · show 0 + 1 * d.val = d.val
    omega

/-- The residual block. -/
theorem pay1_at (x : S512x1024.Idx → EReal) (a : S512x512.Idx → EReal) (u : S512x1024.Idx → EReal) (b : S512x512.Idx → EReal) (v : S512x1024.Idx → EReal) (p : Fin 512) (d : Fin 1024) :
    k0_pay1 (F := Ideal) x a u b v (ix2 p d) = x (ix2 p d) + ∑ k : Fin 512, a (ix2 p k) * u (ix2 k d) + ∑ k : Fin 512, b (ix2 p k) * v (ix2 k d) := by
  pointwise [k0_pay1]

/-- The normalised block. -/
theorem pay2_at (x : S512x1024.Idx → EReal) (a : S512x512.Idx → EReal) (u : S512x1024.Idx → EReal) (b : S512x512.Idx → EReal) (v : S512x1024.Idx → EReal) (n : S1x1024.Idx → EReal) (p : Fin 512) (d : Fin 1024) :
    k0_pay2 (F := Ideal) x a u b v n (ix2 p d) = Routed.rms (fun e => k0_pay1 (F := Ideal) x a u b v (ix2 p e)) (fun e => n (ix2 0 e)) d := by
  pointwise [k0_pay2]
  rfl

/-- A point's addition to a row. -/
theorem pay3_at (h : S512x1024.Idx → EReal) (wg wu : S1x1024x1408.Idx → EReal) (o : S512x1024.Idx → EReal) (wd : S1408x1024.Idx → EReal) (p : Fin 512) (j : Fin 1024) :
    k0_pay3 (F := Ideal) h wg wu o wd (ix2 p j) = o (ix2 p j) + ∑ k : Fin 1408, ((∑ d : Fin 1024, h (ix2 p d) * wg (ix3 0 d k)) * Ideal.logistic (∑ d : Fin 1024, h (ix2 p d) * wg (ix3 0 d k)) * ∑ d : Fin 1024, h (ix2 p d) * wu (ix3 0 d k)) * wd (ix2 k j) := by
  pointwise [k0_pay3]

section Row
variable (x : S512x1024.Idx → EReal) (a b : S512x512.Idx → EReal) (u v : S512x1024.Idx → EReal) (n : S1x1024.Idx → EReal)
variable (A B : Half) (X : Dense.Tok) (W : Dense.Proj) (N : Dense.Nrm) (p : Fin 512) (P : Fin 16384)
variable (hx : ∀ d, x (ix2 p d) = X (ix2 P d)) (ha : ∀ k, a (ix2 p k) = A (ix2 P k)) (hb : ∀ k, b (ix2 p k) = B (ix2 P k)) (hu : ∀ k d, u (ix2 k d) = W (ix3 0 (lo k) d)) (hv : ∀ k d, v (ix2 k d) = W (ix3 0 (hi k) d)) (hn' : ∀ d, n (ix2 0 d) = N (ix2 0 d))
include hx ha hb hu hv

theorem res_of (d : Fin 1024) : k0_pay1 (F := Ideal) x a u b v (ix2 p d) = x1 A B X W P d := by
  refine (pay1_at _ _ _ _ _ p d).trans ?_
  simp only [hx, ha, hb, hu, hv]
  rw [add_assoc]
  rfl

include hn'

theorem nrm_of (d : Fin 1024) : k0_pay2 (F := Ideal) x a u b v n (ix2 p d) = hn A B X W N P d := by
  refine (pay2_at _ _ _ _ _ _ p d).trans ?_
  simp only [res_of x a b u v A B X W p P hx ha hb hu hv, hn']
  rfl

end Row

/-- A token block's two points, one after the other. -/
theorem two_of (h : S512x1024.Idx → EReal) (wg0 wu0 wg1 wu1 : S1x1024x1408.Idx → EReal) (o : S512x1024.Idx → EReal) (wd0 wd1 : S1408x1024.Idx → EReal) (p : Fin 512) (j : Fin 1024)
    (xr hr : Fin 1024 → EReal) (G U : Dense.Up) (D : Dense.Down) (ho : ∀ d, o (ix2 p d) = xr d) (hh : ∀ d, h (ix2 p d) = hr d)
    (g0 : ∀ d k, wg0 (ix3 0 d k) = G (ix3 0 d (lo2 k))) (g1 : ∀ d k, wg1 (ix3 0 d k) = G (ix3 0 d (hi2 k)))
    (u0 : ∀ d k, wu0 (ix3 0 d k) = U (ix3 0 d (lo2 k))) (u1 : ∀ d k, wu1 (ix3 0 d k) = U (ix3 0 d (hi2 k)))
    (d0 : ∀ k, wd0 (ix2 k j) = D (ix3 0 (lo2 k) j)) (d1 : ∀ k, wd1 (ix2 k j) = D (ix3 0 (hi2 k) j)) :
    k0_pay3 (F := Ideal) h wg1 wu1 (k0_pay3 (F := Ideal) h wg0 wu0 o wd0) wd1 (ix2 p j) = out xr hr G U D j := by
  refine (pay3_at _ _ _ _ _ p j).trans ?_
  rw [pay3_at]
  simp only [ho, hh, g0, g1, u0, u1, d0, d1]
  rw [add_assoc]
  rfl

end Cert.Kernel3Ideal.Dense

end
-- ==== Proof.DenseRef.lean ====
/- The dense layer's reference at an index, over the extended reals. -/
module

public import proofs.«01_k».proof.Proof.Gen.Reference3Ideal.Run
public import proofs.«01_k».proof.Proof.DenseSpec
public import Idealize.ShloMosaic.Lib.Pointwise
public import Idealize.ShloMosaic.Lib.Tactic.CleanTypes

@[expose] public section

set_option maxRecDepth 16384
set_option Elab.async false

noncomputable section

namespace Cert.Reference3Ideal.Value

open Cert.Reference3Ideal Cert.Reference3Ideal.Gen
open Idealize.ShloMosaic Idealize.ShloMosaic.TcCoe Idealize.ShloMosaic.HloOp
open Cert.Dense

section Terms
variable {F : FTy → Type} [FloatOps F]

/-- The residual after the output projection. -/
def tX (a b : FVec F S16384x512 .bf16) (x : FVec F S16384x1024 .f32) (w : FVec F S1x1024x1024 .f32) : FVec F S16384x1024 .f32 :=
  addf x (Host.dotGeneral dot_S16384x1024_S1024x1024_S16384x1024_1_0_0_1_n_n none (concatenate S16384x1024 1 [⟨S16384x512, (extf .f32 a bitsLt_bf16_f32)⟩, ⟨S16384x512, (extf .f32 b bitsLt_bf16_f32)⟩] concatenates_S16384x512_S16384x512_S16384x1024_d1) (shapeCast S1024x1024 w shapeCasts_S1x1024x1024_S1024x1024))

/-- The norm of the residual. -/
def tH (X : FVec F S16384x1024 .f32) (n : FVec F S1x1024 .f32) : FVec F S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 n shapeCasts_S1x1024_S1024)))

/-- A product with one of the wide weights. -/
def tC (H : FVec F S16384x1024 .f32) (w : FVec F S1x1024x2816 .f32) : FVec F S16384x2816 .f32 :=
  Host.dotGeneral dot_S16384x1024_S1024x2816_S16384x2816_1_0_0_1_n_n none H (shapeCast S1024x2816 w shapeCasts_S1x1024x2816_S1024x2816)

/-- The gated hidden columns. -/
def tA (G U : FVec F S16384x2816 .f32) : FVec F S16384x2816 .f32 :=
  mulf (mulf G (Host.divf (broadcastInDim S16384x2816 ![] bcast_S_S16384x2816 (constant S_ .f32 0x3F800000#32)) (addf (broadcastInDim S16384x2816 ![] bcast_S_S16384x2816 (constant S_ .f32 0x3F800000#32)) (Host.exp (Host.negf G))))) U

/-- The layer's result. -/
def tO (X : FVec F S16384x1024 .f32) (A : FVec F S16384x2816 .f32) (w : FVec F S1x2816x1024 .f32) : FVec F S16384x1024 .f32 :=
  addf X (Host.dotGeneral dot_S16384x2816_S2816x1024_S16384x1024_1_0_0_1_n_n none A (shapeCast S2816x1024 w shapeCasts_S1x2816x1024_S2816x1024))

theorem res_eq (m : (ℓ : Loc nD τ sig) → Buf (Elt F) ℓ) (c : Dev nD) : res_main_v28 m c =
    (let X := tX (m ((c.tc : Thread nD τ).loc main_arg0)) (m ((c.tc : Thread nD τ).loc main_arg1)) (m ((c.tc : Thread nD τ).loc main_arg2)) (m ((c.tc : Thread nD τ).loc main_arg3))
     let H := tH X (m ((c.tc : Thread nD τ).loc main_arg4))
     tO X (tA (tC H (m ((c.tc : Thread nD τ).loc main_arg5))) (tC H (m ((c.tc : Thread nD τ).loc main_arg6)))) (m ((c.tc : Thread nD τ).loc main_arg7))) := by
  unfold res_main_v28 tO tA tC tH tX
  rfl

end Terms

theorem cat_lo (a b : Half) (p : Fin 16384) (k : Fin 512) :
    (concatenate S16384x1024 1 [⟨S16384x512, a⟩, ⟨S16384x512, b⟩] concatenates_S16384x512_S16384x512_S16384x1024_d1 : S16384x1024.Idx → EReal) (ix2 p (lo k)) = a (ix2 p k) := by
  pointwise

theorem cat_hi (a b : Half) (p : Fin 16384) (k : Fin 512) :
    (concatenate S16384x1024 1 [⟨S16384x512, a⟩, ⟨S16384x512, b⟩] concatenates_S16384x512_S16384x512_S16384x1024_d1 : S16384x1024.Idx → EReal) (ix2 p (hi k)) = b (ix2 p k) := by
  pointwise

theorem tX_at (a b : Half) (x : Dense.Tok) (w : Dense.Proj) (p : Fin 16384) (d : Fin 1024) : tX (F := Ideal) a b x w (ix2 p d) = x1 a b x w p d := by
  unfold tX
  generalize hc : (concatenate S16384x1024 1 [⟨S16384x512, (extf (F := Ideal) .f32 a bitsLt_bf16_f32)⟩, ⟨S16384x512, (extf (F := Ideal) .f32 b bitsLt_bf16_f32)⟩] concatenates_S16384x512_S16384x512_S16384x1024_d1) = v
  have h1 : ∀ k, v (ix2 p (lo k)) = a (ix2 p k) := fun k => by rw [← hc]; exact cat_lo a b p k
  have h2 : ∀ k, v (ix2 p (hi k)) = b (ix2 p k) := fun k => by rw [← hc]; exact cat_hi a b p k
  clear hc
  pointwise
  rw [sum_halves]
  simp only [h1, h2]
  rfl

theorem tH_at (X : Dense.Tok) (n : Nrm) (p : Fin 16384) (d : Fin 1024) : tH (F := Ideal) X n (ix2 p d) = Routed.rms (fun e => X (ix2 p e)) (fun e => n (ix2 0 e)) d := by
  unfold tH
  pointwise
  rfl

theorem tC_at (H : Dense.Tok) (w : Up) (p : Fin 16384) (k : Fin 2816) : tC (F := Ideal) H w (ix2 p k) = ∑ d : Fin 1024, H (ix2 p d) * w (ix3 0 d k) := by
  unfold tC
  pointwise

theorem tA_at (G U : (⟨2, ![16384, 2816]⟩ : Shape).Idx → EReal) (p : Fin 16384) (k : Fin 2816) : tA (F := Ideal) G U (ix2 p k) = G (ix2 p k) * Ideal.logistic (G (ix2 p k)) * U (ix2 p k) := by
  unfold tA
  pointwise
  rfl

theorem tO_at (X : Dense.Tok) (A : (⟨2, ![16384, 2816]⟩ : Shape).Idx → EReal) (w : Down) (p : Fin 16384) (j : Fin 1024) :
    tO (F := Ideal) X A w (ix2 p j) = X (ix2 p j) + ∑ k : Fin 2816, A (ix2 p k) * w (ix3 0 k j) := by
  unfold tO
  pointwise

/-- The reference's result. -/
theorem res_dense (m : (ℓ : Loc nD τ sig) → Buf (Elt Ideal) ℓ) (c : Dev nD) : (res_main_v28 m c : S16384x1024.Idx → EReal) =
    dense (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  rw [res_eq]
  generalize m ((c.tc : Thread nD τ).loc main_arg0) = a
  generalize m ((c.tc : Thread nD τ).loc main_arg1) = b
  generalize m ((c.tc : Thread nD τ).loc main_arg2) = x
  generalize m ((c.tc : Thread nD τ).loc main_arg3) = w
  generalize m ((c.tc : Thread nD τ).loc main_arg4) = n
  generalize m ((c.tc : Thread nD τ).loc main_arg5) = wg
  generalize m ((c.tc : Thread nD τ).loc main_arg6) = wu
  generalize m ((c.tc : Thread nD τ).loc main_arg7) = wd
  funext i
  have hi : ∃ (p : Fin 16384) (j : Fin 1024), i = (ix2 p j : S16384x1024.Idx) := ⟨i 0, i 1, by funext b; fin_cases b <;> rfl⟩
  obtain ⟨p, j, rfl⟩ := hi
  refine (tO_at _ _ _ p j).trans ?_
  simp only [tA_at, tC_at, tH_at, tX_at]
  rw [sum_hidden]
  rfl

end Cert.Reference3Ideal.Value

end
-- ==== Proof.DenseValue.lean ====
/- Where the dense kernel's blocks lie, what the host prepares, and the array the run leaves. -/
module

public import proofs.«01_k».proof.Proof.DensePay
public import proofs.«01_k».proof.Proof.DenseRef
public import Idealize.ShloMosaic.Lib.StableHlo.RunRead

@[expose] public section

set_option maxRecDepth 16384
set_option Elab.async false

noncomputable section

namespace Cert.Kernel3Ideal.Dense

open Cert.Kernel3Ideal Cert.Kernel3Ideal.Gen Cert.Kernel3Ideal.Value
open Idealize.ShloMosaic Idealize.ShloMosaic.TcCoe Idealize.ShloMosaic.Tactic
open Idealize.ShloMosaic.StableHlo
open Cert.Dense

theorem lt64 (t : Fin cfg0.N) : t.val < 64 := t.isLt

theorem c0_0 (t : Fin cfg0.N) : ((grid0.coords t) 0).val = t.val / 2 := by
  have h : ((grid0.coords t) 0).val = t.val / 2 % 32 := Pipeline.Grid.coords_val t 0 (by decide) rfl
  have := lt64 t
  omega
theorem c0_1 (t : Fin cfg0.N) : ((grid0.coords t) 1).val = t.val % 2 := by
  have h : ((grid0.coords t) 1).val = t.val / 1 % 2 := Pipeline.Grid.coords_val t 1 (by decide) rfl
  omega

theorem r0_0 : ∀ i : grid0.Coords, cc0_transform_0 i 0 = (i 0).val := by decide +kernel
theorem r0_1 : ∀ i : grid0.Coords, cc0_transform_1 i 0 = (i 0).val := by decide +kernel
theorem r0_2 : ∀ i : grid0.Coords, cc0_transform_2 i 0 = (i 0).val := by decide +kernel
theorem r0_5 : ∀ i : grid0.Coords, cc0_transform_5 i 0 = (i 1).val := by decide +kernel
theorem r0_6 : ∀ i : grid0.Coords, cc0_transform_6 i 0 = (i 1).val := by decide +kernel
theorem r0_7 : ∀ i : grid0.Coords, cc0_transform_7 i 0 = (i 1).val := by decide +kernel

theorem row_lt (t : Fin cfg0.N) (p : Fin 512) : t.val / 2 * 512 + p.val < 16384 := by
  have := lt64 t
  omega
theorem blk_lt (t : Fin cfg0.N) : t.val % 2 < 2 := Nat.mod_lt _ (by decide)
theorem hid_lt (t : Fin cfg0.N) (k : Fin 1408) : t.val % 2 * 1408 + k.val < 2816 := by omega

/-- Row `p` of point `t`'s token block. -/
abbrev row (t : Fin cfg0.N) (p : Fin 512) : Fin 16384 := ⟨t.val / 2 * 512 + p.val, row_lt t p⟩

section Blocks
variable (m : (ℓ : Loc nD τ sig) → Buf (Elt Ideal) ℓ) (c : Dev nD)

theorem blk_0 (t : Fin cfg0.N) (p k : Fin 512) : (iblk m c 0 t : S512x512.Idx → EReal) (ix2 p k) = (V m c main_arg0 : S16384x512.Idx → EReal) (ix2 (row t p) k) := by
  refine congrArg (V m c main_arg0) (funext fun b => Fin.ext ?_)
  fin_cases b
  · show cc0_transform_0 (grid0.coords t) 0 * 512 + 1 * p.val = t.val / 2 * 512 + p.val
    rw [r0_0, c0_0]; omega
  · show 0 * 512 + 1 * k.val = k.val
    omega

theorem blk_1 (t : Fin cfg0.N) (p k : Fin 512) : (iblk m c 1 t : S512x512.Idx → EReal) (ix2 p k) = (V m c main_arg1 : S16384x512.Idx → EReal) (ix2 (row t p) k) := by
  refine congrArg (V m c main_arg1) (funext fun b => Fin.ext ?_)
  fin_cases b
  · show cc0_transform_1 (grid0.coords t) 0 * 512 + 1 * p.val = t.val / 2 * 512 + p.val
    rw [r0_1, c0_0]; omega
  · show 0 * 512 + 1 * k.val = k.val
    omega

theorem blk_2 (t : Fin cfg0.N) (p : Fin 512) (d : Fin 1024) : (iblk m c 2 t : S512x1024.Idx → EReal) (ix2 p d) = (V m c main_arg2 : S16384x1024.Idx → EReal) (ix2 (row t p) d) := by
  refine congrArg (V m c main_arg2) (funext fun b => Fin.ext ?_)
  fin_cases b
  · show cc0_transform_2 (grid0.coords t) 0 * 512 + 1 * p.val = t.val / 2 * 512 + p.val
    rw [r0_2, c0_0]; omega
  · show 0 * 1024 + 1 * d.val = d.val
    omega

theorem blk_3 (t : Fin cfg0.N) : (iblk m c 3 t : S1024x1024.Idx → EReal) = V m c main_v1 := by
  funext y
  refine congrArg (V m c main_v1) (funext fun b => Fin.ext ?_)
  fin_cases b
  · show 0 * 1024 + 1 * (y 0).val = (y 0).val
    omega
  · show 0 * 1024 + 1 * (y 1).val = (y 1).val
    omega

theorem blk_4 (t : Fin cfg0.N) : (iblk m c 4 t : S1x1024.Idx → EReal) = V m c main_v3 := by
  funext y
  refine congrArg (V m c main_v3) (funext fun b => Fin.ext ?_)
  fin_cases b
  · show 0 * 1 + 1 * (y 0).val = (y 0).val
    omega
  · show 0 * 1024 + 1 * (y 1).val = (y 1).val
    omega

theorem blk_5 (t : Fin cfg0.N) (d : Fin 1024) (k : Fin 1408) : (iblk m c 5 t : S1x1024x1408.Idx → EReal) (ix3 0 d k) = (V m c main_v7 : S2x1024x1408.Idx → EReal) (ix3 (⟨t.val % 2, blk_lt t⟩ : Fin 2) d k) := by
  refine congrArg (V m c main_v7) (funext fun b => Fin.ext ?_)
  fin_cases b
  · show cc0_transform_5 (grid0.coords t) 0 * 1 + 1 * 0 = t.val % 2
    rw [r0_5, c0_1]; omega
  · show 0 * 1024 + 1 * d.val = d.val
    omega
  · show 0 * 1408 + 1 * k.val = k.val
    omega

theorem blk_6 (t : Fin cfg0.N) (d : Fin 1024) (k : Fin 1408) : (iblk m c 6 t : S1x1024x1408.Idx → EReal) (ix3 0 d k) = (V m c main_v11 : S2x1024x1408.Idx → EReal) (ix3 (⟨t.val % 2, blk_lt t⟩ : Fin 2) d k) := by
  refine congrArg (V m c main_v11) (funext fun b => Fin.ext ?_)
  fin_cases b
  · show cc0_transform_6 (grid0.coords t) 0 * 1 + 1 * 0 = t.val % 2
    rw [r0_6, c0_1]; omega
  · show 0 * 1024 + 1 * d.val = d.val
    omega
  · show 0 * 1408 + 1 * k.val = k.val
    omega

theorem blk_7 (t : Fin cfg0.N) (k : Fin 1408) (j : Fin 1024) : (iblk m c 7 t : S1408x1024.Idx → EReal) (ix2 k j) = (V m c main_v13 : S2816x1024.Idx → EReal) (ix2 (⟨t.val % 2 * 1408 + k.val, hid_lt t k⟩ : Fin 2816) j) := by
  refine congrArg (V m c main_v13) (funext fun b => Fin.ext ?_)
  fin_cases b
  · show cc0_transform_7 (grid0.coords t) 0 * 1408 + 1 * k.val = t.val % 2 * 1408 + k.val
    rw [r0_7, c0_1]; omega
  · show 0 * 1024 + 1 * j.val = j.val
    omega

/-! ## What the host prepares -/

abbrev aK : Half := m (c, Proc.devRef .tc main_arg0)
abbrev bK : Half := m (c, Proc.devRef .tc main_arg1)
abbrev xK : Dense.Tok := m (c, Proc.devRef .tc main_arg2)
abbrev oK : Dense.Proj := m (c, Proc.devRef .tc main_arg3)
abbrev nK : Dense.Nrm := m (c, Proc.devRef .tc main_arg4)
abbrev gK : Dense.Up := m (c, Proc.devRef .tc main_arg5)
abbrev uK : Dense.Up := m (c, Proc.devRef .tc main_arg6)
abbrev dK : Dense.Down := m (c, Proc.devRef .tc main_arg7)

theorem entry_v1 : (V m c main_v1 : S1024x1024.Idx → EReal) = (truncf .bf16 (shapeCast S1024x1024 (oK m c : FVec Ideal S1x1024x1024 .f32) shapeCasts_S1x1024x1024_S1024x1024) bitsLt_bf16_f32 : FVec Ideal S1024x1024 .bf16) := by
  simp only [V, hostOps0, TRef.binary, TRef.nullary, TRef.unary, TRef.ternary, TRef.toBuf, TRef.ofBuf, cast_eq]
  after_reads_simp
  rfl

theorem entry_v3 : (V m c main_v3 : S1x1024.Idx → EReal) = broadcastInDim S1x1024 ![1] bcast_S1024_S1x1024_1 (shapeCast S1024 (nK m c) shapeCasts_S1x1024_S1024) := by
  simp only [V, hostOps0, TRef.binary, TRef.nullary, TRef.unary, TRef.ternary, TRef.toBuf, TRef.ofBuf, cast_eq]
  after_reads_simp
  rfl

/-- A wide weight cut into two blocks of columns. -/
abbrev cut2 (u : FVec Ideal S1x1024x2816 .f32) : FVec Ideal S2x1024x1408 .bf16 :=
  transpose S2x1024x1408 [1, 0, 2] (shapeCast S1024x2x1408 (truncf .bf16 (shapeCast S1024x2816 u shapeCasts_S1x1024x2816_S1024x2816) bitsLt_bf16_f32 : FVec Ideal S1024x2816 .bf16) shapeCasts_S1024x2816_S1024x2x1408) transposes_S1024x2x1408_S2x1024x1408_1_0_2

theorem entry_v7 : (V m c main_v7 : S2x1024x1408.Idx → EReal) = cut2 (gK m c) := by
  simp only [V, hostOps0, TRef.binary, TRef.nullary, TRef.unary, TRef.ternary, TRef.toBuf, TRef.ofBuf, cast_eq]
  after_reads_simp
  rfl

theorem entry_v11 : (V m c main_v11 : S2x1024x1408.Idx → EReal) = cut2 (uK m c) := by
  simp only [V, hostOps0, TRef.binary, TRef.nullary, TRef.unary, TRef.ternary, TRef.toBuf, TRef.ofBuf, cast_eq]
  after_reads_simp
  rfl

theorem entry_v13 : (V m c main_v13 : S2816x1024.Idx → EReal) = (truncf .bf16 (shapeCast S2816x1024 (dK m c : FVec Ideal S1x2816x1024 .f32) shapeCasts_S1x2816x1024_S2816x1024) bitsLt_bf16_f32 : FVec Ideal S2816x1024 .bf16) := by
  simp only [V, hostOps0, TRef.binary, TRef.nullary, TRef.unary, TRef.ternary, TRef.toBuf, TRef.ofBuf, cast_eq]
  after_reads_simp
  rfl

theorem v1_at (k d : Fin 1024) : (V m c main_v1 : S1024x1024.Idx → EReal) (ix2 k d) = oK m c (ix3 0 k d) := by
  rw [entry_v1]
  generalize oK m c = u
  pointwise

theorem v3_at (d : Fin 1024) : (V m c main_v3 : S1x1024.Idx → EReal) (ix2 0 d) = nK m c (ix2 0 d) := by
  rw [entry_v3]
  generalize nK m c = u
  pointwise

theorem cut2_at (u : Dense.Up) (f : Fin 2) (d : Fin 1024) (k : Fin 1408) (h : f.val * 1408 + k.val < 2816) : cut2 u (ix3 f d k) = u (ix3 0 d (⟨f.val * 1408 + k.val, h⟩ : Fin 2816)) := by
  pointwise

theorem v13_at (k : Fin 2816) (j : Fin 1024) : (V m c main_v13 : S2816x1024.Idx → EReal) (ix2 k j) = dK m c (ix3 0 k j) := by
  rw [entry_v13]
  generalize dK m c = u
  pointwise

end Blocks

/-! ## The result -/

section Final
variable (m : (ℓ : Loc nD τ sig) → Buf (Elt Ideal) ℓ) (c : Dev nD)

/-- The point before `t`, which writes the same token block's first half of the sum. -/
abbrev prev (t : Fin cfg0.N) : Fin cfg0.N := ⟨t.val - 1, Nat.lt_of_le_of_lt (Nat.sub_le _ _) t.isLt⟩

/-- The residual block and the normalised block of a token block's first point. -/
abbrev resB (t : Fin cfg0.N) : FVec Ideal S512x1024 .f32 := k0_pay1 (F := Ideal) (iblk m c 2 t) (iblk m c 0 t) (top (F := Ideal) (iblk m c 3 t)) (iblk m c 1 t) (bot (F := Ideal) (iblk m c 3 t))
abbrev nrmB (t : Fin cfg0.N) : FVec Ideal S512x1024 .bf16 := k0_pay2 (F := Ideal) (iblk m c 2 t) (iblk m c 0 t) (top (F := Ideal) (iblk m c 3 t)) (iblk m c 1 t) (bot (F := Ideal) (iblk m c 3 t)) (iblk m c 4 t)

theorem first_eq (t : Fin cfg0.N) (h : t.val % 2 = 0) : outsAt0 m c t.val t.isLt =
    (k0_pay3 (F := Ideal) (nrmB m c t) (iblk m c 5 t) (iblk m c 6 t) (resB m c t) (iblk m c 7 t), nrmB m c t) := by
  rw [outsAt0_A m c t h, out0_A_8_eq, sout0_A_0_eq]

theorem last_eq (t : Fin cfg0.N) (h : t.val % 2 = 1) : (outsAt0 m c t.val t.isLt).1 =
    k0_pay3 (F := Ideal) (nrmB m c (prev t)) (iblk m c 5 t) (iblk m c 6 t)
      (k0_pay3 (F := Ideal) (nrmB m c (prev t)) (iblk m c 5 (prev t)) (iblk m c 6 (prev t)) (resB m c (prev t)) (iblk m c 7 (prev t))) (iblk m c 7 t) := by
  have e := first_eq m c (prev t) (by show (t.val - 1) % 2 = 0; omega)
  rw [outsAt0_B m c t (by omega)]
  dsimp only
  rw [out0_B_8_eq]
  have e1 : outsAt0 m c (t.val - 1) (Nat.lt_of_le_of_lt (Nat.sub_le _ _) t.isLt) = _ := e
  rw [e1]

theorem resB_at (t : Fin cfg0.N) (p : Fin 512) (d : Fin 1024) : resB m c t (ix2 p d) = x1 (aK m c) (bK m c) (xK m c) (oK m c) (row t p) d :=
  res_of _ _ _ _ _ _ _ _ _ p (row t p) (fun d => (blk_2 m c t p d).trans (congrFun (V_main_arg2 m c) _)) (fun k => (blk_0 m c t p k).trans (congrFun (V_main_arg0 m c) _))
    (fun k => (blk_1 m c t p k).trans (congrFun (V_main_arg1 m c) _)) (fun k d => (top_at _ k d).trans ((congrFun (blk_3 m c t) _).trans (v1_at m c (lo k) d))) (fun k d => (bot_at _ k d).trans ((congrFun (blk_3 m c t) _).trans (v1_at m c (hi k) d))) d

theorem nrmB_at (t : Fin cfg0.N) (p : Fin 512) (d : Fin 1024) : nrmB m c t (ix2 p d) = hn (aK m c) (bK m c) (xK m c) (oK m c) (nK m c) (row t p) d :=
  nrm_of _ _ _ _ _ _ _ _ _ _ _ p (row t p) (fun d => (blk_2 m c t p d).trans (congrFun (V_main_arg2 m c) _)) (fun k => (blk_0 m c t p k).trans (congrFun (V_main_arg0 m c) _))
    (fun k => (blk_1 m c t p k).trans (congrFun (V_main_arg1 m c) _)) (fun k d => (top_at _ k d).trans ((congrFun (blk_3 m c t) _).trans (v1_at m c (lo k) d))) (fun k d => (bot_at _ k d).trans ((congrFun (blk_3 m c t) _).trans (v1_at m c (hi k) d))) (fun d => (congrFun (blk_4 m c t) _).trans (v3_at m c d)) d

theorem at_lo (t : Fin cfg0.N) (h : t.val % 2 = 0) (k : Fin 1408) : (⟨t.val % 2 * 1408 + k.val, hid_lt t k⟩ : Fin 2816) = lo2 k :=
  Fin.ext (by show t.val % 2 * 1408 + k.val = k.val; omega)
theorem at_hi (t : Fin cfg0.N) (h : t.val % 2 = 1) (k : Fin 1408) : (⟨t.val % 2 * 1408 + k.val, hid_lt t k⟩ : Fin 2816) = hi2 k :=
  Fin.ext (by show t.val % 2 * 1408 + k.val = 1408 + k.val; omega)

theorem gate_at (t : Fin cfg0.N) (d : Fin 1024) (k : Fin 1408) (K : Fin 2816) (h : (⟨t.val % 2 * 1408 + k.val, hid_lt t k⟩ : Fin 2816) = K) :
    (iblk m c 5 t : S1x1024x1408.Idx → EReal) (ix3 0 d k) = gK m c (ix3 0 d K) := by
  subst h
  exact (blk_5 m c t d k).trans ((congrFun (entry_v7 m c) _).trans (cut2_at (gK m c) (⟨t.val % 2, blk_lt t⟩ : Fin 2) d k (hid_lt t k)))

theorem up_at (t : Fin cfg0.N) (d : Fin 1024) (k : Fin 1408) (K : Fin 2816) (h : (⟨t.val % 2 * 1408 + k.val, hid_lt t k⟩ : Fin 2816) = K) :
    (iblk m c 6 t : S1x1024x1408.Idx → EReal) (ix3 0 d k) = uK m c (ix3 0 d K) := by
  subst h
  exact (blk_6 m c t d k).trans ((congrFun (entry_v11 m c) _).trans (cut2_at (uK m c) (⟨t.val % 2, blk_lt t⟩ : Fin 2) d k (hid_lt t k)))

theorem down_at (t : Fin cfg0.N) (k : Fin 1408) (j : Fin 1024) (K : Fin 2816) (h : (⟨t.val % 2 * 1408 + k.val, hid_lt t k⟩ : Fin 2816) = K) :
    (iblk m c 7 t : S1408x1024.Idx → EReal) (ix2 k j) = dK m c (ix3 0 K j) := by
  subst h
  exact (blk_7 m c t k j).trans (v13_at m c _ j)

theorem last_at (t : Fin cfg0.N) (h : t.val % 2 = 1) (p : Fin 512) (j : Fin 1024) : ((outsAt0 m c t.val t.isLt).1 : S512x1024.Idx → EReal) (ix2 p j) =
    out (x1 (aK m c) (bK m c) (xK m c) (oK m c) (row t p)) (hn (aK m c) (bK m c) (xK m c) (oK m c) (nK m c) (row t p)) (gK m c) (uK m c) (dK m c) j := by
  have h' : (prev t).val % 2 = 0 := by show (t.val - 1) % 2 = 0; omega
  have hr : row (prev t) p = row t p := Fin.ext (by show (t.val - 1) / 2 * 512 + p.val = t.val / 2 * 512 + p.val; omega)
  rw [← hr]
  refine (congrFun (last_eq m c t h) (ix2 p j)).trans ?_
  exact two_of _ _ _ _ _ _ _ _ p j _ _ _ _ _ (fun d => resB_at m c (prev t) p d) (fun d => nrmB_at m c (prev t) p d)
    (fun d k => gate_at m c (prev t) d k _ (at_lo _ h' k)) (fun d k => gate_at m c t d k _ (at_hi _ h k))
    (fun d k => up_at m c (prev t) d k _ (at_lo _ h' k)) (fun d k => up_at m c t d k _ (at_hi _ h k))
    (fun k => down_at m c (prev t) k j _ (at_lo _ h' k)) (fun k => down_at m c t k j _ (at_hi _ h k))

/-- The array the run leaves is the dense layer. -/
theorem G8_dense : (G8 m c : S16384x1024.Idx → EReal) = dense (aK m c) (bK m c) (xK m c) (oK m c) (nK m c) (gK m c) (uK m c) (dK m c) := by
  funext i
  have hi : ∃ (p : Fin 16384) (j : Fin 1024), i = (ix2 p j : S16384x1024.Idx) := ⟨i 0, i 1, by funext b; fin_cases b <;> rfl⟩
  obtain ⟨p, j, rfl⟩ := hi
  have hp := p.isLt
  have hj := j.isLt
  have e : pt8Of (ix2 p j) = 2 * (p.val / 512) + 1 := by
    show 2 * (1 * (p.val / 512 - 0) + 1 * (j.val / 1024 - 0)) + 1 = _
    omega
  have ht : pt8Of (ix2 p j) < cfg0.N := by rw [e]; show _ < 64; omega
  have hm : pt8Of (ix2 p j) % 2 = 1 := by rw [e]; omega
  have hl : loc8Of (ix2 p j) = (ix2 (⟨p.val % 512, Nat.mod_lt _ (by decide)⟩ : Fin 512) j : S512x1024.Idx) := by
    funext b
    apply Fin.ext
    fin_cases b
    · rfl
    · show j.val % 1024 = j.val
      omega
  have hrow : row ⟨pt8Of (ix2 p j), ht⟩ (⟨p.val % 512, Nat.mod_lt _ (by decide)⟩ : Fin 512) = p := by
    refine Fin.ext ?_
    show pt8Of (ix2 p j) / 2 * 512 + p.val % 512 = p.val
    rw [e]; omega
  have hg : G8 m c (ix2 p j) = (outsAt0 m c (pt8Of (ix2 p j)) ht).1 (loc8Of (ix2 p j)) := by
    unfold G8
    rw [dif_pos ht, outsAt0_sweep]
  refine hg.trans ?_
  rw [hl]
  refine (last_at m c ⟨pt8Of (ix2 p j), ht⟩ hm _ j).trans ?_
  rw [hrow]
  rfl

end Final

end Cert.Kernel3Ideal.Dense

end
-- ==== Proof.EnterRun.lean ====
/- The launch of the two kernels: what the two output arrays hold at the end. -/
module

public import proofs.«01_k».proof.Proof.Gen.Kernel4Ideal.Frame

@[expose] public section

set_option maxRecDepth 16384
set_option Elab.async false

noncomputable section

namespace Cert.Kernel4Ideal.Enter

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the arguments as launched and the output arrays as the second kernel leaves it. -/
theorem run : θ_run defs (onTc (τ := τ) (main (F := F))) ⟨m, fun _ => 0, ρ⟩ (fun r => (∀ c : Dev nD,
      r.2.mem ((c.tc : Thread nD τ).loc main_v51_1) = W4 m ρ c (Proc.devRef .tc main_v51_1)
      ∧ r.2.mem ((c.tc : Thread nD τ).loc main_v51_2) = W4 m ρ c (Proc.devRef .tc main_v51_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v51_1 (by decide)), h c _ (mem_uc main_v51_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

/-- The array of keys and values holds the second kernel's blocks written back. -/
theorem kv_eq (c : Dev nD) : W4 m ρ c (Proc.devRef .tc main_v51_1) = (dat1 (V3 m ρ) c).arrAt (9 : Fin 12) cfg1.N := W4_arr m ρ c (9 : Fin 12)

/-- The array of gating rows holds the second kernel's blocks written back. -/
theorem gv_eq (c : Dev nD) : W4 m ρ c (Proc.devRef .tc main_v51_2) = (dat1 (V3 m ρ) c).arrAt (10 : Fin 12) cfg1.N := W4_arr m ρ c (10 : Fin 12)

end Cert.Kernel4Ideal.Enter

end
-- ==== Proof.EnterSpec.lean ====
/- The even layer's keys, values and gating rows of the sample group over the extended reals: the projected row, the
   gating row's activation and its normalisation, and the rotation of a key's first sixteen lanes. -/
module

public import proofs.«01_k».proof.Proof.MoeSpec

@[expose] public section

set_option Elab.async false

noncomputable section

namespace Cert.Entering

open Idealize.ShloMosaic
open Cert.Routed (rms)

abbrev Tok : Type := (⟨2, ![128, 1024]⟩ : Shape).Idx → EReal
abbrev Nrm : Type := (⟨2, ![1, 1024]⟩ : Shape).Idx → EReal
abbrev Win : Type := (⟨3, ![1, 1024, 2560]⟩ : Shape).Idx → EReal
abbrev Wide : Type := (⟨2, ![128, 2560]⟩ : Shape).Idx → EReal
abbrev Gate : Type := (⟨2, ![128, 512]⟩ : Shape).Idx → EReal
abbrev Lane : Type := (⟨2, ![1, 512]⟩ : Shape).Idx → EReal
abbrev Rot : Type := (⟨2, ![1, 8]⟩ : Shape).Idx → EReal

theorem key1 (h e : Fin 8) : h.val * 64 + e.val < 1024 := by omega
theorem key2 (h e : Fin 8) : h.val * 64 + (8 + e.val) < 1024 := by omega
theorem key3 (h : Fin 8) (e : Fin 48) : h.val * 64 + (16 + e.val) < 1024 := by omega
theorem val4 (k : Fin 512) : 512 + k.val < 1024 := by omega
theorem z1 (h e : Fin 8) : 512 + (h.val * 64 + e.val) < 2560 := by omega
theorem z2 (h e : Fin 8) : 512 + (h.val * 64 + (8 + e.val)) < 2560 := by omega
theorem z3 (h : Fin 8) (e : Fin 48) : 512 + (h.val * 64 + (16 + e.val)) < 2560 := by omega
theorem z4 (k : Fin 512) : 1024 + k.val < 2560 := by omega
theorem z5 (k : Fin 512) : 2048 + k.val < 2560 := by omega

/-- Head `h`'s lane `e` of the first eight, as a column of the keys and values. -/
abbrev c1 (h e : Fin 8) : Fin 1024 := ⟨h.val * 64 + e.val, key1 h e⟩
/-- Head `h`'s lane `e` of the second eight. -/
abbrev c2 (h e : Fin 8) : Fin 1024 := ⟨h.val * 64 + (8 + e.val), key2 h e⟩
/-- Head `h`'s lane `e` of the other forty-eight. -/
abbrev c3 (h : Fin 8) (e : Fin 48) : Fin 1024 := ⟨h.val * 64 + (16 + e.val), key3 h e⟩
/-- Column `k` of the values. -/
abbrev c4 (k : Fin 512) : Fin 1024 := ⟨512 + k.val, val4 k⟩
/-- The same columns in the projected row. -/
abbrev d1 (h e : Fin 8) : Fin 2560 := ⟨512 + (h.val * 64 + e.val), z1 h e⟩
abbrev d2 (h e : Fin 8) : Fin 2560 := ⟨512 + (h.val * 64 + (8 + e.val)), z2 h e⟩
abbrev d3 (h : Fin 8) (e : Fin 48) : Fin 2560 := ⟨512 + (h.val * 64 + (16 + e.val)), z3 h e⟩
abbrev d4 (k : Fin 512) : Fin 2560 := ⟨1024 + k.val, z4 k⟩
/-- Column `k` of the gating rows in the projected row. -/
abbrev d5 (k : Fin 512) : Fin 2560 := ⟨2048 + k.val, z5 k⟩

/-- A column of the normalised row's projection. -/
def zc (x : Tok) (n : Nrm) (w : Win) (p : Fin 128) (d : Fin 2560) : EReal :=
  ∑ e : Fin 1024, rms (fun j => x (ix2 p j)) (fun j => n (ix2 0 j)) e * w (ix3 0 e d)

/-- The gating row's activation. -/
def gelu (h : EReal) : EReal :=
  Ideal.ofBits .f32 0x3F000000#32 * h * (1 + Ideal.erf (h * Ideal.ofBits .f32 0x3F3504F3#32))

/-- A row's mean. -/
def mean (f : Fin 512 → EReal) : EReal := Ideal.div (∑ j : Fin 512, f j) (Ideal.ofBits .f32 0x44000000#32)

/-- A row less its mean, over its deviation, times the weights and plus the offsets. -/
def ln (f g b : Fin 512 → EReal) (k : Fin 512) : EReal :=
  (f k - mean f) * Ideal.rsqrt (mean (fun j => (f j - mean f) * (f j - mean f)) + Ideal.ofBits .f32 0x358637BD#32) * g k + b k

/-- The angle of lane pair `e` at position 2048. -/
def ang (e : Fin 8) : EReal :=
  FloatOps.sitofp (F := Ideal) .f32 2048#32 * Ideal.pow (Ideal.ofBits .f32 0x48F42400#32)
    (Ideal.div (-FloatOps.sitofp (F := Ideal) .f32 (BitVec.ofNat 32 e.val)) (Ideal.ofBits .f32 0x41000000#32))

/-- Two arrays of keys and values agree when they agree on the four groups of columns. -/
theorem ext_kv (f g : Tok) (h1 : ∀ p h e, f (ix2 p (c1 h e)) = g (ix2 p (c1 h e))) (h2 : ∀ p h e, f (ix2 p (c2 h e)) = g (ix2 p (c2 h e)))
    (h3 : ∀ p h e, f (ix2 p (c3 h e)) = g (ix2 p (c3 h e))) (h4 : ∀ p k, f (ix2 p (c4 k)) = g (ix2 p (c4 k))) : f = g := by
  funext i
  have hi : ∃ (p : Fin 128) (j : Fin 1024), i = (ix2 p j : (⟨2, ![128, 1024]⟩ : Shape).Idx) := ⟨i 0, i 1, by funext b; fin_cases b <;> rfl⟩
  obtain ⟨p, j, rfl⟩ := hi
  by_cases h : j.val < 512
  · have hh : j.val / 64 < 8 := by omega
    by_cases ha : j.val % 64 < 8
    · have e : j = c1 ⟨j.val / 64, hh⟩ ⟨j.val % 64, ha⟩ := Fin.ext (by show j.val = j.val / 64 * 64 + j.val % 64; omega)
      rw [e]; exact h1 _ _ _
    · by_cases hb : j.val % 64 < 16
      · have e : j = c2 ⟨j.val / 64, hh⟩ ⟨j.val % 64 - 8, by omega⟩ := Fin.ext (by show j.val = j.val / 64 * 64 + (8 + (j.val % 64 - 8)); omega)
        rw [e]; exact h2 _ _ _
      · have e : j = c3 ⟨j.val / 64, hh⟩ ⟨j.val % 64 - 16, by omega⟩ := Fin.ext (by show j.val = j.val / 64 * 64 + (16 + (j.val % 64 - 16)); omega)
        rw [e]; exact h3 _ _ _
  · have e : j = c4 ⟨j.val - 512, by omega⟩ := Fin.ext (by show j.val = 512 + (j.val - 512); omega)
    rw [e]; exact h4 _ _

end Cert.Entering

end
-- ==== Proof.EnterPay.lean ====
/- The two kernels' blocks of the sample group's even layer, and their payloads at an index over the extended reals. -/
module

public import proofs.«01_k».proof.Proof.EnterRun
public import proofs.«01_k».proof.Proof.EnterSpec
public import Idealize.ShloMosaic.Lib.Pointwise
public import Idealize.ShloMosaic.Lib.KernelVsHost
public import Idealize.ShloMosaic.Lib.Tactic.CleanTypes

@[expose] public section

set_option maxRecDepth 16384
set_option Elab.async false

noncomputable section

namespace Cert.Kernel4Ideal.Enter

open Cert.Kernel4Ideal Cert.Kernel4Ideal.Gen
open Idealize.ShloMosaic Idealize.ShloMosaic.TcCoe
open Cert.Entering

theorem hz2 : (![0, 0] : Fin 2 → ℕ) = fun _ => 0 := funext fun b => by fin_cases b <;> rfl

/-! ## The payloads -/

theorem proj_at (x : Tok) (n : Nrm) (w : S1024x2560.Idx → EReal) (p : Fin 128) (d : Fin 2560) : k0_pay1 (F := Ideal) x n w (ix2 p d) =
    ∑ e : Fin 1024, Routed.rms (fun j => x (ix2 p j)) (fun j => n (ix2 0 j)) e * w (ix2 e d) := by
  unfold k0_pay1
  pointwise
  rfl

theorem gelu_at (u : Gate) (p : Fin 128) (k : Fin 512) : k1_pay22 (F := Ideal) u (ix2 p k) = gelu (u (ix2 p k)) := by
  unfold k1_pay22 gelu
  pointwise
  rfl

theorem ln_at (G : Gate) (g b : Lane) (p : Fin 128) (k : Fin 512) : k1_pay1 (F := Ideal) G (k1_pay23 (F := Ideal) g) b (ix2 p k) =
    ln (fun j => G (ix2 p j)) (fun j => g (ix2 0 j)) (fun j => b (ix2 0 j)) k := by
  unfold k1_pay1 k1_pay23 ln mean
  pointwise

theorem up_lt (l : Fin 128) : (l.val + 8) % 128 < 128 := by omega
theorem dn_lt (l : Fin 128) : (l.val + 120) % 128 < 128 := by omega

/-- A block of 128 lanes turned by its three tables. -/
def turn (u c up dn : Fin 128 → EReal) (l : Fin 128) : EReal :=
  u l * c l + u ⟨(l.val + 8) % 128, up_lt l⟩ * up l + u ⟨(l.val + 120) % 128, dn_lt l⟩ * dn l

/-- The block's turn as the kernel writes it. -/
abbrev turned (c up dn : S1x128.Idx → EReal) (u : S128x128.Idx → EReal) : FVec Ideal S128x128 .f32 :=
  addf (F := Ideal) (φ := .f32) (addf (F := Ideal) (φ := .f32) (mulf (F := Ideal) (φ := .f32) u (broadcastTo S128x128 c broadcasts_S1x128_S128x128)) (mulf (F := Ideal) (φ := .f32) (dynamicRotate 1 120#32 none u rotates_S128x128_d1) (broadcastTo S128x128 up broadcasts_S1x128_S128x128))) (mulf (F := Ideal) (φ := .f32) (dynamicRotate 1 8#32 none u rotates_S128x128_d1) (broadcastTo S128x128 dn broadcasts_S1x128_S128x128))

theorem turned_at (c up dn : S1x128.Idx → EReal) (u : S128x128.Idx → EReal) (p l : Fin 128) :
    turned c up dn u (ix2 p l) = turn (fun k => u (ix2 p k)) (fun k => c (ix2 0 k)) (fun k => up (ix2 0 k)) (fun k => dn (ix2 0 k)) l := by
  have h1 : dynamicRotate 1 120#32 none u rotates_S128x128_d1 (ix2 p l) = u (ix2 p (⟨(l.val + 8) % 128, up_lt l⟩ : Fin 128)) :=
    dynamicRotate_apply 1 120#32 u rotates_S128x128_d1 _ _ fun b => by
      fin_cases b
      · rfl
      · show (l.val + 8) % 128 = (l.val + 128 - 120 % 128) % 128
        omega
  have h2 : dynamicRotate 1 8#32 none u rotates_S128x128_d1 (ix2 p l) = u (ix2 p (⟨(l.val + 120) % 128, dn_lt l⟩ : Fin 128)) :=
    dynamicRotate_apply 1 8#32 u rotates_S128x128_d1 _ _ fun b => by
      fin_cases b
      · rfl
      · show (l.val + 120) % 128 = (l.val + 128 - 8 % 128) % 128
        omega
  unfold turned
  generalize dynamicRotate 1 120#32 none u rotates_S128x128_d1 = v at h1 ⊢
  generalize dynamicRotate 1 8#32 none u rotates_S128x128_d1 = w at h2 ⊢
  show _ = u (ix2 p l) * c (ix2 0 l) + u (ix2 p (⟨(l.val + 8) % 128, up_lt l⟩ : Fin 128)) * up (ix2 0 l) + u (ix2 p (⟨(l.val + 120) % 128, dn_lt l⟩ : Fin 128)) * dn (ix2 0 l)
  rw [← h1, ← h2]
  clear h1 h2
  pointwise

/-- The keys' four blocks of lanes. -/
abbrev lanes (q : Fin 4) (l : Fin 128) : Fin 512 := ⟨q.val * 128 + l.val, by omega⟩

theorem keys_at (c up dn : S1x128.Idx → EReal) (u : Gate) (p : Fin 128) (q : Fin 4) (l : Fin 128) :
    k1_pay19 (F := Ideal) (k1_pay3 (F := Ideal) c) (k1_pay4 (F := Ideal) up) (k1_pay5 (F := Ideal) dn)
      (k1_pay15 (F := Ideal) (k1_pay3 (F := Ideal) c) (k1_pay4 (F := Ideal) up) (k1_pay5 (F := Ideal) dn) u)
      (k1_pay16 (F := Ideal) (k1_pay3 (F := Ideal) c) (k1_pay4 (F := Ideal) up) (k1_pay5 (F := Ideal) dn) u)
      (k1_pay17 (F := Ideal) (k1_pay3 (F := Ideal) c) (k1_pay4 (F := Ideal) up) (k1_pay5 (F := Ideal) dn) u)
      (k1_pay18 (F := Ideal) u) (ix2 p (lanes q l)) =
    turn (fun k => u (ix2 p (lanes q k))) (fun k => c (ix2 0 k)) (fun k => up (ix2 0 k)) (fun k => dn (ix2 0 k)) l := by
  have e : k1_pay19 (F := Ideal) (k1_pay3 (F := Ideal) c) (k1_pay4 (F := Ideal) up) (k1_pay5 (F := Ideal) dn)
      (k1_pay15 (F := Ideal) (k1_pay3 (F := Ideal) c) (k1_pay4 (F := Ideal) up) (k1_pay5 (F := Ideal) dn) u)
      (k1_pay16 (F := Ideal) (k1_pay3 (F := Ideal) c) (k1_pay4 (F := Ideal) up) (k1_pay5 (F := Ideal) dn) u)
      (k1_pay17 (F := Ideal) (k1_pay3 (F := Ideal) c) (k1_pay4 (F := Ideal) up) (k1_pay5 (F := Ideal) dn) u)
      (k1_pay18 (F := Ideal) u) =
      concatenate S128x512 1 [⟨S128x128, turned c up dn (extractStridedSlice S128x128 ![0, 0] u slices_S128x512_o0_0_S128x128)⟩, ⟨S128x128, turned c up dn (extractStridedSlice S128x128 ![0, 128] u slices_S128x512_o0_128_S128x128)⟩,
        ⟨S128x128, turned c up dn (extractStridedSlice S128x128 ![0, 256] u slices_S128x512_o0_256_S128x128)⟩, ⟨S128x128, turned c up dn (extractStridedSlice S128x128 ![0, 384] u slices_S128x512_o0_384_S128x128)⟩] concatenates_S128x128_S128x128_S128x128_S128x128_S128x512_d1 := by
    rw [show k1_pay3 (F := Ideal) c = c from shapeCast_self _ _, show k1_pay4 (F := Ideal) up = up from shapeCast_self _ _, show k1_pay5 (F := Ideal) dn = dn from shapeCast_self _ _]
    unfold k1_pay19 k1_pay15 k1_pay16 k1_pay17 k1_pay18
    rw [show k1_pay14 (F := Ideal) u = u from shapeCast_self _ _]
  rw [e]
  have t0 := turned_at c up dn (extractStridedSlice S128x128 ![0, 0] u slices_S128x512_o0_0_S128x128) p
  have t1 := turned_at c up dn (extractStridedSlice S128x128 ![0, 128] u slices_S128x512_o0_128_S128x128) p
  have t2 := turned_at c up dn (extractStridedSlice S128x128 ![0, 256] u slices_S128x512_o0_256_S128x128) p
  have t3 := turned_at c up dn (extractStridedSlice S128x128 ![0, 384] u slices_S128x512_o0_384_S128x128) p
  generalize turned c up dn (extractStridedSlice S128x128 ![0, 0] u slices_S128x512_o0_0_S128x128) = v0 at t0 ⊢
  generalize turned c up dn (extractStridedSlice S128x128 ![0, 128] u slices_S128x512_o0_128_S128x128) = v1 at t1 ⊢
  generalize turned c up dn (extractStridedSlice S128x128 ![0, 256] u slices_S128x512_o0_256_S128x128) = v2 at t2 ⊢
  generalize turned c up dn (extractStridedSlice S128x128 ![0, 384] u slices_S128x512_o0_384_S128x128) = v3 at t3 ⊢
  clear e
  fin_cases q
  · refine Eq.trans (b := v0 (ix2 p l)) ?_ ((t0 l).trans (congrArg (fun f => turn f _ _ _ l) (funext fun k => ?_)))
    · pointwise
    · pointwise
      exact congrArg (fun j : Fin 512 => u (ix2 p j)) (Fin.ext (by show k.val = 0 * 128 + k.val; omega))
  · refine Eq.trans (b := v1 (ix2 p l)) ?_ ((t1 l).trans (congrArg (fun f => turn f _ _ _ l) (funext fun k => ?_)))
    · pointwise
    · pointwise
      rfl
  · refine Eq.trans (b := v2 (ix2 p l)) ?_ ((t2 l).trans (congrArg (fun f => turn f _ _ _ l) (funext fun k => ?_)))
    · pointwise
      rw [dif_neg (by omega), dif_neg (by omega), dif_pos (by omega)]
      exact congrArg (fun j : Fin 128 => v2 (ix2 p j)) (Fin.ext (by show 256 + l.val - 128 - 128 = l.val; omega))
    · pointwise
      rfl
  · refine Eq.trans (b := v3 (ix2 p l)) ?_ ((t3 l).trans (congrArg (fun f => turn f _ _ _ l) (funext fun k => ?_)))
    · pointwise
      rw [dif_neg (by omega), dif_neg (by omega), dif_neg (by omega)]
      exact congrArg (fun j : Fin 128 => v3 (ix2 p j)) (Fin.ext (by show 384 + l.val - 128 - 128 - 128 = l.val; omega))
    · pointwise
      rfl

/-! ## The blocks: every one is its whole array -/

section Regions
variable (V : (c : Dev nD) → (b : Ref sig .tc) → Buf (Elt Ideal) ((c.tc : Thread nD τ).loc b)) (c : Dev nD)

theorem z0_0 : ∀ i : grid0.Coords, cc0_transform_0 i 0 = 0 := by decide +kernel
theorem z0_3 : ∀ i : grid0.Coords, cc0_transform_3 i 0 = 0 := by decide +kernel

theorem blk0_0 (t : Fin cfg0.N) : (iblk0 V c 0 t : S128x1024.Idx → EReal) = V c main_arg0 := by
  funext y
  refine congrArg (V c main_arg0) (funext fun b => Fin.ext ?_)
  fin_cases b
  · show cc0_transform_0 (grid0.coords t) 0 * 128 + 1 * (y 0).val = (y 0).val
    rw [z0_0]; omega
  · show 0 * 1024 + 1 * (y 1).val = (y 1).val
    omega

theorem blk0_1 (t : Fin cfg0.N) : (iblk0 V c 1 t : S1x1024.Idx → EReal) = V c main_v1 := by
  funext y
  refine congrArg (V c main_v1) (funext fun b => Fin.ext ?_)
  fin_cases b
  · show 0 * 1 + 1 * (y 0).val = (y 0).val
    omega
  · show 0 * 1024 + 1 * (y 1).val = (y 1).val
    omega

theorem blk0_2 (t : Fin cfg0.N) : (iblk0 V c 2 t : S1024x2560.Idx → EReal) = V c main_v3 := by
  funext y
  refine congrArg (V c main_v3) (funext fun b => Fin.ext ?_)
  fin_cases b
  · show 0 * 1024 + 1 * (y 0).val = (y 0).val
    omega
  · show 0 * 2560 + 1 * (y 1).val = (y 1).val
    omega

theorem emb0_3 (t : Fin cfg0.N) (y : S128x2560.Idx) : (((cfg0.win (3 : Fin 4)).blk t).view.emb y : S128x2560.Idx) = y := by
  funext b
  apply Fin.ext
  fin_cases b
  · show cc0_transform_3 (grid0.coords t) 0 * 128 + 1 * (y 0).val = (y 0).val
    rw [z0_3]; omega
  · show 0 * 2560 + 1 * (y 1).val = (y 1).val
    omega

theorem out0_3_eq (x0 : Vec Ideal S128x1024 .f32) (x1 : Vec Ideal S1x1024 .f32) (x2 : Vec Ideal S1024x2560 .bf16) : out0_3 (F := Ideal) x0 x1 x2 = k0_pay1 (F := Ideal) x0 x1 x2 := by
  unfold out0_3
  rw [View.canon_unit_zero hz2, View.ld_unit_zero (S := S128x1024) hz2, View.ld_unit_zero (S := S1x1024) hz2, View.ld_unit_zero (S := S1024x2560) hz2]

/-- The projection's array. -/
theorem arr0_3 : (dat0 V c).arrAt (3 : Fin 4) cfg0.N = k0_pay1 (F := Ideal) (V c main_arg0) (V c main_v1) (V c main_v3) :=
  Pipeline.Dat.arrAt_eq_of_cover (dat0 V c) (3 : Fin 4) (k0_pay1 (F := Ideal) (V c main_arg0) (V c main_v1) (V c main_v3))
    (fun t hf => (after0_3 V c t).trans (((out0_3_eq _ _ _).trans (by rw [blk0_0, blk0_1, blk0_2])).trans (funext fun y => (congrArg (k0_pay1 (F := Ideal) (V c main_arg0) (V c main_v1) (V c main_v3)) (emb0_3 t y)).symm)))
    (fun i => ⟨t0_0, flush0_3 _, by
      have h := ((cfg0.win (3 : Fin 4)).blk t0_0).view.emb_mem_set i
      rwa [emb0_3] at h⟩)

theorem blk1_0 (t : Fin cfg1.N) : (iblk1 V c 0 t : S128x2560.Idx → EReal) = V c main_v4 := by
  funext y
  refine congrArg (V c main_v4) (funext fun b => Fin.ext ?_)
  fin_cases b
  · show 0 * 128 + 1 * (y 0).val = (y 0).val
    omega
  · show 0 * 2560 + 1 * (y 1).val = (y 1).val
    omega

theorem blk1_1 (t : Fin cfg1.N) : (iblk1 V c 1 t : S1x128.Idx → EReal) = V c main_v28 := by
  funext y
  refine congrArg (V c main_v28) (funext fun b => Fin.ext ?_)
  fin_cases b
  · show 0 * 1 + 1 * (y 0).val = (y 0).val
    omega
  · show 0 * 128 + 1 * (y 1).val = (y 1).val
    omega

theorem blk1_2 (t : Fin cfg1.N) : (iblk1 V c 2 t : S1x128.Idx → EReal) = V c main_v31 := by
  funext y
  refine congrArg (V c main_v31) (funext fun b => Fin.ext ?_)
  fin_cases b
  · show 0 * 1 + 1 * (y 0).val = (y 0).val
    omega
  · show 0 * 128 + 1 * (y 1).val = (y 1).val
    omega

theorem blk1_3 (t : Fin cfg1.N) : (iblk1 V c 3 t : S1x128.Idx → EReal) = V c main_v34 := by
  funext y
  refine congrArg (V c main_v34) (funext fun b => Fin.ext ?_)
  fin_cases b
  · show 0 * 1 + 1 * (y 0).val = (y 0).val
    omega
  · show 0 * 128 + 1 * (y 1).val = (y 1).val
    omega

theorem blk1_4 (t : Fin cfg1.N) : (iblk1 V c 4 t : S1x512.Idx → EReal) = V c main_v36 := by
  funext y
  refine congrArg (V c main_v36) (funext fun b => Fin.ext ?_)
  fin_cases b
  · show 0 * 1 + 1 * (y 0).val = (y 0).val
    omega
  · show 0 * 512 + 1 * (y 1).val = (y 1).val
    omega

theorem blk1_5 (t : Fin cfg1.N) : (iblk1 V c 5 t : S1x512.Idx → EReal) = V c main_v38 := by
  funext y
  refine congrArg (V c main_v38) (funext fun b => Fin.ext ?_)
  fin_cases b
  · show 0 * 1 + 1 * (y 0).val = (y 0).val
    omega
  · show 0 * 512 + 1 * (y 1).val = (y 1).val
    omega

theorem emb1_9 (t : Fin cfg1.N) (y : S128x1024.Idx) : (((cfg1.win (9 : Fin 12)).blk t).view.emb y : S128x1024.Idx) = y := by
  funext b
  apply Fin.ext
  fin_cases b
  · show 0 * 128 + 1 * (y 0).val = (y 0).val
    omega
  · show 0 * 1024 + 1 * (y 1).val = (y 1).val
    omega

theorem emb1_10 (t : Fin cfg1.N) (y : S128x512.Idx) : (((cfg1.win (10 : Fin 12)).blk t).view.emb y : S128x512.Idx) = y := by
  funext b
  apply Fin.ext
  fin_cases b
  · show 0 * 128 + 1 * (y 0).val = (y 0).val
    omega
  · show 0 * 512 + 1 * (y 1).val = (y 1).val
    omega

/-- The second kernel's keys. -/
abbrev keys (z : Wide) (a u d : S1x128.Idx → EReal) : Gate :=
  k1_pay19 (F := Ideal) (k1_pay3 (F := Ideal) a) (k1_pay4 (F := Ideal) u) (k1_pay5 (F := Ideal) d)
    (k1_pay15 (F := Ideal) (k1_pay3 (F := Ideal) a) (k1_pay4 (F := Ideal) u) (k1_pay5 (F := Ideal) d) (View.ld (Val := Elt Ideal) (e' := .f32) z r1_3))
    (k1_pay16 (F := Ideal) (k1_pay3 (F := Ideal) a) (k1_pay4 (F := Ideal) u) (k1_pay5 (F := Ideal) d) (View.ld (Val := Elt Ideal) (e' := .f32) z r1_3))
    (k1_pay17 (F := Ideal) (k1_pay3 (F := Ideal) a) (k1_pay4 (F := Ideal) u) (k1_pay5 (F := Ideal) d) (View.ld (Val := Elt Ideal) (e' := .f32) z r1_3))
    (k1_pay18 (F := Ideal) (View.ld (Val := Elt Ideal) (e' := .f32) z r1_3))

/-- The second kernel's keys and values. -/
abbrev kvs (z : Wide) (a u d : S1x128.Idx → EReal) : Tok :=
  View.canon (Val := Elt Ideal) (e := .f32) [⟨r1_6, k1_pay20 (F := Ideal) (View.ld (Val := Elt Ideal) (e' := .f32) z r1_5)⟩, ⟨r1_4, keys z a u d⟩]

/-- The second kernel's gating rows. -/
abbrev gvs (z : Wide) (g b : Lane) : Gate :=
  k1_pay1 (F := Ideal) (k1_pay22 (F := Ideal) (View.ld (Val := Elt Ideal) (e' := .f32) z r1_8)) (k1_pay23 (F := Ideal) g) b

theorem out1_9_eq (x0 : Vec Ideal S128x2560 .f32) (x1 x2 x3 : Vec Ideal S1x128 .f32) (x4 x5 x6 x7 : Vec Ideal S1x512 .f32) : out1_9 (F := Ideal) x0 x1 x2 x3 x4 x5 x6 x7 = kvs x0 x1 x2 x3 := by
  unfold out1_9 k1_pay24 k1_pay25 k1_pay26
  rw [View.ld_unit_zero (S := S1x128) hz2, View.ld_unit_zero (S := S1x128) hz2, View.ld_unit_zero (S := S1x128) hz2]

theorem out1_10_eq (x0 : Vec Ideal S128x2560 .f32) (x1 x2 x3 : Vec Ideal S1x128 .f32) (x4 x5 x6 x7 : Vec Ideal S1x512 .f32) : out1_10 (F := Ideal) x0 x1 x2 x3 x4 x5 x6 x7 = gvs x0 x4 x5 := by
  unfold out1_10 k1_pay27 k1_pay28
  rw [View.canon_unit_zero hz2, View.ld_unit_zero (S := S1x512) hz2, View.ld_unit_zero (S := S1x512) hz2]

theorem arr1_9' (G : S128x1024.Idx → EReal) (hG : ∀ t, (dat1 V c).after (9 : Fin 12) t = G) : (dat1 V c).arrAt (9 : Fin 12) cfg1.N = G :=
  Pipeline.Dat.arrAt_eq_of_cover (dat1 V c) (9 : Fin 12) G
    (fun t hf => (hG t).trans (funext fun y => (congrArg G (emb1_9 t y)).symm))
    (fun i => ⟨t1_0, flush1_9 _, by
      have h := ((cfg1.win (9 : Fin 12)).blk t1_0).view.emb_mem_set i
      rwa [emb1_9] at h⟩)

theorem left1_9 (t : Fin cfg1.N) : (dat1 V c).after (9 : Fin 12) t = kvs (V c main_v4) (V c main_v28) (V c main_v31) (V c main_v34) := by
  refine (after1_9 V c t).trans ((out1_9_eq _ _ _ _ _ _ _ _).trans ?_)
  rw [blk1_0, blk1_1, blk1_2, blk1_3]

theorem arr1_9 : (dat1 V c).arrAt (9 : Fin 12) cfg1.N = kvs (V c main_v4) (V c main_v28) (V c main_v31) (V c main_v34) :=
  arr1_9' V c _ (left1_9 V c)

theorem arr1_10' (G : S128x512.Idx → EReal) (hG : ∀ t, (dat1 V c).after (10 : Fin 12) t = G) : (dat1 V c).arrAt (10 : Fin 12) cfg1.N = G :=
  Pipeline.Dat.arrAt_eq_of_cover (dat1 V c) (10 : Fin 12) G
    (fun t hf => (hG t).trans (funext fun y => (congrArg G (emb1_10 t y)).symm))
    (fun i => ⟨t1_0, flush1_10 _, by
      have h := ((cfg1.win (10 : Fin 12)).blk t1_0).view.emb_mem_set i
      rwa [emb1_10] at h⟩)

theorem left1_10 (t : Fin cfg1.N) : (dat1 V c).after (10 : Fin 12) t = gvs (V c main_v4) (V c main_v36) (V c main_v38) := by
  refine (after1_10 V c t).trans ((out1_10_eq _ _ _ _ _ _ _ _).trans ?_)
  rw [blk1_0, blk1_4, blk1_5]

theorem arr1_10 : (dat1 V c).arrAt (10 : Fin 12) cfg1.N = gvs (V c main_v4) (V c main_v36) (V c main_v38) :=
  arr1_10' V c _ (left1_10 V c)

end Regions

/-! ## The loads and stores at their columns -/

theorem ld_k (z : Wide) (p : Fin 128) (k : Fin 512) (h : 512 + k.val < 2560) : (View.ld (Val := Elt Ideal) (e' := .f32) z r1_3 : S128x512.Idx → EReal) (ix2 p k) = z (ix2 p (⟨512 + k.val, h⟩ : Fin 2560)) :=
  congrArg z (Rect.emb_eq_of_coords _ _ _ fun b => by
    fin_cases b
    · show p.val = 0 + 1 * p.val
      omega
    · show 512 + k.val = 512 + 1 * k.val
      omega)

theorem ld_v (z : Wide) (p : Fin 128) (k : Fin 512) : (View.ld (Val := Elt Ideal) (e' := .f32) z r1_5 : S128x512.Idx → EReal) (ix2 p k) = z (ix2 p (d4 k)) :=
  congrArg z (Rect.emb_eq_of_coords _ _ _ fun b => by
    fin_cases b
    · show p.val = 0 + 1 * p.val
      omega
    · show 1024 + k.val = 1024 + 1 * k.val
      omega)

theorem ld_g (z : Wide) (p : Fin 128) (k : Fin 512) : (View.ld (Val := Elt Ideal) (e' := .f32) z r1_8 : S128x512.Idx → EReal) (ix2 p k) = z (ix2 p (d5 k)) :=
  congrArg z (Rect.emb_eq_of_coords _ _ _ fun b => by
    fin_cases b
    · show p.val = 0 + 1 * p.val
      omega
    · show 2048 + k.val = 2048 + 1 * k.val
      omega)

section Cat
variable (A B : Gate) (p : Fin 128) (k : Fin 512)

theorem cat_v : (View.canon (Val := Elt Ideal) (e := .f32) [⟨r1_6, A⟩, ⟨r1_4, B⟩] : S128x1024.Idx → EReal) (ix2 p (c4 k)) = A (ix2 p k) := by
  have h : r1_6.emb (ix2 p k : S128x512.Idx) = (ix2 p (c4 k) : S128x1024.Idx) := Rect.emb_eq_of_coords _ _ _ fun b => by
    fin_cases b
    · show p.val = 0 + 1 * p.val
      omega
    · show 512 + k.val = 512 + 1 * k.val
      omega
  rw [← h]
  exact View.canon_cons_emb (Val := Elt Ideal) (e := .f32) r1_6 A _ (ix2 p k : S128x512.Idx)

theorem cat_k (h : k.val < 1024) : (View.canon (Val := Elt Ideal) (e := .f32) [⟨r1_6, A⟩, ⟨r1_4, B⟩] : S128x1024.Idx → EReal) (ix2 p (⟨k.val, h⟩ : Fin 1024)) = B (ix2 p k) := by
  refine (View.canon_cons_of_not_mem (Val := Elt Ideal) (e := .f32) ⟨r1_6, A⟩ _ (Rect.not_mem_set_of_axis r1_6 _ 1 512 512 rfl rfl rfl (.inl k.isLt))).trans ?_
  have h : r1_4.emb (ix2 p k : S128x512.Idx) = (ix2 p (⟨k.val, h⟩ : Fin 1024) : S128x1024.Idx) := Rect.emb_eq_of_coords _ _ _ fun b => by
    fin_cases b
    · show p.val = 0 + 1 * p.val
      omega
    · show k.val = 0 + 1 * k.val
      omega
  rw [← h]
  exact View.canon_cons_emb (Val := Elt Ideal) (e := .f32) r1_4 B _ (ix2 p k : S128x512.Idx)

end Cat

end Cert.Kernel4Ideal.Enter

end
-- ==== Proof.EnterRef.lean ====
/- The even layer's reference for the sample group at an index, over the extended reals. -/
module

public import proofs.«01_k».proof.Proof.Gen.Reference4Ideal.Run
public import proofs.«01_k».proof.Proof.EnterSpec
public import Idealize.ShloMosaic.Lib.Pointwise
public import Idealize.ShloMosaic.Lib.Tactic.CleanTypes

@[expose] public section

set_option maxRecDepth 16384
set_option Elab.async false

noncomputable section

namespace Cert.Reference4Ideal.Value

open Cert.Reference4Ideal Cert.Reference4Ideal.Gen
open Idealize.ShloMosaic Idealize.ShloMosaic.TcCoe Idealize.ShloMosaic.HloOp
open Cert.Entering

section Terms
variable {F : FTy → Type} [FloatOps F]

/-- The projected rows. -/
def tZ (a0 : FVec F S128x1024 .f32) (a1 : FVec F S1x1024 .f32) (a2 : FVec F S1x1024x2560 .f32) : FVec F S128x2560 .f32 :=
  Host.dotGeneral dot_S128x1024_S1024x2560_S128x2560_1_0_0_1_n_n none (mulf (mulf a0 (broadcastInDim S128x1024 ![0, 1] bcast_S128x1_S128x1024_0_1 (Host.rsqrt (addf (Host.divf (broadcastInDim S128x1 ![0] bcast_S128_S128x1_0 (Host.reduceAdd (mulf a0 a0) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast S1024 a1 shapeCasts_S1x1024_S1024)))) (shapeCast S1024x2560 a2 shapeCasts_S1x1024x2560_S1024x2560)

/-- The gating rows after the activation. -/
def tG (Z : FVec F S128x2560 .f32) : FVec F S128x512 .f32 :=
  mulf (mulf (broadcastInDim S128x512 ![] bcast_S_S128x512 (constant S_ .f32 0x3F000000#32)) (extractStridedSlice S128x512 ![0, 2048] Z slices_S128x2560_S128x512_0_2048)) (Host.erfc (mulf (Host.negf (extractStridedSlice S128x512 ![0, 2048] Z slices_S128x2560_S128x512_0_2048)) (broadcastInDim S128x512 ![] bcast_S_S128x512 (constant S_ .f32 0x3F3504F3#32))))

/-- A row less its mean. -/
def tD (G : FVec F S128x512 .f32) : FVec F S128x512 .f32 :=
  subf G (broadcastInDim S128x512 ![0, 1] bcast_S128x1_S128x512_0_1 (Host.divf (broadcastInDim S128x1 ![0] bcast_S128_S128x1_0 (Host.reduceAdd G (constant S_ .f32 0x00000000#32) reducesTo_S128x512_S128_d1 h_S_)) (broadcastInDim S128x1 ![] bcast_S_S128x1 (constant S_ .f32 0x44000000#32))))

/-- The centred rows normalised, times the weights and plus the offsets. -/
def tN (D : FVec F S128x512 .f32) (a3 a4 : FVec F S1x512 .f32) : FVec F S128x512 .f32 :=
  addf (mulf (mulf D (broadcastInDim S128x512 ![0, 1] bcast_S128x1_S128x512_0_1 (Host.rsqrt (addf (Host.divf (broadcastInDim S128x1 ![0] bcast_S128_S128x1_0 (Host.reduceAdd (mulf D D) (constant S_ .f32 0x00000000#32) reducesTo_S128x512_S128_d1 h_S_)) (broadcastInDim S128x1 ![] bcast_S_S128x1 (constant S_ .f32 0x44000000#32))) (broadcastInDim S128x1 ![] bcast_S_S128x1 (constant S_ .f32 0x358637BD#32)))))) (broadcastInDim S128x512 ![0, 1] bcast_S1x512_S128x512_0_1 (broadcastInDim S1x512 ![1] bcast_S512_S1x512_1 (shapeCast S512 a3 shapeCasts_S1x512_S512)))) (broadcastInDim S128x512 ![0, 1] bcast_S1x512_S128x512_0_1 (broadcastInDim S1x512 ![1] bcast_S512_S1x512_1 (shapeCast S512 a4 shapeCasts_S1x512_S512)))

/-- The angles. -/
def tA : FVec F S1x8 .f32 :=
  mulf (broadcastInDim S1x8 ![0, 1] bcast_S1x1_S1x8_0_1 (broadcastInDim S1x1 ![0] bcast_S1_S1x1_0 (sitofp .f32 (addi (broadcastInDim S1 ![] bcast_S_S1 (constantI S_ 32 2048#32)) (iotaInDim S1 32 0))))) (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))

/-- The keys in heads. -/
def tK (Z : FVec F S128x2560 .f32) : FVec F S128x8x64 .f32 :=
  shapeCast S128x8x64 (extractStridedSlice S128x512 ![0, 512] Z slices_S128x2560_S128x512_0_512) shapeCasts_S128x512_S128x8x64

/-- The first eight lanes of every head. -/
def t1 (K : FVec F S128x8x64 .f32) (C S : FVec F S1x8 .f32) : FVec F S128x8x8 .f32 :=
  (subf (mulf (extractStridedSlice S128x8x8 ![0, 0, 0] K slices_S128x8x64_S128x8x8_0_0_0) (broadcastInDim S128x8x8 ![0, 1, 2] bcast_S1x1x8_S128x8x8_0_1_2 (broadcastInDim S1x1x8 ![0, 2] bcast_S1x8_S1x1x8_0_2 C))) (mulf (extractStridedSlice S128x8x8 ![0, 0, 8] K slices_S128x8x64_S128x8x8_0_0_8) (broadcastInDim S128x8x8 ![0, 1, 2] bcast_S1x1x8_S128x8x8_0_1_2 (broadcastInDim S1x1x8 ![0, 2] bcast_S1x8_S1x1x8_0_2 S))))

/-- The second eight lanes of every head. -/
def t2 (K : FVec F S128x8x64 .f32) (C S : FVec F S1x8 .f32) : FVec F S128x8x8 .f32 :=
  (addf (mulf (extractStridedSlice S128x8x8 ![0, 0, 8] K slices_S128x8x64_S128x8x8_0_0_8) (broadcastInDim S128x8x8 ![0, 1, 2] bcast_S1x1x8_S128x8x8_0_1_2 (broadcastInDim S1x1x8 ![0, 2] bcast_S1x8_S1x1x8_0_2 C))) (mulf (extractStridedSlice S128x8x8 ![0, 0, 0] K slices_S128x8x64_S128x8x8_0_0_0) (broadcastInDim S128x8x8 ![0, 1, 2] bcast_S1x1x8_S128x8x8_0_1_2 (broadcastInDim S1x1x8 ![0, 2] bcast_S1x8_S1x1x8_0_2 S))))

/-- The other lanes of every head. -/
def t3 (K : FVec F S128x8x64 .f32) : FVec F S128x8x48 .f32 :=
  (extractStridedSlice S128x8x48 ![0, 0, 16] K slices_S128x8x64_S128x8x48_0_0_16)

/-- The values. -/
def tV (Z : FVec F S128x2560 .f32) : FVec F S128x512 .f32 :=
  extractStridedSlice S128x512 ![0, 1024] Z slices_S128x2560_S128x512_0_1024

/-- The keys' lanes side by side, and the values after them. -/
def tO (A B : FVec F S128x8x8 .f32) (D : FVec F S128x8x48 .f32) (v : FVec F S128x512 .f32) : FVec F S128x1024 .f32 :=
  concatenate S128x1024 1 [⟨S128x512, (shapeCast S128x512 ((concatenate S128x8x64 2 [⟨S128x8x8, A⟩, ⟨S128x8x8, B⟩, ⟨S128x8x48, D⟩] concatenates_S128x8x8_S128x8x8_S128x8x48_S128x8x64_d2)) shapeCasts_S128x8x64_S128x512)⟩, ⟨S128x512, v⟩] concatenates_S128x512_S128x512_S128x1024_d1

set_option maxRecDepth 65536 in
theorem gv_terms (m : (ℓ : Loc nD τ sig) → Buf (Elt F) ℓ) (c : Dev nD) : res_main_v86 m c =
    tN (tD (tG (tZ (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := by
  unfold res_main_v86 tN tD tG tZ
  rfl

set_option maxRecDepth 65536 in
theorem kv_terms (m : (ℓ : Loc nD τ sig) → Buf (Elt F) ℓ) (c : Dev nD) : res_main_v52 m c =
    (let Z := tZ (m ((c.tc : Thread nD τ).loc main_arg0)) (m ((c.tc : Thread nD τ).loc main_arg1)) (m ((c.tc : Thread nD τ).loc main_arg2))
     tO (t1 (tK Z) (Host.cos tA) (Host.sin tA)) (t2 (tK Z) (Host.cos tA) (Host.sin tA)) (t3 (tK Z)) (tV Z)) := by
  unfold res_main_v52 tO t1 t2 t3 tK tV tA tZ
  rfl

end Terms

theorem tZ_at (x : Tok) (n : Nrm) (w : Win) (p : Fin 128) (d : Fin 2560) : tZ (F := Ideal) x n w (ix2 p d) = zc x n w p d := by
  unfold tZ
  pointwise
  rfl

theorem tG_at (Z : Wide) (p : Fin 128) (k : Fin 512) : tG (F := Ideal) Z (ix2 p k) = gelu (Z (ix2 p (d5 k))) := by
  unfold tG gelu
  pointwise
  rw [neg_mul, Ideal.erfc_neg]

theorem tD_at (G : Gate) (p : Fin 128) (k : Fin 512) : tD (F := Ideal) G (ix2 p k) = G (ix2 p k) - mean fun j => G (ix2 p j) := by
  unfold tD
  pointwise
  rfl

theorem tN_at (D : Gate) (g b : Lane) (p : Fin 128) (k : Fin 512) : tN (F := Ideal) D g b (ix2 p k) =
    D (ix2 p k) * Ideal.rsqrt (mean (fun j => D (ix2 p j) * D (ix2 p j)) + Ideal.ofBits .f32 0x358637BD#32) * g (ix2 0 k) + b (ix2 0 k) := by
  unfold tN
  pointwise
  rfl

theorem tK_at (Z : Wide) (p : Fin 128) (h : Fin 8) (e : Fin 64) (H : 512 + (h.val * 64 + e.val) < 2560) :
    tK (F := Ideal) Z (ix3 p h e) = Z (ix2 p (⟨512 + (h.val * 64 + e.val), H⟩ : Fin 2560)) := by
  unfold tK
  pointwise

theorem t1_at (K : S128x8x64.Idx → EReal) (C S : Rot) (p : Fin 128) (h e : Fin 8) : t1 (F := Ideal) K C S (ix3 p h e) =
    K (ix3 p h (⟨e.val, by omega⟩ : Fin 64)) * C (ix2 0 e) - K (ix3 p h (⟨8 + e.val, by omega⟩ : Fin 64)) * S (ix2 0 e) := by
  unfold t1
  pointwise

theorem t2_at (K : S128x8x64.Idx → EReal) (C S : Rot) (p : Fin 128) (h e : Fin 8) : t2 (F := Ideal) K C S (ix3 p h e) =
    K (ix3 p h (⟨8 + e.val, by omega⟩ : Fin 64)) * C (ix2 0 e) + K (ix3 p h (⟨e.val, by omega⟩ : Fin 64)) * S (ix2 0 e) := by
  unfold t2
  pointwise

theorem t3_at (K : S128x8x64.Idx → EReal) (p : Fin 128) (h : Fin 8) (e : Fin 48) : t3 (F := Ideal) K (ix3 p h e) = K (ix3 p h (⟨16 + e.val, by omega⟩ : Fin 64)) := by
  unfold t3
  pointwise

theorem tV_at (Z : Wide) (p : Fin 128) (k : Fin 512) : tV (F := Ideal) Z (ix2 p k) = Z (ix2 p (d4 k)) := by
  unfold tV
  pointwise

section Out
variable (A B : S128x8x8.Idx → EReal) (D : S128x8x48.Idx → EReal) (v : Gate) (p : Fin 128)

theorem tO_1 (h e : Fin 8) : tO (F := Ideal) A B D v (ix2 p (c1 h e)) = A (ix3 p h e) := by
  unfold tO
  pointwise
  rw [dif_pos (by omega), dif_pos (by omega)]
  refine congrArg (fun q : Fin 8 => A (ix3 p h q)) (Fin.ext ?_)
  show (h.val * 64 + e.val) % 64 = e.val
  omega

theorem tO_2 (h e : Fin 8) : tO (F := Ideal) A B D v (ix2 p (c2 h e)) = B (ix3 p h e) := by
  unfold tO
  pointwise
  rw [dif_pos (by omega), dif_neg (by omega), dif_pos (by omega)]
  refine congrArg (fun q : Fin 8 => B (ix3 p h q)) (Fin.ext ?_)
  show (h.val * 64 + (8 + e.val)) % 64 - 8 = e.val
  omega

theorem tO_3 (h : Fin 8) (e : Fin 48) : tO (F := Ideal) A B D v (ix2 p (c3 h e)) = D (ix3 p h e) := by
  unfold tO
  pointwise
  rw [dif_pos (by omega), dif_neg (by omega), dif_neg (by omega)]
  refine congrArg (fun q : Fin 48 => D (ix3 p h q)) (Fin.ext ?_)
  show (h.val * 64 + (16 + e.val)) % 64 - 8 - 8 = e.val
  omega

theorem tO_4 (k : Fin 512) : tO (F := Ideal) A B D v (ix2 p (c4 k)) = v (ix2 p k) := by
  unfold tO
  pointwise

end Out

theorem tA_at (e : Fin 8) : tA (F := Ideal) (ix2 0 e) = ang e := by
  unfold tA ang
  pointwise
  rfl

theorem cos_at (V : Rot) (e : Fin 8) : (Host.cos (F := Ideal) (φ := .f32) (s := S1x8) V : S1x8.Idx → EReal) (ix2 0 e) = Ideal.cos (V (ix2 0 e)) := by
  pointwise

theorem sin_at (V : Rot) (e : Fin 8) : (Host.sin (F := Ideal) (φ := .f32) (s := S1x8) V : S1x8.Idx → EReal) (ix2 0 e) = Ideal.sin (V (ix2 0 e)) := by
  pointwise

section Result
variable (m : (ℓ : Loc nD τ sig) → Buf (Elt Ideal) ℓ) (c : Dev nD)

abbrev xR : Tok := m ((c.tc : Thread nD τ).loc main_arg0)
abbrev nR : Nrm := m ((c.tc : Thread nD τ).loc main_arg1)
abbrev wR : Win := m ((c.tc : Thread nD τ).loc main_arg2)

/-- The gating rows at an index. -/
theorem gv_at (p : Fin 128) (k : Fin 512) : (res_main_v86 m c : S128x512.Idx → EReal) (ix2 p k) =
    ln (fun j => gelu (zc (xR m c) (nR m c) (wR m c) p (d5 j))) (fun j => (m ((c.tc : Thread nD τ).loc main_arg3) : S1x512.Idx → EReal) (ix2 0 j)) (fun j => (m ((c.tc : Thread nD τ).loc main_arg4) : S1x512.Idx → EReal) (ix2 0 j)) k := by
  rw [gv_terms]
  refine (tN_at _ _ _ p k).trans ?_
  simp only [tD_at, tG_at, tZ_at]
  rfl

theorem kv_1 (p : Fin 128) (h e : Fin 8) : (res_main_v52 m c : S128x1024.Idx → EReal) (ix2 p (c1 h e)) =
    zc (xR m c) (nR m c) (wR m c) p (d1 h e) * Ideal.cos (ang e) - zc (xR m c) (nR m c) (wR m c) p (d2 h e) * Ideal.sin (ang e) := by
  rw [kv_terms]
  refine (tO_1 _ _ _ _ p h e).trans ((t1_at _ _ _ p h e).trans ?_)
  rw [cos_at, sin_at, tA_at, tK_at _ p h _ (z1 h e), tK_at _ p h _ (z2 h e), tZ_at, tZ_at]

theorem kv_2 (p : Fin 128) (h e : Fin 8) : (res_main_v52 m c : S128x1024.Idx → EReal) (ix2 p (c2 h e)) =
    zc (xR m c) (nR m c) (wR m c) p (d2 h e) * Ideal.cos (ang e) + zc (xR m c) (nR m c) (wR m c) p (d1 h e) * Ideal.sin (ang e) := by
  rw [kv_terms]
  refine (tO_2 _ _ _ _ p h e).trans ((t2_at _ _ _ p h e).trans ?_)
  rw [cos_at, sin_at, tA_at, tK_at _ p h _ (z2 h e), tK_at _ p h _ (z1 h e), tZ_at, tZ_at]

theorem kv_3 (p : Fin 128) (h : Fin 8) (e : Fin 48) : (res_main_v52 m c : S128x1024.Idx → EReal) (ix2 p (c3 h e)) = zc (xR m c) (nR m c) (wR m c) p (d3 h e) := by
  rw [kv_terms]
  refine (tO_3 _ _ _ _ p h e).trans ((t3_at _ p h e).trans ?_)
  rw [tK_at _ p h _ (z3 h e), tZ_at]

theorem kv_4 (p : Fin 128) (k : Fin 512) : (res_main_v52 m c : S128x1024.Idx → EReal) (ix2 p (c4 k)) = zc (xR m c) (nR m c) (wR m c) p (d4 k) := by
  rw [kv_terms]
  refine (tO_4 _ _ _ _ p k).trans ((tV_at _ p k).trans ?_)
  rw [tZ_at]

end Result

end Cert.Reference4Ideal.Value

end
-- ==== Proof.EnterValue.lean ====
/- What the host prepares for the two kernels of the sample group's even layer, and the two programs' results. -/
module

public import proofs.«01_k».proof.Proof.EnterPay
public import proofs.«01_k».proof.Proof.EnterRef
public import Idealize.ShloMosaic.Lib.StableHlo.RunRead

@[expose] public section

set_option maxRecDepth 16384
set_option Elab.async false

noncomputable section

namespace Cert.Kernel4Ideal.Enter

open Cert.Kernel4Ideal Cert.Kernel4Ideal.Gen
open Idealize.ShloMosaic Idealize.ShloMosaic.TcCoe Idealize.ShloMosaic.Tactic
open Idealize.ShloMosaic.StableHlo
open Cert.Entering

/-! ## The tables of a head's lanes, twice over -/

/-- A row of 64 lanes from three parts, repeated to 128 lanes. -/
def tab (A B : FVec Ideal S1x8 .f32) (D : FVec Ideal S1x48 .f32) : FVec Ideal S1x128 .f32 :=
  shapeCast S1x128 (broadcastInDim S1x1x2x64 ![0, 1, 2, 3] bcast_S1x1x1x64_S1x1x2x64_0_1_2_3 (shapeCast S1x1x1x64 (concatenate S1x64 1 [⟨S1x8, A⟩, ⟨S1x8, B⟩, ⟨S1x48, D⟩] concatenates_S1x8_S1x8_S1x48_S1x64_d1) shapeCasts_S1x64_S1x1x1x64)) shapeCasts_S1x1x2x64_S1x128

theorem row1 (r : Fin 2) (e : Fin 8) : r.val * 64 + e.val < 128 := by omega
theorem row2 (r : Fin 2) (e : Fin 8) : r.val * 64 + (8 + e.val) < 128 := by omega
theorem row3 (r : Fin 2) (e : Fin 48) : r.val * 64 + (16 + e.val) < 128 := by omega

abbrev l1 (r : Fin 2) (e : Fin 8) : Fin 128 := ⟨r.val * 64 + e.val, row1 r e⟩
abbrev l2 (r : Fin 2) (e : Fin 8) : Fin 128 := ⟨r.val * 64 + (8 + e.val), row2 r e⟩
abbrev l3 (r : Fin 2) (e : Fin 48) : Fin 128 := ⟨r.val * 64 + (16 + e.val), row3 r e⟩

section Tab
variable (A B : S1x8.Idx → EReal) (D : S1x48.Idx → EReal) (r : Fin 2)

theorem tab_1 (e : Fin 8) : tab A B D (ix2 0 (l1 r e)) = A (ix2 0 e) := by
  unfold tab
  pointwise
  rw [dif_pos (by omega)]
  exact congrArg (fun j : Fin 8 => A (ix2 0 j)) (Fin.ext (by show (r.val * 64 + e.val) % 64 = e.val; omega))

theorem tab_2 (e : Fin 8) : tab A B D (ix2 0 (l2 r e)) = B (ix2 0 e) := by
  unfold tab
  pointwise
  rw [dif_neg (by omega), dif_pos (by omega)]
  exact congrArg (fun j : Fin 8 => B (ix2 0 j)) (Fin.ext (by show (r.val * 64 + (8 + e.val)) % 64 - 8 = e.val; omega))

theorem tab_3 (e : Fin 48) : tab A B D (ix2 0 (l3 r e)) = D (ix2 0 e) := by
  unfold tab
  pointwise
  rw [dif_neg (by omega), dif_neg (by omega)]
  exact congrArg (fun j : Fin 48 => D (ix2 0 j)) (Fin.ext (by show (r.val * 64 + (16 + e.val)) % 64 - 8 - 8 = e.val; omega))

end Tab

/-! ## The host's arrays at entry -/

/-- The angles as the host prepares them. -/
def angles : FVec Ideal S1x8 .f32 :=
  mulf (broadcastInDim S1x8 ![0, 1] bcast_S1x1_S1x8_0_1 (broadcastInDim S1x1 ![0] bcast_S1_S1x1_0 (sitofp .f32 (broadcastInDim S1 ![] bcast_S_S1 (constantI S_ 32 2048#32)))))
    (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))

theorem angles_at (e : Fin 8) : angles (ix2 0 e) = ang e := by
  unfold angles ang
  pointwise

abbrev ones : FVec Ideal S1x48 .f32 := broadcastInDim S1x48 ![] bcast_S_S1x48 (constant S_ .f32 0x3F800000#32)
abbrev zeros : FVec Ideal S1x48 .f32 := broadcastInDim S1x48 ![] bcast_S_S1x48 (constant S_ .f32 0x00000000#32)
abbrev zeros8 : FVec Ideal S1x8 .f32 := broadcastInDim S1x8 ![] bcast_S_S1x8 (constant S_ .f32 0x00000000#32)

section Entry
variable (m : (ℓ : Loc nD τ sig) → Buf (Elt Ideal) ℓ) (ρ : Dev nD → PrngReg) (c : Dev nD)

abbrev xK : Tok := m (c, Proc.devRef .tc main_arg0)
abbrev nK : Nrm := m (c, Proc.devRef .tc main_arg1)
abbrev wK : Win := m (c, Proc.devRef .tc main_arg2)
abbrev gK : Lane := m (c, Proc.devRef .tc main_arg3)
abbrev bK : Lane := m (c, Proc.devRef .tc main_arg4)

theorem entry_arg0 : V1 m ρ c main_arg0 = m (c, Proc.devRef .tc main_arg0) := W1_args m ρ c main_arg0 (by decide)

theorem entry_v1 : (V1 m ρ c main_v1 : S1x1024.Idx → EReal) = broadcastInDim S1x1024 ![1] bcast_S1024_S1x1024_1 (shapeCast S1024 (nK m c) shapeCasts_S1x1024_S1024) := by
  simp only [V1, W1, hostOps0, TRef.binary, TRef.nullary, TRef.unary, TRef.ternary, TRef.toBuf, TRef.ofBuf, cast_eq]
  after_reads_simp
  rfl

theorem entry_v3 : (V1 m ρ c main_v3 : S1024x2560.Idx → EReal) = (truncf .bf16 (shapeCast S1024x2560 (wK m c : FVec Ideal S1x1024x2560 .f32) shapeCasts_S1x1024x2560_S1024x2560) bitsLt_bf16_f32 : FVec Ideal S1024x2560 .bf16) := by
  simp only [V1, W1, hostOps0, TRef.binary, TRef.nullary, TRef.unary, TRef.ternary, TRef.toBuf, TRef.ofBuf, cast_eq]
  after_reads_simp
  rfl

theorem entry_v4 : V3 m ρ c main_v4 = k0_pay1 (F := Ideal) (V1 m ρ c main_arg0) (V1 m ρ c main_v1) (V1 m ρ c main_v3) :=
  (W3_of m ρ c main_v4 (by decide)).trans ((W2_arr m ρ c (3 : Fin 4)).trans (arr0_3 (V1 m ρ) c))

theorem entry_v36 : (V3 m ρ c main_v36 : S1x512.Idx → EReal) = broadcastInDim S1x512 ![1] bcast_S512_S1x512_1 (shapeCast S512 (W2 m ρ c (Proc.devRef .tc main_arg3) : S1x512.Idx → EReal) shapeCasts_S1x512_S512) := by
  simp only [V3, W3, hostOps1, TRef.binary, TRef.nullary, TRef.unary, TRef.ternary, TRef.toBuf, TRef.ofBuf, cast_eq]
  after_reads_simp
  rfl

theorem entry_v38 : (V3 m ρ c main_v38 : S1x512.Idx → EReal) = broadcastInDim S1x512 ![1] bcast_S512_S1x512_1 (shapeCast S512 (W2 m ρ c (Proc.devRef .tc main_arg4) : S1x512.Idx → EReal) shapeCasts_S1x512_S512) := by
  simp only [V3, W3, hostOps1, TRef.binary, TRef.nullary, TRef.unary, TRef.ternary, TRef.toBuf, TRef.ofBuf, cast_eq]
  after_reads_simp
  rfl

theorem entry_v28 : (V3 m ρ c main_v28 : S1x128.Idx → EReal) = tab (Host.cos angles) (Host.cos angles) ones := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v31 : (V3 m ρ c main_v31 : S1x128.Idx → EReal) = tab (Host.negf (Host.sin angles)) zeros8 zeros := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v34 : (V3 m ρ c main_v34 : S1x128.Idx → EReal) = tab zeros8 (Host.sin angles) zeros := by
  simp only [V3, W3, hostOps1, TRef.binary, TRef.nullary, TRef.unary, TRef.ternary, TRef.toBuf, TRef.ofBuf, cast_eq]
  after_reads_simp
  try dsimp only [Matrix.cons_val]
  try after_reads_simp
  rfl

theorem v1_at (d : Fin 1024) : (V1 m ρ c main_v1 : S1x1024.Idx → EReal) (ix2 0 d) = nK m c (ix2 0 d) := by
  rw [entry_v1]
  generalize nK m c = u
  pointwise

theorem v3_at (e : Fin 1024) (d : Fin 2560) : (V1 m ρ c main_v3 : S1024x2560.Idx → EReal) (ix2 e d) = wK m c (ix3 0 e d) := by
  rw [entry_v3]
  generalize wK m c = u
  pointwise

theorem v36_at (k : Fin 512) : (V3 m ρ c main_v36 : S1x512.Idx → EReal) (ix2 0 k) = gK m c (ix2 0 k) := by
  rw [entry_v36, show (W2 m ρ c (Proc.devRef .tc main_arg3) : S1x512.Idx → EReal) = gK m c from W2_args m ρ c main_arg3 (by decide)]
  generalize gK m c = u
  pointwise

theorem v38_at (k : Fin 512) : (V3 m ρ c main_v38 : S1x512.Idx → EReal) (ix2 0 k) = bK m c (ix2 0 k) := by
  rw [entry_v38, show (W2 m ρ c (Proc.devRef .tc main_arg4) : S1x512.Idx → EReal) = bK m c from W2_args m ρ c main_arg4 (by decide)]
  generalize bK m c = u
  pointwise

theorem proj_eq (x : Tok) (n n' : Nrm) (w : Win) (w' : S1024x2560.Idx → EReal) (hn : ∀ d : Fin 1024, n' (ix2 0 d) = n (ix2 0 d))
    (hw : ∀ (e : Fin 1024) (d : Fin 2560), w' (ix2 e d) = w (ix3 0 e d)) (p : Fin 128) (d : Fin 2560) : k0_pay1 (F := Ideal) x n' w' (ix2 p d) = zc x n w p d := by
  refine (proj_at x n' w' p d).trans ?_
  unfold zc
  simp only [hn, hw]

theorem v4_at (p : Fin 128) (d : Fin 2560) : (V3 m ρ c main_v4 : S128x2560.Idx → EReal) (ix2 p d) = zc (xK m c) (nK m c) (wK m c) p d := by
  rw [entry_v4, entry_arg0]
  exact proj_eq _ _ _ _ _ (v1_at m ρ c) (v3_at m ρ c) p d

end Entry

theorem cos_at (V : Rot) (e : Fin 8) : (Host.cos (F := Ideal) (φ := .f32) (s := S1x8) V : S1x8.Idx → EReal) (ix2 0 e) = Ideal.cos (V (ix2 0 e)) := by
  pointwise

theorem sin_at (V : Rot) (e : Fin 8) : (Host.sin (F := Ideal) (φ := .f32) (s := S1x8) V : S1x8.Idx → EReal) (ix2 0 e) = Ideal.sin (V (ix2 0 e)) := by
  pointwise

theorem nsin_at (V : Rot) (e : Fin 8) : (Host.negf (F := Ideal) (φ := .f32) (s := S1x8) (Host.sin (F := Ideal) (φ := .f32) (s := S1x8) V) : S1x8.Idx → EReal) (ix2 0 e) = -Ideal.sin (V (ix2 0 e)) := by
  pointwise

theorem ones_at (e : Fin 48) : (ones : S1x48.Idx → EReal) (ix2 0 e) = 1 := by
  unfold ones
  pointwise

theorem zeros_at (e : Fin 48) : (zeros : S1x48.Idx → EReal) (ix2 0 e) = 0 := by
  unfold zeros
  pointwise

theorem zeros8_at (e : Fin 8) : (zeros8 : S1x8.Idx → EReal) (ix2 0 e) = 0 := by
  unfold zeros8
  pointwise

/-! ## The keys and values at a head's lanes -/

theorem half_lt (h : Fin 8) : h.val / 2 < 4 := by omega
theorem odd_lt (h : Fin 8) : h.val % 2 < 2 := by omega

section Heads
variable (z : Wide) (V : Rot) (p : Fin 128) (h : Fin 8)

/-- The keys and values under the tables of the angles `V`. -/
abbrev kvt : Tok :=
  kvs z (tab (Host.cos (F := Ideal) (φ := .f32) (s := S1x8) V) (Host.cos (F := Ideal) (φ := .f32) (s := S1x8) V) ones)
    (tab (Host.negf (F := Ideal) (φ := .f32) (s := S1x8) (Host.sin (F := Ideal) (φ := .f32) (s := S1x8) V)) zeros8 zeros)
    (tab zeros8 (Host.sin (F := Ideal) (φ := .f32) (s := S1x8) V) zeros)

theorem lane_lt (q : Fin 4) (l : Fin 128) : q.val * 128 + l.val < 1024 := by omega
theorem wide_lt (q : Fin 4) (l : Fin 128) : 512 + (q.val * 128 + l.val) < 2560 := by omega

/-- A key's lane is its block's turn. -/
theorem key_at (a u d : S1x128.Idx → EReal) (q : Fin 4) (l : Fin 128) : kvs z a u d (ix2 p (⟨q.val * 128 + l.val, lane_lt q l⟩ : Fin 1024)) =
    turn (fun k => z (ix2 p (⟨512 + (q.val * 128 + k.val), wide_lt q k⟩ : Fin 2560))) (fun k => a (ix2 0 k)) (fun k => u (ix2 0 k)) (fun k => d (ix2 0 k)) l := by
  refine (cat_k _ _ p (lanes q l) (lane_lt q l)).trans ((keys_at a u d _ p q l).trans ?_)
  exact congrArg (fun f => turn f (fun k => a (ix2 0 k)) (fun k => u (ix2 0 k)) (fun k => d (ix2 0 k)) l) (funext fun k => ld_k z p (lanes q k) (wide_lt q k))

theorem kvt_1 (e : Fin 8) : kvt z V (ix2 p (c1 h e)) = z (ix2 p (d1 h e)) * Ideal.cos (V (ix2 0 e)) - z (ix2 p (d2 h e)) * Ideal.sin (V (ix2 0 e)) := by
  have e0 : c1 h e = (⟨(⟨h.val / 2, half_lt h⟩ : Fin 4).val * 128 + (l1 ⟨h.val % 2, odd_lt h⟩ e).val, lane_lt _ _⟩ : Fin 1024) :=
    Fin.ext (by show h.val * 64 + e.val = h.val / 2 * 128 + (h.val % 2 * 64 + e.val); omega)
  rw [e0]
  refine (key_at z p _ _ _ _ _).trans ?_
  unfold turn
  beta_reduce
  rw [tab_1, tab_1, tab_1, cos_at, nsin_at, zeros8_at, mul_zero, add_zero, mul_neg, ← sub_eq_add_neg]
  have e1 : (⟨512 + ((⟨h.val / 2, half_lt h⟩ : Fin 4).val * 128 + (l1 ⟨h.val % 2, odd_lt h⟩ e).val), wide_lt _ _⟩ : Fin 2560) = d1 h e :=
    Fin.ext (by show 512 + (h.val / 2 * 128 + (h.val % 2 * 64 + e.val)) = 512 + (h.val * 64 + e.val); omega)
  have e2 : (⟨512 + ((⟨h.val / 2, half_lt h⟩ : Fin 4).val * 128 + ((l1 ⟨h.val % 2, odd_lt h⟩ e).val + 8) % 128), wide_lt _ ⟨_, up_lt _⟩⟩ : Fin 2560) = d2 h e :=
    Fin.ext (by show 512 + (h.val / 2 * 128 + (h.val % 2 * 64 + e.val + 8) % 128) = 512 + (h.val * 64 + (8 + e.val)); omega)
  exact congrArg₂ (fun i j : Fin 2560 => z (ix2 p i) * Ideal.cos (V (ix2 0 e)) - z (ix2 p j) * Ideal.sin (V (ix2 0 e))) e1 e2

theorem kvt_2 (e : Fin 8) : kvt z V (ix2 p (c2 h e)) = z (ix2 p (d2 h e)) * Ideal.cos (V (ix2 0 e)) + z (ix2 p (d1 h e)) * Ideal.sin (V (ix2 0 e)) := by
  have e0 : c2 h e = (⟨(⟨h.val / 2, half_lt h⟩ : Fin 4).val * 128 + (l2 ⟨h.val % 2, odd_lt h⟩ e).val, lane_lt _ _⟩ : Fin 1024) :=
    Fin.ext (by show h.val * 64 + (8 + e.val) = h.val / 2 * 128 + (h.val % 2 * 64 + (8 + e.val)); omega)
  rw [e0]
  refine (key_at z p _ _ _ _ _).trans ?_
  unfold turn
  beta_reduce
  rw [tab_2, tab_2, tab_2, cos_at, sin_at, zeros8_at, mul_zero, add_zero]
  have e1 : (⟨512 + ((⟨h.val / 2, half_lt h⟩ : Fin 4).val * 128 + (l2 ⟨h.val % 2, odd_lt h⟩ e).val), wide_lt _ _⟩ : Fin 2560) = d2 h e :=
    Fin.ext (by show 512 + (h.val / 2 * 128 + (h.val % 2 * 64 + (8 + e.val))) = 512 + (h.val * 64 + (8 + e.val)); omega)
  have e2 : (⟨512 + ((⟨h.val / 2, half_lt h⟩ : Fin 4).val * 128 + ((l2 ⟨h.val % 2, odd_lt h⟩ e).val + 120) % 128), wide_lt _ ⟨_, dn_lt _⟩⟩ : Fin 2560) = d1 h e :=
    Fin.ext (by show 512 + (h.val / 2 * 128 + (h.val % 2 * 64 + (8 + e.val) + 120) % 128) = 512 + (h.val * 64 + e.val); omega)
  exact congrArg₂ (fun i j : Fin 2560 => z (ix2 p i) * Ideal.cos (V (ix2 0 e)) + z (ix2 p j) * Ideal.sin (V (ix2 0 e))) e1 e2

theorem kvt_3 (e : Fin 48) : kvt z V (ix2 p (c3 h e)) = z (ix2 p (d3 h e)) := by
  have e0 : c3 h e = (⟨(⟨h.val / 2, half_lt h⟩ : Fin 4).val * 128 + (l3 ⟨h.val % 2, odd_lt h⟩ e).val, lane_lt _ _⟩ : Fin 1024) :=
    Fin.ext (by show h.val * 64 + (16 + e.val) = h.val / 2 * 128 + (h.val % 2 * 64 + (16 + e.val)); omega)
  rw [e0]
  refine (key_at z p _ _ _ _ _).trans ?_
  unfold turn
  beta_reduce
  rw [tab_3, tab_3, tab_3, ones_at, zeros_at, mul_zero, mul_zero, add_zero, add_zero, mul_one]
  have e1 : (⟨512 + ((⟨h.val / 2, half_lt h⟩ : Fin 4).val * 128 + (l3 ⟨h.val % 2, odd_lt h⟩ e).val), wide_lt _ _⟩ : Fin 2560) = d3 h e :=
    Fin.ext (by show 512 + (h.val / 2 * 128 + (h.val % 2 * 64 + (16 + e.val))) = 512 + (h.val * 64 + (16 + e.val)); omega)
  exact congrArg (fun i : Fin 2560 => z (ix2 p i)) e1

theorem kvt_4 (k : Fin 512) : kvt z V (ix2 p (c4 k)) = z (ix2 p (d4 k)) := by
  refine (cat_v _ _ p k).trans ?_
  rw [show k1_pay20 (F := Ideal) (View.ld (Val := Elt Ideal) (e' := .f32) z r1_5) = View.ld (Val := Elt Ideal) (e' := .f32) z r1_5 from shapeCast_self _ _]
  exact ld_v z p k

/-- The gating rows at an index. -/
theorem gvs_at (g b : Lane) (k : Fin 512) : gvs z g b (ix2 p k) = ln (fun j => gelu (z (ix2 p (d5 j)))) (fun j => g (ix2 0 j)) (fun j => b (ix2 0 j)) k := by
  refine (ln_at _ g b p k).trans ?_
  refine congrArg (fun f => ln f (fun j => g (ix2 0 j)) (fun j => b (ix2 0 j)) k) (funext fun j => ?_)
  exact (gelu_at _ p j).trans (congrArg gelu (ld_g z p j))

end Heads

/-! ## The two programs' results -/

section Results
variable (m : (ℓ : Loc nD τ sig) → Buf (Elt Ideal) ℓ) (ρ : Dev nD → PrngReg) (c : Dev nD)
variable (m' : (ℓ : Loc Cert.Reference4Ideal.nD Cert.Reference4Ideal.τ Cert.Reference4Ideal.sig) → Buf (Elt Ideal) ℓ)

open Cert.Reference4Ideal.Value in
/-- The keys and values of the kernel are the reference's. -/
theorem kv_value (hx : xR m' c = xK m c) (hn : nR m' c = nK m c) (hw : wR m' c = wK m c) :
    (W4 m ρ c (Proc.devRef .tc main_v51_1) : S128x1024.Idx → EReal) = Cert.Reference4Ideal.Value.res_main_v52 m' c := by
  have hk : (W4 m ρ c (Proc.devRef .tc main_v51_1) : S128x1024.Idx → EReal) = kvt (V3 m ρ c main_v4) angles := by
    refine (kv_eq m ρ c).trans ((arr1_9 (V3 m ρ) c).trans ?_)
    rw [entry_v28, entry_v31, entry_v34]
  rw [hk]
  refine ext_kv _ _ (fun p h e => ?_) (fun p h e => ?_) (fun p h e => ?_) (fun p k => ?_)
  · refine (kvt_1 _ _ p h e).trans (Eq.trans ?_ (kv_1 m' c p h e).symm)
    rw [v4_at, v4_at, angles_at, hx, hn, hw]
  · refine (kvt_2 _ _ p h e).trans (Eq.trans ?_ (kv_2 m' c p h e).symm)
    rw [v4_at, v4_at, angles_at, hx, hn, hw]
  · refine (kvt_3 _ _ p h e).trans (Eq.trans ?_ (kv_3 m' c p h e).symm)
    rw [v4_at, hx, hn, hw]
  · refine (kvt_4 _ _ p k).trans (Eq.trans ?_ (kv_4 m' c p k).symm)
    rw [v4_at, hx, hn, hw]

open Cert.Reference4Ideal.Value in
/-- The gating rows of the kernel are the reference's. -/
theorem gv_value (hx : xR m' c = xK m c) (hn : nR m' c = nK m c) (hw : wR m' c = wK m c)
    (hg : (m' ((c.tc : Thread Cert.Reference4Ideal.nD Cert.Reference4Ideal.τ).loc Cert.Reference4Ideal.main_arg3) : S1x512.Idx → EReal) = gK m c)
    (hb : (m' ((c.tc : Thread Cert.Reference4Ideal.nD Cert.Reference4Ideal.τ).loc Cert.Reference4Ideal.main_arg4) : S1x512.Idx → EReal) = bK m c) :
    (W4 m ρ c (Proc.devRef .tc main_v51_2) : S128x512.Idx → EReal) = Cert.Reference4Ideal.Value.res_main_v86 m' c := by
  funext i
  have hi : ∃ (p : Fin 128) (k : Fin 512), i = (ix2 p k : S128x512.Idx) := ⟨i 0, i 1, by funext b; fin_cases b <;> rfl⟩
  obtain ⟨p, k, rfl⟩ := hi
  refine (congrFun ((gv_eq m ρ c).trans (arr1_10 (V3 m ρ) c)) (ix2 p k)).trans ?_
  refine (gvs_at _ p _ _ k).trans (Eq.trans ?_ (gv_at m' c p k).symm)
  rw [hx, hn, hw, hg, hb]
  have e1 : (fun j : Fin 512 => gelu ((V3 m ρ c main_v4 : S128x2560.Idx → EReal) (ix2 p (d5 j)))) = fun j => gelu (zc (xK m c) (nK m c) (wK m c) p (d5 j)) :=
    funext fun j => congrArg gelu (v4_at m ρ c p (d5 j))
  have e2 : (fun j : Fin 512 => (V3 m ρ c main_v36 : S1x512.Idx → EReal) (ix2 0 j)) = fun j => gK m c (ix2 0 j) := funext (v36_at m ρ c)
  have e3 : (fun j : Fin 512 => (V3 m ρ c main_v38 : S1x512.Idx → EReal) (ix2 0 j)) = fun j => bK m c (ix2 0 j) := funext (v38_at m ρ c)
  exact (congrArg (fun f => ln f _ _ k) e1).trans ((congrArg (fun f => ln _ f _ k) e2).trans (congrArg (fun f => ln _ _ f k) e3))

end Results

end Cert.Kernel4Ideal.Enter

end
-- ==== Proof.CarrySpec.lean ====
/- The convolution state of the sample group after the step: the last two of the carried rows and the projected row. -/
module

public import proofs.«01_k».proof.Proof.MoeSpec

@[expose] public section

set_option maxRecDepth 16384
set_option Elab.async false

noncomputable section

namespace Cert.Carried

open Idealize.ShloMosaic
open Cert.Routed (rms)

abbrev Tok : Type := (⟨2, ![128, 1024]⟩ : Shape).Idx → EReal
abbrev Buf4 : Type := (⟨4, ![1, 128, 3, 1024]⟩ : Shape).Idx → EReal
abbrev Nrm : Type := (⟨2, ![1, 1024]⟩ : Shape).Idx → EReal
abbrev Win : Type := (⟨3, ![1, 1024, 3096]⟩ : Shape).Idx → EReal
abbrev Out : Type := (⟨3, ![128, 3, 1024]⟩ : Shape).Idx → EReal

theorem col_lt (j : Fin 1024) : 1552 + j.val < 3096 := by omega
theorem old_lt (t : Fin 2) : t.val + 1 < 3 := by omega

/-- The projected row at the convolution's column `j`. -/
def proj (x : Tok) (n : Nrm) (w : Win) (p : Fin 128) (j : Fin 1024) : EReal :=
  ∑ e : Fin 1024, rms (fun k => x (ix2 p k)) (fun k => n (ix2 0 k)) e * w (ix3 0 e (⟨1552 + j.val, col_lt j⟩ : Fin 3096))

/-- The state after the step. -/
def next (x : Tok) (b : Buf4) (n : Nrm) (w : Win) (p : Fin 128) (t : Fin 3) (j : Fin 1024) : EReal :=
  if h : t.val < 2 then b (ix4 0 p (⟨t.val + 1, old_lt ⟨t.val, h⟩⟩ : Fin 3) j) else proj x n w p j

/-- Two states agree when they agree at every index. -/
theorem ext_out (f g : Out) (h : ∀ (p : Fin 128) (t : Fin 3) (j : Fin 1024), f (ix3 p t j) = g (ix3 p t j)) : f = g := by
  funext i
  have hi : ∃ (p : Fin 128) (t : Fin 3) (j : Fin 1024), i = (ix3 p t j : (⟨3, ![128, 3, 1024]⟩ : Shape).Idx) := ⟨i 0, i 1, i 2, by funext b; fin_cases b <;> rfl⟩
  obtain ⟨p, t, j, rfl⟩ := hi
  exact h p t j

end Cert.Carried

end
-- ==== Proof.CarryRef.lean ====
/- The convolution state's reference for the sample group at an index, over the extended reals. -/
module

public import proofs.«01_k».proof.Proof.Gen.Reference5Ideal.Run
public import proofs.«01_k».proof.Proof.CarrySpec
public import Idealize.ShloMosaic.Lib.Pointwise
public import Idealize.ShloMosaic.Lib.Tactic.CleanTypes

@[expose] public section

set_option maxRecDepth 16384
set_option Elab.async false

noncomputable section

namespace Cert.Reference5Ideal.Value

open Cert.Reference5Ideal Cert.Reference5Ideal.Gen
open Idealize.ShloMosaic Idealize.ShloMosaic.TcCoe Idealize.ShloMosaic.HloOp
open Cert.Carried

section Terms
variable {F : FTy → Type} [FloatOps F]

/-- The projected rows. -/
def tZ (a0 : FVec F S128x1024 .f32) (a2 : FVec F S1x1024 .f32) (a3 : FVec F S1x1024x3096 .f32) : FVec F S128x3096 .f32 :=
  Host.dotGeneral dot_S128x1024_S1024x3096_S128x3096_1_0_0_1_n_n none (mulf (mulf a0 (broadcastInDim S128x1024 ![0, 1] bcast_S128x1_S128x1024_0_1 (Host.rsqrt (addf (Host.divf (broadcastInDim S128x1 ![0] bcast_S128_S128x1_0 (Host.reduceAdd (mulf a0 a0) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast S1024 a2 shapeCasts_S1x1024_S1024)))) (shapeCast S1024x3096 a3 shapeCasts_S1x1024x3096_S1024x3096)

/-- The carried rows and the projected one after them, less the first. -/
def tC (a1 : FVec F S1x128x3x1024 .f32) (Z : FVec F S128x3096 .f32) : FVec F S128x3x1024 .f32 :=
  extractStridedSlice S128x3x1024 ![0, 1, 0] (concatenate S128x4x1024 1 [⟨S128x3x1024, (shapeCast S128x3x1024 a1 shapeCasts_S1x128x3x1024_S128x3x1024)⟩, ⟨S128x1x1024, (broadcastInDim S128x1x1024 ![0, 2] bcast_S128x1024_S128x1x1024_0_2 (extractStridedSlice S128x1024 ![0, 1552] Z slices_S128x3096_S128x1024_0_1552))⟩] concatenates_S128x3x1024_S128x1x1024_S128x4x1024_d1) slices_S128x4x1024_S128x3x1024_0_1_0

end Terms

theorem tZ_at (x : Tok) (n : Nrm) (w : Win) (p : Fin 128) (d : Fin 3096) : tZ (F := Ideal) x n w (ix2 p d) =
    ∑ e : Fin 1024, Routed.rms (fun k => x (ix2 p k)) (fun k => n (ix2 0 k)) e * w (ix3 0 e d) := by
  unfold tZ
  pointwise
  rfl

theorem tC_old (b : Buf4) (Z : S128x3096.Idx → EReal) (p : Fin 128) (t : Fin 3) (h : t.val < 2) (j : Fin 1024) :
    tC (F := Ideal) b Z (ix3 p t j) = b (ix4 0 p (⟨t.val + 1, old_lt ⟨t.val, h⟩⟩ : Fin 3) j) := by
  unfold tC
  pointwise
  rw [dif_pos (by omega)]
  exact congrArg (fun q : Fin 3 => b (ix4 0 p q j)) (Fin.ext (by show 1 + t.val = t.val + 1; omega))

theorem tC_new (b : Buf4) (Z : S128x3096.Idx → EReal) (p : Fin 128) (t : Fin 3) (h : ¬ t.val < 2) (j : Fin 1024) :
    tC (F := Ideal) b Z (ix3 p t j) = Z (ix2 p (⟨1552 + j.val, col_lt j⟩ : Fin 3096)) := by
  unfold tC
  pointwise
  rw [dif_neg (by omega)]

/-- The reference's result is the state after the step. -/
theorem tC_next (x : Tok) (b : Buf4) (n : Nrm) (w : Win) (p : Fin 128) (t : Fin 3) (j : Fin 1024) :
    tC (F := Ideal) b (tZ (F := Ideal) x n w) (ix3 p t j) = next x b n w p t j := by
  unfold next
  by_cases h : t.val < 2
  · rw [dif_pos h]
    exact tC_old b _ p t h j
  · rw [dif_neg h]
    exact (tC_new b _ p t h j).trans (tZ_at x n w p _)

end Cert.Reference5Ideal.Value

end
-- ==== Proof.CarryValue.lean ====
/- The launch of the sample group's convolution state, its kernel's array and what the host makes of it, and the two programs' results. -/
module

public import proofs.«01_k».proof.Proof.Gen.Kernel5Ideal.Frame
public import proofs.«01_k».proof.Proof.CarryRef
public import Idealize.ShloMosaic.Lib.KernelVsHost
public import Idealize.ShloMosaic.Lib.StableHlo.RunRead

@[expose] public section

set_option maxRecDepth 16384
set_option Elab.async false

noncomputable section

namespace Cert.Kernel5Ideal.Carry

open Cert.Kernel5Ideal Cert.Kernel5Ideal.Gen
open Idealize.ShloMosaic Idealize.ShloMosaic.TcCoe Idealize.ShloMosaic.Tactic
open Idealize.ShloMosaic.StableHlo Idealize.SL.Sem
open Cert.Carried

theorem hz2 : (![0, 0] : Fin 2 → ℕ) = fun _ => 0 := funext fun b => by fin_cases b <;> rfl

/-- The kernel's payload at an index. -/
theorem proj_at (x : Tok) (n : Nrm) (w : S1024x3200.Idx → EReal) (p : Fin 128) (d : Fin 3200) : k0_pay1 (F := Ideal) x n w (ix2 p d) =
    ∑ e : Fin 1024, Routed.rms (fun j => x (ix2 p j)) (fun j => n (ix2 0 j)) e * w (ix2 e d) := by
  unfold k0_pay1
  pointwise
  rfl

/-! ## The blocks: every one is its whole array -/

section Regions
variable (m : (ℓ : Loc nD τ sig) → Buf (Elt Ideal) ℓ) (c : Dev nD)

theorem z0_0 : ∀ i : grid0.Coords, cc0_transform_0 i 0 = 0 := by decide +kernel
theorem z0_3 : ∀ i : grid0.Coords, cc0_transform_3 i 0 = 0 := by decide +kernel

theorem blk0_0 (t : Fin cfg0.N) : (iblk m c 0 t : S128x1024.Idx → EReal) = V m c main_arg0 := by
  funext y
  refine congrArg (V m c main_arg0) (funext fun b => Fin.ext ?_)
  fin_cases b
  · show cc0_transform_0 (grid0.coords t) 0 * 128 + 1 * (y 0).val = (y 0).val
    rw [z0_0]; omega
  · show 0 * 1024 + 1 * (y 1).val = (y 1).val
    omega

theorem blk0_1 (t : Fin cfg0.N) : (iblk m c 1 t : S1x1024.Idx → EReal) = V m c main_v14 := by
  funext y
  refine congrArg (V m c main_v14) (funext fun b => Fin.ext ?_)
  fin_cases b
  · show 0 * 1 + 1 * (y 0).val = (y 0).val
    omega
  · show 0 * 1024 + 1 * (y 1).val = (y 1).val
    omega

theorem blk0_2 (t : Fin cfg0.N) : (iblk m c 2 t : S1024x3200.Idx → EReal) = V m c main_v12 := by
  funext y
  refine congrArg (V m c main_v12) (funext fun b => Fin.ext ?_)
  fin_cases b
  · show 0 * 1024 + 1 * (y 0).val = (y 0).val
    omega
  · show 0 * 3200 + 1 * (y 1).val = (y 1).val
    omega

theorem emb0_3 (t : Fin cfg0.N) (y : S128x3200.Idx) : (((cfg0.win (3 : Fin 4)).blk t).view.emb y : S128x3200.Idx) = y := by
  funext b
  apply Fin.ext
  fin_cases b
  · show cc0_transform_3 (grid0.coords t) 0 * 128 + 1 * (y 0).val = (y 0).val
    rw [z0_3]; omega
  · show 0 * 3200 + 1 * (y 1).val = (y 1).val
    omega

theorem out0_3_eq (x0 : Vec Ideal S128x1024 .f32) (x1 : Vec Ideal S1x1024 .f32) (x2 : Vec Ideal S1024x3200 .bf16) : out0_3 (F := Ideal) x0 x1 x2 = k0_pay1 (F := Ideal) x0 x1 x2 := by
  unfold out0_3
  rw [View.canon_unit_zero hz2, View.ld_unit_zero (S := S128x1024) hz2, View.ld_unit_zero (S := S1x1024) hz2, View.ld_unit_zero (S := S1024x3200) hz2]

/-- The projection's array. -/
theorem arr0_3 : (dats m 0 c).arrAt (3 : Fin 4) cfg0.N = k0_pay1 (F := Ideal) (V m c main_arg0) (V m c main_v14) (V m c main_v12) :=
  Pipeline.Dat.arrAt_eq_of_cover (dats m 0 c) (3 : Fin 4) (k0_pay1 (F := Ideal) (V m c main_arg0) (V m c main_v14) (V m c main_v12))
    (fun t hf => (after0_3 m c t).trans (((out0_3_eq _ _ _).trans (by rw [blk0_0, blk0_1, blk0_2])).trans (funext fun y => (congrArg (k0_pay1 (F := Ideal) (V m c main_arg0) (V m c main_v14) (V m c main_v12)) (emb0_3 t y)).symm)))
    (fun i => ⟨t0_0, flush0_3 _, by
      have h := ((cfg0.win (3 : Fin 4)).blk t0_0).view.emb_mem_set i
      rwa [emb0_3] at h⟩)

end Regions

/-! ## The host's arrays at entry -/

/-- The input projection's columns in the kernel's order. -/
def order (u : FVec Ideal S1024x3096 .f32) : FVec Ideal S1024x3200 .f32 :=
  concatenate S1024x3200 1 [⟨S1024x256, extractStridedSlice S1024x256 ![0, 0] u slices_S1024x3096_S1024x256_0_0⟩, ⟨S1024x256, extractStridedSlice S1024x256 ![0, 256] u slices_S1024x3096_S1024x256_0_256⟩,
    ⟨S1024x512, extractStridedSlice S1024x512 ![0, 512] u slices_S1024x3096_S1024x512_0_512⟩, ⟨S1024x512, extractStridedSlice S1024x512 ![0, 1040] u slices_S1024x3096_S1024x512_0_1040⟩,
    ⟨S1024x1024, extractStridedSlice S1024x1024 ![0, 1552] u slices_S1024x3096_S1024x1024_0_1552⟩, ⟨S1024x512, extractStridedSlice S1024x512 ![0, 2584] u slices_S1024x3096_S1024x512_0_2584⟩,
    ⟨S1024x16, extractStridedSlice S1024x16 ![0, 1024] u slices_S1024x3096_S1024x16_0_1024⟩, ⟨S1024x4, extractStridedSlice S1024x4 ![0, 2576] u slices_S1024x3096_S1024x4_0_2576⟩,
    ⟨S1024x4, extractStridedSlice S1024x4 ![0, 2580] u slices_S1024x3096_S1024x4_0_2580⟩, ⟨S1024x104, broadcastInDim S1024x104 ![] bcast_S_S1024x104 (constant S_ .f32 0x00000000#32)⟩]
    concatenates_S1024x256_S1024x256_S1024x512_S1024x512_S1024x1024_S1024x512_S1024x16_S1024x4_S1024x4_S1024x104_S1024x3200_d1

theorem mid_lt (j : Fin 1024) : 1536 + j.val < 3200 := by omega

theorem order_at (u : S1024x3096.Idx → EReal) (e j : Fin 1024) :
    order u (ix2 e (⟨1536 + j.val, mid_lt j⟩ : Fin 3200)) = u (ix2 e (⟨1552 + j.val, col_lt j⟩ : Fin 3096)) := by
  unfold order
  pointwise
  rw [dif_neg (by omega), dif_neg (by omega), dif_neg (by omega), dif_neg (by omega), dif_pos (by omega)]
  exact congrArg (fun q : Fin 3096 => u (ix2 e q)) (Fin.ext (by show 1552 + (1536 + j.val - 256 - 256 - 512 - 512) = 1552 + j.val; omega))

section Entry
variable (m : (ℓ : Loc nD τ sig) → Buf (Elt Ideal) ℓ) (ρ : Dev nD → PrngReg) (c : Dev nD)

abbrev xK : Tok := m ((c.tc : Thread nD τ).loc main_arg0)
abbrev bK : Buf4 := m ((c.tc : Thread nD τ).loc main_arg1)
abbrev nK : Nrm := m ((c.tc : Thread nD τ).loc main_arg2)
abbrev wK : Win := m ((c.tc : Thread nD τ).loc main_arg3)

theorem entry_v14 : (V m c main_v14 : S1x1024.Idx → EReal) = broadcastInDim S1x1024 ![1] bcast_S1024_S1x1024_1 (shapeCast S1024 (nK m c) shapeCasts_S1x1024_S1024) := by
  simp only [V, V0, hostOps0, List.flatten_cons, List.flatten_nil, List.append_nil, TRef.binary, TRef.nullary, TRef.unary, TRef.ternary, TRef.toBuf, TRef.ofBuf, cast_eq]
  after_reads_simp
  rfl

theorem entry_v12 : (V m c main_v12 : S1024x3200.Idx → EReal) = (truncf .bf16 (order (shapeCast S1024x3096 (wK m c : FVec Ideal S1x1024x3096 .f32) shapeCasts_S1x1024x3096_S1024x3096)) bitsLt_bf16_f32 : FVec Ideal S1024x3200 .bf16) := by
  simp only [V, V0, hostOps0, List.flatten_cons, List.flatten_nil, List.append_nil, TRef.binary, TRef.nullary, TRef.unary, TRef.ternary, TRef.toBuf, TRef.ofBuf, cast_eq]
  after_reads_simp
  try dsimp only [Matrix.cons_val]
  try after_reads_simp
  rfl

theorem v14_at (d : Fin 1024) : (V m c main_v14 : S1x1024.Idx → EReal) (ix2 0 d) = nK m c (ix2 0 d) := by
  rw [entry_v14]
  generalize nK m c = u
  pointwise

/-- Rounding to the storage type is the identity here. -/
theorem trunc_at (u : S1024x3200.Idx → EReal) (e : Fin 1024) (d : Fin 3200) :
    (truncf (F := Ideal) .bf16 (u : FVec Ideal S1024x3200 .f32) bitsLt_bf16_f32 : S1024x3200.Idx → EReal) (ix2 e d) = u (ix2 e d) := by
  pointwise

theorem cast_at (u : Win) (e : Fin 1024) (d : Fin 3096) : (shapeCast S1024x3096 u shapeCasts_S1x1024x3096_S1024x3096 : S1024x3096.Idx → EReal) (ix2 e d) = u (ix3 0 e d) := by
  pointwise

theorem v12_at (e j : Fin 1024) : (V m c main_v12 : S1024x3200.Idx → EReal) (ix2 e (⟨1536 + j.val, mid_lt j⟩ : Fin 3200)) = wK m c (ix3 0 e (⟨1552 + j.val, col_lt j⟩ : Fin 3096)) := by
  rw [entry_v12]
  exact (trunc_at _ e _).trans ((order_at _ e j).trans (cast_at _ e _))

theorem proj_eq (x : Tok) (n n' : Nrm) (w : Win) (w' : S1024x3200.Idx → EReal) (hn : ∀ d : Fin 1024, n' (ix2 0 d) = n (ix2 0 d))
    (hw : ∀ e j : Fin 1024, w' (ix2 e (⟨1536 + j.val, mid_lt j⟩ : Fin 3200)) = w (ix3 0 e (⟨1552 + j.val, col_lt j⟩ : Fin 3096))) (p : Fin 128) (j : Fin 1024) :
    k0_pay1 (F := Ideal) x n' w' (ix2 p (⟨1536 + j.val, mid_lt j⟩ : Fin 3200)) = proj x n w p j := by
  refine (proj_at x n' w' p _).trans ?_
  unfold proj
  refine Finset.sum_congr rfl fun e _ => ?_
  rw [hw e j, show (fun k => n' (ix2 0 k)) = fun k => n (ix2 0 k) from funext hn]

/-! ## The result -/

/-- What the host makes of the carried rows and the kernel's array. -/
def joined (b : FVec Ideal S1x128x3x1024 .f32) (Z : FVec Ideal S128x3200 .f32) : FVec Ideal S128x3x1024 .f32 :=
  concatenate S128x3x1024 1 [⟨S128x2x1024, extractStridedSlice S128x2x1024 ![0, 1, 0] (shapeCast S128x3x1024 b shapeCasts_S1x128x3x1024_S128x3x1024) slices_S128x3x1024_S128x2x1024_0_1_0⟩,
    ⟨S128x1x1024, broadcastInDim S128x1x1024 ![0, 2] bcast_S128x1024_S128x1x1024_0_2 (extractStridedSlice S128x1024 ![0, 1536] Z slices_S128x3200_S128x1024_0_1536)⟩]
    concatenates_S128x2x1024_S128x1x1024_S128x3x1024_d1

theorem joined_old (b : Buf4) (Z : S128x3200.Idx → EReal) (p : Fin 128) (t : Fin 3) (h : t.val < 2) (j : Fin 1024) :
    joined b Z (ix3 p t j) = b (ix4 0 p (⟨t.val + 1, old_lt ⟨t.val, h⟩⟩ : Fin 3) j) := by
  unfold joined
  pointwise
  rw [dif_pos h]
  exact congrArg (fun q : Fin 3 => b (ix4 0 p q j)) (Fin.ext (by show 1 + t.val = t.val + 1; omega))

theorem joined_new (b : Buf4) (Z : S128x3200.Idx → EReal) (p : Fin 128) (t : Fin 3) (h : ¬ t.val < 2) (j : Fin 1024) :
    joined b Z (ix3 p t j) = Z (ix2 p (⟨1536 + j.val, mid_lt j⟩ : Fin 3200)) := by
  unfold joined
  pointwise
  rw [dif_neg h]

theorem tail_read (X : Valuation τ sig (Elt Ideal)) : StableHlo.after (List.flatten [hostOps1]) X (Proc.devRef .tc main_v20) =
    joined (X (Proc.devRef .tc main_arg1)) (X (Proc.devRef .tc main_v15)) := by
  simp only [hostOps1, List.flatten_cons, List.flatten_nil, List.append_nil, TRef.binary, TRef.nullary, TRef.unary, TRef.ternary, TRef.toBuf, TRef.ofBuf, cast_eq]
  after_reads_simp
  rfl

theorem tail_eq : Pipeline.afterTail₀ cfgs (dats m) 0 (V0 m) [hostOps1] c main_v20 =
    joined (bK m c) (k0_pay1 (F := Ideal) (V m c main_arg0) (V m c main_v14) (V m c main_v12)) := by
  unfold Pipeline.afterTail₀
  refine (tail_read _).trans ?_
  refine congrArg₂ joined ?_ ?_
  · exact (Pipeline.withArrays_of_ne _ c (V0 m c) _ main_arg1 (by exact (by decide : ∀ w, Pipeline.arrRef spec0 w ≠ main_arg1))).trans (V_main_arg1 m c)
  · exact (Pipeline.withArrays_arr spec0 launch0.win.arr_inj c _ _ (3 : Fin 4)).trans (arr0_3 m c)

theorem joined_next (p : Fin 128) (t : Fin 3) (j : Fin 1024) :
    joined (bK m c) (k0_pay1 (F := Ideal) (V m c main_arg0) (V m c main_v14) (V m c main_v12)) (ix3 p t j) = next (xK m c) (bK m c) (nK m c) (wK m c) p t j := by
  unfold next
  by_cases h : t.val < 2
  · rw [dif_pos h]
    exact joined_old _ _ p t h j
  · rw [dif_neg h, V_main_arg0]
    exact (joined_new _ _ p t h j).trans (proj_eq _ _ _ _ _ (v14_at m c) (v12_at m c) p j)

/-- Every run ends with the arguments as launched and the state as the host joins it. -/
theorem run : θ_run defs (onTc (τ := τ) (main (F := Ideal))) ⟨m, fun _ => 0, ρ⟩ (fun r => ∀ c : Dev nD,
      r.2.mem ((c.tc : Thread nD τ).loc main_v20) = joined (bK m c) (k0_pay1 (F := Ideal) (V m c main_arg0) (V m c main_v14) (V m c main_v12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v20 (Pipeline.mem_restRefs_of main_v20 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

/-- The two programs' results from the same arguments. -/
theorem joined_reference : Reference5Ideal.Value.tC (F := Ideal) (bK m c) (Reference5Ideal.Value.tZ (F := Ideal) (xK m c) (nK m c) (wK m c)) =
    joined (bK m c) (k0_pay1 (F := Ideal) (V m c main_arg0) (V m c main_v14) (V m c main_v12)) :=
  ext_out _ _ fun p t j => (Reference5Ideal.Value.tC_next _ _ _ _ p t j).trans (joined_next m c p t j).symm

end Entry

end Cert.Kernel5Ideal.Carry

end
-- ==== Proof.OpenRun.lean ====
/- The launch of the two kernels: what the two results hold at the end. -/
module

public import proofs.«01_k».proof.Proof.Gen.Kernel6Ideal.Frame

@[expose] public section

set_option maxRecDepth 16384
set_option Elab.async false

noncomputable section

namespace Cert.Kernel6Ideal.Opens

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the arguments as launched and the results as the host reads them off the second kernel's arrays. -/
theorem run : θ_run defs (onTc (τ := τ) (main (F := F))) ⟨m, fun _ => 0, ρ⟩ (fun r => (∀ c : Dev nD,
      r.2.mem ((c.tc : Thread nD τ).loc main_v47) = W5 m ρ c (Proc.devRef .tc main_v47)
      ∧ r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v47 (by decide)), h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩), funext fun g => hz g (.inr (no_unscoped g.2))⟩)

/-- The array of keys and values holds the second kernel's blocks written back. -/
theorem kv_eq (c : Dev nD) : W4 m ρ c (Proc.devRef .tc main_v43_3) = (dat1 (V3 m ρ) c).arrAt (11 : Fin 15) cfg1.N := W4_arr m ρ c (11 : Fin 15)

/-- The array of gating rows holds the second kernel's blocks written back. -/
theorem gv_eq (c : Dev nD) : W4 m ρ c (Proc.devRef .tc main_v43_5) = (dat1 (V3 m ρ) c).arrAt (13 : Fin 15) cfg1.N := W4_arr m ρ c (13 : Fin 15)

end Cert.Kernel6Ideal.Opens

end
-- ==== Proof.OpenSpec.lean ====
/- The even layer's keys, values and gating rows of the prompt over the extended reals: the projected row, and the
   angle of a position's lane pair. -/
module

public import proofs.«01_k».proof.Proof.EnterSpec

@[expose] public section

set_option maxRecDepth 16384
set_option Elab.async false

noncomputable section

namespace Cert.Opening

open Idealize.ShloMosaic
open Cert.Routed (rms)

abbrev Tok : Type := (⟨2, ![16384, 1024]⟩ : Shape).Idx → EReal
abbrev Nrm : Type := (⟨2, ![1, 1024]⟩ : Shape).Idx → EReal
abbrev Win : Type := (⟨3, ![1, 1024, 2560]⟩ : Shape).Idx → EReal
abbrev Wide : Type := (⟨2, ![16384, 2560]⟩ : Shape).Idx → EReal
abbrev Lane : Type := (⟨2, ![1, 512]⟩ : Shape).Idx → EReal
abbrev Rot : Type := (⟨2, ![4096, 8]⟩ : Shape).Idx → EReal
abbrev Kv : Type := (⟨5, ![4, 4096, 2, 8, 64]⟩ : Shape).Idx → EReal

theorem row_lt (b : Fin 4) (t : Fin 4096) : b.val * 4096 + t.val < 16384 := by omega

/-- Position `t` of sequence `b` as a row. -/
abbrev row (b : Fin 4) (t : Fin 4096) : Fin 16384 := ⟨b.val * 4096 + t.val, row_lt b t⟩

theorem s1 (e : Fin 8) : e.val < 64 := by omega
theorem s2 (e : Fin 8) : 8 + e.val < 64 := by omega
theorem s3 (e : Fin 48) : 16 + e.val < 64 := by omega
theorem s4 (h : Fin 8) (e : Fin 64) : 1024 + (h.val * 64 + e.val) < 2560 := by omega

/-- Lane `e` of a head's first eight, of its second eight, and of the other forty-eight. -/
abbrev e1 (e : Fin 8) : Fin 64 := ⟨e.val, s1 e⟩
abbrev e2 (e : Fin 8) : Fin 64 := ⟨8 + e.val, s2 e⟩
abbrev e3 (e : Fin 48) : Fin 64 := ⟨16 + e.val, s3 e⟩
/-- A value's lane as a column of the projected row. -/
abbrev dv (h : Fin 8) (e : Fin 64) : Fin 2560 := ⟨1024 + (h.val * 64 + e.val), s4 h e⟩

/-- A column of the normalised row's projection. -/
def zc (x : Tok) (n : Nrm) (w : Win) (p : Fin 16384) (d : Fin 2560) : EReal :=
  ∑ e : Fin 1024, rms (fun j => x (ix2 p j)) (fun j => n (ix2 0 j)) e * w (ix3 0 e d)

/-- The angle of lane pair `e` at position `t`. -/
def ang (t : Fin 4096) (e : Fin 8) : EReal :=
  FloatOps.sitofp (F := Ideal) .f32 (BitVec.ofNat 32 t.val) * Ideal.pow (Ideal.ofBits .f32 0x48F42400#32)
    (Ideal.div (-FloatOps.sitofp (F := Ideal) .f32 (BitVec.ofNat 32 e.val)) (Ideal.ofBits .f32 0x41000000#32))

/-- Two arrays of keys and values agree when they agree on the four groups of lanes. -/
theorem ext_kv (f g : Kv) (h1 : ∀ b t h e, f (ix5 b t 0 h (e1 e)) = g (ix5 b t 0 h (e1 e))) (h2 : ∀ b t h e, f (ix5 b t 0 h (e2 e)) = g (ix5 b t 0 h (e2 e)))
    (h3 : ∀ b t h e, f (ix5 b t 0 h (e3 e)) = g (ix5 b t 0 h (e3 e))) (h4 : ∀ b t h e, f (ix5 b t 1 h e) = g (ix5 b t 1 h e)) : f = g := by
  funext i
  have hi : ∃ (b : Fin 4) (t : Fin 4096) (s : Fin 2) (h : Fin 8) (j : Fin 64), i = (ix5 b t s h j : (⟨5, ![4, 4096, 2, 8, 64]⟩ : Shape).Idx) :=
    ⟨i 0, i 1, i 2, i 3, i 4, by funext b; fin_cases b <;> rfl⟩
  obtain ⟨b, t, s, h, j, rfl⟩ := hi
  by_cases hs : s = 0
  · subst hs
    by_cases ha : j.val < 8
    · have e : j = e1 ⟨j.val, ha⟩ := rfl
      rw [e]; exact h1 _ _ _ _
    · by_cases hb : j.val < 16
      · have e : j = e2 ⟨j.val - 8, by omega⟩ := Fin.ext (by show j.val = 8 + (j.val - 8); omega)
        rw [e]; exact h2 _ _ _ _
      · have e : j = e3 ⟨j.val - 16, by omega⟩ := Fin.ext (by show j.val = 16 + (j.val - 16); omega)
        rw [e]; exact h3 _ _ _ _
  · have e : s = 1 := by omega
    rw [e]; exact h4 _ _ _ _

end Cert.Opening

end
-- ==== Proof.OpenPay.lean ====
/- The two kernels' payloads on a block of the prompt's even layer, at an index over the extended reals. -/
module

public import proofs.«01_k».proof.Proof.OpenRun
public import proofs.«01_k».proof.Proof.OpenSpec
public import Idealize.ShloMosaic.Lib.Pointwise
public import Idealize.ShloMosaic.Lib.KernelVsHost
public import Idealize.ShloMosaic.Lib.Tactic.CleanTypes

@[expose] public section

set_option maxRecDepth 16384
set_option Elab.async false

noncomputable section

namespace Cert.Kernel6Ideal.Opens

open Cert.Kernel6Ideal Cert.Kernel6Ideal.Gen
open Idealize.ShloMosaic Idealize.ShloMosaic.TcCoe
open Cert.Opening
open Cert.Entering (gelu mean ln d5)

theorem hz2 : (![0, 0] : Fin 2 → ℕ) = fun _ => 0 := funext fun b => by fin_cases b <;> rfl

theorem proj_at (x : S512x1024.Idx → EReal) (n : Nrm) (w : S1024x2560.Idx → EReal) (p : Fin 512) (d : Fin 2560) : k0_pay1 (F := Ideal) x n w (ix2 p d) =
    ∑ e : Fin 1024, Routed.rms (fun j => x (ix2 p j)) (fun j => n (ix2 0 j)) e * w (ix2 e d) := by
  unfold k0_pay1
  pointwise
  rfl

theorem ln_at (u : S256x512.Idx → EReal) (g b : Lane) (p : Fin 256) (k : Fin 512) : k1_pay16 (F := Ideal) u g b (ix2 p k) =
    ln (fun j => gelu (u (ix2 p j))) (fun j => g (ix2 0 j)) (fun j => b (ix2 0 j)) k := by
  unfold k1_pay16 ln mean gelu
  pointwise
  try rfl

theorem up_lt (l : Fin 128) : (l.val + 8) % 128 < 128 := by omega
theorem dn_lt (l : Fin 128) : (l.val + 120) % 128 < 128 := by omega

/-- A block of 128 lanes turned by its three tables. -/
def turn (u c up dn : Fin 128 → EReal) (l : Fin 128) : EReal :=
  u l * c l + u ⟨(l.val + 8) % 128, up_lt l⟩ * up l + u ⟨(l.val + 120) % 128, dn_lt l⟩ * dn l

/-- The block's turn as the kernel writes it. -/
abbrev turned (c up dn u : S256x128.Idx → EReal) : FVec Ideal S256x128 .f32 :=
  addf (F := Ideal) (φ := .f32) (addf (F := Ideal) (φ := .f32) (mulf (F := Ideal) (φ := .f32) u c) (mulf (F := Ideal) (φ := .f32) (dynamicRotate 1 120#32 none u rotates_S256x128_d1) up)) (mulf (F := Ideal) (φ := .f32) (dynamicRotate 1 8#32 none u rotates_S256x128_d1) dn)

theorem turned_at (c up dn u : S256x128.Idx → EReal) (p : Fin 256) (l : Fin 128) :
    turned c up dn u (ix2 p l) = turn (fun k => u (ix2 p k)) (fun k => c (ix2 p k)) (fun k => up (ix2 p k)) (fun k => dn (ix2 p k)) l := by
  have h1 : dynamicRotate 1 120#32 none u rotates_S256x128_d1 (ix2 p l) = u (ix2 p (⟨(l.val + 8) % 128, up_lt l⟩ : Fin 128)) :=
    dynamicRotate_apply 1 120#32 u rotates_S256x128_d1 _ _ fun b => by
      fin_cases b
      · rfl
      · show (l.val + 8) % 128 = (l.val + 128 - 120 % 128) % 128
        omega
  have h2 : dynamicRotate 1 8#32 none u rotates_S256x128_d1 (ix2 p l) = u (ix2 p (⟨(l.val + 120) % 128, dn_lt l⟩ : Fin 128)) :=
    dynamicRotate_apply 1 8#32 u rotates_S256x128_d1 _ _ fun b => by
      fin_cases b
      · rfl
      · show (l.val + 120) % 128 = (l.val + 128 - 8 % 128) % 128
        omega
  unfold turned
  generalize dynamicRotate 1 120#32 none u rotates_S256x128_d1 = v at h1 ⊢
  generalize dynamicRotate 1 8#32 none u rotates_S256x128_d1 = w at h2 ⊢
  show _ = u (ix2 p l) * c (ix2 p l) + u (ix2 p (⟨(l.val + 8) % 128, up_lt l⟩ : Fin 128)) * up (ix2 p l) + u (ix2 p (⟨(l.val + 120) % 128, dn_lt l⟩ : Fin 128)) * dn (ix2 p l)
  rw [← h1, ← h2]
  clear h1 h2
  pointwise

/-- The keys' four blocks of lanes. -/
abbrev lanes (q : Fin 4) (l : Fin 128) : Fin 512 := ⟨q.val * 128 + l.val, by omega⟩

/-- A block's keys as the kernel turns them. -/
abbrev keys (a up dn : S256x128.Idx → EReal) (u : S256x512.Idx → EReal) : S256x512.Idx → EReal :=
  k1_pay6 (F := Ideal) (k1_pay2 (F := Ideal) a) (k1_pay3 (F := Ideal) up) (k1_pay4 (F := Ideal) dn) u

theorem keys_at (c up dn : S256x128.Idx → EReal) (u : S256x512.Idx → EReal) (p : Fin 256) (q : Fin 4) (l : Fin 128) :
    keys c up dn u (ix2 p (lanes q l)) =
    turn (fun k => u (ix2 p (lanes q k))) (fun k => c (ix2 p k)) (fun k => up (ix2 p k)) (fun k => dn (ix2 p k)) l := by
  have e : keys c up dn u =
      concatenate S256x512 1 [⟨S256x128, turned c up dn (extractStridedSlice S256x128 ![0, 0] u slices_S256x512_o0_0_S256x128)⟩, ⟨S256x128, turned c up dn (extractStridedSlice S256x128 ![0, 128] u slices_S256x512_o0_128_S256x128)⟩,
        ⟨S256x128, turned c up dn (extractStridedSlice S256x128 ![0, 256] u slices_S256x512_o0_256_S256x128)⟩, ⟨S256x128, turned c up dn (extractStridedSlice S256x128 ![0, 384] u slices_S256x512_o0_384_S256x128)⟩] concatenates_S256x128_S256x128_S256x128_S256x128_S256x512_d1 := by
    unfold keys
    rw [show k1_pay2 (F := Ideal) c = c from shapeCast_self _ _, show k1_pay3 (F := Ideal) up = up from shapeCast_self _ _, show k1_pay4 (F := Ideal) dn = dn from shapeCast_self _ _]
    unfold k1_pay6
    rw [show shapeCast S256x512 u shapeCasts_S256x512_S256x512 = u from shapeCast_self _ _]
  rw [e]
  have t0 := turned_at c up dn (extractStridedSlice S256x128 ![0, 0] u slices_S256x512_o0_0_S256x128) p
  have t1 := turned_at c up dn (extractStridedSlice S256x128 ![0, 128] u slices_S256x512_o0_128_S256x128) p
  have t2 := turned_at c up dn (extractStridedSlice S256x128 ![0, 256] u slices_S256x512_o0_256_S256x128) p
  have t3 := turned_at c up dn (extractStridedSlice S256x128 ![0, 384] u slices_S256x512_o0_384_S256x128) p
  generalize turned c up dn (extractStridedSlice S256x128 ![0, 0] u slices_S256x512_o0_0_S256x128) = v0 at t0 ⊢
  generalize turned c up dn (extractStridedSlice S256x128 ![0, 128] u slices_S256x512_o0_128_S256x128) = v1 at t1 ⊢
  generalize turned c up dn (extractStridedSlice S256x128 ![0, 256] u slices_S256x512_o0_256_S256x128) = v2 at t2 ⊢
  generalize turned c up dn (extractStridedSlice S256x128 ![0, 384] u slices_S256x512_o0_384_S256x128) = v3 at t3 ⊢
  clear e
  fin_cases q
  · refine Eq.trans (b := v0 (ix2 p l)) ?_ ((t0 l).trans (congrArg (fun f => turn f _ _ _ l) (funext fun k => ?_)))
    · pointwise
    · pointwise
      exact congrArg (fun j : Fin 512 => u (ix2 p j)) (Fin.ext (by show k.val = 0 * 128 + k.val; omega))
  · refine Eq.trans (b := v1 (ix2 p l)) ?_ ((t1 l).trans (congrArg (fun f => turn f _ _ _ l) (funext fun k => ?_)))
    · pointwise
    · pointwise
      rfl
  · refine Eq.trans (b := v2 (ix2 p l)) ?_ ((t2 l).trans (congrArg (fun f => turn f _ _ _ l) (funext fun k => ?_)))
    · pointwise
      rw [dif_neg (by omega), dif_neg (by omega), dif_pos (by omega)]
      exact congrArg (fun j : Fin 128 => v2 (ix2 p j)) (Fin.ext (by show 256 + l.val - 128 - 128 = l.val; omega))
    · pointwise
      rfl
  · refine Eq.trans (b := v3 (ix2 p l)) ?_ ((t3 l).trans (congrArg (fun f => turn f _ _ _ l) (funext fun k => ?_)))
    · pointwise
      rw [dif_neg (by omega), dif_neg (by omega), dif_neg (by omega)]
      exact congrArg (fun j : Fin 128 => v3 (ix2 p j)) (Fin.ext (by show 384 + l.val - 128 - 128 - 128 = l.val; omega))
    · pointwise
      rfl

theorem trk_at (v : S256x512.Idx → EReal) (j : Fin 512) (s : Fin 256) : k1_pay12 (F := Ideal) v (ix3 0 j s) = v (ix2 s j) := by
  unfold k1_pay12
  pointwise

theorem trv_at (v : S256x512.Idx → EReal) (j : Fin 512) (s : Fin 256) : k1_pay13 (F := Ideal) v (ix3 0 j s) = v (ix2 s j) := by
  unfold k1_pay13 k1_pay10
  pointwise

/-! ## The loads and stores at their columns -/

section Loads
variable (z : S256x2560.Idx → EReal) (p : Fin 256) (k : Fin 512)

theorem ld_k (h : 512 + k.val < 2560) : (View.ld (Val := Elt Ideal) (e' := .f32) z r1_2 : S256x512.Idx → EReal) (ix2 p k) = z (ix2 p (⟨512 + k.val, h⟩ : Fin 2560)) :=
  congrArg z (Rect.emb_eq_of_coords _ _ _ fun b => by
    fin_cases b
    · show p.val = 0 + 1 * p.val
      omega
    · show 512 + k.val = 512 + 1 * k.val
      omega)

theorem ld_v (h : 1024 + k.val < 2560) : (View.ld (Val := Elt Ideal) (e' := .f32) z r1_3 : S256x512.Idx → EReal) (ix2 p k) = z (ix2 p (⟨1024 + k.val, h⟩ : Fin 2560)) :=
  congrArg z (Rect.emb_eq_of_coords _ _ _ fun b => by
    fin_cases b
    · show p.val = 0 + 1 * p.val
      omega
    · show 1024 + k.val = 1024 + 1 * k.val
      omega)

theorem ld_g : (View.ld (Val := Elt Ideal) (e' := .f32) z r1_10 : S256x512.Idx → EReal) (ix2 p k) = z (ix2 p (d5 k)) :=
  congrArg z (Rect.emb_eq_of_coords _ _ _ fun b => by
    fin_cases b
    · show p.val = 0 + 1 * p.val
      omega
    · show 2048 + k.val = 2048 + 1 * k.val
      omega)

end Loads

section Cat
variable (A B : S1x512x256.Idx → EReal) (k : Fin 512) (s : Fin 256)

theorem cat_v (h : 512 + k.val < 1024) : (View.canon (Val := Elt Ideal) (e := .f32) [⟨r1_7, A⟩, ⟨r1_6, B⟩] : S1x1024x256.Idx → EReal) (ix3 0 (⟨512 + k.val, h⟩ : Fin 1024) s) = A (ix3 0 k s) := by
  have h : r1_7.emb (ix3 0 k s : S1x512x256.Idx) = (ix3 0 (⟨512 + k.val, h⟩ : Fin 1024) s : S1x1024x256.Idx) := Rect.emb_eq_of_coords _ _ _ fun b => by
    fin_cases b
    · show 0 = 0 + 1 * 0
      omega
    · show 512 + k.val = 512 + 1 * k.val
      omega
    · show s.val = 0 + 1 * s.val
      omega
  rw [← h]
  exact View.canon_cons_emb (Val := Elt Ideal) (e := .f32) r1_7 A _ (ix3 0 k s : S1x512x256.Idx)

theorem cat_k (h : k.val < 1024) : (View.canon (Val := Elt Ideal) (e := .f32) [⟨r1_7, A⟩, ⟨r1_6, B⟩] : S1x1024x256.Idx → EReal) (ix3 0 (⟨k.val, h⟩ : Fin 1024) s) = B (ix3 0 k s) := by
  refine (View.canon_cons_of_not_mem (Val := Elt Ideal) (e := .f32) ⟨r1_7, A⟩ _ (Rect.not_mem_set_of_axis r1_7 _ 1 512 512 rfl rfl rfl (.inl k.isLt))).trans ?_
  have h : r1_6.emb (ix3 0 k s : S1x512x256.Idx) = (ix3 0 (⟨k.val, h⟩ : Fin 1024) s : S1x1024x256.Idx) := Rect.emb_eq_of_coords _ _ _ fun b => by
    fin_cases b
    · show 0 = 0 + 1 * 0
      omega
    · show k.val = 0 + 1 * k.val
      omega
    · show s.val = 0 + 1 * s.val
      omega
  rw [← h]
  exact View.canon_cons_emb (Val := Elt Ideal) (e := .f32) r1_6 B _ (ix3 0 k s : S1x512x256.Idx)

end Cat

/-! ## The three outputs of a block -/

theorem out0_3_eq (x0 : Vec Ideal S512x1024 .f32) (x1 : Vec Ideal S1x1024 .f32) (x2 : Vec Ideal S1024x2560 .bf16) : out0_3 (F := Ideal) x0 x1 x2 = k0_pay1 (F := Ideal) x0 x1 x2 := by
  unfold out0_3
  rw [View.canon_unit_zero hz2, View.ld_unit_zero (S := S512x1024) hz2, View.ld_unit_zero (S := S1x1024) hz2, View.ld_unit_zero (S := S1024x2560) hz2]

section Outs
variable (x0 : Vec Ideal S256x2560 .f32) (x1 x2 x3 : Vec Ideal S256x128 .f32) (x4 x5 : Vec Ideal S1x512 .f32) (x6 : Vec Ideal S8x128x128 .f32) (x7 : Vec Ideal S128x8 .f32)

/-- A block's keys and values. -/
abbrev kvs (z : S256x2560.Idx → EReal) (a u d : S256x128.Idx → EReal) : S1x1024x256.Idx → EReal :=
  View.canon (Val := Elt Ideal) (e := .f32) [⟨r1_7, k1_pay13 (F := Ideal) (k1_pay7 (F := Ideal) (View.ld (Val := Elt Ideal) (e' := .f32) z r1_3))⟩,
    ⟨r1_6, k1_pay12 (F := Ideal) (keys a u d (View.ld (Val := Elt Ideal) (e' := .f32) z r1_2))⟩]

theorem out1_11_eq : out1_11 (F := Ideal) x0 x1 x2 x3 x4 x5 x6 x7 = kvs x0 x1 x2 x3 := by
  unfold out1_11 k1_pay40 k1_pay41
  rw [View.ld_unit_zero (S := S256x128) hz2, View.ld_unit_zero (S := S256x128) hz2, View.ld_unit_zero (S := S256x128) hz2]

theorem out1_13_eq : out1_13 (F := Ideal) x0 x1 x2 x3 x4 x5 x6 x7 = k1_pay16 (F := Ideal) (View.ld (Val := Elt Ideal) (e' := .f32) x0 r1_10) x4 x5 := by
  unfold out1_13
  rw [View.canon_unit_zero hz2, View.ld_unit_zero (S := S1x512) hz2, View.ld_unit_zero (S := S1x512) hz2]

theorem lane_lt (q : Fin 4) (l : Fin 128) : q.val * 128 + l.val < 1024 := by omega
theorem wide_lt (q : Fin 4) (l : Fin 128) : 512 + (q.val * 128 + l.val) < 2560 := by omega
theorem half_lt (k : Fin 512) : 512 + k.val < 1024 := by omega
theorem past_lt (k : Fin 512) : 1024 + k.val < 2560 := by omega

theorem kvs_key (z : S256x2560.Idx → EReal) (a u d : S256x128.Idx → EReal) (q : Fin 4) (l : Fin 128) (s : Fin 256) : kvs z a u d (ix3 0 (⟨q.val * 128 + l.val, lane_lt q l⟩ : Fin 1024) s) =
    turn (fun k => z (ix2 s (⟨512 + (q.val * 128 + k.val), wide_lt q k⟩ : Fin 2560))) (fun k => a (ix2 s k)) (fun k => u (ix2 s k)) (fun k => d (ix2 s k)) l := by
  refine (cat_k _ _ (lanes q l) s (lane_lt q l)).trans ((trk_at _ _ s).trans ((keys_at a u d _ s q l).trans ?_))
  exact congrArg (fun f => turn f (fun k => a (ix2 s k)) (fun k => u (ix2 s k)) (fun k => d (ix2 s k)) l) (funext fun k => ld_k z s (lanes q k) (wide_lt q k))

theorem kvs_val (z : S256x2560.Idx → EReal) (a u d : S256x128.Idx → EReal) (k : Fin 512) (s : Fin 256) : kvs z a u d (ix3 0 (⟨512 + k.val, half_lt k⟩ : Fin 1024) s) =
    z (ix2 s (⟨1024 + k.val, past_lt k⟩ : Fin 2560)) := by
  refine (cat_v _ _ k s (half_lt k)).trans ((trv_at _ k s).trans ?_)
  rw [show k1_pay7 (F := Ideal) (View.ld (Val := Elt Ideal) (e' := .f32) z r1_3) = View.ld (Val := Elt Ideal) (e' := .f32) z r1_3 from shapeCast_self _ _]
  exact ld_v z s k (past_lt k)

/-- A block's gating rows at an index. -/
theorem gvs_at (z : S256x2560.Idx → EReal) (g b : Lane) (s : Fin 256) (k : Fin 512) : k1_pay16 (F := Ideal) (View.ld (Val := Elt Ideal) (e' := .f32) z r1_10) g b (ix2 s k) =
    ln (fun j => gelu (z (ix2 s (d5 j)))) (fun j => g (ix2 0 j)) (fun j => b (ix2 0 j)) k := by
  refine (ln_at _ g b s k).trans ?_
  exact congrArg (fun f => ln f (fun j => g (ix2 0 j)) (fun j => b (ix2 0 j)) k) (funext fun j => congrArg gelu (ld_g z s j))

end Outs

end Cert.Kernel6Ideal.Opens

end
-- ==== Proof.OpenBlocks.lean ====
/- Where the blocks of the prompt's even layer lie in their arrays, and the arrays the two kernels leave. -/
module

public import proofs.«01_k».proof.Proof.OpenPay

@[expose] public section

set_option maxRecDepth 16384
set_option Elab.async false

noncomputable section

namespace Cert.Kernel6Ideal.Opens

open Cert.Kernel6Ideal Cert.Kernel6Ideal.Gen
open Idealize.ShloMosaic Idealize.ShloMosaic.TcCoe
open Cert.Opening
open Cert.Entering (gelu ln d5)

/-! ## The projection's blocks of 512 rows -/

theorem lt32 (t : Fin cfg0.N) : t.val < 32 := t.isLt

theorem g0_0 (t : Fin cfg0.N) : ((grid0.coords t) 0).val = t.val := by
  have h : ((grid0.coords t) 0).val = t.val / 1 % 32 := Pipeline.Grid.coords_val t 0 (by decide) rfl
  have := lt32 t
  omega

theorem i0_0 : ∀ i : grid0.Coords, cc0_transform_0 i 0 = (i 0).val := by decide +kernel
theorem i0_3 : ∀ i : grid0.Coords, cc0_transform_3 i 0 = (i 0).val := by decide +kernel

theorem r0_lt (t : Fin cfg0.N) (p : Fin 512) : t.val * 512 + p.val < 16384 := by
  have := lt32 t
  omega

/-- Row `p` of point `t`'s block. -/
abbrev row0 (t : Fin cfg0.N) (p : Fin 512) : Fin 16384 := ⟨t.val * 512 + p.val, r0_lt t p⟩

/-- The projected rows. -/
def zw (x : Tok) (n : Nrm) (w : S1024x2560.Idx → EReal) : Wide := fun i =>
  ∑ e : Fin 1024, Routed.rms (fun j => x (ix2 (i 0 : Fin 16384) j)) (fun j => n (ix2 0 j)) e * w (ix2 e (i 1 : Fin 2560))

section Regions
variable (V : (c : Dev nD) → (b : Ref sig .tc) → Buf (Elt Ideal) ((c.tc : Thread nD τ).loc b)) (c : Dev nD)

theorem blk0_0 (t : Fin cfg0.N) (p : Fin 512) (d : Fin 1024) : (iblk0 V c 0 t : S512x1024.Idx → EReal) (ix2 p d) = (V c main_arg0 : S16384x1024.Idx → EReal) (ix2 (row0 t p) d) := by
  refine congrArg (V c main_arg0) (funext fun b => Fin.ext ?_)
  fin_cases b
  · show cc0_transform_0 (grid0.coords t) 0 * 512 + 1 * p.val = t.val * 512 + p.val
    rw [i0_0, g0_0]; omega
  · show 0 * 1024 + 1 * d.val = d.val
    omega

theorem blk0_1 (t : Fin cfg0.N) : (iblk0 V c 1 t : S1x1024.Idx → EReal) = V c main_v1 := by
  funext y
  refine congrArg (V c main_v1) (funext fun b => Fin.ext ?_)
  fin_cases b
  · show 0 * 1 + 1 * (y 0).val = (y 0).val
    omega
  · show 0 * 1024 + 1 * (y 1).val = (y 1).val
    omega

theorem blk0_2 (t : Fin cfg0.N) : (iblk0 V c 2 t : S1024x2560.Idx → EReal) = V c main_v3 := by
  funext y
  refine congrArg (V c main_v3) (funext fun b => Fin.ext ?_)
  fin_cases b
  · show 0 * 1024 + 1 * (y 0).val = (y 0).val
    omega
  · show 0 * 2560 + 1 * (y 1).val = (y 1).val
    omega

theorem emb0_3 (t : Fin cfg0.N) (p : Fin 512) (d : Fin 2560) : (((cfg0.win (3 : Fin 4)).blk t).view.emb (ix2 p d : S512x2560.Idx) : S16384x2560.Idx) = ix2 (row0 t p) d := by
  funext b
  apply Fin.ext
  fin_cases b
  · show cc0_transform_3 (grid0.coords t) 0 * 512 + 1 * p.val = t.val * 512 + p.val
    rw [i0_3, g0_0]; omega
  · show 0 * 2560 + 1 * d.val = d.val
    omega

theorem left0_3 (t : Fin cfg0.N) (p : Fin 512) (d : Fin 2560) : ((dat0 V c).after (3 : Fin 4) t : S512x2560.Idx → EReal) (ix2 p d) = zw (V c main_arg0) (V c main_v1) (V c main_v3) (ix2 (row0 t p) d) := by
  refine (congrFun ((after0_3 V c t).trans (out0_3_eq _ _ _)) (ix2 p d)).trans ((proj_at _ _ _ p d).trans ?_)
  rw [blk0_1, blk0_2]
  simp only [blk0_0]
  rfl

/-- The projection's array. -/
theorem arr0_3 : (dat0 V c).arrAt (3 : Fin 4) cfg0.N = zw (V c main_arg0) (V c main_v1) (V c main_v3) := by
  refine Pipeline.Dat.arrAt_eq_of_cover (dat0 V c) (3 : Fin 4) (zw (V c main_arg0) (V c main_v1) (V c main_v3)) (fun t hf => ?_) (fun i => ?_)
  · funext y
    have hy : ∃ (p : Fin 512) (d : Fin 2560), y = (ix2 p d : S512x2560.Idx) := ⟨y 0, y 1, by funext b; fin_cases b <;> rfl⟩
    obtain ⟨p, d, rfl⟩ := hy
    exact (left0_3 V c t p d).trans (congrArg (zw (V c main_arg0) (V c main_v1) (V c main_v3)) (emb0_3 t p d)).symm
  · have hi : ∃ (r : Fin 16384) (d : Fin 2560), i = (ix2 r d : S16384x2560.Idx) := ⟨i 0, i 1, by funext b; fin_cases b <;> rfl⟩
    obtain ⟨r, d, rfl⟩ := hi
    have ht : r.val / 512 < cfg0.N := by show r.val / 512 < 32; omega
    refine ⟨⟨r.val / 512, ht⟩, flush0_3 _, ?_⟩
    have h := ((cfg0.win (3 : Fin 4)).blk ⟨r.val / 512, ht⟩).view.emb_mem_set (ix2 (⟨r.val % 512, Nat.mod_lt _ (by decide)⟩ : Fin 512) d : S512x2560.Idx)
    rw [emb0_3] at h
    have e : row0 ⟨r.val / 512, ht⟩ (⟨r.val % 512, Nat.mod_lt _ (by decide)⟩ : Fin 512) = r := Fin.ext (by show r.val / 512 * 512 + r.val % 512 = r.val; omega)
    rwa [e] at h

/-! ## The second kernel's blocks of 256 positions -/

theorem lt64 (t : Fin cfg1.N) : t.val < 64 := t.isLt

theorem g1_0 (t : Fin cfg1.N) : ((grid1.coords t) 0).val = t.val / 16 := by
  have h : ((grid1.coords t) 0).val = t.val / 16 % 4 := Pipeline.Grid.coords_val t 0 (by decide) rfl
  have := lt64 t
  omega
theorem g1_1 (t : Fin cfg1.N) : ((grid1.coords t) 1).val = t.val % 16 := by
  have h : ((grid1.coords t) 1).val = t.val / 1 % 16 := Pipeline.Grid.coords_val t 1 (by decide) rfl
  omega

theorem i1_0 : ∀ i : grid1.Coords, cc1_transform_0 i 0 = (i 0).val * 16 + (i 1).val := by decide +kernel
theorem i1_1 : ∀ i : grid1.Coords, cc1_transform_1 i 0 = (i 1).val := by decide +kernel
theorem i1_2 : ∀ i : grid1.Coords, cc1_transform_2 i 0 = (i 1).val := by decide +kernel
theorem i1_3 : ∀ i : grid1.Coords, cc1_transform_3 i 0 = (i 1).val := by decide +kernel
theorem i1_11 : ∀ i : grid1.Coords, cc1_transform_11 i 0 = (i 0).val ∧ cc1_transform_11 i 2 = (i 1).val := by decide +kernel
theorem i1_13 : ∀ i : grid1.Coords, cc1_transform_13 i 0 = (i 0).val * 16 + (i 1).val := by decide +kernel

theorem seq_lt (t : Fin cfg1.N) : t.val / 16 < 4 := by
  have := lt64 t
  omega
theorem pos_lt (t : Fin cfg1.N) (s : Fin 256) : t.val % 16 * 256 + s.val < 4096 := by omega

/-- The sequence of point `t`'s block, and its position `s`. -/
abbrev sq (t : Fin cfg1.N) : Fin 4 := ⟨t.val / 16, seq_lt t⟩
abbrev ps (t : Fin cfg1.N) (s : Fin 256) : Fin 4096 := ⟨t.val % 16 * 256 + s.val, pos_lt t s⟩

theorem blk1_0 (t : Fin cfg1.N) (s : Fin 256) (d : Fin 2560) : (iblk1 V c 0 t : S256x2560.Idx → EReal) (ix2 s d) = (V c main_v4 : S16384x2560.Idx → EReal) (ix2 (row (sq t) (ps t s)) d) := by
  refine congrArg (V c main_v4) (funext fun b => Fin.ext ?_)
  fin_cases b
  · show cc1_transform_0 (grid1.coords t) 0 * 256 + 1 * s.val = t.val / 16 * 4096 + (t.val % 16 * 256 + s.val)
    rw [i1_0, g1_0, g1_1]; omega
  · show 0 * 2560 + 1 * d.val = d.val
    omega

theorem blk1_1 (t : Fin cfg1.N) (s : Fin 256) (k : Fin 128) : (iblk1 V c 1 t : S256x128.Idx → EReal) (ix2 s k) = (V c main_v29 : S4096x128.Idx → EReal) (ix2 (ps t s) k) := by
  refine congrArg (V c main_v29) (funext fun b => Fin.ext ?_)
  fin_cases b
  · show cc1_transform_1 (grid1.coords t) 0 * 256 + 1 * s.val = t.val % 16 * 256 + s.val
    rw [i1_1, g1_1]; omega
  · show 0 * 128 + 1 * k.val = k.val
    omega

theorem blk1_2 (t : Fin cfg1.N) (s : Fin 256) (k : Fin 128) : (iblk1 V c 2 t : S256x128.Idx → EReal) (ix2 s k) = (V c main_v32 : S4096x128.Idx → EReal) (ix2 (ps t s) k) := by
  refine congrArg (V c main_v32) (funext fun b => Fin.ext ?_)
  fin_cases b
  · show cc1_transform_2 (grid1.coords t) 0 * 256 + 1 * s.val = t.val % 16 * 256 + s.val
    rw [i1_2, g1_1]; omega
  · show 0 * 128 + 1 * k.val = k.val
    omega

theorem blk1_3 (t : Fin cfg1.N) (s : Fin 256) (k : Fin 128) : (iblk1 V c 3 t : S256x128.Idx → EReal) (ix2 s k) = (V c main_v35 : S4096x128.Idx → EReal) (ix2 (ps t s) k) := by
  refine congrArg (V c main_v35) (funext fun b => Fin.ext ?_)
  fin_cases b
  · show cc1_transform_3 (grid1.coords t) 0 * 256 + 1 * s.val = t.val % 16 * 256 + s.val
    rw [i1_3, g1_1]; omega
  · show 0 * 128 + 1 * k.val = k.val
    omega

theorem blk1_4 (t : Fin cfg1.N) : (iblk1 V c 4 t : S1x512.Idx → EReal) = V c main_v37 := by
  funext y
  refine congrArg (V c main_v37) (funext fun b => Fin.ext ?_)
  fin_cases b
  · show 0 * 1 + 1 * (y 0).val = (y 0).val
    omega
  · show 0 * 512 + 1 * (y 1).val = (y 1).val
    omega

theorem blk1_5 (t : Fin cfg1.N) : (iblk1 V c 5 t : S1x512.Idx → EReal) = V c main_v39 := by
  funext y
  refine congrArg (V c main_v39) (funext fun b => Fin.ext ?_)
  fin_cases b
  · show 0 * 1 + 1 * (y 0).val = (y 0).val
    omega
  · show 0 * 512 + 1 * (y 1).val = (y 1).val
    omega

theorem emb1_11 (t : Fin cfg1.N) (j : Fin 1024) (s : Fin 256) : (((cfg1.win (11 : Fin 15)).blk t).view.emb (ix3 0 j s : S1x1024x256.Idx) : S4x1024x4096.Idx) = ix3 (sq t) j (ps t s) := by
  funext b
  apply Fin.ext
  fin_cases b
  · show cc1_transform_11 (grid1.coords t) 0 * 1 + 1 * 0 = t.val / 16
    rw [(i1_11 _).1, g1_0]; omega
  · show 0 * 1024 + 1 * j.val = j.val
    omega
  · show cc1_transform_11 (grid1.coords t) 2 * 256 + 1 * s.val = t.val % 16 * 256 + s.val
    rw [(i1_11 _).2, g1_1]; omega

theorem emb1_13 (t : Fin cfg1.N) (s : Fin 256) (k : Fin 512) : (((cfg1.win (13 : Fin 15)).blk t).view.emb (ix2 s k : S256x512.Idx) : S16384x512.Idx) = ix2 (row (sq t) (ps t s)) k := by
  funext b
  apply Fin.ext
  fin_cases b
  · show cc1_transform_13 (grid1.coords t) 0 * 256 + 1 * s.val = t.val / 16 * 4096 + (t.val % 16 * 256 + s.val)
    rw [i1_13, g1_0, g1_1]; omega
  · show 0 * 512 + 1 * k.val = k.val
    omega

/-- A key's lane at a position of a sequence. -/
def key (z : Wide) (a u d : S4096x128.Idx → EReal) (b : Fin 4) (t : Fin 4096) (q : Fin 4) (l : Fin 128) : EReal :=
  turn (fun k => z (ix2 (row b t) (⟨512 + (q.val * 128 + k.val), wide_lt q k⟩ : Fin 2560))) (fun k => a (ix2 t k)) (fun k => u (ix2 t k)) (fun k => d (ix2 t k)) l

theorem shift_lt (j : Fin 1024) : 512 + j.val < 2560 := by omega
theorem quo_lt (j : Fin 1024) (h : j.val < 512) : j.val / 128 < 4 := by omega
theorem rem_lt (j : Fin 1024) : j.val % 128 < 128 := by omega

/-- A lane of the keys and values at a position of a sequence. -/
def kvAt (z : Wide) (a u d : S4096x128.Idx → EReal) (b : Fin 4) (j : Fin 1024) (t : Fin 4096) : EReal :=
  if h : j.val < 512 then key z a u d b t ⟨j.val / 128, quo_lt j h⟩ ⟨j.val % 128, rem_lt j⟩ else z (ix2 (row b t) (⟨512 + j.val, shift_lt j⟩ : Fin 2560))

/-- The array of the keys and values. -/
def kvArr (z : Wide) (a u d : S4096x128.Idx → EReal) : S4x1024x4096.Idx → EReal := fun i => kvAt z a u d (i 0) (i 1) (i 2)

theorem kvAt_key (z : Wide) (a u d : S4096x128.Idx → EReal) (b : Fin 4) (t : Fin 4096) (q : Fin 4) (l : Fin 128) :
    kvAt z a u d b (⟨q.val * 128 + l.val, lane_lt q l⟩ : Fin 1024) t = key z a u d b t q l := by
  unfold kvAt
  rw [dif_pos (by show q.val * 128 + l.val < 512; omega)]
  exact congrArg₂ (fun q l => key z a u d b t q l) (Fin.ext (by show (q.val * 128 + l.val) / 128 = q.val; omega)) (Fin.ext (by show (q.val * 128 + l.val) % 128 = l.val; omega))

theorem kvAt_val (z : Wide) (a u d : S4096x128.Idx → EReal) (b : Fin 4) (t : Fin 4096) (k : Fin 512) :
    kvAt z a u d b (⟨512 + k.val, half_lt k⟩ : Fin 1024) t = z (ix2 (row b t) (⟨1024 + k.val, past_lt k⟩ : Fin 2560)) := by
  unfold kvAt
  rw [dif_neg (by show ¬ (512 + k.val < 512); omega)]
  exact congrArg (fun j : Fin 2560 => z (ix2 (row b t) j)) (Fin.ext (by show 512 + (512 + k.val) = 1024 + k.val; omega))

theorem left1_11 (t : Fin cfg1.N) (j : Fin 1024) (s : Fin 256) : ((dat1 V c).after (11 : Fin 15) t : S1x1024x256.Idx → EReal) (ix3 0 j s) =
    kvAt (V c main_v4) (V c main_v29) (V c main_v32) (V c main_v35) (sq t) j (ps t s) := by
  refine (congrFun ((after1_11 V c t).trans (out1_11_eq _ _ _ _ _ _ _ _)) (ix3 0 j s)).trans ?_
  by_cases h : j.val < 512
  · have e : j = (⟨(⟨j.val / 128, quo_lt j h⟩ : Fin 4).val * 128 + (⟨j.val % 128, rem_lt j⟩ : Fin 128).val, lane_lt _ _⟩ : Fin 1024) :=
      Fin.ext (by show j.val = j.val / 128 * 128 + j.val % 128; omega)
    rw [e, kvAt_key]
    refine (kvs_key _ _ _ _ _ _ s).trans ?_
    simp only [blk1_0, blk1_1, blk1_2, blk1_3]
    rfl
  · have e : j = (⟨512 + (⟨j.val - 512, by omega⟩ : Fin 512).val, half_lt _⟩ : Fin 1024) := Fin.ext (by show j.val = 512 + (j.val - 512); omega)
    rw [e, kvAt_val]
    exact (kvs_val _ _ _ _ _ s).trans (blk1_0 V c t s _)

/-- The second kernel's keys and values. -/
theorem arr1_11 : (dat1 V c).arrAt (11 : Fin 15) cfg1.N = kvArr (V c main_v4) (V c main_v29) (V c main_v32) (V c main_v35) := by
  refine Pipeline.Dat.arrAt_eq_of_cover (dat1 V c) (11 : Fin 15) (kvArr (V c main_v4) (V c main_v29) (V c main_v32) (V c main_v35)) (fun t hf => ?_) (fun i => ?_)
  · funext y
    have hy : ∃ (j : Fin 1024) (s : Fin 256), y = (ix3 0 j s : S1x1024x256.Idx) := ⟨y 1, y 2, by
      funext b
      fin_cases b
      · exact Subsingleton.elim (α := Fin 1) _ _
      · rfl
      · rfl⟩
    obtain ⟨j, s, rfl⟩ := hy
    exact (left1_11 V c t j s).trans (congrArg (kvArr (V c main_v4) (V c main_v29) (V c main_v32) (V c main_v35)) (emb1_11 t j s)).symm
  · have hi : ∃ (b : Fin 4) (j : Fin 1024) (p : Fin 4096), i = (ix3 b j p : S4x1024x4096.Idx) := ⟨i 0, i 1, i 2, by funext b; fin_cases b <;> rfl⟩
    obtain ⟨b, j, p, rfl⟩ := hi
    have ht : b.val * 16 + p.val / 256 < cfg1.N := by show b.val * 16 + p.val / 256 < 64; omega
    refine ⟨⟨b.val * 16 + p.val / 256, ht⟩, flush1_11 _, ?_⟩
    have h := ((cfg1.win (11 : Fin 15)).blk ⟨b.val * 16 + p.val / 256, ht⟩).view.emb_mem_set (ix3 0 j (⟨p.val % 256, Nat.mod_lt _ (by decide)⟩ : Fin 256) : S1x1024x256.Idx)
    rw [emb1_11] at h
    have e1 : sq ⟨b.val * 16 + p.val / 256, ht⟩ = b := Fin.ext (by show (b.val * 16 + p.val / 256) / 16 = b.val; omega)
    have e2 : ps ⟨b.val * 16 + p.val / 256, ht⟩ (⟨p.val % 256, Nat.mod_lt _ (by decide)⟩ : Fin 256) = p :=
      Fin.ext (by show (b.val * 16 + p.val / 256) % 16 * 256 + p.val % 256 = p.val; omega)
    rwa [e1, e2] at h

/-- The array of the gating rows. -/
def gvArr (z : Wide) (g o : Lane) : S16384x512.Idx → EReal := fun i =>
  ln (fun j => gelu (z (ix2 (i 0 : Fin 16384) (d5 j)))) (fun j => g (ix2 0 j)) (fun j => o (ix2 0 j)) (i 1)

theorem left1_13 (t : Fin cfg1.N) (s : Fin 256) (k : Fin 512) : ((dat1 V c).after (13 : Fin 15) t : S256x512.Idx → EReal) (ix2 s k) =
    gvArr (V c main_v4) (V c main_v37) (V c main_v39) (ix2 (row (sq t) (ps t s)) k) := by
  refine (congrFun ((after1_13 V c t).trans (out1_13_eq _ _ _ _ _ _ _ _)) (ix2 s k)).trans ((gvs_at _ _ _ s k).trans ?_)
  rw [blk1_4, blk1_5]
  simp only [blk1_0]
  rfl

/-- The second kernel's gating rows. -/
theorem arr1_13 : (dat1 V c).arrAt (13 : Fin 15) cfg1.N = gvArr (V c main_v4) (V c main_v37) (V c main_v39) := by
  refine Pipeline.Dat.arrAt_eq_of_cover (dat1 V c) (13 : Fin 15) (gvArr (V c main_v4) (V c main_v37) (V c main_v39)) (fun t hf => ?_) (fun i => ?_)
  · funext y
    have hy : ∃ (s : Fin 256) (k : Fin 512), y = (ix2 s k : S256x512.Idx) := ⟨y 0, y 1, by funext b; fin_cases b <;> rfl⟩
    obtain ⟨s, k, rfl⟩ := hy
    exact (left1_13 V c t s k).trans (congrArg (gvArr (V c main_v4) (V c main_v37) (V c main_v39)) (emb1_13 t s k)).symm
  · have hi : ∃ (r : Fin 16384) (k : Fin 512), i = (ix2 r k : S16384x512.Idx) := ⟨i 0, i 1, by funext b; fin_cases b <;> rfl⟩
    obtain ⟨r, k, rfl⟩ := hi
    have ht : r.val / 256 < cfg1.N := by show r.val / 256 < 64; omega
    refine ⟨⟨r.val / 256, ht⟩, flush1_13 _, ?_⟩
    have h := ((cfg1.win (13 : Fin 15)).blk ⟨r.val / 256, ht⟩).view.emb_mem_set (ix2 (⟨r.val % 256, Nat.mod_lt _ (by decide)⟩ : Fin 256) k : S256x512.Idx)
    rw [emb1_13] at h
    have e : row (sq ⟨r.val / 256, ht⟩) (ps ⟨r.val / 256, ht⟩ (⟨r.val % 256, Nat.mod_lt _ (by decide)⟩ : Fin 256)) = r :=
      Fin.ext (by show r.val / 256 / 16 * 4096 + (r.val / 256 % 16 * 256 + r.val % 256) = r.val; omega)
    rwa [e] at h

end Regions

end Cert.Kernel6Ideal.Opens

end
-- ==== Proof.OpenRef.lean ====
/- The even layer's reference for the prompt at an index, over the extended reals. -/
module

public import proofs.«01_k».proof.Proof.Gen.Reference6Ideal.Run
public import proofs.«01_k».proof.Proof.OpenSpec
public import Idealize.ShloMosaic.Lib.Pointwise
public import Idealize.ShloMosaic.Lib.Tactic.CleanTypes

@[expose] public section

set_option maxRecDepth 16384
set_option Elab.async false

noncomputable section

namespace Cert.Reference6Ideal.Value

open Cert.Reference6Ideal Cert.Reference6Ideal.Gen
open Idealize.ShloMosaic Idealize.ShloMosaic.TcCoe Idealize.ShloMosaic.HloOp
open Cert.Opening
open Cert.Entering (d1 d2 d3 d5 z1 z2 z3 z5 gelu mean ln)

section Terms
variable {F : FTy → Type} [FloatOps F]

/-- The projected rows. -/
def tZ (a0 : FVec F S16384x1024 .f32) (a1 : FVec F S1x1024 .f32) (a2 : FVec F S1x1024x2560 .f32) : FVec F S16384x2560 .f32 :=
  Host.dotGeneral dot_S16384x1024_S1024x2560_S16384x2560_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 a1 shapeCasts_S1x1024_S1024)))) (shapeCast S1024x2560 a2 shapeCasts_S1x1024x2560_S1024x2560)

/-- The projected rows by sequence and position. -/
def tY (Z : FVec F S16384x2560 .f32) : FVec F S4x4096x2560 .f32 :=
  shapeCast S4x4096x2560 Z shapeCasts_S16384x2560_S4x4096x2560

/-- The gating rows after the activation. -/
def tG (Y : FVec F S4x4096x2560 .f32) : FVec F S4x4096x512 .f32 :=
  mulf (mulf (broadcastInDim S4x4096x512 ![] bcast_S_S4x4096x512 (constant S_ .f32 0x3F000000#32)) (extractStridedSlice S4x4096x512 ![0, 0, 2048] Y slices_S4x4096x2560_S4x4096x512_0_0_2048)) (Host.erfc (mulf (Host.negf (extractStridedSlice S4x4096x512 ![0, 0, 2048] Y slices_S4x4096x2560_S4x4096x512_0_0_2048)) (broadcastInDim S4x4096x512 ![] bcast_S_S4x4096x512 (constant S_ .f32 0x3F3504F3#32))))

/-- A row less its mean. -/
def tD (G : FVec F S4x4096x512 .f32) : FVec F S4x4096x512 .f32 :=
  subf G (broadcastInDim S4x4096x512 ![0, 1, 2] bcast_S4x4096x1_S4x4096x512_0_1_2 (Host.divf (broadcastInDim S4x4096x1 ![0, 1] bcast_S4x4096_S4x4096x1_0_1 (Host.reduceAdd G (constant S_ .f32 0x00000000#32) reducesTo_S4x4096x512_S4x4096_d2 h_S_)) (broadcastInDim S4x4096x1 ![] bcast_S_S4x4096x1 (constant S_ .f32 0x44000000#32))))

/-- The centred rows normalised, times the weights and plus the offsets. -/
def tN (D : FVec F S4x4096x512 .f32) (a3 a4 : FVec F S1x512 .f32) : FVec F S4x4096x512 .f32 :=
  addf (mulf (mulf D (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf D D) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast S512 a3 shapeCasts_S1x512_S512)))) (broadcastInDim S4x4096x512 ![0, 1, 2] bcast_S1x1x512_S4x4096x512_0_1_2 (broadcastInDim S1x1x512 ![2] bcast_S512_S1x1x512_2 (shapeCast S512 a4 shapeCasts_S1x512_S512)))

/-- The last 128 positions of every sequence. -/
def tL (N : FVec F S4x4096x512 .f32) : FVec F S4x128x512 .f32 :=
  extractStridedSlice S4x128x512 ![0, 3968, 0] N slices_S4x4096x512_S4x128x512_0_3968_0

/-- The angles. -/
def tA : FVec F S4096x8 .f32 :=
  (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))

/-- The keys in heads. -/
def tK (Y : FVec F S4x4096x2560 .f32) : FVec F S4x4096x8x64 .f32 :=
  shapeCast S4x4096x8x64 (extractStridedSlice S4x4096x512 ![0, 0, 512] Y slices_S4x4096x2560_S4x4096x512_0_0_512) shapeCasts_S4x4096x512_S4x4096x8x64

/-- The values in heads. -/
def tV (Y : FVec F S4x4096x2560 .f32) : FVec F S4x4096x8x64 .f32 :=
  shapeCast S4x4096x8x64 (extractStridedSlice S4x4096x512 ![0, 0, 1024] Y slices_S4x4096x2560_S4x4096x512_0_0_1024) shapeCasts_S4x4096x512_S4x4096x8x64

/-- The first eight lanes of every head. -/
def t1 (K : FVec F S4x4096x8x64 .f32) (C S : FVec F S4096x8 .f32) : FVec F S4x4096x8x8 .f32 :=
  subf (mulf (extractStridedSlice S4x4096x8x8 ![0, 0, 0, 0] K slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 C)))) (mulf (extractStridedSlice S4x4096x8x8 ![0, 0, 0, 8] K slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 S))))

/-- The second eight lanes of every head. -/
def t2 (K : FVec F S4x4096x8x64 .f32) (C S : FVec F S4096x8 .f32) : FVec F S4x4096x8x8 .f32 :=
  addf (mulf (extractStridedSlice S4x4096x8x8 ![0, 0, 0, 8] K slices_S4x4096x8x64_S4x4096x8x8_0_0_0_8) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 C)))) (mulf (extractStridedSlice S4x4096x8x8 ![0, 0, 0, 0] K slices_S4x4096x8x64_S4x4096x8x8_0_0_0_0) (broadcastInDim S4x4096x8x8 ![0, 1, 2, 3] bcast_S1x4096x1x8_S4x4096x8x8_0_1_2_3 (broadcastInDim S1x4096x1x8 ![1, 2, 3] bcast_S4096x1x8_S1x4096x1x8_1_2_3 (broadcastInDim S4096x1x8 ![0, 2] bcast_S4096x8_S4096x1x8_0_2 S))))

/-- The other lanes of every head. -/
def t3 (K : FVec F S4x4096x8x64 .f32) : FVec F S4x4096x8x48 .f32 :=
  extractStridedSlice S4x4096x8x48 ![0, 0, 0, 16] K slices_S4x4096x8x64_S4x4096x8x48_0_0_0_16

/-- A head's lanes side by side. -/
def tH (A B : FVec F S4x4096x8x8 .f32) (D : FVec F S4x4096x8x48 .f32) : FVec F S4x4096x8x64 .f32 :=
  concatenate S4x4096x8x64 3 [⟨S4x4096x8x8, A⟩, ⟨S4x4096x8x8, B⟩, ⟨S4x4096x8x48, D⟩] concatenates_S4x4096x8x8_S4x4096x8x8_S4x4096x8x48_S4x4096x8x64_d3

/-- The keys, and the values after them. -/
def tO (H V : FVec F S4x4096x8x64 .f32) : FVec F S4x4096x2x8x64 .f32 :=
  concatenate S4x4096x2x8x64 2 [⟨S4x4096x1x8x64, broadcastInDim S4x4096x1x8x64 ![0, 1, 3, 4] bcast_S4x4096x8x64_S4x4096x1x8x64_0_1_3_4 H⟩, ⟨S4x4096x1x8x64, broadcastInDim S4x4096x1x8x64 ![0, 1, 3, 4] bcast_S4x4096x8x64_S4x4096x1x8x64_0_1_3_4 V⟩] concatenates_S4x4096x1x8x64_S4x4096x1x8x64_S4x4096x2x8x64_d2

set_option maxRecDepth 65536 in
theorem gv_terms (m : (ℓ : Loc nD τ sig) → Buf (Elt F) ℓ) (c : Dev nD) : res_main_v93 m c =
    tL (tN (tD (tG (tY (tZ (m ((c.tc : Thread nD τ).loc main_arg0)) (m ((c.tc : Thread nD τ).loc main_arg1)) (m ((c.tc : Thread nD τ).loc main_arg2))))))
      (m ((c.tc : Thread nD τ).loc main_arg3)) (m ((c.tc : Thread nD τ).loc main_arg4))) := by
  unfold res_main_v93 tL tN tD tG tY tZ
  rfl

set_option maxRecDepth 65536 in
theorem kv_terms (m : (ℓ : Loc nD τ sig) → Buf (Elt F) ℓ) (c : Dev nD) : res_main_v92 m c =
    (let Y := tY (tZ (m ((c.tc : Thread nD τ).loc main_arg0)) (m ((c.tc : Thread nD τ).loc main_arg1)) (m ((c.tc : Thread nD τ).loc main_arg2)))
     tO (tH (t1 (tK Y) (Host.cos tA) (Host.sin tA)) (t2 (tK Y) (Host.cos tA) (Host.sin tA)) (t3 (tK Y))) (tV Y)) := by
  unfold res_main_v92 tO tH t1 t2 t3 tK tV tA tY tZ
  rfl

end Terms

theorem tZ_at (x : Tok) (n : Nrm) (w : Win) (p : Fin 16384) (d : Fin 2560) : tZ (F := Ideal) x n w (ix2 p d) = zc x n w p d := by
  unfold tZ
  pointwise
  rfl

theorem tY_at (Z : Wide) (b : Fin 4) (t : Fin 4096) (d : Fin 2560) : tY (F := Ideal) Z (ix3 b t d) = Z (ix2 (row b t) d) := by
  unfold tY
  pointwise

section Rows
variable (Y : S4x4096x2560.Idx → EReal) (G D : S4x4096x512.Idx → EReal) (g o : Lane) (b : Fin 4) (t : Fin 4096) (k : Fin 512)

theorem tG_at : tG (F := Ideal) Y (ix3 b t k) = gelu (Y (ix3 b t (d5 k))) := by
  unfold tG gelu
  pointwise
  rw [neg_mul, Ideal.erfc_neg]

theorem tD_at : tD (F := Ideal) G (ix3 b t k) = G (ix3 b t k) - mean fun j => G (ix3 b t j) := by
  unfold tD
  pointwise
  rfl

theorem tN_at : tN (F := Ideal) D g o (ix3 b t k) =
    D (ix3 b t k) * Ideal.rsqrt (mean (fun j => D (ix3 b t j) * D (ix3 b t j)) + Ideal.ofBits .f32 0x358637BD#32) * g (ix2 0 k) + o (ix2 0 k) := by
  unfold tN
  pointwise
  rfl

theorem tL_at (p : Fin 128) (h : 3968 + p.val < 4096) : tL (F := Ideal) G (ix3 b p k) = G (ix3 b (⟨3968 + p.val, h⟩ : Fin 4096) k) := by
  unfold tL
  pointwise

theorem tK_at (h : Fin 8) (e : Fin 64) (H : 512 + (h.val * 64 + e.val) < 2560) :
    tK (F := Ideal) Y (ix4 b t h e) = Y (ix3 b t (⟨512 + (h.val * 64 + e.val), H⟩ : Fin 2560)) := by
  unfold tK
  pointwise

theorem tV_at (h : Fin 8) (e : Fin 64) : tV (F := Ideal) Y (ix4 b t h e) = Y (ix3 b t (dv h e)) := by
  unfold tV
  pointwise

end Rows

section Heads
variable (K H V : S4x4096x8x64.Idx → EReal) (A B : S4x4096x8x8.Idx → EReal) (D : S4x4096x8x48.Idx → EReal) (C S : Rot) (b : Fin 4) (t : Fin 4096) (h : Fin 8)

theorem t1_at (e : Fin 8) : t1 (F := Ideal) K C S (ix4 b t h e) = K (ix4 b t h (e1 e)) * C (ix2 t e) - K (ix4 b t h (e2 e)) * S (ix2 t e) := by
  unfold t1
  pointwise

theorem t2_at (e : Fin 8) : t2 (F := Ideal) K C S (ix4 b t h e) = K (ix4 b t h (e2 e)) * C (ix2 t e) + K (ix4 b t h (e1 e)) * S (ix2 t e) := by
  unfold t2
  pointwise

theorem t3_at (e : Fin 48) : t3 (F := Ideal) K (ix4 b t h e) = K (ix4 b t h (e3 e)) := by
  unfold t3
  pointwise

theorem tH_1 (e : Fin 8) : tH (F := Ideal) A B D (ix4 b t h (e1 e)) = A (ix4 b t h e) := by
  unfold tH
  pointwise

theorem tH_2 (e : Fin 8) : tH (F := Ideal) A B D (ix4 b t h (e2 e)) = B (ix4 b t h e) := by
  unfold tH
  pointwise

theorem tH_3 (e : Fin 48) : tH (F := Ideal) A B D (ix4 b t h (e3 e)) = D (ix4 b t h e) := by
  unfold tH
  pointwise
  rw [dif_neg (by omega), dif_neg (by omega)]
  exact congrArg (fun q : Fin 48 => D (ix4 b t h q)) (Fin.ext (by show 16 + e.val - 8 - 8 = e.val; omega))

theorem tO_k (e : Fin 64) : tO (F := Ideal) H V (ix5 b t 0 h e) = H (ix4 b t h e) := by
  unfold tO
  pointwise

theorem tO_v (e : Fin 64) : tO (F := Ideal) H V (ix5 b t 1 h e) = V (ix4 b t h e) := by
  unfold tO
  pointwise

end Heads

theorem tA_at (t : Fin 4096) (e : Fin 8) : tA (F := Ideal) (ix2 t e) = ang t e := by
  unfold tA ang
  pointwise

theorem cos_at (V : Rot) (t : Fin 4096) (e : Fin 8) : (Host.cos (F := Ideal) (φ := .f32) (s := S4096x8) V : S4096x8.Idx → EReal) (ix2 t e) = Ideal.cos (V (ix2 t e)) := by
  pointwise

theorem sin_at (V : Rot) (t : Fin 4096) (e : Fin 8) : (Host.sin (F := Ideal) (φ := .f32) (s := S4096x8) V : S4096x8.Idx → EReal) (ix2 t e) = Ideal.sin (V (ix2 t e)) := by
  pointwise

section Result
variable (m : (ℓ : Loc nD τ sig) → Buf (Elt Ideal) ℓ) (c : Dev nD)

abbrev xR : Tok := m ((c.tc : Thread nD τ).loc main_arg0)
abbrev nR : Nrm := m ((c.tc : Thread nD τ).loc main_arg1)
abbrev wR : Win := m ((c.tc : Thread nD τ).loc main_arg2)
abbrev gR : Lane := m ((c.tc : Thread nD τ).loc main_arg3)
abbrev oR : Lane := m ((c.tc : Thread nD τ).loc main_arg4)

/-- The gating rows at an index. -/
theorem gv_at (b : Fin 4) (p : Fin 128) (h : 3968 + p.val < 4096) (k : Fin 512) : (res_main_v93 m c : S4x128x512.Idx → EReal) (ix3 b p k) =
    ln (fun j => gelu (zc (xR m c) (nR m c) (wR m c) (row b (⟨3968 + p.val, h⟩ : Fin 4096)) (d5 j))) (fun j => gR m c (ix2 0 j)) (fun j => oR m c (ix2 0 j)) k := by
  rw [gv_terms]
  refine (tL_at _ b k p h).trans ((tN_at _ _ _ b _ k).trans ?_)
  simp only [tD_at, tG_at, tY_at, tZ_at]
  rfl

theorem kv_1 (b : Fin 4) (t : Fin 4096) (h e : Fin 8) : (res_main_v92 m c : S4x4096x2x8x64.Idx → EReal) (ix5 b t 0 h (e1 e)) =
    zc (xR m c) (nR m c) (wR m c) (row b t) (d1 h e) * Ideal.cos (ang t e) - zc (xR m c) (nR m c) (wR m c) (row b t) (d2 h e) * Ideal.sin (ang t e) := by
  rw [kv_terms]
  refine (tO_k _ _ b t h _).trans ((tH_1 _ _ _ b t h e).trans ((t1_at _ _ _ b t h e).trans ?_))
  rw [cos_at, sin_at, tA_at, tK_at _ b t h _ (z1 h e), tK_at _ b t h _ (z2 h e), tY_at, tY_at, tZ_at, tZ_at]

theorem kv_2 (b : Fin 4) (t : Fin 4096) (h e : Fin 8) : (res_main_v92 m c : S4x4096x2x8x64.Idx → EReal) (ix5 b t 0 h (e2 e)) =
    zc (xR m c) (nR m c) (wR m c) (row b t) (d2 h e) * Ideal.cos (ang t e) + zc (xR m c) (nR m c) (wR m c) (row b t) (d1 h e) * Ideal.sin (ang t e) := by
  rw [kv_terms]
  refine (tO_k _ _ b t h _).trans ((tH_2 _ _ _ b t h e).trans ((t2_at _ _ _ b t h e).trans ?_))
  rw [cos_at, sin_at, tA_at, tK_at _ b t h _ (z2 h e), tK_at _ b t h _ (z1 h e), tY_at, tY_at, tZ_at, tZ_at]

theorem kv_3 (b : Fin 4) (t : Fin 4096) (h : Fin 8) (e : Fin 48) : (res_main_v92 m c : S4x4096x2x8x64.Idx → EReal) (ix5 b t 0 h (e3 e)) =
    zc (xR m c) (nR m c) (wR m c) (row b t) (d3 h e) := by
  rw [kv_terms]
  refine (tO_k _ _ b t h _).trans ((tH_3 _ _ _ b t h e).trans ((t3_at _ b t h e).trans ?_))
  rw [tK_at _ b t h _ (z3 h e), tY_at, tZ_at]

theorem kv_4 (b : Fin 4) (t : Fin 4096) (h : Fin 8) (e : Fin 64) : (res_main_v92 m c : S4x4096x2x8x64.Idx → EReal) (ix5 b t 1 h e) =
    zc (xR m c) (nR m c) (wR m c) (row b t) (dv h e) := by
  rw [kv_terms]
  refine (tO_v _ _ b t h e).trans ((tV_at _ b t h e).trans ?_)
  rw [tY_at, tZ_at]

end Result

end Cert.Reference6Ideal.Value

end
-- ==== Proof.OpenValue.lean ====
/- What the host prepares for the two kernels of the prompt's even layer, and the two programs' results. -/
module

public import proofs.«01_k».proof.Proof.OpenBlocks
public import proofs.«01_k».proof.Proof.OpenRef
public import Idealize.ShloMosaic.Lib.StableHlo.RunRead

@[expose] public section

set_option maxRecDepth 16384
set_option Elab.async false

noncomputable section

namespace Cert.Kernel6Ideal.Opens

open Cert.Kernel6Ideal Cert.Kernel6Ideal.Gen
open Idealize.ShloMosaic Idealize.ShloMosaic.TcCoe Idealize.ShloMosaic.Tactic
open Idealize.ShloMosaic.StableHlo
open Cert.Opening
open Cert.Entering (d1 d2 d3 d5 gelu ln)

/-! ## The tables of a head's lanes, twice over -/

/-- Rows of 64 lanes from three parts, repeated to 128 lanes. -/
def tab (A B : FVec Ideal S4096x8 .f32) (D : FVec Ideal S4096x48 .f32) : FVec Ideal S4096x128 .f32 :=
  shapeCast S4096x128 (broadcastInDim S1x4096x2x64 ![0, 1, 2, 3] bcast_S1x4096x1x64_S1x4096x2x64_0_1_2_3 (shapeCast S1x4096x1x64 (concatenate S4096x64 1 [⟨S4096x8, A⟩, ⟨S4096x8, B⟩, ⟨S4096x48, D⟩] concatenates_S4096x8_S4096x8_S4096x48_S4096x64_d1) shapeCasts_S4096x64_S1x4096x1x64)) shapeCasts_S1x4096x2x64_S4096x128

theorem row1 (r : Fin 2) (e : Fin 8) : r.val * 64 + e.val < 128 := by omega
theorem row2 (r : Fin 2) (e : Fin 8) : r.val * 64 + (8 + e.val) < 128 := by omega
theorem row3 (r : Fin 2) (e : Fin 48) : r.val * 64 + (16 + e.val) < 128 := by omega

abbrev l1 (r : Fin 2) (e : Fin 8) : Fin 128 := ⟨r.val * 64 + e.val, row1 r e⟩
abbrev l2 (r : Fin 2) (e : Fin 8) : Fin 128 := ⟨r.val * 64 + (8 + e.val), row2 r e⟩
abbrev l3 (r : Fin 2) (e : Fin 48) : Fin 128 := ⟨r.val * 64 + (16 + e.val), row3 r e⟩

section Tab
variable (A B : S4096x8.Idx → EReal) (D : S4096x48.Idx → EReal) (t : Fin 4096) (r : Fin 2)

theorem tab_1 (e : Fin 8) : tab A B D (ix2 t (l1 r e)) = A (ix2 t e) := by
  unfold tab
  pointwise
  rw [dif_pos (by omega)]
  exact congrArg (fun j : Fin 8 => A (ix2 t j)) (Fin.ext (by show (r.val * 64 + e.val) % 64 = e.val; omega))

theorem tab_2 (e : Fin 8) : tab A B D (ix2 t (l2 r e)) = B (ix2 t e) := by
  unfold tab
  pointwise
  rw [dif_neg (by omega), dif_pos (by omega)]
  exact congrArg (fun j : Fin 8 => B (ix2 t j)) (Fin.ext (by show (r.val * 64 + (8 + e.val)) % 64 - 8 = e.val; omega))

theorem tab_3 (e : Fin 48) : tab A B D (ix2 t (l3 r e)) = D (ix2 t e) := by
  unfold tab
  pointwise
  rw [dif_neg (by omega), dif_neg (by omega)]
  exact congrArg (fun j : Fin 48 => D (ix2 t j)) (Fin.ext (by show (r.val * 64 + (16 + e.val)) % 64 - 8 - 8 = e.val; omega))

end Tab

/-! ## The host's arrays at entry -/

/-- The angles as the host prepares them. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

theorem angles_at (t : Fin 4096) (e : Fin 8) : angles (ix2 t e) = ang t e := by
  unfold angles ang
  pointwise

abbrev ones : FVec Ideal S4096x48 .f32 := broadcastInDim S4096x48 ![] bcast_S_S4096x48 (constant S_ .f32 0x3F800000#32)
abbrev zeros : FVec Ideal S4096x48 .f32 := broadcastInDim S4096x48 ![] bcast_S_S4096x48 (constant S_ .f32 0x00000000#32)
abbrev zeros8 : FVec Ideal S4096x8 .f32 := broadcastInDim S4096x8 ![] bcast_S_S4096x8 (constant S_ .f32 0x00000000#32)

section Entry
variable (m : (ℓ : Loc nD τ sig) → Buf (Elt Ideal) ℓ) (ρ : Dev nD → PrngReg) (c : Dev nD)

abbrev xK : Tok := m (c, Proc.devRef .tc main_arg0)
abbrev nK : Nrm := m (c, Proc.devRef .tc main_arg1)
abbrev wK : Win := m (c, Proc.devRef .tc main_arg2)
abbrev gK : Lane := m (c, Proc.devRef .tc main_arg3)
abbrev bK : Lane := m (c, Proc.devRef .tc main_arg4)

theorem entry_arg0 : V1 m ρ c main_arg0 = m (c, Proc.devRef .tc main_arg0) := W1_args m ρ c main_arg0 (by decide)

theorem entry_v1 : (V1 m ρ c main_v1 : S1x1024.Idx → EReal) = broadcastInDim S1x1024 ![1] bcast_S1024_S1x1024_1 (shapeCast S1024 (nK m c) shapeCasts_S1x1024_S1024) := by
  simp only [V1, W1, hostOps0, TRef.binary, TRef.nullary, TRef.unary, TRef.ternary, TRef.toBuf, TRef.ofBuf, cast_eq]
  after_reads_simp
  try dsimp only [Matrix.cons_val]
  try after_reads_simp
  rfl

theorem entry_v3 : (V1 m ρ c main_v3 : S1024x2560.Idx → EReal) = (truncf .bf16 (shapeCast S1024x2560 (wK m c : FVec Ideal S1x1024x2560 .f32) shapeCasts_S1x1024x2560_S1024x2560) bitsLt_bf16_f32 : FVec Ideal S1024x2560 .bf16) := by
  simp only [V1, W1, hostOps0, TRef.binary, TRef.nullary, TRef.unary, TRef.ternary, TRef.toBuf, TRef.ofBuf, cast_eq]
  after_reads_simp
  try dsimp only [Matrix.cons_val]
  try after_reads_simp
  rfl

theorem entry_v4 : V3 m ρ c main_v4 = zw (V1 m ρ c main_arg0) (V1 m ρ c main_v1) (V1 m ρ c main_v3) :=
  (W3_of m ρ c main_v4 (by decide)).trans ((W2_arr m ρ c (3 : Fin 4)).trans (arr0_3 (V1 m ρ) c))

theorem entry_v37 : (V3 m ρ c main_v37 : S1x512.Idx → EReal) = broadcastInDim S1x512 ![1] bcast_S512_S1x512_1 (shapeCast S512 (W2 m ρ c (Proc.devRef .tc main_arg3) : S1x512.Idx → EReal) shapeCasts_S1x512_S512) := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v39 : (V3 m ρ c main_v39 : S1x512.Idx → EReal) = broadcastInDim S1x512 ![1] bcast_S512_S1x512_1 (shapeCast S512 (W2 m ρ c (Proc.devRef .tc main_arg4) : S1x512.Idx → EReal) shapeCasts_S1x512_S512) := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v29 : (V3 m ρ c main_v29 : S4096x128.Idx → EReal) = tab (Host.cos angles) (Host.cos angles) ones := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v32 : (V3 m ρ c main_v32 : S4096x128.Idx → EReal) = tab (Host.negf (Host.sin angles)) zeros8 zeros := by
  simp only [V3, W3, hostOps1, TRef.binary, TRef.nullary, TRef.unary, TRef.ternary, TRef.toBuf, TRef.ofBuf, cast_eq]
  after_reads_simp
  try dsimp only [Matrix.cons_val]
  try after_reads_simp
  rfl

theorem entry_v35 : (V3 m ρ c main_v35 : S4096x128.Idx → EReal) = tab zeros8 (Host.sin angles) zeros := by
  simp only [V3, W3, hostOps1, TRef.binary, TRef.nullary, TRef.unary, TRef.ternary, TRef.toBuf, TRef.ofBuf, cast_eq]
  after_reads_simp
  try dsimp only [Matrix.cons_val]
  try after_reads_simp
  rfl

/-- The keys and values by position and head. -/
def heads (u : FVec Ideal S4x1024x4096 .f32) : FVec Ideal S4x4096x2x8x64 .f32 :=
  transpose S4x4096x2x8x64 [0, 4, 1, 2, 3] (shapeCast S4x2x8x64x4096 u shapeCasts_S4x1024x4096_S4x2x8x64x4096) transposes_S4x2x8x64x4096_S4x4096x2x8x64_0_4_1_2_3

/-- The last 128 positions of every sequence. -/
def last (u : FVec Ideal S16384x512 .f32) : FVec Ideal S4x128x512 .f32 :=
  extractStridedSlice S4x128x512 ![0, 3968, 0] (shapeCast S4x4096x512 u shapeCasts_S16384x512_S4x4096x512) slices_S4x4096x512_S4x128x512_0_3968_0

theorem leave_v47 : (W5 m ρ c (Proc.devRef .tc main_v47) : S4x4096x2x8x64.Idx → EReal) = heads (W4 m ρ c (Proc.devRef .tc main_v43_3)) := by
  simp only [W5, hostOps2, TRef.binary, TRef.nullary, TRef.unary, TRef.ternary, TRef.toBuf, TRef.ofBuf, cast_eq]
  after_reads_simp
  rfl

theorem leave_v45 : (W5 m ρ c (Proc.devRef .tc main_v45) : S4x128x512.Idx → EReal) = last (W4 m ρ c (Proc.devRef .tc main_v43_5)) := by
  simp only [W5, hostOps2, TRef.binary, TRef.nullary, TRef.unary, TRef.ternary, TRef.toBuf, TRef.ofBuf, cast_eq]
  after_reads_simp
  rfl

theorem v1_at (d : Fin 1024) : (V1 m ρ c main_v1 : S1x1024.Idx → EReal) (ix2 0 d) = nK m c (ix2 0 d) := by
  rw [entry_v1]
  generalize nK m c = u
  pointwise

theorem v3_at (e : Fin 1024) (d : Fin 2560) : (V1 m ρ c main_v3 : S1024x2560.Idx → EReal) (ix2 e d) = wK m c (ix3 0 e d) := by
  rw [entry_v3]
  generalize wK m c = u
  pointwise

theorem v37_at (k : Fin 512) : (V3 m ρ c main_v37 : S1x512.Idx → EReal) (ix2 0 k) = gK m c (ix2 0 k) := by
  rw [entry_v37, show (W2 m ρ c (Proc.devRef .tc main_arg3) : S1x512.Idx → EReal) = gK m c from W2_args m ρ c main_arg3 (by decide)]
  generalize gK m c = u
  pointwise

theorem v39_at (k : Fin 512) : (V3 m ρ c main_v39 : S1x512.Idx → EReal) (ix2 0 k) = bK m c (ix2 0 k) := by
  rw [entry_v39, show (W2 m ρ c (Proc.devRef .tc main_arg4) : S1x512.Idx → EReal) = bK m c from W2_args m ρ c main_arg4 (by decide)]
  generalize bK m c = u
  pointwise

theorem proj_eq (x : Tok) (n n' : Nrm) (w : Win) (w' : S1024x2560.Idx → EReal) (hn : ∀ d : Fin 1024, n' (ix2 0 d) = n (ix2 0 d))
    (hw : ∀ (e : Fin 1024) (d : Fin 2560), w' (ix2 e d) = w (ix3 0 e d)) (p : Fin 16384) (d : Fin 2560) : zw x n' w' (ix2 p d) = zc x n w p d := by
  show (∑ e : Fin 1024, Routed.rms (fun j => x (ix2 p j)) (fun j => n' (ix2 0 j)) e * w' (ix2 e d)) = _
  unfold zc
  simp only [hn, hw]

theorem v4_at (p : Fin 16384) (d : Fin 2560) : (V3 m ρ c main_v4 : S16384x2560.Idx → EReal) (ix2 p d) = zc (xK m c) (nK m c) (wK m c) p d := by
  rw [entry_v4, entry_arg0]
  exact proj_eq _ _ _ _ _ (v1_at m ρ c) (v3_at m ρ c) p d

end Entry

theorem cos_at (V : Rot) (t : Fin 4096) (e : Fin 8) : (Host.cos (F := Ideal) (φ := .f32) (s := S4096x8) V : S4096x8.Idx → EReal) (ix2 t e) = Ideal.cos (V (ix2 t e)) := by
  pointwise

theorem sin_at (V : Rot) (t : Fin 4096) (e : Fin 8) : (Host.sin (F := Ideal) (φ := .f32) (s := S4096x8) V : S4096x8.Idx → EReal) (ix2 t e) = Ideal.sin (V (ix2 t e)) := by
  pointwise

theorem nsin_at (V : Rot) (t : Fin 4096) (e : Fin 8) : (Host.negf (F := Ideal) (φ := .f32) (s := S4096x8) (Host.sin (F := Ideal) (φ := .f32) (s := S4096x8) V) : S4096x8.Idx → EReal) (ix2 t e) = -Ideal.sin (V (ix2 t e)) := by
  pointwise

theorem ones_at (t : Fin 4096) (e : Fin 48) : (ones : S4096x48.Idx → EReal) (ix2 t e) = 1 := by
  unfold ones
  pointwise

theorem zeros_at (t : Fin 4096) (e : Fin 48) : (zeros : S4096x48.Idx → EReal) (ix2 t e) = 0 := by
  unfold zeros
  pointwise

theorem zeros8_at (t : Fin 4096) (e : Fin 8) : (zeros8 : S4096x8.Idx → EReal) (ix2 t e) = 0 := by
  unfold zeros8
  pointwise

/-! ## The results' reads of the second kernel's arrays -/

theorem lo_lt (h : Fin 8) (e : Fin 64) : h.val * 64 + e.val < 1024 := by omega
theorem hi_lt (h : Fin 8) (e : Fin 64) : 512 + (h.val * 64 + e.val) < 1024 := by omega

theorem heads_k (u : S4x1024x4096.Idx → EReal) (b : Fin 4) (t : Fin 4096) (h : Fin 8) (e : Fin 64) : heads u (ix5 b t 0 h e) = u (ix3 b (⟨h.val * 64 + e.val, lo_lt h e⟩ : Fin 1024) t) := by
  unfold heads
  pointwise

theorem heads_v (u : S4x1024x4096.Idx → EReal) (b : Fin 4) (t : Fin 4096) (h : Fin 8) (e : Fin 64) : heads u (ix5 b t 1 h e) = u (ix3 b (⟨512 + (h.val * 64 + e.val), hi_lt h e⟩ : Fin 1024) t) := by
  unfold heads
  pointwise
  exact congrArg (fun j : Fin 1024 => u (ix3 b j t)) (Fin.ext (by show 512 + h.val * 64 + e.val = 512 + (h.val * 64 + e.val); omega))

theorem last_at (u : S16384x512.Idx → EReal) (b : Fin 4) (p : Fin 128) (h : 3968 + p.val < 4096) (k : Fin 512) : last u (ix3 b p k) = u (ix2 (row b (⟨3968 + p.val, h⟩ : Fin 4096)) k) := by
  unfold last
  pointwise

/-! ## The keys and values at a head's lanes -/

theorem half_of (h : Fin 8) : h.val / 2 < 4 := by omega
theorem odd_of (h : Fin 8) : h.val % 2 < 2 := by omega

section Heads
variable (z : Wide) (V : Rot) (b : Fin 4) (t : Fin 4096) (h : Fin 8)

/-- The keys and values under the tables of the angles `V`. -/
abbrev kvt : S4x1024x4096.Idx → EReal :=
  kvArr z (tab (Host.cos (F := Ideal) (φ := .f32) (s := S4096x8) V) (Host.cos (F := Ideal) (φ := .f32) (s := S4096x8) V) ones)
    (tab (Host.negf (F := Ideal) (φ := .f32) (s := S4096x8) (Host.sin (F := Ideal) (φ := .f32) (s := S4096x8) V)) zeros8 zeros)
    (tab zeros8 (Host.sin (F := Ideal) (φ := .f32) (s := S4096x8) V) zeros)

theorem kvt_1 (e : Fin 8) : heads (kvt z V) (ix5 b t 0 h (e1 e)) = z (ix2 (row b t) (d1 h e)) * Ideal.cos (V (ix2 t e)) - z (ix2 (row b t) (d2 h e)) * Ideal.sin (V (ix2 t e)) := by
  refine (heads_k _ b t h (e1 e)).trans ?_
  have e0 : (⟨h.val * 64 + (e1 e).val, lo_lt h (e1 e)⟩ : Fin 1024) = (⟨(⟨h.val / 2, half_of h⟩ : Fin 4).val * 128 + (l1 ⟨h.val % 2, odd_of h⟩ e).val, lane_lt _ _⟩ : Fin 1024) :=
    Fin.ext (by show h.val * 64 + e.val = h.val / 2 * 128 + (h.val % 2 * 64 + e.val); omega)
  rw [e0]
  refine (kvAt_key z _ _ _ b t _ _).trans ?_
  unfold key turn
  beta_reduce
  rw [tab_1, tab_1, tab_1, cos_at, nsin_at, zeros8_at, mul_zero, add_zero, mul_neg, ← sub_eq_add_neg]
  have a1 : (⟨512 + ((⟨h.val / 2, half_of h⟩ : Fin 4).val * 128 + (l1 ⟨h.val % 2, odd_of h⟩ e).val), wide_lt _ _⟩ : Fin 2560) = d1 h e :=
    Fin.ext (by show 512 + (h.val / 2 * 128 + (h.val % 2 * 64 + e.val)) = 512 + (h.val * 64 + e.val); omega)
  have a2 : (⟨512 + ((⟨h.val / 2, half_of h⟩ : Fin 4).val * 128 + ((l1 ⟨h.val % 2, odd_of h⟩ e).val + 8) % 128), wide_lt _ ⟨_, up_lt _⟩⟩ : Fin 2560) = d2 h e :=
    Fin.ext (by show 512 + (h.val / 2 * 128 + (h.val % 2 * 64 + e.val + 8) % 128) = 512 + (h.val * 64 + (8 + e.val)); omega)
  exact congrArg₂ (fun i j : Fin 2560 => z (ix2 (row b t) i) * Ideal.cos (V (ix2 t e)) - z (ix2 (row b t) j) * Ideal.sin (V (ix2 t e))) a1 a2

theorem kvt_2 (e : Fin 8) : heads (kvt z V) (ix5 b t 0 h (e2 e)) = z (ix2 (row b t) (d2 h e)) * Ideal.cos (V (ix2 t e)) + z (ix2 (row b t) (d1 h e)) * Ideal.sin (V (ix2 t e)) := by
  refine (heads_k _ b t h (e2 e)).trans ?_
  have e0 : (⟨h.val * 64 + (e2 e).val, lo_lt h (e2 e)⟩ : Fin 1024) = (⟨(⟨h.val / 2, half_of h⟩ : Fin 4).val * 128 + (l2 ⟨h.val % 2, odd_of h⟩ e).val, lane_lt _ _⟩ : Fin 1024) :=
    Fin.ext (by show h.val * 64 + (8 + e.val) = h.val / 2 * 128 + (h.val % 2 * 64 + (8 + e.val)); omega)
  rw [e0]
  refine (kvAt_key z _ _ _ b t _ _).trans ?_
  unfold key turn
  beta_reduce
  rw [tab_2, tab_2, tab_2, cos_at, sin_at, zeros8_at, mul_zero, add_zero]
  have a1 : (⟨512 + ((⟨h.val / 2, half_of h⟩ : Fin 4).val * 128 + (l2 ⟨h.val % 2, odd_of h⟩ e).val), wide_lt _ _⟩ : Fin 2560) = d2 h e :=
    Fin.ext (by show 512 + (h.val / 2 * 128 + (h.val % 2 * 64 + (8 + e.val))) = 512 + (h.val * 64 + (8 + e.val)); omega)
  have a2 : (⟨512 + ((⟨h.val / 2, half_of h⟩ : Fin 4).val * 128 + ((l2 ⟨h.val % 2, odd_of h⟩ e).val + 120) % 128), wide_lt _ ⟨_, dn_lt _⟩⟩ : Fin 2560) = d1 h e :=
    Fin.ext (by show 512 + (h.val / 2 * 128 + (h.val % 2 * 64 + (8 + e.val) + 120) % 128) = 512 + (h.val * 64 + e.val); omega)
  exact congrArg₂ (fun i j : Fin 2560 => z (ix2 (row b t) i) * Ideal.cos (V (ix2 t e)) + z (ix2 (row b t) j) * Ideal.sin (V (ix2 t e))) a1 a2

theorem kvt_3 (e : Fin 48) : heads (kvt z V) (ix5 b t 0 h (e3 e)) = z (ix2 (row b t) (d3 h e)) := by
  refine (heads_k _ b t h (e3 e)).trans ?_
  have e0 : (⟨h.val * 64 + (e3 e).val, lo_lt h (e3 e)⟩ : Fin 1024) = (⟨(⟨h.val / 2, half_of h⟩ : Fin 4).val * 128 + (l3 ⟨h.val % 2, odd_of h⟩ e).val, lane_lt _ _⟩ : Fin 1024) :=
    Fin.ext (by show h.val * 64 + (16 + e.val) = h.val / 2 * 128 + (h.val % 2 * 64 + (16 + e.val)); omega)
  rw [e0]
  refine (kvAt_key z _ _ _ b t _ _).trans ?_
  unfold key turn
  beta_reduce
  rw [tab_3, tab_3, tab_3, ones_at, zeros_at, mul_zero, mul_zero, add_zero, add_zero, mul_one]
  have a1 : (⟨512 + ((⟨h.val / 2, half_of h⟩ : Fin 4).val * 128 + (l3 ⟨h.val % 2, odd_of h⟩ e).val), wide_lt _ _⟩ : Fin 2560) = d3 h e :=
    Fin.ext (by show 512 + (h.val / 2 * 128 + (h.val % 2 * 64 + (16 + e.val))) = 512 + (h.val * 64 + (16 + e.val)); omega)
  exact congrArg (fun i : Fin 2560 => z (ix2 (row b t) i)) a1

theorem flat_lt (h : Fin 8) (e : Fin 64) : h.val * 64 + e.val < 512 := by omega

theorem kvt_4 (e : Fin 64) : heads (kvt z V) (ix5 b t 1 h e) = z (ix2 (row b t) (dv h e)) :=
  (heads_v _ b t h e).trans (kvAt_val z _ _ _ b t (⟨h.val * 64 + e.val, flat_lt h e⟩ : Fin 512))

end Heads

/-! ## The two programs' results -/

section Results
variable (m : (ℓ : Loc nD τ sig) → Buf (Elt Ideal) ℓ) (ρ : Dev nD → PrngReg) (c : Dev nD)
variable (m' : (ℓ : Loc Cert.Reference6Ideal.nD Cert.Reference6Ideal.τ Cert.Reference6Ideal.sig) → Buf (Elt Ideal) ℓ)

open Cert.Reference6Ideal.Value in
/-- The keys and values of the kernel are the reference's. -/
theorem kv_value (hx : xR m' c = xK m c) (hn : nR m' c = nK m c) (hw : wR m' c = wK m c) :
    (W5 m ρ c (Proc.devRef .tc main_v47) : S4x4096x2x8x64.Idx → EReal) = Cert.Reference6Ideal.Value.res_main_v92 m' c := by
  have hk : (W4 m ρ c (Proc.devRef .tc main_v43_3) : S4x1024x4096.Idx → EReal) = kvt (V3 m ρ c main_v4) angles := by
    refine (kv_eq m ρ c).trans ((arr1_11 (V3 m ρ) c).trans ?_)
    rw [entry_v29, entry_v32, entry_v35]
  rw [leave_v47, hk]
  refine ext_kv _ _ (fun b t h e => ?_) (fun b t h e => ?_) (fun b t h e => ?_) (fun b t h e => ?_)
  · refine (kvt_1 _ _ b t h e).trans (Eq.trans ?_ (kv_1 m' c b t h e).symm)
    rw [v4_at, v4_at, angles_at, hx, hn, hw]
  · refine (kvt_2 _ _ b t h e).trans (Eq.trans ?_ (kv_2 m' c b t h e).symm)
    rw [v4_at, v4_at, angles_at, hx, hn, hw]
  · refine (kvt_3 _ _ b t h e).trans (Eq.trans ?_ (kv_3 m' c b t h e).symm)
    rw [v4_at, hx, hn, hw]
  · refine (kvt_4 _ _ b t h e).trans (Eq.trans ?_ (kv_4 m' c b t h e).symm)
    rw [v4_at, hx, hn, hw]

theorem end_lt (p : Fin 128) : 3968 + p.val < 4096 := by omega

open Cert.Reference6Ideal.Value in
/-- The gating rows of the kernel are the reference's. -/
theorem gv_value (hx : xR m' c = xK m c) (hn : nR m' c = nK m c) (hw : wR m' c = wK m c) (hg : gR m' c = gK m c) (hb : oR m' c = bK m c) :
    (W5 m ρ c (Proc.devRef .tc main_v45) : S4x128x512.Idx → EReal) = Cert.Reference6Ideal.Value.res_main_v93 m' c := by
  have hk : (W4 m ρ c (Proc.devRef .tc main_v43_5) : S16384x512.Idx → EReal) = gvArr (V3 m ρ c main_v4) (V3 m ρ c main_v37) (V3 m ρ c main_v39) :=
    (gv_eq m ρ c).trans (arr1_13 (V3 m ρ) c)
  rw [leave_v45, hk]
  funext i
  have hi : ∃ (b : Fin 4) (p : Fin 128) (k : Fin 512), i = (ix3 b p k : S4x128x512.Idx) := ⟨i 0, i 1, i 2, by funext b; fin_cases b <;> rfl⟩
  obtain ⟨b, p, k, rfl⟩ := hi
  refine (last_at _ b p (end_lt p) k).trans (Eq.trans ?_ (gv_at m' c b p (end_lt p) k).symm)
  rw [hx, hn, hw, hg, hb]
  have e1 : (fun j : Fin 512 => gelu ((V3 m ρ c main_v4 : S16384x2560.Idx → EReal) (ix2 (row b (⟨3968 + p.val, end_lt p⟩ : Fin 4096)) (d5 j)))) =
      fun j => gelu (zc (xK m c) (nK m c) (wK m c) (row b (⟨3968 + p.val, end_lt p⟩ : Fin 4096)) (d5 j)) :=
    funext fun j => congrArg gelu (v4_at m ρ c _ (d5 j))
  have e2 : (fun j : Fin 512 => (V3 m ρ c main_v37 : S1x512.Idx → EReal) (ix2 0 j)) = fun j => gK m c (ix2 0 j) := funext (v37_at m ρ c)
  have e3 : (fun j : Fin 512 => (V3 m ρ c main_v39 : S1x512.Idx → EReal) (ix2 0 j)) = fun j => bK m c (ix2 0 j) := funext (v39_at m ρ c)
  exact (congrArg (fun f => ln f _ _ k) e1).trans ((congrArg (fun f => ln _ f _ k) e2).trans (congrArg (fun f => ln _ _ f k) e3))

end Results

end Cert.Kernel6Ideal.Opens

end
-- ==== Proof.ProjSpec.lean ====
/- The odd layer's projected rows of the prompt over the extended reals, and a group of columns cut out of an array. -/
module

public import proofs.«01_k».proof.Proof.MoeSpec
public import Idealize.ShloMosaic.Lib.Pipeline.Value

@[expose] public section

set_option maxRecDepth 16384
set_option Elab.async false

noncomputable section

namespace Cert.Projected

open Idealize.ShloMosaic
open Cert.Routed (rms)

abbrev Tok : Type := (⟨2, ![16384, 1024]⟩ : Shape).Idx → EReal
abbrev Nrm : Type := (⟨2, ![1, 1024]⟩ : Shape).Idx → EReal
abbrev Win : Type := (⟨3, ![1, 1024, 3096]⟩ : Shape).Idx → EReal
abbrev Row (n : ℕ) : Shape := ⟨2, ![16384, n]⟩

/-- A column of the normalised row's projection. -/
def zc (x : Tok) (n : Nrm) (w : Win) (p : Fin 16384) (d : Fin 3096) : EReal :=
  ∑ e : Fin 1024, rms (fun k => x (ix2 p k)) (fun k => n (ix2 0 k)) e * w (ix3 0 e d)

/-- Columns from `o` on, cut out of an array. -/
theorem cut_at {a n k : ℕ} (o : ℕ) (Z : (⟨2, ![a, n]⟩ : Shape).Idx → EReal) (h : (⟨2, ![a, n]⟩ : Shape).Slices ![0, o] (⟨2, ![a, k]⟩ : Shape))
    (p : Fin a) (j : Fin k) (hl : o + j.val < n) :
    extractStridedSlice (⟨2, ![a, k]⟩ : Shape) ![0, o] Z h (ix2 p j) = Z (ix2 p (⟨o + j.val, hl⟩ : Fin n)) :=
  extractStridedSlice_apply ![0, o] Z h _ _ (by
    intro b
    fin_cases b <;> simp [ix2])

/-- Two groups of columns agree when they agree at every index. -/
theorem ext_row {k : ℕ} (f g : (Row k).Idx → EReal) (h : ∀ (p : Fin 16384) (j : Fin k), f (ix2 p j) = g (ix2 p j)) : f = g := by
  funext i
  have hi : ∃ (p : Fin 16384) (j : Fin k), i = (ix2 p j : (Row k).Idx) := ⟨i 0, i 1, by funext b; fin_cases b <;> rfl⟩
  obtain ⟨p, j, rfl⟩ := hi
  exact h p j

end Cert.Projected

end
-- ==== Proof.ProjRef.lean ====
/- The odd layer's projected rows of the prompt: the reference at an index. -/
module

public import proofs.«01_k».proof.Proof.Gen.Reference7Ideal.Run
public import proofs.«01_k».proof.Proof.ProjSpec
public import Idealize.ShloMosaic.Lib.Pointwise
public import Idealize.ShloMosaic.Lib.Tactic.CleanTypes

@[expose] public section

set_option maxRecDepth 16384
set_option Elab.async false

noncomputable section

namespace Cert.Reference7Ideal.Value

open Cert.Reference7Ideal Cert.Reference7Ideal.Gen
open Idealize.ShloMosaic Idealize.ShloMosaic.TcCoe Idealize.ShloMosaic.HloOp
open Cert.Projected

section Terms
variable {F : FTy → Type} [FloatOps F]

/-- The projected rows. -/
def tZ (a0 : FVec F S16384x1024 .f32) (a1 : FVec F S1x1024 .f32) (a2 : FVec F S1x1024x3096 .f32) : FVec F S16384x3096 .f32 :=
  Host.dotGeneral dot_S16384x1024_S1024x3096_S16384x3096_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 a1 shapeCasts_S1x1024_S1024)))) (shapeCast S1024x3096 a2 shapeCasts_S1x1024x3096_S1024x3096)

end Terms

theorem tZ_at (x : Tok) (n : Nrm) (w : Win) (p : Fin 16384) (d : Fin 3096) : tZ (F := Ideal) x n w (ix2 p d) = zc x n w p d := by
  unfold tZ
  pointwise
  rfl

end Cert.Reference7Ideal.Value

end
-- ==== Proof.ProjValue.lean ====
/- The prompt's input projection of the odd layer: its kernel's array, what the host prepares, and the two programs' results. -/
module

public import proofs.«01_k».proof.Proof.Gen.Kernel7Ideal.Frame
public import proofs.«01_k».proof.Proof.Gen.Kernel7.Frame
public import proofs.«01_k».proof.Proof.ProjRef
public import Idealize.ShloMosaic.Lib.KernelVsHost
public import Idealize.ShloMosaic.Lib.StableHlo.RunRead

@[expose] public section

set_option maxRecDepth 16384
set_option Elab.async false

noncomputable section

namespace Cert.Kernel7Ideal.Proj

open Cert.Kernel7Ideal Cert.Kernel7Ideal.Gen
open Idealize.ShloMosaic Idealize.ShloMosaic.TcCoe Idealize.ShloMosaic.Tactic
open Idealize.ShloMosaic.StableHlo Idealize.SL.Sem
open Cert.Projected
open Cert.Reference7Ideal.Value (tZ tZ_at)

theorem hz2 : (![0, 0] : Fin 2 → ℕ) = fun _ => 0 := funext fun b => by fin_cases b <;> rfl

theorem proj_at (x : S512x1024.Idx → EReal) (n : Nrm) (w : S1024x3200.Idx → EReal) (p : Fin 512) (d : Fin 3200) : k0_pay1 (F := Ideal) x n w (ix2 p d) =
    ∑ e : Fin 1024, Routed.rms (fun j => x (ix2 p j)) (fun j => n (ix2 0 j)) e * w (ix2 e d) := by
  unfold k0_pay1
  pointwise
  rfl

theorem out0_3_eq (x0 : Vec Ideal S512x1024 .f32) (x1 : Vec Ideal S1x1024 .f32) (x2 : Vec Ideal S1024x3200 .bf16) : out0_3 (F := Ideal) x0 x1 x2 = k0_pay1 (F := Ideal) x0 x1 x2 := by
  unfold out0_3
  rw [View.canon_unit_zero hz2, View.ld_unit_zero (S := S512x1024) hz2, View.ld_unit_zero (S := S1x1024) hz2, View.ld_unit_zero (S := S1024x3200) hz2]

/-! ## The blocks of 512 rows -/

theorem lt32 (t : Fin cfg0.N) : t.val < 32 := t.isLt

theorem g0_0 (t : Fin cfg0.N) : ((grid0.coords t) 0).val = t.val := by
  have h : ((grid0.coords t) 0).val = t.val / 1 % 32 := Pipeline.Grid.coords_val t 0 (by decide) rfl
  have := lt32 t
  omega

theorem i0_0 : ∀ i : grid0.Coords, cc0_transform_0 i 0 = (i 0).val := by decide +kernel
theorem i0_3 : ∀ i : grid0.Coords, cc0_transform_3 i 0 = (i 0).val := by decide +kernel

theorem r0_lt (t : Fin cfg0.N) (p : Fin 512) : t.val * 512 + p.val < 16384 := by
  have := lt32 t
  omega

/-- Row `p` of point `t`'s block. -/
abbrev row0 (t : Fin cfg0.N) (p : Fin 512) : Fin 16384 := ⟨t.val * 512 + p.val, r0_lt t p⟩

/-- The projected rows. -/
def zw (x : Tok) (n : Nrm) (w : S1024x3200.Idx → EReal) : S16384x3200.Idx → EReal := fun i =>
  ∑ e : Fin 1024, Routed.rms (fun j => x (ix2 (i 0 : Fin 16384) j)) (fun j => n (ix2 0 j)) e * w (ix2 e (i 1 : Fin 3200))

section Regions
variable (m : (ℓ : Loc nD τ sig) → Buf (Elt Ideal) ℓ) (c : Dev nD)

theorem blk0_0 (t : Fin cfg0.N) (p : Fin 512) (d : Fin 1024) : (iblk m c 0 t : S512x1024.Idx → EReal) (ix2 p d) = (V m c main_arg0 : S16384x1024.Idx → EReal) (ix2 (row0 t p) d) := by
  refine congrArg (V m c main_arg0) (funext fun b => Fin.ext ?_)
  fin_cases b
  · show cc0_transform_0 (grid0.coords t) 0 * 512 + 1 * p.val = t.val * 512 + p.val
    rw [i0_0, g0_0]; omega
  · show 0 * 1024 + 1 * d.val = d.val
    omega

theorem blk0_1 (t : Fin cfg0.N) : (iblk m c 1 t : S1x1024.Idx → EReal) = V m c main_v14 := by
  funext y
  refine congrArg (V m c main_v14) (funext fun b => Fin.ext ?_)
  fin_cases b
  · show 0 * 1 + 1 * (y 0).val = (y 0).val
    omega
  · show 0 * 1024 + 1 * (y 1).val = (y 1).val
    omega

theorem blk0_2 (t : Fin cfg0.N) : (iblk m c 2 t : S1024x3200.Idx → EReal) = V m c main_v12 := by
  funext y
  refine congrArg (V m c main_v12) (funext fun b => Fin.ext ?_)
  fin_cases b
  · show 0 * 1024 + 1 * (y 0).val = (y 0).val
    omega
  · show 0 * 3200 + 1 * (y 1).val = (y 1).val
    omega

theorem emb0_3 (t : Fin cfg0.N) (p : Fin 512) (d : Fin 3200) : (((cfg0.win (3 : Fin 4)).blk t).view.emb (ix2 p d : S512x3200.Idx) : S16384x3200.Idx) = ix2 (row0 t p) d := by
  funext b
  apply Fin.ext
  fin_cases b
  · show cc0_transform_3 (grid0.coords t) 0 * 512 + 1 * p.val = t.val * 512 + p.val
    rw [i0_3, g0_0]; omega
  · show 0 * 3200 + 1 * d.val = d.val
    omega

theorem left0_3 (t : Fin cfg0.N) (p : Fin 512) (d : Fin 3200) : ((dats m 0 c).after (3 : Fin 4) t : S512x3200.Idx → EReal) (ix2 p d) = zw (V m c main_arg0) (V m c main_v14) (V m c main_v12) (ix2 (row0 t p) d) := by
  refine (congrFun ((after0_3 m c t).trans (out0_3_eq _ _ _)) (ix2 p d)).trans ((proj_at _ _ _ p d).trans ?_)
  rw [blk0_1, blk0_2]
  simp only [blk0_0]
  rfl

/-- The projection's array. -/
theorem arr0_3 : (dats m 0 c).arrAt (3 : Fin 4) cfg0.N = zw (V m c main_arg0) (V m c main_v14) (V m c main_v12) := by
  refine Pipeline.Dat.arrAt_eq_of_cover (dats m 0 c) (3 : Fin 4) (zw (V m c main_arg0) (V m c main_v14) (V m c main_v12)) (fun t hf => ?_) (fun i => ?_)
  · funext y
    have hy : ∃ (p : Fin 512) (d : Fin 3200), y = (ix2 p d : S512x3200.Idx) := ⟨y 0, y 1, by funext b; fin_cases b <;> rfl⟩
    obtain ⟨p, d, rfl⟩ := hy
    exact (left0_3 m c t p d).trans (congrArg (zw (V m c main_arg0) (V m c main_v14) (V m c main_v12)) (emb0_3 t p d)).symm
  · have hi : ∃ (r : Fin 16384) (d : Fin 3200), i = (ix2 r d : S16384x3200.Idx) := ⟨i 0, i 1, by funext b; fin_cases b <;> rfl⟩
    obtain ⟨r, d, rfl⟩ := hi
    have ht : r.val / 512 < cfg0.N := by show r.val / 512 < 32; omega
    refine ⟨⟨r.val / 512, ht⟩, flush0_3 _, ?_⟩
    have h := ((cfg0.win (3 : Fin 4)).blk ⟨r.val / 512, ht⟩).view.emb_mem_set (ix2 (⟨r.val % 512, Nat.mod_lt _ (by decide)⟩ : Fin 512) d : S512x3200.Idx)
    rw [emb0_3] at h
    have e : row0 ⟨r.val / 512, ht⟩ (⟨r.val % 512, Nat.mod_lt _ (by decide)⟩ : Fin 512) = r := Fin.ext (by show r.val / 512 * 512 + r.val % 512 = r.val; omega)
    rwa [e] at h

end Regions

/-! ## The host's arrays at entry -/

/-- The input projection's columns in the kernel's order. -/
def order (u : FVec Ideal S1024x3096 .f32) : FVec Ideal S1024x3200 .f32 :=
  concatenate S1024x3200 1 [⟨S1024x256, extractStridedSlice S1024x256 ![0, 0] u slices_S1024x3096_S1024x256_0_0⟩, ⟨S1024x256, extractStridedSlice S1024x256 ![0, 256] u slices_S1024x3096_S1024x256_0_256⟩,
    ⟨S1024x512, extractStridedSlice S1024x512 ![0, 512] u slices_S1024x3096_S1024x512_0_512⟩, ⟨S1024x512, extractStridedSlice S1024x512 ![0, 1040] u slices_S1024x3096_S1024x512_0_1040⟩,
    ⟨S1024x1024, extractStridedSlice S1024x1024 ![0, 1552] u slices_S1024x3096_S1024x1024_0_1552⟩, ⟨S1024x512, extractStridedSlice S1024x512 ![0, 2584] u slices_S1024x3096_S1024x512_0_2584⟩,
    ⟨S1024x16, extractStridedSlice S1024x16 ![0, 1024] u slices_S1024x3096_S1024x16_0_1024⟩, ⟨S1024x4, extractStridedSlice S1024x4 ![0, 2576] u slices_S1024x3096_S1024x4_0_2576⟩,
    ⟨S1024x4, extractStridedSlice S1024x4 ![0, 2580] u slices_S1024x3096_S1024x4_0_2580⟩, ⟨S1024x104, broadcastInDim S1024x104 ![] bcast_S_S1024x104 (constant S_ .f32 0x00000000#32)⟩]
    concatenates_S1024x256_S1024x256_S1024x512_S1024x512_S1024x1024_S1024x512_S1024x16_S1024x4_S1024x4_S1024x104_S1024x3200_d1

theorem lk_cq (j : Fin 256) : 0 + j.val < 3200 := by omega
theorem lr_cq (j : Fin 256) : 0 + j.val < 3096 := by omega
theorem order_cq (u : S1024x3096.Idx → EReal) (e : Fin 1024) (j : Fin 256) :
    order u (ix2 e (⟨0 + j.val, lk_cq j⟩ : Fin 3200)) = u (ix2 e (⟨0 + j.val, lr_cq j⟩ : Fin 3096)) := by
  unfold order
  pointwise

theorem lk_ck (j : Fin 256) : 256 + j.val < 3200 := by omega
theorem lr_ck (j : Fin 256) : 256 + j.val < 3096 := by omega
theorem order_ck (u : S1024x3096.Idx → EReal) (e : Fin 1024) (j : Fin 256) :
    order u (ix2 e (⟨256 + j.val, lk_ck j⟩ : Fin 3200)) = u (ix2 e (⟨256 + j.val, lr_ck j⟩ : Fin 3096)) := by
  unfold order
  pointwise

theorem lk_cv (j : Fin 512) : 512 + j.val < 3200 := by omega
theorem lr_cv (j : Fin 512) : 512 + j.val < 3096 := by omega
theorem order_cv (u : S1024x3096.Idx → EReal) (e : Fin 1024) (j : Fin 512) :
    order u (ix2 e (⟨512 + j.val, lk_cv j⟩ : Fin 3200)) = u (ix2 e (⟨512 + j.val, lr_cv j⟩ : Fin 3096)) := by
  unfold order
  pointwise
  rw [dif_neg (by omega), dif_neg (by omega), dif_pos (by omega)]
  exact congrArg (fun q : Fin 3096 => u (ix2 e q)) (Fin.ext (by show 512 + (512 + j.val - 256 - 256) = 512 + j.val; omega))

theorem lk_lr (j : Fin 16) : 3072 + j.val < 3200 := by omega
theorem lr_lr (j : Fin 16) : 1024 + j.val < 3096 := by omega
theorem order_lr (u : S1024x3096.Idx → EReal) (e : Fin 1024) (j : Fin 16) :
    order u (ix2 e (⟨3072 + j.val, lk_lr j⟩ : Fin 3200)) = u (ix2 e (⟨1024 + j.val, lr_lr j⟩ : Fin 3096)) := by
  unfold order
  pointwise
  rw [dif_neg (by omega), dif_neg (by omega), dif_neg (by omega), dif_neg (by omega), dif_neg (by omega), dif_neg (by omega), dif_pos (by omega)]
  exact congrArg (fun q : Fin 3096 => u (ix2 e q)) (Fin.ext (by show 1024 + (3072 + j.val - 256 - 256 - 512 - 512 - 1024 - 512) = 1024 + j.val; omega))

theorem lk_cr (j : Fin 512) : 1024 + j.val < 3200 := by omega
theorem lr_cr (j : Fin 512) : 1040 + j.val < 3096 := by omega
theorem order_cr (u : S1024x3096.Idx → EReal) (e : Fin 1024) (j : Fin 512) :
    order u (ix2 e (⟨1024 + j.val, lk_cr j⟩ : Fin 3200)) = u (ix2 e (⟨1040 + j.val, lr_cr j⟩ : Fin 3096)) := by
  unfold order
  pointwise
  rw [dif_neg (by omega), dif_neg (by omega), dif_neg (by omega), dif_pos (by omega)]
  exact congrArg (fun q : Fin 3096 => u (ix2 e q)) (Fin.ext (by show 1040 + (1024 + j.val - 256 - 256 - 512) = 1040 + j.val; omega))

theorem lk_qkv (j : Fin 1024) : 1536 + j.val < 3200 := by omega
theorem lr_qkv (j : Fin 1024) : 1552 + j.val < 3096 := by omega
theorem order_qkv (u : S1024x3096.Idx → EReal) (e : Fin 1024) (j : Fin 1024) :
    order u (ix2 e (⟨1536 + j.val, lk_qkv j⟩ : Fin 3200)) = u (ix2 e (⟨1552 + j.val, lr_qkv j⟩ : Fin 3096)) := by
  unfold order
  pointwise
  rw [dif_neg (by omega), dif_neg (by omega), dif_neg (by omega), dif_neg (by omega), dif_pos (by omega)]
  exact congrArg (fun q : Fin 3096 => u (ix2 e q)) (Fin.ext (by show 1552 + (1536 + j.val - 256 - 256 - 512 - 512) = 1552 + j.val; omega))

theorem lk_da (j : Fin 4) : 3088 + j.val < 3200 := by omega
theorem lr_da (j : Fin 4) : 2576 + j.val < 3096 := by omega
theorem order_da (u : S1024x3096.Idx → EReal) (e : Fin 1024) (j : Fin 4) :
    order u (ix2 e (⟨3088 + j.val, lk_da j⟩ : Fin 3200)) = u (ix2 e (⟨2576 + j.val, lr_da j⟩ : Fin 3096)) := by
  unfold order
  pointwise
  rw [dif_neg (by omega), dif_neg (by omega), dif_neg (by omega), dif_neg (by omega), dif_neg (by omega), dif_neg (by omega), dif_neg (by omega), dif_pos (by omega)]
  exact congrArg (fun q : Fin 3096 => u (ix2 e q)) (Fin.ext (by show 2576 + (3088 + j.val - 256 - 256 - 512 - 512 - 1024 - 512 - 16) = 2576 + j.val; omega))

theorem lk_db (j : Fin 4) : 3092 + j.val < 3200 := by omega
theorem lr_db (j : Fin 4) : 2580 + j.val < 3096 := by omega
theorem order_db (u : S1024x3096.Idx → EReal) (e : Fin 1024) (j : Fin 4) :
    order u (ix2 e (⟨3092 + j.val, lk_db j⟩ : Fin 3200)) = u (ix2 e (⟨2580 + j.val, lr_db j⟩ : Fin 3096)) := by
  unfold order
  pointwise
  rw [dif_neg (by omega), dif_neg (by omega), dif_neg (by omega), dif_neg (by omega), dif_neg (by omega), dif_neg (by omega), dif_neg (by omega), dif_neg (by omega), dif_pos (by omega)]
  exact congrArg (fun q : Fin 3096 => u (ix2 e q)) (Fin.ext (by show 2580 + (3092 + j.val - 256 - 256 - 512 - 512 - 1024 - 512 - 16 - 4) = 2580 + j.val; omega))

theorem lk_dg (j : Fin 512) : 2560 + j.val < 3200 := by omega
theorem lr_dg (j : Fin 512) : 2584 + j.val < 3096 := by omega
theorem order_dg (u : S1024x3096.Idx → EReal) (e : Fin 1024) (j : Fin 512) :
    order u (ix2 e (⟨2560 + j.val, lk_dg j⟩ : Fin 3200)) = u (ix2 e (⟨2584 + j.val, lr_dg j⟩ : Fin 3096)) := by
  unfold order
  pointwise
  rw [dif_neg (by omega), dif_neg (by omega), dif_neg (by omega), dif_neg (by omega), dif_neg (by omega), dif_pos (by omega)]
  exact congrArg (fun q : Fin 3096 => u (ix2 e q)) (Fin.ext (by show 2584 + (2560 + j.val - 256 - 256 - 512 - 512 - 1024) = 2584 + j.val; omega))

section Entry
variable (m : (ℓ : Loc nD τ sig) → Buf (Elt Ideal) ℓ) (ρ : Dev nD → PrngReg) (c : Dev nD)

abbrev xK : Tok := m ((c.tc : Thread nD τ).loc main_arg0)
abbrev nK : Nrm := m ((c.tc : Thread nD τ).loc main_arg1)
abbrev wK : Win := m ((c.tc : Thread nD τ).loc main_arg2)

theorem entry_v14 : (V m c main_v14 : S1x1024.Idx → EReal) = broadcastInDim S1x1024 ![1] bcast_S1024_S1x1024_1 (shapeCast S1024 (nK m c) shapeCasts_S1x1024_S1024) := by
  simp only [V, V0, hostOps0, List.flatten_cons, List.flatten_nil, List.append_nil, TRef.binary, TRef.nullary, TRef.unary, TRef.ternary, TRef.toBuf, TRef.ofBuf, cast_eq]
  after_reads_simp
  rfl

theorem entry_v12 : (V m c main_v12 : S1024x3200.Idx → EReal) = (truncf .bf16 (order (shapeCast S1024x3096 (wK m c : FVec Ideal S1x1024x3096 .f32) shapeCasts_S1x1024x3096_S1024x3096)) bitsLt_bf16_f32 : FVec Ideal S1024x3200 .bf16) := by
  simp only [V, V0, hostOps0, List.flatten_cons, List.flatten_nil, List.append_nil, TRef.binary, TRef.nullary, TRef.unary, TRef.ternary, TRef.toBuf, TRef.ofBuf, cast_eq]
  after_reads_simp
  try dsimp only [Matrix.cons_val]
  try after_reads_simp
  rfl

theorem v14_at (d : Fin 1024) : (V m c main_v14 : S1x1024.Idx → EReal) (ix2 0 d) = nK m c (ix2 0 d) := by
  rw [entry_v14]
  generalize nK m c = u
  pointwise

/-- Rounding to the storage type is the identity here. -/
theorem trunc_at (u : S1024x3200.Idx → EReal) (e : Fin 1024) (d : Fin 3200) :
    (truncf (F := Ideal) .bf16 (u : FVec Ideal S1024x3200 .f32) bitsLt_bf16_f32 : S1024x3200.Idx → EReal) (ix2 e d) = u (ix2 e d) := by
  pointwise

theorem cast_at (u : Win) (e : Fin 1024) (d : Fin 3096) : (shapeCast S1024x3096 u shapeCasts_S1x1024x3096_S1024x3096 : S1024x3096.Idx → EReal) (ix2 e d) = u (ix3 0 e d) := by
  pointwise

/-- The kernel's array. -/
abbrev arr : S16384x3200.Idx → EReal := zw (V m c main_arg0) (V m c main_v14) (V m c main_v12)

/-- A group of the array's columns is the group of the reference's columns with the same weights. -/
theorem piece {k : ℕ} (a b : ℕ) (ha : (Row 3200).Slices ![0, a] (Row k)) (hb : (Row 3096).Slices ![0, b] (Row k))
    (la : ∀ j : Fin k, a + j.val < 3200) (lb : ∀ j : Fin k, b + j.val < 3096)
    (ho : ∀ (u : S1024x3096.Idx → EReal) (e : Fin 1024) (j : Fin k), order u (ix2 e (⟨a + j.val, la j⟩ : Fin 3200)) = u (ix2 e (⟨b + j.val, lb j⟩ : Fin 3096))) :
    extractStridedSlice (Row k) ![0, a] (arr m c) ha = extractStridedSlice (Row k) ![0, b] (tZ (F := Ideal) (xK m c) (nK m c) (wK m c)) hb := by
  refine ext_row _ _ fun p j => ?_
  refine (cut_at a _ ha p j (la j)).trans (Eq.trans ?_ ((cut_at b _ hb p j (lb j)).trans (tZ_at _ _ _ p _)).symm)
  show (∑ e : Fin 1024, Routed.rms (fun k => (V m c main_arg0 : S16384x1024.Idx → EReal) (ix2 p k)) (fun k => (V m c main_v14 : S1x1024.Idx → EReal) (ix2 0 k)) e * (V m c main_v12 : S1024x3200.Idx → EReal) (ix2 e (⟨a + j.val, la j⟩ : Fin 3200))) = _
  unfold zc
  refine Finset.sum_congr rfl fun e _ => ?_
  have hw : (V m c main_v12 : S1024x3200.Idx → EReal) (ix2 e (⟨a + j.val, la j⟩ : Fin 3200)) = wK m c (ix3 0 e (⟨b + j.val, lb j⟩ : Fin 3096)) := by
    rw [entry_v12]
    exact (trunc_at _ e _).trans ((ho _ e j).trans (cast_at _ e _))
  rw [hw, V_main_arg0, show (fun k => (V m c main_v14 : S1x1024.Idx → EReal) (ix2 0 k)) = fun k => nK m c (ix2 0 k) from funext (v14_at m c)]

/-! ## The results -/

theorem read_cq (X : Valuation τ sig (Elt Ideal)) : StableHlo.after (List.flatten [hostOps1]) X (Proc.devRef .tc main_v16) =
    extractStridedSlice S16384x256 ![0, 0] (X (Proc.devRef .tc main_v15) : S16384x3200.Idx → EReal) slices_S16384x3200_S16384x256_0_0 := by
  simp only [hostOps1, List.flatten_cons, List.flatten_nil, List.append_nil, TRef.binary, TRef.nullary, TRef.unary, TRef.ternary, TRef.toBuf, TRef.ofBuf, cast_eq]
  after_reads_simp

theorem read_ck (X : Valuation τ sig (Elt Ideal)) : StableHlo.after (List.flatten [hostOps1]) X (Proc.devRef .tc main_v17) =
    extractStridedSlice S16384x256 ![0, 256] (X (Proc.devRef .tc main_v15) : S16384x3200.Idx → EReal) slices_S16384x3200_S16384x256_0_256 := by
  simp only [hostOps1, List.flatten_cons, List.flatten_nil, List.append_nil, TRef.binary, TRef.nullary, TRef.unary, TRef.ternary, TRef.toBuf, TRef.ofBuf, cast_eq]
  after_reads_simp

theorem read_cv (X : Valuation τ sig (Elt Ideal)) : StableHlo.after (List.flatten [hostOps1]) X (Proc.devRef .tc main_v18) =
    extractStridedSlice S16384x512 ![0, 512] (X (Proc.devRef .tc main_v15) : S16384x3200.Idx → EReal) slices_S16384x3200_S16384x512_0_512 := by
  simp only [hostOps1, List.flatten_cons, List.flatten_nil, List.append_nil, TRef.binary, TRef.nullary, TRef.unary, TRef.ternary, TRef.toBuf, TRef.ofBuf, cast_eq]
  after_reads_simp

theorem read_lr (X : Valuation τ sig (Elt Ideal)) : StableHlo.after (List.flatten [hostOps1]) X (Proc.devRef .tc main_v19) =
    extractStridedSlice S16384x16 ![0, 3072] (X (Proc.devRef .tc main_v15) : S16384x3200.Idx → EReal) slices_S16384x3200_S16384x16_0_3072 := by
  simp only [hostOps1, List.flatten_cons, List.flatten_nil, List.append_nil, TRef.binary, TRef.nullary, TRef.unary, TRef.ternary, TRef.toBuf, TRef.ofBuf, cast_eq]
  after_reads_simp

theorem read_cr (X : Valuation τ sig (Elt Ideal)) : StableHlo.after (List.flatten [hostOps1]) X (Proc.devRef .tc main_v20) =
    extractStridedSlice S16384x512 ![0, 1024] (X (Proc.devRef .tc main_v15) : S16384x3200.Idx → EReal) slices_S16384x3200_S16384x512_0_1024 := by
  simp only [hostOps1, List.flatten_cons, List.flatten_nil, List.append_nil, TRef.binary, TRef.nullary, TRef.unary, TRef.ternary, TRef.toBuf, TRef.ofBuf, cast_eq]
  after_reads_simp

theorem read_qkv (X : Valuation τ sig (Elt Ideal)) : StableHlo.after (List.flatten [hostOps1]) X (Proc.devRef .tc main_v21) =
    extractStridedSlice S16384x1024 ![0, 1536] (X (Proc.devRef .tc main_v15) : S16384x3200.Idx → EReal) slices_S16384x3200_S16384x1024_0_1536 := by
  simp only [hostOps1, List.flatten_cons, List.flatten_nil, List.append_nil, TRef.binary, TRef.nullary, TRef.unary, TRef.ternary, TRef.toBuf, TRef.ofBuf, cast_eq]
  after_reads_simp

theorem read_da (X : Valuation τ sig (Elt Ideal)) : StableHlo.after (List.flatten [hostOps1]) X (Proc.devRef .tc main_v22) =
    extractStridedSlice S16384x4 ![0, 3088] (X (Proc.devRef .tc main_v15) : S16384x3200.Idx → EReal) slices_S16384x3200_S16384x4_0_3088 := by
  simp only [hostOps1, List.flatten_cons, List.flatten_nil, List.append_nil, TRef.binary, TRef.nullary, TRef.unary, TRef.ternary, TRef.toBuf, TRef.ofBuf, cast_eq]
  after_reads_simp

theorem read_db (X : Valuation τ sig (Elt Ideal)) : StableHlo.after (List.flatten [hostOps1]) X (Proc.devRef .tc main_v23) =
    extractStridedSlice S16384x4 ![0, 3092] (X (Proc.devRef .tc main_v15) : S16384x3200.Idx → EReal) slices_S16384x3200_S16384x4_0_3092 := by
  simp only [hostOps1, List.flatten_cons, List.flatten_nil, List.append_nil, TRef.binary, TRef.nullary, TRef.unary, TRef.ternary, TRef.toBuf, TRef.ofBuf, cast_eq]
  after_reads_simp

theorem read_dg (X : Valuation τ sig (Elt Ideal)) : StableHlo.after (List.flatten [hostOps1]) X (Proc.devRef .tc main_v24) =
    extractStridedSlice S16384x512 ![0, 2560] (X (Proc.devRef .tc main_v15) : S16384x3200.Idx → EReal) slices_S16384x3200_S16384x512_0_2560 := by
  simp only [hostOps1, List.flatten_cons, List.flatten_nil, List.append_nil, TRef.binary, TRef.nullary, TRef.unary, TRef.ternary, TRef.toBuf, TRef.ofBuf, cast_eq]
  after_reads_simp

theorem tail_cq : Pipeline.afterTail₀ cfgs (dats m) 0 (V0 m) [hostOps1] c main_v16 =
    extractStridedSlice S16384x256 ![0, 0] (arr m c) slices_S16384x3200_S16384x256_0_0 := by
  unfold Pipeline.afterTail₀
  refine (read_cq _).trans (congrArg (fun u : S16384x3200.Idx → EReal => extractStridedSlice S16384x256 ![0, 0] u slices_S16384x3200_S16384x256_0_0) ?_)
  exact (Pipeline.withArrays_arr spec0 launch0.win.arr_inj c _ _ (3 : Fin 4)).trans (arr0_3 m c)

theorem piece_cq : extractStridedSlice S16384x256 ![0, 0] (arr m c) slices_S16384x3200_S16384x256_0_0 =
    extractStridedSlice Cert.Reference7Ideal.S16384x256 ![0, 0] (tZ (F := Ideal) (xK m c) (nK m c) (wK m c)) Cert.Reference7Ideal.Facts₀.slices_S16384x3096_S16384x256_0_0 :=
  piece m c 0 0 _ _ lk_cq lr_cq order_cq

theorem tail_ck : Pipeline.afterTail₀ cfgs (dats m) 0 (V0 m) [hostOps1] c main_v17 =
    extractStridedSlice S16384x256 ![0, 256] (arr m c) slices_S16384x3200_S16384x256_0_256 := by
  unfold Pipeline.afterTail₀
  refine (read_ck _).trans (congrArg (fun u : S16384x3200.Idx → EReal => extractStridedSlice S16384x256 ![0, 256] u slices_S16384x3200_S16384x256_0_256) ?_)
  exact (Pipeline.withArrays_arr spec0 launch0.win.arr_inj c _ _ (3 : Fin 4)).trans (arr0_3 m c)

theorem piece_ck : extractStridedSlice S16384x256 ![0, 256] (arr m c) slices_S16384x3200_S16384x256_0_256 =
    extractStridedSlice Cert.Reference7Ideal.S16384x256 ![0, 256] (tZ (F := Ideal) (xK m c) (nK m c) (wK m c)) Cert.Reference7Ideal.Facts₀.slices_S16384x3096_S16384x256_0_256 :=
  piece m c 256 256 _ _ lk_ck lr_ck order_ck

theorem tail_cv : Pipeline.afterTail₀ cfgs (dats m) 0 (V0 m) [hostOps1] c main_v18 =
    extractStridedSlice S16384x512 ![0, 512] (arr m c) slices_S16384x3200_S16384x512_0_512 := by
  unfold Pipeline.afterTail₀
  refine (read_cv _).trans (congrArg (fun u : S16384x3200.Idx → EReal => extractStridedSlice S16384x512 ![0, 512] u slices_S16384x3200_S16384x512_0_512) ?_)
  exact (Pipeline.withArrays_arr spec0 launch0.win.arr_inj c _ _ (3 : Fin 4)).trans (arr0_3 m c)

theorem piece_cv : extractStridedSlice S16384x512 ![0, 512] (arr m c) slices_S16384x3200_S16384x512_0_512 =
    extractStridedSlice Cert.Reference7Ideal.S16384x512 ![0, 512] (tZ (F := Ideal) (xK m c) (nK m c) (wK m c)) Cert.Reference7Ideal.Facts₀.slices_S16384x3096_S16384x512_0_512 :=
  piece m c 512 512 _ _ lk_cv lr_cv order_cv

theorem tail_lr : Pipeline.afterTail₀ cfgs (dats m) 0 (V0 m) [hostOps1] c main_v19 =
    extractStridedSlice S16384x16 ![0, 3072] (arr m c) slices_S16384x3200_S16384x16_0_3072 := by
  unfold Pipeline.afterTail₀
  refine (read_lr _).trans (congrArg (fun u : S16384x3200.Idx → EReal => extractStridedSlice S16384x16 ![0, 3072] u slices_S16384x3200_S16384x16_0_3072) ?_)
  exact (Pipeline.withArrays_arr spec0 launch0.win.arr_inj c _ _ (3 : Fin 4)).trans (arr0_3 m c)

theorem piece_lr : extractStridedSlice S16384x16 ![0, 3072] (arr m c) slices_S16384x3200_S16384x16_0_3072 =
    extractStridedSlice Cert.Reference7Ideal.S16384x16 ![0, 1024] (tZ (F := Ideal) (xK m c) (nK m c) (wK m c)) Cert.Reference7Ideal.Facts₀.slices_S16384x3096_S16384x16_0_1024 :=
  piece m c 3072 1024 _ _ lk_lr lr_lr order_lr

theorem tail_cr : Pipeline.afterTail₀ cfgs (dats m) 0 (V0 m) [hostOps1] c main_v20 =
    extractStridedSlice S16384x512 ![0, 1024] (arr m c) slices_S16384x3200_S16384x512_0_1024 := by
  unfold Pipeline.afterTail₀
  refine (read_cr _).trans (congrArg (fun u : S16384x3200.Idx → EReal => extractStridedSlice S16384x512 ![0, 1024] u slices_S16384x3200_S16384x512_0_1024) ?_)
  exact (Pipeline.withArrays_arr spec0 launch0.win.arr_inj c _ _ (3 : Fin 4)).trans (arr0_3 m c)

theorem piece_cr : extractStridedSlice S16384x512 ![0, 1024] (arr m c) slices_S16384x3200_S16384x512_0_1024 =
    extractStridedSlice Cert.Reference7Ideal.S16384x512 ![0, 1040] (tZ (F := Ideal) (xK m c) (nK m c) (wK m c)) Cert.Reference7Ideal.Facts₀.slices_S16384x3096_S16384x512_0_1040 :=
  piece m c 1024 1040 _ _ lk_cr lr_cr order_cr

theorem tail_qkv : Pipeline.afterTail₀ cfgs (dats m) 0 (V0 m) [hostOps1] c main_v21 =
    extractStridedSlice S16384x1024 ![0, 1536] (arr m c) slices_S16384x3200_S16384x1024_0_1536 := by
  unfold Pipeline.afterTail₀
  refine (read_qkv _).trans (congrArg (fun u : S16384x3200.Idx → EReal => extractStridedSlice S16384x1024 ![0, 1536] u slices_S16384x3200_S16384x1024_0_1536) ?_)
  exact (Pipeline.withArrays_arr spec0 launch0.win.arr_inj c _ _ (3 : Fin 4)).trans (arr0_3 m c)

theorem piece_qkv : extractStridedSlice S16384x1024 ![0, 1536] (arr m c) slices_S16384x3200_S16384x1024_0_1536 =
    extractStridedSlice Cert.Reference7Ideal.S16384x1024 ![0, 1552] (tZ (F := Ideal) (xK m c) (nK m c) (wK m c)) Cert.Reference7Ideal.Facts₀.slices_S16384x3096_S16384x1024_0_1552 :=
  piece m c 1536 1552 _ _ lk_qkv lr_qkv order_qkv

theorem tail_da : Pipeline.afterTail₀ cfgs (dats m) 0 (V0 m) [hostOps1] c main_v22 =
    extractStridedSlice S16384x4 ![0, 3088] (arr m c) slices_S16384x3200_S16384x4_0_3088 := by
  unfold Pipeline.afterTail₀
  refine (read_da _).trans (congrArg (fun u : S16384x3200.Idx → EReal => extractStridedSlice S16384x4 ![0, 3088] u slices_S16384x3200_S16384x4_0_3088) ?_)
  exact (Pipeline.withArrays_arr spec0 launch0.win.arr_inj c _ _ (3 : Fin 4)).trans (arr0_3 m c)

theorem piece_da : extractStridedSlice S16384x4 ![0, 3088] (arr m c) slices_S16384x3200_S16384x4_0_3088 =
    extractStridedSlice Cert.Reference7Ideal.S16384x4 ![0, 2576] (tZ (F := Ideal) (xK m c) (nK m c) (wK m c)) Cert.Reference7Ideal.Facts₀.slices_S16384x3096_S16384x4_0_2576 :=
  piece m c 3088 2576 _ _ lk_da lr_da order_da

theorem tail_db : Pipeline.afterTail₀ cfgs (dats m) 0 (V0 m) [hostOps1] c main_v23 =
    extractStridedSlice S16384x4 ![0, 3092] (arr m c) slices_S16384x3200_S16384x4_0_3092 := by
  unfold Pipeline.afterTail₀
  refine (read_db _).trans (congrArg (fun u : S16384x3200.Idx → EReal => extractStridedSlice S16384x4 ![0, 3092] u slices_S16384x3200_S16384x4_0_3092) ?_)
  exact (Pipeline.withArrays_arr spec0 launch0.win.arr_inj c _ _ (3 : Fin 4)).trans (arr0_3 m c)

theorem piece_db : extractStridedSlice S16384x4 ![0, 3092] (arr m c) slices_S16384x3200_S16384x4_0_3092 =
    extractStridedSlice Cert.Reference7Ideal.S16384x4 ![0, 2580] (tZ (F := Ideal) (xK m c) (nK m c) (wK m c)) Cert.Reference7Ideal.Facts₀.slices_S16384x3096_S16384x4_0_2580 :=
  piece m c 3092 2580 _ _ lk_db lr_db order_db

theorem tail_dg : Pipeline.afterTail₀ cfgs (dats m) 0 (V0 m) [hostOps1] c main_v24 =
    extractStridedSlice S16384x512 ![0, 2560] (arr m c) slices_S16384x3200_S16384x512_0_2560 := by
  unfold Pipeline.afterTail₀
  refine (read_dg _).trans (congrArg (fun u : S16384x3200.Idx → EReal => extractStridedSlice S16384x512 ![0, 2560] u slices_S16384x3200_S16384x512_0_2560) ?_)
  exact (Pipeline.withArrays_arr spec0 launch0.win.arr_inj c _ _ (3 : Fin 4)).trans (arr0_3 m c)

theorem piece_dg : extractStridedSlice S16384x512 ![0, 2560] (arr m c) slices_S16384x3200_S16384x512_0_2560 =
    extractStridedSlice Cert.Reference7Ideal.S16384x512 ![0, 2584] (tZ (F := Ideal) (xK m c) (nK m c) (wK m c)) Cert.Reference7Ideal.Facts₀.slices_S16384x3096_S16384x512_0_2584 :=
  piece m c 2560 2584 _ _ lk_dg lr_dg order_dg

/-- Every run ends with the arguments as launched and the nine groups of the kernel's columns. -/
theorem run : θ_run defs (onTc (τ := τ) (main (F := Ideal))) ⟨m, fun _ => 0, ρ⟩ (fun r => ∀ c : Dev nD,
      r.2.mem ((c.tc : Thread nD τ).loc main_v16) = extractStridedSlice S16384x256 ![0, 0] (arr m c) slices_S16384x3200_S16384x256_0_0
      ∧ r.2.mem ((c.tc : Thread nD τ).loc main_v17) = extractStridedSlice S16384x256 ![0, 256] (arr m c) slices_S16384x3200_S16384x256_0_256
      ∧ r.2.mem ((c.tc : Thread nD τ).loc main_v18) = extractStridedSlice S16384x512 ![0, 512] (arr m c) slices_S16384x3200_S16384x512_0_512
      ∧ r.2.mem ((c.tc : Thread nD τ).loc main_v19) = extractStridedSlice S16384x16 ![0, 3072] (arr m c) slices_S16384x3200_S16384x16_0_3072
      ∧ r.2.mem ((c.tc : Thread nD τ).loc main_v20) = extractStridedSlice S16384x512 ![0, 1024] (arr m c) slices_S16384x3200_S16384x512_0_1024
      ∧ r.2.mem ((c.tc : Thread nD τ).loc main_v21) = extractStridedSlice S16384x1024 ![0, 1536] (arr m c) slices_S16384x3200_S16384x1024_0_1536
      ∧ r.2.mem ((c.tc : Thread nD τ).loc main_v22) = extractStridedSlice S16384x4 ![0, 3088] (arr m c) slices_S16384x3200_S16384x4_0_3088
      ∧ r.2.mem ((c.tc : Thread nD τ).loc main_v23) = extractStridedSlice S16384x4 ![0, 3092] (arr m c) slices_S16384x3200_S16384x4_0_3092
      ∧ r.2.mem ((c.tc : Thread nD τ).loc main_v24) = extractStridedSlice S16384x512 ![0, 2560] (arr m c) slices_S16384x3200_S16384x512_0_2560
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans (tail_cq m c),
     ((h c).2 main_v17 (Pipeline.mem_restRefs_of main_v17 (by decide) (by decide))).trans (tail_ck m c),
     ((h c).2 main_v18 (Pipeline.mem_restRefs_of main_v18 (by decide) (by decide))).trans (tail_cv m c),
     ((h c).2 main_v19 (Pipeline.mem_restRefs_of main_v19 (by decide) (by decide))).trans (tail_lr m c),
     ((h c).2 main_v20 (Pipeline.mem_restRefs_of main_v20 (by decide) (by decide))).trans (tail_cr m c),
     ((h c).2 main_v21 (Pipeline.mem_restRefs_of main_v21 (by decide) (by decide))).trans (tail_qkv m c),
     ((h c).2 main_v22 (Pipeline.mem_restRefs_of main_v22 (by decide) (by decide))).trans (tail_da m c),
     ((h c).2 main_v23 (Pipeline.mem_restRefs_of main_v23 (by decide) (by decide))).trans (tail_db m c),
     ((h c).2 main_v24 (Pipeline.mem_restRefs_of main_v24 (by decide) (by decide))).trans (tail_dg m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Entry

end Cert.Kernel7Ideal.Proj

end
-- ==== Proof.ChooseOut.lean ====
/- What a point of the prompt's router leaves in its output blocks, as the payloads of its input blocks. -/
module

public import proofs.«01_k».proof.Proof.Gen.Kernel8Ideal.Frame
public import Idealize.ShloMosaic.Lib.Pointwise
public import Idealize.ShloMosaic.Lib.Pipeline.Value

@[expose] public section

set_option maxRecDepth 16384
set_option Elab.async false

noncomputable section

namespace Cert.Kernel8Ideal.Choose

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → ℕ) = fun _ => 0 := funext fun b => by fin_cases b <;> rfl

theorem out0_A_5_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S512x1024 .bf16) (x1 : Vec F S512x1024 .f32) (x2 : Vec F S1024x1024 .bf16) (x3 : Vec F S1x1024 .f32) (x4 : Vec F S1024x128 .f32) :
    out0_A_5 c i arg1 harg1 arg2 harg2 arg3 harg3 arg4 harg4 arg5 harg5 arg6 harg6 arg7 harg7 arg8 harg8 arg9 harg9 arg10 harg10 hc0 x0 x1 x2 x3 x4 = k0_pay3 x1 x0 x2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]

theorem out0_A_6_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S512x1024 .bf16) (x1 : Vec F S512x1024 .f32) (x2 : Vec F S1024x1024 .bf16) (x3 : Vec F S1x1024 .f32) (x4 : Vec F S1024x128 .f32) :
    out0_A_6 c i arg1 harg1 arg2 harg2 arg3 harg3 arg4 harg4 arg5 harg5 arg6 harg6 arg7 harg7 arg8 harg8 arg9 harg9 arg10 harg10 hc0 x0 x1 x2 x3 x4 = k0_pay4 x1 x0 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]

theorem out0_A_7_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S512x1024 .bf16) (x1 : Vec F S512x1024 .f32) (x2 : Vec F S1024x1024 .bf16) (x3 : Vec F S1x1024 .f32) (x4 : Vec F S1024x128 .f32) :
    ∃ v95 v99 : FVec F S512x1 .f32, out0_A_7 c i arg1 harg1 arg2 harg2 arg3 harg3 arg4 harg4 arg5 harg5 arg6 harg6 arg7 harg7 arg8 harg8 arg9 harg9 arg10 harg10 hc0 x0 x1 x2 x3 x4 = k0_pay1 (iota .tc S512x128 32 [1] iota_S512x128_d1_w32) (k0_pay12 (iota .tc S512x128 32 [1] iota_S512x128_d1_w32) (k0_pay5 x1 x0 x2 x3) (k0_pay6 x1 x0 x2 x3) (k0_pay8 x4) (k0_pay9 x4)) (k0_pay15 (iota .tc S512x128 32 [1] iota_S512x128_d1_w32) (k0_pay5 x1 x0 x2 x3) (k0_pay6 x1 x0 x2 x3) (k0_pay8 x4) (k0_pay9 x4)) (k0_pay17 (iota .tc S512x128 32 [1] iota_S512x128_d1_w32) (k0_pay5 x1 x0 x2 x3) (k0_pay6 x1 x0 x2 x3) (k0_pay8 x4) (k0_pay9 x4)) (k0_pay18 (iota .tc S512x128 32 [1] iota_S512x128_d1_w32) (k0_pay5 x1 x0 x2 x3) (k0_pay6 x1 x0 x2 x3) (k0_pay8 x4) (k0_pay9 x4)) v95 v99 (k0_pay26 (k0_pay17 (iota .tc S512x128 32 [1] iota_S512x128_d1_w32) (k0_pay5 x1 x0 x2 x3) (k0_pay6 x1 x0 x2 x3) (k0_pay8 x4) (k0_pay9 x4)) (k0_pay18 (iota .tc S512x128 32 [1] iota_S512x128_d1_w32) (k0_pay5 x1 x0 x2 x3) (k0_pay6 x1 x0 x2 x3) (k0_pay8 x4) (k0_pay9 x4)) (k0_pay19 (iota .tc S512x128 32 [1] iota_S512x128_d1_w32) (k0_pay5 x1 x0 x2 x3) (k0_pay6 x1 x0 x2 x3) (k0_pay8 x4) (k0_pay9 x4)) (k0_pay20 (iota .tc S512x128 32 [1] iota_S512x128_d1_w32) (k0_pay5 x1 x0 x2 x3) (k0_pay6 x1 x0 x2 x3) (k0_pay8 x4) (k0_pay9 x4))) (k0_pay27 (iota .tc S512x128 32 [1] iota_S512x128_d1_w32)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4)]
  unfold kernelRun0_A
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]
  exact ⟨_, _, rfl⟩

theorem out0_B_5_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S512x1024 .bf16) (x1 : Vec F S512x1024 .f32) (x2 : Vec F S1024x1024 .bf16) (x3 : Vec F S1x1024 .f32) (x4 : Vec F S1024x128 .f32) (xs0 : Vec F S1x128 .f32) :
    out0_B_5 c i arg1 harg1 arg2 harg2 arg3 harg3 arg4 harg4 arg5 harg5 arg6 harg6 arg7 harg7 arg8 harg8 arg9 harg9 arg10 harg10 hc0 x0 x1 x2 x3 x4 xs0 = k0_pay3 x1 x0 x2 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 x4 xs0)]
  unfold kernelRun0_B
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]

theorem out0_B_6_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S512x1024 .bf16) (x1 : Vec F S512x1024 .f32) (x2 : Vec F S1024x1024 .bf16) (x3 : Vec F S1x1024 .f32) (x4 : Vec F S1024x128 .f32) (xs0 : Vec F S1x128 .f32) :
    out0_B_6 c i arg1 harg1 arg2 harg2 arg3 harg3 arg4 harg4 arg5 harg5 arg6 harg6 arg7 harg7 arg8 harg8 arg9 harg9 arg10 harg10 hc0 x0 x1 x2 x3 x4 xs0 = k0_pay4 x1 x0 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 xs0)]
  unfold kernelRun0_B
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]

theorem out0_B_7_eq (c : Dev nD) (i : grid0.Coords) (arg1 : Memref sig .tc .vmem S512x1024 .bf16) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S512x1024 .bf16) (x1 : Vec F S512x1024 .f32) (x2 : Vec F S1024x1024 .bf16) (x3 : Vec F S1x1024 .f32) (x4 : Vec F S1024x128 .f32) (xs0 : Vec F S1x128 .f32) :
    ∃ v95 v99 : FVec F S512x1 .f32, out0_B_7 c i arg1 harg1 arg2 harg2 arg3 harg3 arg4 harg4 arg5 harg5 arg6 harg6 arg7 harg7 arg8 harg8 arg9 harg9 arg10 harg10 hc0 x0 x1 x2 x3 x4 xs0 = k0_pay1 (iota .tc S512x128 32 [1] iota_S512x128_d1_w32) (k0_pay12 (iota .tc S512x128 32 [1] iota_S512x128_d1_w32) (k0_pay5 x1 x0 x2 x3) (k0_pay6 x1 x0 x2 x3) (k0_pay8 x4) (k0_pay9 x4)) (k0_pay15 (iota .tc S512x128 32 [1] iota_S512x128_d1_w32) (k0_pay5 x1 x0 x2 x3) (k0_pay6 x1 x0 x2 x3) (k0_pay8 x4) (k0_pay9 x4)) (k0_pay17 (iota .tc S512x128 32 [1] iota_S512x128_d1_w32) (k0_pay5 x1 x0 x2 x3) (k0_pay6 x1 x0 x2 x3) (k0_pay8 x4) (k0_pay9 x4)) (k0_pay18 (iota .tc S512x128 32 [1] iota_S512x128_d1_w32) (k0_pay5 x1 x0 x2 x3) (k0_pay6 x1 x0 x2 x3) (k0_pay8 x4) (k0_pay9 x4)) v95 v99 (k0_pay26 (k0_pay17 (iota .tc S512x128 32 [1] iota_S512x128_d1_w32) (k0_pay5 x1 x0 x2 x3) (k0_pay6 x1 x0 x2 x3) (k0_pay8 x4) (k0_pay9 x4)) (k0_pay18 (iota .tc S512x128 32 [1] iota_S512x128_d1_w32) (k0_pay5 x1 x0 x2 x3) (k0_pay6 x1 x0 x2 x3) (k0_pay8 x4) (k0_pay9 x4)) (k0_pay19 (iota .tc S512x128 32 [1] iota_S512x128_d1_w32) (k0_pay5 x1 x0 x2 x3) (k0_pay6 x1 x0 x2 x3) (k0_pay8 x4) (k0_pay9 x4)) (k0_pay20 (iota .tc S512x128 32 [1] iota_S512x128_d1_w32) (k0_pay5 x1 x0 x2 x3) (k0_pay6 x1 x0 x2 x3) (k0_pay8 x4) (k0_pay9 x4))) (k0_pay27 (iota .tc S512x128 32 [1] iota_S512x128_d1_w32)) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 xs0)]
  unfold kernelRun0_B
  dsimp only
  try sl_unfold_words
  rw [View.canon_unit_zero hz2]
  simp only [View.readAt_eq_ld, Memref.IsWhole.read_unread harg1, Memref.IsWhole.read_unread harg2, Memref.IsWhole.read_unread harg3, Memref.IsWhole.read_unread harg4, Memref.IsWhole.read_unread harg5, Memref.IsWhole.read_unread harg6, Memref.IsWhole.read_unread harg7, Memref.IsWhole.read_unread harg8, Memref.IsWhole.read_unread harg9, Memref.IsWhole.read_unread harg10, View.ld_unit_zero (S := S512x1024) hz2, View.ld_unit_zero (S := S1024x1024) hz2, View.ld_unit_zero (S := S1x1024) hz2, View.ld_unit_zero (S := S1024x128) hz2, shapeCast_self]
  exact ⟨_, _, rfl⟩

end Cert.Kernel8Ideal.Choose

end
-- ==== Proof.ChooseSpec.lean ====
/- The routing of the prompt's tokens over the extended reals. -/
module

public import proofs.«01_k».proof.Proof.MoeSpec

@[expose] public section

set_option maxRecDepth 16384
set_option Elab.async false

noncomputable section

namespace Cert.Choosing

open Idealize.ShloMosaic
open Cert.Routed (rms lg Proj Rout Real' rms_real_of)

abbrev Tok : Type := (⟨2, ![16384, 1024]⟩ : Shape).Idx → EReal
abbrev Nrm : Type := (⟨2, ![1, 1024]⟩ : Shape).Idx → EReal

/-- The row of token `p`. -/
def tokRow (x : Tok) (p : Fin 16384) (k : Fin 1024) : EReal := x (ix2 p k)

/-- A row plus the projected mixers' row. -/
def sumRow (mix x : Fin 1024 → EReal) (wo : Proj) (d : Fin 1024) : EReal := x d + ∑ k : Fin 1024, mix k * wo (ix3 0 k d)

/-- The experts' input row. -/
def hidRow (mix x : Fin 1024 → EReal) (wo : Proj) (nf : Nrm) : Fin 1024 → EReal := rms (sumRow mix x wo) fun d => nf (ix2 0 d)

theorem hid_real {mix x : Fin 1024 → EReal} {wo : Proj} {nf : Nrm} (h : ∀ i, Real' (nf i)) (d : Fin 1024) : Real' (hidRow mix x wo nf d) :=
  rms_real_of (fun _ => h _) d

theorem lg_real {mix x : Fin 1024 → EReal} {wo : Proj} {nf : Nrm} {rt : Rout} (h : ∀ i, Real' (nf i)) (h' : ∀ i, Real' (rt i)) (e : Fin 8) :
    Real' (lg (hidRow mix x wo nf) rt e) := Cert.Routed.Real'.sum fun _ => (hid_real h _).mul (h' _)

end Cert.Choosing

end
-- ==== Proof.ChoosePay.lean ====
/- The prompt's router's payloads at an index, over the extended reals. -/
module

public import proofs.«01_k».proof.Proof.ChooseOut
public import proofs.«01_k».proof.Proof.ChooseSpec
public import proofs.«01_k».proof.Proof.MoePay
public import Idealize.ShloMosaic.Lib.Tactic.CleanTypes

@[expose] public section

set_option maxRecDepth 16384
set_option Elab.async false

noncomputable section

namespace Cert.Kernel8Ideal.Choose

open Cert.Kernel8Ideal Cert.Kernel8Ideal.Gen
open Idealize.ShloMosaic Idealize.ShloMosaic.TcCoe
open Cert.Choosing
open Cert.Routed (rms lg gate ratio Top Real' lanes lanes2 max_lanes max_lanes2 first_lanes first_lanes2 Proj Rout)
open Cert.Kernel2Ideal.Moe (sel_slt sel_eq ninf_eq)

theorem mask_eq : (Named.named (F := Ideal) κ "mask" (φ := .f32) 4048155338#32 : EReal) = ⊥ :=
  IdealRules.named_const.ideal_named_scalar κ "mask" (φ := .f32) _ ⊥ rfl

section Router
variable (mix x : S512x1024.Idx → EReal) (w : S1024x1024.Idx → EReal) (n : S1x1024.Idx → EReal) (r : S1024x128.Idx → EReal)
variable (wo : Proj) (nf : Nrm) (rt : Rout)

/-- The block of lane numbers. -/
abbrev lane : S512x128.Idx → BitVec 32 := iota .tc S512x128 32 [1] iota_S512x128_d1_w32

theorem lane_at (p : Fin 512) (k : Fin 128) : lane (ix2 p k) = BitVec.ofNat 32 k.val := by
  unfold lane
  pointwise []

variable (hw : ∀ k d, w (ix2 k d) = wo (ix3 0 k d)) (hn' : ∀ d, n (ix2 0 d) = nf (ix2 0 d))
include hw

theorem proj_at (p : Fin 512) (d : Fin 1024) : k0_pay3 (F := Ideal) x mix w (ix2 p d) = sumRow (fun k => mix (ix2 p k)) (fun k => x (ix2 p k)) wo d := by
  pointwise [k0_pay3]
  unfold sumRow
  simp only [hw]

include hn'

theorem norm_at (p : Fin 512) (d : Fin 1024) : k0_pay4 (F := Ideal) x mix w n (ix2 p d) = hidRow (fun k => mix (ix2 p k)) (fun k => x (ix2 p k)) wo nf d := by
  pointwise [k0_pay4]
  simp only [proj_at mix x w wo hw, hn']
  rfl

theorem hi_at (p : Fin 512) (d : Fin 1024) : k0_pay5 (F := Ideal) x mix w n (ix2 p d) = hidRow (fun k => mix (ix2 p k)) (fun k => x (ix2 p k)) wo nf d := by
  pointwise [k0_pay5]
  exact norm_at mix x w n wo nf hw hn' p d

theorem lo_at (p : Fin 512) (d : Fin 1024) (h : Real' (hidRow (fun k => mix (ix2 p k)) (fun k => x (ix2 p k)) wo nf d)) : k0_pay6 (F := Ideal) x mix w n (ix2 p d) = 0 := by
  pointwise [k0_pay6]
  rw [norm_at mix x w n wo nf hw hn', hi_at mix x w n wo nf hw hn']
  exact h.sub_self

omit hw hn'

theorem rhi_at (d : Fin 1024) (k : Fin 128) : k0_pay8 (F := Ideal) r (ix2 d k) = r (ix2 d k) := by
  pointwise [k0_pay8, k0_pay7]

theorem rlo_at (d : Fin 1024) (k : Fin 128) (h : Real' (r (ix2 d k))) : k0_pay9 (F := Ideal) r (ix2 d k) = 0 := by
  pointwise [k0_pay9, k0_pay8, k0_pay7]
  exact h.sub_self

end Router

/-! ## The choice, from the masked logits -/

section Choice
variable (A B : S512x1024.Idx → EReal) (C D : S1024x128.Idx → EReal) (p : Fin 512) (l : Fin 8 → EReal)

/-- With nothing in the low halves the masked logits are the rows against the router, in the first eight lanes. -/
theorem logits_at (rt : Rout) (h : Fin 1024 → EReal) (hA : ∀ d, A (ix2 p d) = h d) (hB : ∀ d, B (ix2 p d) = 0)
    (hC : ∀ (d : Fin 1024) (e : Fin 8), C (ix2 d (⟨e.val, by omega⟩ : Fin 128)) = rt (ix3 0 d e)) (hD : ∀ (d : Fin 1024) (e : Fin 8), D (ix2 d (⟨e.val, by omega⟩ : Fin 128)) = 0)
    (k : Fin 128) : k0_pay10 (F := Ideal) lane A B C D (ix2 p k) = lanes (lg h rt) k := by
  pointwise [k0_pay10]
  rw [sel_slt _ 8 (by omega) (by omega), mask_eq]
  unfold lanes
  split
  · rename_i hk
    have e1 : ∀ d, C (ix2 d k) = rt (ix3 0 d ⟨k.val, hk⟩) := fun d => hC d ⟨k.val, hk⟩
    have e2 : ∀ d, D (ix2 d k) = 0 := fun d => hD d ⟨k.val, hk⟩
    simp only [hA, hB, e1, e2, mul_zero, zero_mul, Finset.sum_const_zero, add_zero]
    rfl
  · rfl

variable (hL : ∀ k : Fin 128, k0_pay10 (F := Ideal) lane A B C D (ix2 p k) = lanes l k)
variable {a b : Fin 8} (hl : ∀ k, Real' (l k)) (T : Top l a b)
include hL T

theorem m1_at : k0_pay11 (F := Ideal) lane A B C D (ix2 p 0) = l a := by
  pointwise [k0_pay11]
  simp only [hL, ninf_eq]
  exact max_lanes T

include hl

theorem e1_at : k0_pay12 (F := Ideal) lane A B C D (ix2 p 0) = BitVec.ofNat 32 a.val := by
  pointwise [k0_pay12]
  simp only [hL, m1_at A B C D p l hL T, lane_at]
  exact first_lanes hl T

theorem rest_at (k : Fin 128) : k0_pay13 (F := Ideal) lane A B C D (ix2 p k) = lanes2 l a k := by
  pointwise [k0_pay13]
  rw [e1_at A B C D p l hL hl T, sel_eq _ _ (by omega) (by omega), mask_eq, hL]
  rfl

theorem m2_at : k0_pay14 (F := Ideal) lane A B C D (ix2 p 0) = l b := by
  pointwise [k0_pay14]
  simp only [rest_at A B C D p l hL hl T, ninf_eq]
  exact max_lanes2 T

theorem e2_at : k0_pay15 (F := Ideal) lane A B C D (ix2 p 0) = BitVec.ofNat 32 b.val := by
  pointwise [k0_pay15]
  simp only [rest_at A B C D p l hL hl T, m2_at A B C D p l hL hl T, lane_at]
  exact first_lanes2 hl T

theorem g1_at : k0_pay17 (F := Ideal) lane A B C D (ix2 p 0) = Ideal.div 1 (1 + ratio l a b) := by
  pointwise [k0_pay17, k0_pay16]
  rw [m1_at A B C D p l hL T, m2_at A B C D p l hL hl T]
  rfl

theorem g2_at : k0_pay18 (F := Ideal) lane A B C D (ix2 p 0) = Ideal.div (ratio l a b) (1 + ratio l a b) := by
  pointwise [k0_pay18, k0_pay16]
  rw [m1_at A B C D p l hL T, m2_at A B C D p l hL hl T]
  rfl

theorem weights_at (e : Fin 8) :
    k0_pay26 (F := Ideal) (k0_pay17 (F := Ideal) lane A B C D) (k0_pay18 (F := Ideal) lane A B C D) (k0_pay19 (F := Ideal) lane A B C D) (k0_pay20 (F := Ideal) lane A B C D) (ix2 p (⟨e.val, by omega⟩ : Fin 128)) = gate l a b e := by
  pointwise [k0_pay26, k0_pay19, k0_pay20]
  rw [g1_at A B C D p l hL hl T, g2_at A B C D p l hL hl T, e1_at A B C D p l hL hl T, e2_at A B C D p l hL hl T,
    sel_eq _ _ (by omega) (by omega), sel_eq _ _ (by omega) (by omega)]
  unfold gate
  simp only [Fin.ext_iff]

end Choice

/-- The first eight lanes of the router's table are the experts' weights: the other entries stand in lanes 8 to 13. -/
theorem table_at (u v : S512x1.Idx → BitVec 32) (f g s t : S512x1.Idx → EReal) (q : S512x128.Idx → EReal) (p : Fin 512) (e : Fin 8) :
    k0_pay1 (F := Ideal) lane u v f g s t q (k0_pay27 lane) (ix2 p (⟨e.val, by omega⟩ : Fin 128)) = q (ix2 p (⟨e.val, by omega⟩ : Fin 128)) := by
  have he := e.isLt
  pointwise [k0_pay1, k0_pay27]
  rw [sel_eq e.val 13 (by omega) (by omega), sel_eq e.val 12 (by omega) (by omega), sel_eq e.val 11 (by omega) (by omega),
    sel_eq e.val 10 (by omega) (by omega), sel_eq e.val 9 (by omega) (by omega), sel_eq e.val 8 (by omega) (by omega),
    if_neg (by omega), if_neg (by omega), if_neg (by omega), if_neg (by omega), if_neg (by omega), if_neg (by omega)]

end Cert.Kernel8Ideal.Choose

end
-- ==== Proof.ChooseRef.lean ====
/- The routing of the prompt's tokens: the reference at an index. -/
module

public import proofs.«01_k».proof.Proof.Gen.Reference8Ideal.Run
public import proofs.«01_k».proof.Proof.ChooseSpec
public import proofs.«01_k».proof.Proof.MoeRef
public import Idealize.ShloMosaic.Lib.Pointwise
public import Idealize.ShloMosaic.Lib.Tactic.CleanTypes

@[expose] public section

set_option maxRecDepth 16384
set_option Elab.async false

noncomputable section

namespace Cert.Reference8Ideal.Value

open Cert.Reference8Ideal Cert.Reference8Ideal.Gen
open Idealize.ShloMosaic Idealize.ShloMosaic.TcCoe Idealize.ShloMosaic.HloOp
open Cert.Choosing
open Cert.Routed (rms lg gate Top Real' Proj Rout)
open Cert.Reference2Ideal.Value (before before_iff pick pick_top onehot)

section Terms
variable {F : FTy → Type} [FloatOps F]

/-- The residual plus the projected mixers. -/
def tX (a0 : FVec F S16384x1024 .bf16) (a1 : FVec F S16384x1024 .f32) (a2 : FVec F S1x1024x1024 .f32) : FVec F S16384x1024 .f32 :=
  addf a1 (Host.dotGeneral dot_S16384x1024_S1024x1024_S16384x1024_1_0_0_1_n_n none (extf .f32 a0 bitsLt_bf16_f32) (shapeCast _ a2 shapeCasts_S1x1024x1024_S1024x1024))

/-- The norm. -/
def tH (x : FVec F S16384x1024 .f32) (a3 : FVec F S1x1024 .f32) : FVec F S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ a3 shapeCasts_S1x1024_S1024)))

/-- The logits. -/
def tL (h : FVec F S16384x1024 .f32) (a4 : FVec F S1x1024x8 .f32) : FVec F S16384x8 .f32 :=
  Host.dotGeneral dot_S16384x1024_S1024x8_S16384x8_1_0_0_1_n_n none h (shapeCast _ a4 shapeCasts_S1x1024x8_S1024x8)

/-- The two greatest logits. -/
def tV (l : FVec F S16384x8 .f32) : FVec F S16384x2 .f32 :=
  (Host.topK S16384x2 1 (FloatOps.cmpfTotal .gt) l sliceFits_S16384x8_S16384x2).1

/-- Their exponentials. -/
def tE (v : FVec F S16384x2 .f32) : FVec F S16384x2 .f32 :=
  Host.exp (subf v (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x2_S16384_d1 h_S_)))))

/-- The weights of the experts. -/
def tG (l : FVec F S16384x8 .f32) (e : FVec F S16384x2 .f32) : FVec F S16384x8 .f32 :=
  Host.reduceAdd (mulf (uitofp .f32 (cmpi .eq (broadcastInDim S16384x2x8 ![0, 1, 2] bcast_S16384x2x1_S16384x2x8_0_1_2 (broadcastInDim S16384x2x1 ![0, 1] bcast_S16384x2_S16384x2x1_0_1 ((Host.topK S16384x2 1 (FloatOps.cmpfTotal .gt) l sliceFits_S16384x8_S16384x2).2))) (broadcastInDim S16384x2x8 ![0, 1, 2] bcast_S1x1x8_S16384x2x8_0_1_2 (iotaInDim S1x1x8 32 2)))) (broadcastInDim S16384x2x8 ![0, 1, 2] bcast_S16384x2x1_S16384x2x8_0_1_2 (broadcastInDim S16384x2x1 ![0, 1] bcast_S16384x2_S16384x2x1_0_1 (Host.divf e (broadcastInDim S16384x2 ![0, 1] bcast_S16384x1_S16384x2_0_1 (broadcastInDim S16384x1 ![0] bcast_S16384_S16384x1_0 (Host.reduceAdd e (constant S_ .f32 0x00000000#32) reducesTo_S16384x2_S16384_d1 h_S_))))))) (constant S_ .f32 0x00000000#32) reducesTo_S16384x2x8_S16384x8_d1 h_S_

theorem res_eq (m : (ℓ : Loc nD τ sig) → Buf (Elt F) ℓ) (c : Dev nD) : res_main_v35 m c =
    tG (tL (tH (tX (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))
      (tE (tV (tL (tH (tX (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4))))) := by
  unfold res_main_v35 tG tE tV tL tH tX
  rfl

end Terms

variable (mix x : Tok) (wo : Proj) (nf : Nrm) (rt : Rout)

theorem tX_at (p : Fin 16384) (d : Fin 1024) : tX (F := Ideal) mix x wo (ix2 p d) = sumRow (tokRow mix p) (tokRow x p) wo d := by
  unfold tX
  pointwise
  rfl

theorem tH_at (r : Tok) (p : Fin 16384) (d : Fin 1024) : tH (F := Ideal) r nf (ix2 p d) = rms (fun k => r (ix2 p k)) (fun k => nf (ix2 0 k)) d := by
  unfold tH
  pointwise
  rfl

theorem tL_at (h : Tok) (p : Fin 16384) (e : Fin 8) : tL (F := Ideal) h rt (ix2 p e) = lg (fun k => h (ix2 p k)) rt e := by
  unfold tL
  pointwise
  rfl

/-! ## The choice -/

theorem along_eq (p : Fin 16384) (e k : Fin 8) : (ix2 p e : S16384x8.Idx).along 1 k = ix2 p k := by
  funext b
  fin_cases b <;> rfl

theorem sort_at (t : S16384x8.Idx → EReal) (y : S16384x8.Idx → BitVec 32) (p : Fin 16384) (e : Fin 8) :
    (Host.sort2 S16384x8 1 (fun l r : EReal × BitVec 32 => FloatOps.cmpfTotal (F := Ideal) (φ := .f32) .gt l.1 r.1) t y).1 (ix2 p e) = t (ix2 p (sortedFrom (before fun k => t (ix2 p k)) e))
    ∧ (Host.sort2 S16384x8 1 (fun l r : EReal × BitVec 32 => FloatOps.cmpfTotal (F := Ideal) (φ := .f32) .gt l.1 r.1) t y).2 (ix2 p e) = y (ix2 p (sortedFrom (before fun k => t (ix2 p k)) e)) := by
  unfold Host.sort2
  rw [dif_pos (show 1 < S16384x8.rank by decide)]
  have ha : ∀ k : Fin 8, (ix2 p e : S16384x8.Idx).along (⟨1, Nat.one_lt_two⟩ : Fin S16384x8.rank) k = ix2 p k := fun k => along_eq p e k
  have hb : (fun k k' : Fin 8 => FloatOps.cmpfTotal (F := Ideal) (φ := .f32) .gt (t ((ix2 p e : S16384x8.Idx).along (⟨1, Nat.one_lt_two⟩ : Fin S16384x8.rank) k)) (t ((ix2 p e : S16384x8.Idx).along (⟨1, Nat.one_lt_two⟩ : Fin S16384x8.rank) k')) == 1#1) = before fun k => t (ix2 p k) := by
    funext k k'
    rw [ha, ha]; rfl
  constructor
  · exact (congrArg t (ha _)).trans (congrArg (fun B : Fin 8 → Fin 8 → Bool => t (ix2 p (sortedFrom B e))) hb)
  · exact (congrArg y (ha _)).trans (congrArg (fun B : Fin 8 → Fin 8 → Bool => y (ix2 p (sortedFrom B e))) hb)

theorem cut_at {α : Type} (t : S16384x8.Idx → α) (h : S16384x8.Slices (fun _ => 0) S16384x2) (p : Fin 16384) (q : Fin 2) :
    extractStridedSlice S16384x2 (fun _ => 0) t h (ix2 p q) = t (ix2 p (⟨q.val, by omega⟩ : Fin 8)) := by
  unfold extractStridedSlice
  refine congrArg t (funext fun b => Fin.ext ?_)
  fin_cases b
  · show 0 + p.val = p.val
    omega
  · show 0 + q.val = q.val
    omega

theorem top_at (t : S16384x8.Idx → EReal) (h : S16384x8.Slices (fun _ => 0) S16384x2) (p : Fin 16384) (q : Fin 2) :
    (Host.topK S16384x2 1 (FloatOps.cmpfTotal (F := Ideal) (φ := .f32) .gt) t h).1 (ix2 p q) = t (ix2 p (pick (fun k => t (ix2 p k)) q))
    ∧ (Host.topK S16384x2 1 (FloatOps.cmpfTotal (F := Ideal) (φ := .f32) .gt) t h).2 (ix2 p q) = BitVec.ofNat 32 (pick (fun k => t (ix2 p k)) q).val := by
  unfold Host.topK
  dsimp only
  rw [cut_at, cut_at, (sort_at _ _ _ _).1, (sort_at _ _ _ _).2]
  refine ⟨rfl, ?_⟩
  rw [dif_pos (show 1 < S16384x8.rank by decide)]
  rfl

variable (l : S16384x8.Idx → EReal)

theorem tV_at (p : Fin 16384) (q : Fin 2) : tV (F := Ideal) l (ix2 p q) = l (ix2 p (pick (fun k => l (ix2 p k)) q)) := by
  unfold tV
  exact (top_at l sliceFits_S16384x8_S16384x2 p q).1

theorem index_at (p : Fin 16384) (q : Fin 2) :
    ((Host.topK S16384x2 1 (FloatOps.cmpfTotal (F := Ideal) (φ := .f32) .gt) l sliceFits_S16384x8_S16384x2).2 : IVec S16384x2 32) (ix2 p q) = BitVec.ofNat 32 (pick (fun k => l (ix2 p k)) q).val :=
  (top_at l sliceFits_S16384x8_S16384x2 p q).2

theorem tE_at (p : Fin 16384) (q : Fin 2) : tE (F := Ideal) (tV (F := Ideal) l) (ix2 p q) =
    Ideal.exp (l (ix2 p (pick (fun k => l (ix2 p k)) q)) - l (ix2 p (pick (fun k => l (ix2 p k)) 0))) := by
  have hb : Ideal.ofBits .f32 4286578688#32 = ⊥ := by simp [Ideal.ofBits, Ideal.ieee]
  have hm : Finset.fold max ⊥ (fun x : Fin 2 => l (ix2 p (pick (fun k => l (ix2 p k)) x))) Finset.univ = l (ix2 p (pick (fun k => l (ix2 p k)) 0)) :=
    le_antisymm ((Finset.fold_max_le _).mpr ⟨bot_le, fun k _ => (pick_top (fun k => l (ix2 p k))).fst _⟩)
      ((Finset.le_fold_max _).mpr (Or.inr ⟨0, Finset.mem_univ _, le_refl _⟩))
  unfold tE
  generalize hv : tV (F := Ideal) l = v
  pointwise
  subst hv
  simp only [tV_at, hb, hm, max_bot_left]

theorem tG_at (p : Fin 16384) (e : Fin 8) (hl : ∀ k, Real' (l (ix2 p k))) : tG (F := Ideal) l (tE (F := Ideal) (tV (F := Ideal) l)) (ix2 p e) =
    gate (fun k => l (ix2 p k)) (pick (fun k => l (ix2 p k)) 0) (pick (fun k => l (ix2 p k)) 1) e := by
  have h0 : Ideal.exp (l (ix2 p (pick (fun k => l (ix2 p k)) 0)) - l (ix2 p (pick (fun k => l (ix2 p k)) 0))) = 1 := by
    rw [(hl _).sub_self]
    show ((Real.exp 0 : ℝ) : EReal) = 1
    rw [Real.exp_zero]; rfl
  unfold tG
  generalize hv : tE (F := Ideal) (tV (F := Ideal) l) = v
  pointwise
  subst hv
  simp only [index_at, tE_at, onehot, Fin.sum_univ_two, h0]
  unfold gate
  simp only [ite_mul, one_mul, zero_mul]
  rfl

end Cert.Reference8Ideal.Value

end
-- ==== Proof.ChooseValue.lean ====
/- The routing of the prompt's tokens: its kernel's arrays, what the host prepares, and the two programs' results. -/
module

public import proofs.«01_k».proof.Proof.Gen.Kernel8Ideal.Frame
public import proofs.«01_k».proof.Proof.Gen.Kernel8.Frame
public import proofs.«01_k».proof.Proof.Gen.Pre_finite_router
public import proofs.«01_k».proof.Proof.ChoosePay
public import proofs.«01_k».proof.Proof.ChooseRef
public import proofs.«01_k».proof.Proof.MoeValue
public import proofs.«01_k».proof.Proof.ProjSpec
public import Idealize.ShloMosaic.Lib.KernelVsHost
public import Idealize.ShloMosaic.Lib.StableHlo.RunRead

@[expose] public section

set_option maxRecDepth 16384
set_option Elab.async false

noncomputable section

namespace Cert.Kernel8Ideal.Choose

open Cert.Kernel8Ideal Cert.Kernel8Ideal.Gen
open Idealize.ShloMosaic Idealize.ShloMosaic.TcCoe Idealize.ShloMosaic.Tactic
open Idealize.ShloMosaic.StableHlo Idealize.SL.Sem
open Cert.Choosing
open Cert.Routed (rms lg gate Top Real' Proj Rout)
open Cert.Kernel2Ideal.Moe (AllReal real_of_lt)
open Cert.Reference2Ideal.Value (pick pick_top)
open Cert.Reference8Ideal.Value (tX tX_at tH tH_at tL tL_at tV tE tG tG_at)

/-! ## The blocks of 512 rows -/

theorem lt32 (t : Fin cfg0.N) : t.val < 32 := t.isLt

theorem g0_0 (t : Fin cfg0.N) : ((grid0.coords t) 0).val = t.val := by
  have h : ((grid0.coords t) 0).val = t.val / 1 % 32 := Pipeline.Grid.coords_val t 0 (by decide) rfl
  have := lt32 t
  omega

theorem i0_0 : ∀ i : grid0.Coords, cc0_transform_0 i 0 = (i 0).val := by decide +kernel
theorem i0_1 : ∀ i : grid0.Coords, cc0_transform_1 i 0 = (i 0).val := by decide +kernel
theorem i0_5 : ∀ i : grid0.Coords, cc0_transform_5 i 0 = (i 0).val := by decide +kernel
theorem i0_6 : ∀ i : grid0.Coords, cc0_transform_6 i 0 = (i 0).val := by decide +kernel
theorem i0_7 : ∀ i : grid0.Coords, cc0_transform_7 i 0 = (i 0).val := by decide +kernel

theorem r0_lt (t : Fin cfg0.N) (p : Fin 512) : t.val * 512 + p.val < 16384 := by
  have := lt32 t
  omega

/-- Row `p` of point `t`'s block. -/
abbrev row0 (t : Fin cfg0.N) (p : Fin 512) : Fin 16384 := ⟨t.val * 512 + p.val, r0_lt t p⟩

theorem blk_lt (r : Fin 16384) : r.val / 512 < cfg0.N := by
  show r.val / 512 < 32
  omega

/-- The point whose block holds row `r`. -/
def blkOf (r : Fin 16384) : Fin cfg0.N := ⟨r.val / 512, blk_lt r⟩

/-- Row `r`'s place in its block. -/
def offOf (r : Fin 16384) : Fin 512 := ⟨r.val % 512, Nat.mod_lt _ (by decide)⟩

theorem row_of (r : Fin 16384) : row0 (blkOf r) (offOf r) = r := Fin.ext (by show r.val / 512 * 512 + r.val % 512 = r.val; omega)
theorem blk_row (t : Fin cfg0.N) (p : Fin 512) : blkOf (row0 t p) = t := Fin.ext (by show (t.val * 512 + p.val) / 512 = t.val; omega)
theorem off_row (t : Fin cfg0.N) (p : Fin 512) : offOf (row0 t p) = p := Fin.ext (by show (t.val * 512 + p.val) % 512 = p.val; omega)

/-- The scattered router: its eight columns stand in the first eight lanes. -/
theorem scatter_at (x0 : S1024x128.Idx → EReal) (idx : S1.Idx → BitVec 32) (u : S1024x8.Idx → EReal) (hidx : ∀ i, idx i = 0#32) (d : Fin 1024) (e : Fin 8) :
    Host.scatter scatter_S1024x128_S1_S1024x8_01_n_1_0 (fun _ b => b) x0 idx u (ix2 d (⟨e.val, by omega⟩ : Fin 128)) = u (ix2 d e) := by
  have hs0 : ∀ k : S1024x8.Idx, scatter_S1024x128_S1_S1024x8_01_n_1_0.start k idx 0 = 0 := fun k => by
    unfold ScatterDims.start
    rw [dif_neg (by decide)]
  have hs1 : ∀ k : S1024x8.Idx, scatter_S1024x128_S1_S1024x8_01_n_1_0.start k idx 1 = 0 := fun k => by
    unfold ScatterDims.start
    rw [dif_pos (by decide), hidx]; rfl
  have hw0 : ∀ k : S1024x8.Idx, scatter_S1024x128_S1_S1024x8_01_n_1_0.window k 0 = (k 0).val := fun k => by
    unfold ScatterDims.window
    rw [dif_pos (by decide)]; rfl
  have hw1 : ∀ k : S1024x8.Idx, scatter_S1024x128_S1_S1024x8_01_n_1_0.window k 1 = (k 1).val := fun k => by
    unfold ScatterDims.window
    rw [dif_pos (by decide)]; rfl
  have lands : ∀ k : S1024x8.Idx, scatter_S1024x128_S1_S1024x8_01_n_1_0.resultIdx? k idx = some (ix2 d (⟨e.val, by omega⟩ : Fin 128)) ↔ (k 0).val = d.val ∧ (k 1).val = e.val := fun k => by
    refine (Routing.resultIdx?_ix2 scatter_S1024x128_S1_S1024x8_01_n_1_0 k idx d (⟨e.val, by omega⟩ : Fin 128)).trans ?_
    rw [hs0, hs1, hw0, hw1]
    show (0 : ℤ) + ((k 0).val : ℤ) = (d.val : ℤ) ∧ (0 : ℤ) + ((k 1).val : ℤ) = (e.val : ℤ) ↔ _
    omega
  refine Routing.scatter_set_hit scatter_S1024x128_S1_S1024x8_01_n_1_0 x0 idx u _ (u (ix2 d e)) (fun k hk => ?_) (ix2 d e) ((lands _).2 ⟨rfl, rfl⟩)
  have h := (lands k).1 hk
  refine congrArg u (funext fun b => ?_)
  fin_cases b
  · exact Fin.ext h.1
  · exact Fin.ext h.2

section Entry
variable (m : (ℓ : Loc nD τ sig) → Buf (Elt Ideal) ℓ) (ρ : Dev nD → PrngReg) (c : Dev nD)

abbrev mK : Tok := m ((c.tc : Thread nD τ).loc main_arg0)
abbrev xK : Tok := m ((c.tc : Thread nD τ).loc main_arg1)
abbrev oK : Proj := m ((c.tc : Thread nD τ).loc main_arg2)
abbrev nK : Nrm := m ((c.tc : Thread nD τ).loc main_arg3)
abbrev tK : Rout := m ((c.tc : Thread nD τ).loc main_arg4)

theorem blk0_0 (t : Fin cfg0.N) (p : Fin 512) (d : Fin 1024) : (iblk m c 0 t : S512x1024.Idx → EReal) (ix2 p d) = (V m c main_arg0 : S16384x1024.Idx → EReal) (ix2 (row0 t p) d) := by
  refine congrArg (V m c main_arg0) (funext fun b => Fin.ext ?_)
  fin_cases b
  · show cc0_transform_0 (grid0.coords t) 0 * 512 + 1 * p.val = t.val * 512 + p.val
    rw [i0_0, g0_0]; omega
  · show 0 * 1024 + 1 * d.val = d.val
    omega

theorem blk0_1 (t : Fin cfg0.N) (p : Fin 512) (d : Fin 1024) : (iblk m c 1 t : S512x1024.Idx → EReal) (ix2 p d) = (V m c main_arg1 : S16384x1024.Idx → EReal) (ix2 (row0 t p) d) := by
  refine congrArg (V m c main_arg1) (funext fun b => Fin.ext ?_)
  fin_cases b
  · show cc0_transform_1 (grid0.coords t) 0 * 512 + 1 * p.val = t.val * 512 + p.val
    rw [i0_1, g0_0]; omega
  · show 0 * 1024 + 1 * d.val = d.val
    omega

theorem blk0_2 (t : Fin cfg0.N) : (iblk m c 2 t : S1024x1024.Idx → EReal) = V m c main_v5 := by
  funext y
  refine congrArg (V m c main_v5) (funext fun b => Fin.ext ?_)
  fin_cases b
  · show 0 * 1024 + 1 * (y 0).val = (y 0).val
    omega
  · show 0 * 1024 + 1 * (y 1).val = (y 1).val
    omega

theorem blk0_3 (t : Fin cfg0.N) : (iblk m c 3 t : S1x1024.Idx → EReal) = V m c main_v7 := by
  funext y
  refine congrArg (V m c main_v7) (funext fun b => Fin.ext ?_)
  fin_cases b
  · show 0 * 1 + 1 * (y 0).val = (y 0).val
    omega
  · show 0 * 1024 + 1 * (y 1).val = (y 1).val
    omega

theorem blk0_4 (t : Fin cfg0.N) : (iblk m c 4 t : S1024x128.Idx → EReal) = V m c main_v3 := by
  funext y
  refine congrArg (V m c main_v3) (funext fun b => Fin.ext ?_)
  fin_cases b
  · show 0 * 1024 + 1 * (y 0).val = (y 0).val
    omega
  · show 0 * 128 + 1 * (y 1).val = (y 1).val
    omega

theorem emb0_5 (t : Fin cfg0.N) (p : Fin 512) (d : Fin 1024) : (((cfg0.win (5 : Fin 9)).blk t).view.emb (ix2 p d : S512x1024.Idx) : S16384x1024.Idx) = ix2 (row0 t p) d := by
  funext b
  apply Fin.ext
  fin_cases b
  · show cc0_transform_5 (grid0.coords t) 0 * 512 + 1 * p.val = t.val * 512 + p.val
    rw [i0_5, g0_0]; omega
  · show 0 * 1024 + 1 * d.val = d.val
    omega

/-- An array whose blocks are the rows of `G` is `G`. -/
theorem arr0_5_of (G : S16384x1024.Idx → EReal) (hG : ∀ (t : Fin cfg0.N) (p : Fin 512) (d : Fin 1024), ((dats m 0 c).after (5 : Fin 9) t : S512x1024.Idx → EReal) (ix2 p d) = G (ix2 (row0 t p) d)) :
    (dats m 0 c).arrAt (5 : Fin 9) cfg0.N = G := by
  refine Pipeline.Dat.arrAt_eq_of_cover (dats m 0 c) (5 : Fin 9) G (fun t hf => ?_) (fun i => ?_)
  · funext y
    have hy : ∃ (p : Fin 512) (d : Fin 1024), y = (ix2 p d : S512x1024.Idx) := ⟨y 0, y 1, by funext b; fin_cases b <;> rfl⟩
    obtain ⟨p, d, rfl⟩ := hy
    exact (hG t p d).trans (congrArg G (emb0_5 t p d)).symm
  · have hi : ∃ (r : Fin 16384) (d : Fin 1024), i = (ix2 r d : S16384x1024.Idx) := ⟨i 0, i 1, by funext b; fin_cases b <;> rfl⟩
    obtain ⟨r, d, rfl⟩ := hi
    refine ⟨blkOf r, flush0_5 _, ?_⟩
    have h := ((cfg0.win (5 : Fin 9)).blk (blkOf r)).view.emb_mem_set (ix2 (offOf r) d : S512x1024.Idx)
    rw [emb0_5, row_of] at h
    exact h

theorem emb0_6 (t : Fin cfg0.N) (p : Fin 512) (d : Fin 1024) : (((cfg0.win (6 : Fin 9)).blk t).view.emb (ix2 p d : S512x1024.Idx) : S16384x1024.Idx) = ix2 (row0 t p) d := by
  funext b
  apply Fin.ext
  fin_cases b
  · show cc0_transform_6 (grid0.coords t) 0 * 512 + 1 * p.val = t.val * 512 + p.val
    rw [i0_6, g0_0]; omega
  · show 0 * 1024 + 1 * d.val = d.val
    omega

/-- An array whose blocks are the rows of `G` is `G`. -/
theorem arr0_6_of (G : S16384x1024.Idx → EReal) (hG : ∀ (t : Fin cfg0.N) (p : Fin 512) (d : Fin 1024), ((dats m 0 c).after (6 : Fin 9) t : S512x1024.Idx → EReal) (ix2 p d) = G (ix2 (row0 t p) d)) :
    (dats m 0 c).arrAt (6 : Fin 9) cfg0.N = G := by
  refine Pipeline.Dat.arrAt_eq_of_cover (dats m 0 c) (6 : Fin 9) G (fun t hf => ?_) (fun i => ?_)
  · funext y
    have hy : ∃ (p : Fin 512) (d : Fin 1024), y = (ix2 p d : S512x1024.Idx) := ⟨y 0, y 1, by funext b; fin_cases b <;> rfl⟩
    obtain ⟨p, d, rfl⟩ := hy
    exact (hG t p d).trans (congrArg G (emb0_6 t p d)).symm
  · have hi : ∃ (r : Fin 16384) (d : Fin 1024), i = (ix2 r d : S16384x1024.Idx) := ⟨i 0, i 1, by funext b; fin_cases b <;> rfl⟩
    obtain ⟨r, d, rfl⟩ := hi
    refine ⟨blkOf r, flush0_6 _, ?_⟩
    have h := ((cfg0.win (6 : Fin 9)).blk (blkOf r)).view.emb_mem_set (ix2 (offOf r) d : S512x1024.Idx)
    rw [emb0_6, row_of] at h
    exact h

theorem emb0_7 (t : Fin cfg0.N) (p : Fin 512) (d : Fin 128) : (((cfg0.win (7 : Fin 9)).blk t).view.emb (ix2 p d : S512x128.Idx) : S16384x128.Idx) = ix2 (row0 t p) d := by
  funext b
  apply Fin.ext
  fin_cases b
  · show cc0_transform_7 (grid0.coords t) 0 * 512 + 1 * p.val = t.val * 512 + p.val
    rw [i0_7, g0_0]; omega
  · show 0 * 128 + 1 * d.val = d.val
    omega

/-- An array whose blocks are the rows of `G` is `G`. -/
theorem arr0_7_of (G : S16384x128.Idx → EReal) (hG : ∀ (t : Fin cfg0.N) (p : Fin 512) (d : Fin 128), ((dats m 0 c).after (7 : Fin 9) t : S512x128.Idx → EReal) (ix2 p d) = G (ix2 (row0 t p) d)) :
    (dats m 0 c).arrAt (7 : Fin 9) cfg0.N = G := by
  refine Pipeline.Dat.arrAt_eq_of_cover (dats m 0 c) (7 : Fin 9) G (fun t hf => ?_) (fun i => ?_)
  · funext y
    have hy : ∃ (p : Fin 512) (d : Fin 128), y = (ix2 p d : S512x128.Idx) := ⟨y 0, y 1, by funext b; fin_cases b <;> rfl⟩
    obtain ⟨p, d, rfl⟩ := hy
    exact (hG t p d).trans (congrArg G (emb0_7 t p d)).symm
  · have hi : ∃ (r : Fin 16384) (d : Fin 128), i = (ix2 r d : S16384x128.Idx) := ⟨i 0, i 1, by funext b; fin_cases b <;> rfl⟩
    obtain ⟨r, d, rfl⟩ := hi
    refine ⟨blkOf r, flush0_7 _, ?_⟩
    have h := ((cfg0.win (7 : Fin 9)).blk (blkOf r)).view.emb_mem_set (ix2 (offOf r) d : S512x128.Idx)
    rw [emb0_7, row_of] at h
    exact h

/-! ## The host's arrays at entry -/

theorem entry_v5 : (V m c main_v5 : S1024x1024.Idx → EReal) = (truncf .bf16 (shapeCast S1024x1024 (oK m c : FVec Ideal S1x1024x1024 .f32) shapeCasts_S1x1024x1024_S1024x1024) bitsLt_bf16_f32 : FVec Ideal S1024x1024 .bf16) := by
  simp only [V, V0, hostOps0, List.flatten_cons, List.flatten_nil, List.append_nil, TRef.binary, TRef.nullary, TRef.unary, TRef.ternary, TRef.toBuf, TRef.ofBuf, cast_eq]
  after_reads_simp
  rfl

theorem entry_v7 : (V m c main_v7 : S1x1024.Idx → EReal) = broadcastInDim S1x1024 ![1] bcast_S1024_S1x1024_1 (shapeCast S1024 (nK m c) shapeCasts_S1x1024_S1024) := by
  simp only [V, V0, hostOps0, List.flatten_cons, List.flatten_nil, List.append_nil, TRef.binary, TRef.nullary, TRef.unary, TRef.ternary, TRef.toBuf, TRef.ofBuf, cast_eq]
  after_reads_simp
  rfl

theorem entry_v3 : (V m c main_v3 : S1024x128.Idx → EReal) = Host.scatter scatter_S1024x128_S1_S1024x8_01_n_1_0 (fun _ b => b)
    (broadcastInDim S1024x128 ![] bcast_S_S1024x128 (constant (F := Ideal) S_ .f32 0x00000000#32)) (broadcastInDim S1 ![] bcast_S_S1 (constantI S_ 32 0#32))
    (shapeCast S1024x8 (tK m c) shapeCasts_S1x1024x8_S1024x8) := by
  simp only [V, V0, hostOps0, List.flatten_cons, List.flatten_nil, List.append_nil, TRef.binary, TRef.nullary, TRef.unary, TRef.ternary, TRef.toBuf, TRef.ofBuf, cast_eq]
  after_reads_simp
  rfl

theorem v5_at (k d : Fin 1024) : (V m c main_v5 : S1024x1024.Idx → EReal) (ix2 k d) = oK m c (ix3 0 k d) := by
  rw [entry_v5]
  generalize oK m c = u
  pointwise

theorem v7_at (d : Fin 1024) : (V m c main_v7 : S1x1024.Idx → EReal) (ix2 0 d) = nK m c (ix2 0 d) := by
  rw [entry_v7]
  generalize nK m c = u
  pointwise

theorem v3_at (d : Fin 1024) (e : Fin 8) : (V m c main_v3 : S1024x128.Idx → EReal) (ix2 d (⟨e.val, by omega⟩ : Fin 128)) = tK m c (ix3 0 d e) := by
  rw [entry_v3]
  refine (scatter_at _ _ _ (fun i => rfl) d e).trans ?_
  generalize tK m c = u
  pointwise

theorem mixRow (t : Fin cfg0.N) (p : Fin 512) : (fun k => (iblk m c 0 t : S512x1024.Idx → EReal) (ix2 p k)) = tokRow (mK m c) (row0 t p) :=
  funext fun k => (blk0_0 m c t p k).trans (congrFun (V_main_arg0 m c) _)

theorem resRow (t : Fin cfg0.N) (p : Fin 512) : (fun k => (iblk m c 1 t : S512x1024.Idx → EReal) (ix2 p k)) = tokRow (xK m c) (row0 t p) :=
  funext fun k => (blk0_1 m c t p k).trans (congrFun (V_main_arg1 m c) _)

theorem hw (t : Fin cfg0.N) (k d : Fin 1024) : (iblk m c 2 t : S1024x1024.Idx → EReal) (ix2 k d) = oK m c (ix3 0 k d) :=
  (congrFun (blk0_2 m c t) _).trans (v5_at m c k d)

theorem hn' (t : Fin cfg0.N) (d : Fin 1024) : (iblk m c 3 t : S1x1024.Idx → EReal) (ix2 0 d) = nK m c (ix2 0 d) :=
  (congrFun (blk0_3 m c t) _).trans (v7_at m c d)

theorem hr (t : Fin cfg0.N) (d : Fin 1024) (e : Fin 8) : (iblk m c 4 t : S1024x128.Idx → EReal) (ix2 d (⟨e.val, by omega⟩ : Fin 128)) = tK m c (ix3 0 d e) :=
  (congrFun (blk0_4 m c t) _).trans (v3_at m c d e)

/-! ## What a point leaves -/

theorem pt_5 (t : Fin cfg0.N) : (outsAt0 m c t.val t.isLt).1 = k0_pay3 (F := Ideal) (iblk m c 1 t) (iblk m c 0 t) (iblk m c 2 t) := by
  by_cases h0 : t.val % 32 = 0
  · rw [outsAt0_A m c t h0]
    dsimp only
    rw [out0_A_5_eq]
  · rw [outsAt0_B m c t h0]
    dsimp only
    rw [out0_B_5_eq]

theorem out_5 (t : Fin cfg0.N) : (dats m 0 c).after (5 : Fin 9) t = k0_pay3 (F := Ideal) (iblk m c 1 t) (iblk m c 0 t) (iblk m c 2 t) := (after0_5 m c t).trans (pt_5 m c t)

theorem pt_6 (t : Fin cfg0.N) : (outsAt0 m c t.val t.isLt).2.1 = k0_pay4 (F := Ideal) (iblk m c 1 t) (iblk m c 0 t) (iblk m c 2 t) (iblk m c 3 t) := by
  by_cases h0 : t.val % 32 = 0
  · rw [outsAt0_A m c t h0]
    dsimp only
    rw [out0_A_6_eq]
  · rw [outsAt0_B m c t h0]
    dsimp only
    rw [out0_B_6_eq]

theorem out_6 (t : Fin cfg0.N) : (dats m 0 c).after (6 : Fin 9) t = k0_pay4 (F := Ideal) (iblk m c 1 t) (iblk m c 0 t) (iblk m c 2 t) (iblk m c 3 t) := (after0_6 m c t).trans (pt_6 m c t)

theorem pt_7 (t : Fin cfg0.N) : ∃ v95 v99 : FVec Ideal S512x1 .f32, (outsAt0 m c t.val t.isLt).2.2.1 = k0_pay1 (F := Ideal) lane (k0_pay12 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay15 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay17 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay18 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) v95 v99 (k0_pay26 (F := Ideal) (k0_pay17 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay18 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay19 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t))) (k0_pay20 (F := Ideal) lane (k0_pay5 (F := Ideal) (iblk m c 1 t) (iblk m c 0 t) (iblk m c 2 t) (iblk m c 3 t)) (k0_pay6 (F := Ideal) (iblk m c 1 t) (iblk m c 0 t) (iblk m c 2 t) (iblk m c 3 t)) (k0_pay8 (F := Ideal) (iblk m c 4 t)) (k0_pay9 (F := Ideal) (iblk m c 4 t)))) (k0_pay27 lane) := by
  by_cases h0 : t.val % 32 = 0
  · rw [outsAt0_A m c t h0]
    dsimp only
    have h := out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t)
    exact h
  · rw [outsAt0_B m c t h0]
    dsimp only
    have h := out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2
    exact h

theorem left_5 (t : Fin cfg0.N) (p : Fin 512) (d : Fin 1024) : ((dats m 0 c).after (5 : Fin 9) t : S512x1024.Idx → EReal) (ix2 p d) = sumRow (tokRow (mK m c) (row0 t p)) (tokRow (xK m c) (row0 t p)) (oK m c) d := by
  refine (congrFun (out_5 m c t) (ix2 p d)).trans ((proj_at _ _ _ (oK m c) (hw m c t) p d).trans ?_)
  rw [mixRow, resRow]

theorem left_6 (t : Fin cfg0.N) (p : Fin 512) (d : Fin 1024) : ((dats m 0 c).after (6 : Fin 9) t : S512x1024.Idx → EReal) (ix2 p d) = hidRow (tokRow (mK m c) (row0 t p)) (tokRow (xK m c) (row0 t p)) (oK m c) (nK m c) d := by
  refine (congrFun (out_6 m c t) (ix2 p d)).trans ((norm_at _ _ _ _ (oK m c) (nK m c) (hw m c t) (hn' m c t) p d).trans ?_)
  rw [mixRow, resRow]

/-- The logits of the token in row `p` of point `t`'s block. -/
abbrev lgK (r : Fin 16384) : Fin 8 → EReal := lg (hidRow (tokRow (mK m c) r) (tokRow (xK m c) r) (oK m c) (nK m c)) (tK m c)

theorem left_7 (hf : AllReal (nK m c) (tK m c)) (t : Fin cfg0.N) (p : Fin 512) (e : Fin 8) :
    ((dats m 0 c).after (7 : Fin 9) t : S512x128.Idx → EReal) (ix2 p (⟨e.val, by omega⟩ : Fin 128)) = gate (lgK m c (row0 t p)) (pick (lgK m c (row0 t p)) 0) (pick (lgK m c (row0 t p)) 1) e := by
  obtain ⟨u, v, h⟩ := pt_7 m c t
  refine (congrFun ((after0_7 m c t).trans h) _).trans ((table_at _ _ _ _ _ _ _ p e).trans ?_)
  refine weights_at _ _ _ _ p _ (fun k => ?_) (lg_real hf.nf hf.rt) (pick_top _) e
  have hm := mixRow m c t p
  have hx := resRow m c t p
  refine logits_at _ _ _ _ p (tK m c) _ (fun d => ?_) (fun d => ?_) (fun d e => (rhi_at _ d _).trans (hr m c t d e)) (fun d e => rlo_at _ d _ (by rw [hr m c t d e]; exact hf.rt _)) k
  · exact (hi_at _ _ _ _ (oK m c) (nK m c) (hw m c t) (hn' m c t) p d).trans (by rw [hm, hx])
  · exact lo_at _ _ _ _ (oK m c) (nK m c) (hw m c t) (hn' m c t) p d (hid_real hf.nf d)

/-! ## The arrays -/

/-- The residual sum. -/
abbrev sumK : Tok := tX (F := Ideal) (mK m c) (xK m c) (oK m c)

/-- The experts' input. -/
abbrev hidK : Tok := tH (F := Ideal) (sumK m c) (nK m c)

theorem hid_at (p : Fin 16384) (d : Fin 1024) : hidK m c (ix2 p d) = hidRow (tokRow (mK m c) p) (tokRow (xK m c) p) (oK m c) (nK m c) d := by
  refine (tH_at _ _ p d).trans ?_
  unfold hidRow
  simp only [tX_at]

theorem arr_5 : (dats m 0 c).arrAt (5 : Fin 9) cfg0.N = sumK m c :=
  arr0_5_of m c _ fun t p d => (left_5 m c t p d).trans (tX_at _ _ _ _ d).symm

theorem arr_6 : (dats m 0 c).arrAt (6 : Fin 9) cfg0.N = hidK m c :=
  arr0_6_of m c _ fun t p d => (left_6 m c t p d).trans (hid_at m c _ d).symm

/-- The router's table, block by block. -/
def tabK : S16384x128.Idx → EReal := fun i => ((dats m 0 c).after (7 : Fin 9) (blkOf (i 0)) : S512x128.Idx → EReal) (ix2 (offOf (i 0)) (i 1 : Fin 128))

theorem arr_7 : (dats m 0 c).arrAt (7 : Fin 9) cfg0.N = tabK m c :=
  arr0_7_of m c _ fun t p d => by
    show _ = ((dats m 0 c).after (7 : Fin 9) (blkOf (row0 t p)) : S512x128.Idx → EReal) (ix2 (offOf (row0 t p)) d)
    rw [blk_row, off_row]

/-- The experts' weights. -/
abbrev weightK : S16384x8.Idx → EReal := extractStridedSlice S16384x8 ![0, 0] (tabK m c) slices_S16384x128_S16384x8_0_0

theorem weight_at (hf : AllReal (nK m c) (tK m c)) (p : Fin 16384) (e : Fin 8) : weightK m c (ix2 p e) = gate (lgK m c p) (pick (lgK m c p) 0) (pick (lgK m c p) 1) e := by
  have h := left_7 m c hf (blkOf p) (offOf p) e
  rw [row_of] at h
  refine Eq.trans ?_ h
  refine (Cert.Projected.cut_at 0 (tabK m c) slices_S16384x128_S16384x8_0_0 p e (by omega)).trans ?_
  show tabK m c (ix2 p (⟨0 + e.val, by omega⟩ : Fin 128)) = tabK m c (ix2 p (⟨e.val, by omega⟩ : Fin 128))
  exact congrArg (fun q : Fin 128 => tabK m c (ix2 p q)) (Fin.ext (Nat.zero_add _))

/-- The reference's weights are the kernel's. -/
theorem weight_eq (hf : AllReal (nK m c) (tK m c)) :
    tG (F := Ideal) (tL (F := Ideal) (hidK m c) (tK m c)) (tE (F := Ideal) (tV (F := Ideal) (tL (F := Ideal) (hidK m c) (tK m c)))) = weightK m c := by
  funext i
  have hi : ∃ (p : Fin 16384) (e : Fin 8), i = (ix2 p e : S16384x8.Idx) := ⟨i 0, i 1, by funext b; fin_cases b <;> rfl⟩
  obtain ⟨p, e, rfl⟩ := hi
  have hl : (fun k : Fin 8 => tL (F := Ideal) (hidK m c) (tK m c) (ix2 p k)) = lgK m c p := funext fun k =>
    (tL_at _ _ p k).trans (congrArg (fun h : Fin 1024 → EReal => lg h (tK m c) k) (funext fun d => hid_at m c p d))
  rw [weight_at m c hf p e]
  refine (tG_at _ p e (fun k => ?_)).trans ?_
  · rw [show tL (F := Ideal) (hidK m c) (tK m c) (ix2 p k) = lgK m c p k from congrFun hl k]
    exact lg_real hf.nf hf.rt k
  · rw [hl]

/-! ## The results -/

theorem read_9 (X : Valuation τ sig (Elt Ideal)) : StableHlo.after (List.flatten [hostOps1]) X (Proc.devRef .tc main_v9) =
    extractStridedSlice S16384x8 ![0, 0] (X (Proc.devRef .tc main_v8_2) : S16384x128.Idx → EReal) slices_S16384x128_S16384x8_0_0 := by
  simp only [hostOps1, List.flatten_cons, List.flatten_nil, List.append_nil, TRef.binary, TRef.nullary, TRef.unary, TRef.ternary, TRef.toBuf, TRef.ofBuf, cast_eq]
  after_reads_simp

theorem tail_9 : Pipeline.afterTail₀ cfgs (dats m) 0 (V0 m) [hostOps1] c main_v9 = weightK m c := by
  unfold Pipeline.afterTail₀
  refine (read_9 _).trans (congrArg (fun u : S16384x128.Idx → EReal => extractStridedSlice S16384x8 ![0, 0] u slices_S16384x128_S16384x8_0_0) ?_)
  exact (Pipeline.withArrays_arr spec0 launch0.win.arr_inj c _ _ (7 : Fin 9)).trans (arr_7 m c)

theorem run : θ_run defs (onTc (τ := τ) (main (F := Ideal))) ⟨m, fun _ => 0, ρ⟩ (fun r => ∀ c : Dev nD,
      r.2.mem ((c.tc : Thread nD τ).loc main_v8_0) = sumK m c
      ∧ r.2.mem ((c.tc : Thread nD τ).loc main_v8_1) = hidK m c
      ∧ r.2.mem ((c.tc : Thread nD τ).loc main_v9) = weightK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (arr_5 m c),
     ((h c).1 6).trans (arr_6 m c),
     ((h c).2 main_v9 (Pipeline.mem_restRefs_of main_v9 (by decide) (by decide))).trans (tail_9 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m ρ)

end Entry

/-! ## The finite weights -/

section Finite
variable (a0 a1 : Tok) (a2 : Proj) (a3 : Nrm) (a4 : Rout)

theorem all_real (h : (Cert.Pre_finite_router.fn (F := Ideal) a0 a1 a2 a3 a4).1 = fun _ => 1#1) (h' : (Cert.Pre_finite_router.fn (F := Ideal) a0 a1 a2 a3 a4).2 = fun _ => 1#1) : AllReal a3 a4 :=
  ⟨fun i => real_of_lt (congrFun h i), fun i => real_of_lt (congrFun h' i)⟩

end Finite

end Cert.Kernel8Ideal.Choose

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_counts_and_padding
public import proofs.«01_k».proof.Proof.Gen.ReferenceIdeal.Run
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite
public import proofs.«01_k».proof.Proof.BitsAdmit
public import proofs.«01_k».proof.Proof.Value
public import proofs.«01_k».proof.Proof.MoeValue
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.DenseValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.EnterRun
public import proofs.«01_k».proof.Proof.EnterValue
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.CarryValue
public import proofs.«01_k».proof.Proof.OpenValue
public import proofs.«01_k».proof.Proof.ProjValue
public import proofs.«01_k».proof.Proof.ChooseValue
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite_router

@[expose] public section

set_option maxRecDepth 16384

noncomputable section

namespace Cert.Proof

open Idealize.ShloMosaic Idealize.ShloMosaic.TcCoe Idealize.ShloMosaic.HloOp Idealize.ShloMosaic.StableHlo Idealize.SL.Sem
open Cert.KernelIdeal.Run (InRange cts run_args range_of_pre range_of_pre_padding kernelOut kernel_final reference_final)

instance facts_in_range : Cert.Pre_counts_in_range.Facts := ⟨by decide⟩

theorem frame_kernel : Cert.quiescent_Kernel := fun m g hp =>
  (θ_run Cert.Kernel.defs _ _).mono (fun _ h => ⟨fun c => (h.1 c).2, h.2⟩)
    (Cert.Kernel.Run.run_args (F := Bits) m (Cert.Kernel.Run.range_of_pre _ _ _ _ _ (hp 0)) g)

theorem frame_kernel_ideal : Cert.quiescent_KernelIdeal := fun m g hp =>
  (θ_run Cert.KernelIdeal.defs _ _).mono (fun _ h => ⟨fun c => (h.1 c).2, h.2⟩)
    (run_args (F := Ideal) m (range_of_pre _ _ _ _ _ (hp 0)) g)

theorem frame_kernel_padding : Cert.quiescent_KernelIdeal_pre_counts_and_padding := fun m g hp =>
  (θ_run Cert.KernelIdeal.defs _ _).mono (fun _ h => ⟨fun c => (h.1 c).2, h.2⟩)
    (run_args (F := Ideal) m (range_of_pre_padding _ _ _ _ _ (hp 0).1) g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_padding : Cert.quiescent_ReferenceIdeal_pre_counts_and_padding := fun m g _ =>
  frame_reference m g trivial

theorem value : Cert.algebraic_KernelIdeal_ReferenceIdeal_pre_counts_and_padding := by
  intro m g m' g' hp hagree
  have hr : InRange (cts m) := range_of_pre_padding _ _ _ _ _ (hp 0).1
  refine ⟨fun c => kernelOut (cts m) (m (c, Proc.devRef .tc Cert.KernelIdeal.main_arg1)) (m (c, Proc.devRef .tc Cert.KernelIdeal.main_arg2))
    (m (c, Proc.devRef .tc Cert.KernelIdeal.main_arg3)) (m (c, Proc.devRef .tc Cert.KernelIdeal.main_arg4)), ?_, ?_⟩
  · exact (θ_run Cert.KernelIdeal.defs _ _).mono (fun _ h c => ⟨(h.1 c).1.trans (kernel_final m hr c), (h.1 c).2⟩)
      (run_args (F := Ideal) m hr g)
  · refine (θ_run Cert.ReferenceIdeal.defs _ _).mono (fun r h c => ⟨(h c).1.trans ?_, (h c).2⟩) (Cert.ReferenceIdeal.Value.run (F := Ideal) m' g')
    obtain rfl : c = 0 := Subsingleton.elim _ _
    obtain ⟨a0, a1, a2, a3, a4⟩ := hagree 0
    refine (Cert.ReferenceIdeal.Value.val3_main_v150 (launchContents m' 0)).symm.trans ?_
    have e0 : Cert.ReferenceIdeal.Value.cR (launchContents m' 0) = cts m := a0
    have e1 : Cert.ReferenceIdeal.Value.xR (launchContents m' 0) = m (0, Proc.devRef .tc Cert.KernelIdeal.main_arg1) := a1
    have e2 : Cert.ReferenceIdeal.Value.gR (launchContents m' 0) = m (0, Proc.devRef .tc Cert.KernelIdeal.main_arg2) := a2
    have e3 : Cert.ReferenceIdeal.Value.uR (launchContents m' 0) = m (0, Proc.devRef .tc Cert.KernelIdeal.main_arg3) := a3
    have e4 : Cert.ReferenceIdeal.Value.dR (launchContents m' 0) = m (0, Proc.devRef .tc Cert.KernelIdeal.main_arg4) := a4
    refine (reference_final (launchContents m' 0) (by rw [e0]; exact hr) (by rw [e0, e1, e2, e3, e4]; exact (hp 0).2)).trans ?_
    rw [e0, e1, e2, e3, e4]

/-! ## The whole routed layer -/

theorem frame_kernel2 : Cert.quiescent_Kernel2 := fun m g _ => Cert.Kernel2.Gen.frame m g

theorem frame_kernel2_ideal : Cert.quiescent_Kernel2Ideal := fun m g _ => Cert.Kernel2Ideal.Gen.frame m g

theorem frame_kernel2_finite : Cert.quiescent_Kernel2Ideal_pre_finite := fun m g _ => Cert.Kernel2Ideal.Gen.frame m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem frame_reference2_finite : Cert.quiescent_Reference2Ideal_pre_finite := fun m g _ => frame_reference2 m g trivial

theorem mask : Cert.preserves_Kernel2_Kernel2Ideal := IdealRules.named_const.statement Cert.Kernel2Ideal.κ "mask" .f32 0xF149F2CA#32 ⊥ rfl

open Cert.Kernel2Ideal.Moe (AllReal routedOut mK xK oK nK tK gK uK dK fK real_norm real_router)

theorem value2 : Cert.algebraic_Kernel2Ideal_Reference2Ideal_pre_finite := by
  intro m g m' g' hp hagree
  have hf : ∀ c, AllReal (nK m c) (tK m c) := fun c => ⟨real_norm _ _ _ _ _ _ _ _ _ (hp c).1, real_router _ _ _ _ _ _ _ _ _ (hp c).2⟩
  refine ⟨fun c => routedOut (mK m c) (xK m c) (oK m c) (nK m c) (tK m c) (gK m c) (uK m c) (dK m c) (fK m c), ?_, ?_⟩
  · exact (θ_run Cert.Kernel2Ideal.defs _ _).mono (fun _ h c => ⟨(h.1 c).1.trans (Cert.Kernel2Ideal.Moe.kernel_final m g c (hf c)), (h.1 c).2⟩)
      (Cert.Kernel2Ideal.Moe.run (F := Ideal) m g)
  · refine (θ_run Cert.Reference2Ideal.defs _ _).mono (fun r h c => ⟨(h c).1.trans ?_, (h c).2⟩) (Cert.Reference2Ideal.Value.run (F := Ideal) m' g')
    obtain ⟨a0, a1, a2, a3, a4, a5, a6, a7, a8⟩ := hagree c
    refine (Cert.Reference2Ideal.Value.val4_main_v173 (launchContents m' c)).symm.trans ?_
    have e0 : Cert.Reference2Ideal.Value.mR (launchContents m' c) = mK m c := a0
    have e1 : Cert.Reference2Ideal.Value.xR (launchContents m' c) = xK m c := a1
    have e2 : Cert.Reference2Ideal.Value.oR (launchContents m' c) = oK m c := a2
    have e3 : Cert.Reference2Ideal.Value.nR (launchContents m' c) = nK m c := a3
    have e4 : Cert.Reference2Ideal.Value.tR (launchContents m' c) = tK m c := a4
    have e5 : Cert.Reference2Ideal.Value.gR (launchContents m' c) = gK m c := a5
    have e6 : Cert.Reference2Ideal.Value.uR (launchContents m' c) = uK m c := a6
    have e7 : Cert.Reference2Ideal.Value.dR (launchContents m' c) = dK m c := a7
    have e8 : Cert.Reference2Ideal.Value.fR (launchContents m' c) = fK m c := a8
    refine (Cert.Kernel2Ideal.Moe.reference_final (launchContents m' c) (by rw [e3, e4]; exact hf c)).trans ?_
    rw [e0, e1, e2, e3, e4, e5, e6, e7, e8]

/-! ## The even layer after its mixers -/

theorem frame_kernel3 : Cert.quiescent_Kernel3 := fun m g _ => Cert.Kernel3.Gen.frame m g

theorem frame_kernel3_ideal : Cert.quiescent_Kernel3Ideal := fun m g _ => Cert.Kernel3Ideal.Gen.frame m g

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem value3 : Cert.algebraic_Kernel3Ideal_Reference3Ideal := by
  intro m g m' g' hp hagree
  refine ⟨fun c => Cert.Dense.dense (Cert.Kernel3Ideal.Dense.aK m c) (Cert.Kernel3Ideal.Dense.bK m c) (Cert.Kernel3Ideal.Dense.xK m c)
    (Cert.Kernel3Ideal.Dense.oK m c) (Cert.Kernel3Ideal.Dense.nK m c) (Cert.Kernel3Ideal.Dense.gK m c) (Cert.Kernel3Ideal.Dense.uK m c)
    (Cert.Kernel3Ideal.Dense.dK m c), ?_, ?_⟩
  · exact (θ_run Cert.Kernel3Ideal.defs _ _).mono (fun _ h c => ⟨(h c).1.trans (Cert.Kernel3Ideal.Dense.G8_dense m c), (h c).2⟩)
      (Cert.Kernel3Ideal.Value.run m g)
  · refine (θ_run Cert.Reference3Ideal.defs _ _).mono (fun r h c => ⟨(h c).1.trans ?_, (h c).2⟩) (Cert.Reference3Ideal.Value.run (F := Ideal) m' g')
    obtain ⟨a0, a1, a2, a3, a4, a5, a6, a7⟩ := hagree c
    refine (Cert.Reference3Ideal.Value.res_dense m' c).trans ?_
    rw [a0, a1, a2, a3, a4, a5, a6, a7]

/-! ## The keys, values and gating rows of the sample group's even layer -/

theorem frame_kernel4 : Cert.quiescent_Kernel4 := fun m g _ => Cert.Kernel4.Gen.frame m g

theorem frame_kernel4_ideal : Cert.quiescent_Kernel4Ideal := fun m g _ => Cert.Kernel4Ideal.Gen.frame m g

theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

theorem value4 : Cert.algebraic_Kernel4Ideal_Reference4Ideal := by
  intro m g m' g' hp hagree
  refine ⟨fun c => Cert.Kernel4Ideal.Gen.W4 m g c (Proc.devRef .tc Cert.Kernel4Ideal.main_v51_1),
    fun c => Cert.Kernel4Ideal.Gen.W4 m g c (Proc.devRef .tc Cert.Kernel4Ideal.main_v51_2), ?_, ?_⟩
  · exact (θ_run Cert.Kernel4Ideal.defs _ _).mono (fun _ h => h.1) (Cert.Kernel4Ideal.Enter.run (F := Ideal) m g)
  · refine (θ_run Cert.Reference4Ideal.defs _ _).mono (fun r h c => ⟨(h c).1.trans ?_, (h c).2.1.trans ?_, (h c).2.2⟩) (Cert.Reference4Ideal.Value.run (F := Ideal) m' g')
    · exact (Cert.Kernel4Ideal.Enter.kv_value m g c m' (hagree c).1 (hagree c).2.1 (hagree c).2.2.1).symm
    · exact (Cert.Kernel4Ideal.Enter.gv_value m g c m' (hagree c).1 (hagree c).2.1 (hagree c).2.2.1 (hagree c).2.2.2.1 (hagree c).2.2.2.2.1).symm

/-! ## The sample group's convolution state -/

theorem frame_kernel5 : Cert.quiescent_Kernel5 := fun m g _ => Cert.Kernel5.Gen.frame m g

theorem frame_kernel5_ideal : Cert.quiescent_Kernel5Ideal := fun m g _ => Cert.Kernel5Ideal.Gen.frame m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

open Cert.Kernel5Ideal.Carry (joined joined_reference) in
theorem value5 : Cert.algebraic_Kernel5Ideal_Reference5Ideal := by
  intro m g m' g' hp hagree
  refine ⟨fun c => joined (Cert.Kernel5Ideal.Carry.bK m c) (Cert.Kernel5Ideal.Gen.k0_pay1 (F := Ideal) (Cert.Kernel5Ideal.Gen.V m c Cert.Kernel5Ideal.main_arg0)
    (Cert.Kernel5Ideal.Gen.V m c Cert.Kernel5Ideal.main_v14) (Cert.Kernel5Ideal.Gen.V m c Cert.Kernel5Ideal.main_v12)), ?_, ?_⟩
  · exact Cert.Kernel5Ideal.Carry.run m g
  · refine (θ_run Cert.Reference5Ideal.defs _ _).mono (fun r h c => ⟨(h c).1.trans ?_, (h c).2⟩) (Cert.Reference5Ideal.Value.run (F := Ideal) m' g')
    obtain ⟨a0, a1, a2, a3⟩ := hagree c
    refine Eq.trans ?_ (joined_reference m c)
    rw [a0, a1, a2, a3]
    rfl

/-! ## The keys, values and gating rows of the prompt's even layer -/

theorem frame_kernel6 : Cert.quiescent_Kernel6 := fun m g _ => Cert.Kernel6.Gen.frame m g

theorem frame_kernel6_ideal : Cert.quiescent_Kernel6Ideal := fun m g _ => Cert.Kernel6Ideal.Gen.frame m g

theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run (F := Ideal) m g)

theorem value6 : Cert.algebraic_Kernel6Ideal_Reference6Ideal := by
  intro m g m' g' hp hagree
  refine ⟨fun c => Cert.Kernel6Ideal.Gen.W5 m g c (Proc.devRef .tc Cert.Kernel6Ideal.main_v47),
    fun c => Cert.Kernel6Ideal.Gen.W5 m g c (Proc.devRef .tc Cert.Kernel6Ideal.main_v45), ?_, ?_⟩
  · exact (θ_run Cert.Kernel6Ideal.defs _ _).mono (fun _ h => h.1) (Cert.Kernel6Ideal.Opens.run (F := Ideal) m g)
  · refine (θ_run Cert.Reference6Ideal.defs _ _).mono (fun r h c => ⟨(h c).1.trans ?_, (h c).2.1.trans ?_, (h c).2.2⟩) (Cert.Reference6Ideal.Value.run (F := Ideal) m' g')
    · exact (Cert.Kernel6Ideal.Opens.kv_value m g c m' (hagree c).1 (hagree c).2.1 (hagree c).2.2.1).symm
    · exact (Cert.Kernel6Ideal.Opens.gv_value m g c m' (hagree c).1 (hagree c).2.1 (hagree c).2.2.1 (hagree c).2.2.2.1 (hagree c).2.2.2.2.1).symm

/-! ## The prompt's input projection of the odd layer -/

theorem frame_kernel7 : Cert.quiescent_Kernel7 := fun m g _ => Cert.Kernel7.Gen.frame m g

theorem frame_kernel7_ideal : Cert.quiescent_Kernel7Ideal := fun m g _ => Cert.Kernel7Ideal.Gen.frame m g

theorem frame_reference7 : Cert.quiescent_Reference7Ideal := fun m g _ =>
  (θ_run Cert.Reference7Ideal.defs _ _).mono (fun r h => ⟨fun c => (h c).2.2.2.2.2.2.2.2.2, sem_eq_zero_of_no_sems (by decide) r.2⟩)
    (Cert.Reference7Ideal.Value.run (F := Ideal) m g)

open Cert.Kernel7Ideal.Proj in
theorem value7 : Cert.algebraic_Kernel7Ideal_Reference7Ideal := by
  intro m g m' g' hp hagree
  refine ⟨fun c => extractStridedSlice Cert.Kernel7Ideal.S16384x256 ![0, 0] (arr m c) Cert.Kernel7Ideal.Facts₀.slices_S16384x3200_S16384x256_0_0,
    fun c => extractStridedSlice Cert.Kernel7Ideal.S16384x256 ![0, 256] (arr m c) Cert.Kernel7Ideal.Facts₀.slices_S16384x3200_S16384x256_0_256,
    fun c => extractStridedSlice Cert.Kernel7Ideal.S16384x512 ![0, 512] (arr m c) Cert.Kernel7Ideal.Facts₀.slices_S16384x3200_S16384x512_0_512,
    fun c => extractStridedSlice Cert.Kernel7Ideal.S16384x16 ![0, 3072] (arr m c) Cert.Kernel7Ideal.Facts₀.slices_S16384x3200_S16384x16_0_3072,
    fun c => extractStridedSlice Cert.Kernel7Ideal.S16384x512 ![0, 1024] (arr m c) Cert.Kernel7Ideal.Facts₀.slices_S16384x3200_S16384x512_0_1024,
    fun c => extractStridedSlice Cert.Kernel7Ideal.S16384x1024 ![0, 1536] (arr m c) Cert.Kernel7Ideal.Facts₀.slices_S16384x3200_S16384x1024_0_1536,
    fun c => extractStridedSlice Cert.Kernel7Ideal.S16384x4 ![0, 3088] (arr m c) Cert.Kernel7Ideal.Facts₀.slices_S16384x3200_S16384x4_0_3088,
    fun c => extractStridedSlice Cert.Kernel7Ideal.S16384x4 ![0, 3092] (arr m c) Cert.Kernel7Ideal.Facts₀.slices_S16384x3200_S16384x4_0_3092,
    fun c => extractStridedSlice Cert.Kernel7Ideal.S16384x512 ![0, 2560] (arr m c) Cert.Kernel7Ideal.Facts₀.slices_S16384x3200_S16384x512_0_2560, ?_, ?_⟩
  · exact Cert.Kernel7Ideal.Proj.run m g
  · refine (θ_run Cert.Reference7Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference7Ideal.Value.run (F := Ideal) m' g')
    · obtain ⟨a0, a1, a2⟩ := hagree c
      refine Eq.trans ?_ (piece_cq m c).symm
      rw [a0, a1, a2]
      rfl
    · obtain ⟨a0, a1, a2⟩ := hagree c
      refine Eq.trans ?_ (piece_ck m c).symm
      rw [a0, a1, a2]
      rfl
    · obtain ⟨a0, a1, a2⟩ := hagree c
      refine Eq.trans ?_ (piece_cv m c).symm
      rw [a0, a1, a2]
      rfl
    · obtain ⟨a0, a1, a2⟩ := hagree c
      refine Eq.trans ?_ (piece_lr m c).symm
      rw [a0, a1, a2]
      rfl
    · obtain ⟨a0, a1, a2⟩ := hagree c
      refine Eq.trans ?_ (piece_cr m c).symm
      rw [a0, a1, a2]
      rfl
    · obtain ⟨a0, a1, a2⟩ := hagree c
      refine Eq.trans ?_ (piece_qkv m c).symm
      rw [a0, a1, a2]
      rfl
    · obtain ⟨a0, a1, a2⟩ := hagree c
      refine Eq.trans ?_ (piece_da m c).symm
      rw [a0, a1, a2]
      rfl
    · obtain ⟨a0, a1, a2⟩ := hagree c
      refine Eq.trans ?_ (piece_db m c).symm
      rw [a0, a1, a2]
      rfl
    · obtain ⟨a0, a1, a2⟩ := hagree c
      refine Eq.trans ?_ (piece_dg m c).symm
      rw [a0, a1, a2]
      rfl

/-! ## The routing of the prompt's tokens -/

theorem frame_kernel8 : Cert.quiescent_Kernel8 := fun m g _ => Cert.Kernel8.Gen.frame m g

theorem frame_kernel8_ideal : Cert.quiescent_Kernel8Ideal := fun m g _ => Cert.Kernel8Ideal.Gen.frame m g

theorem frame_kernel8_finite : Cert.quiescent_Kernel8Ideal_pre_finite_router := fun m g _ => Cert.Kernel8Ideal.Gen.frame m g

theorem frame_reference8 : Cert.quiescent_Reference8Ideal := fun m g _ =>
  (θ_run Cert.Reference8Ideal.defs _ _).mono (fun r h => ⟨fun c => (h c).2.2.2, sem_eq_zero_of_no_sems (by decide) r.2⟩)
    (Cert.Reference8Ideal.Value.run (F := Ideal) m g)

theorem frame_reference8_finite : Cert.quiescent_Reference8Ideal_pre_finite_router := fun m g _ =>
  (θ_run Cert.Reference8Ideal.defs _ _).mono (fun r h => ⟨fun c => (h c).2.2.2, sem_eq_zero_of_no_sems (by decide) r.2⟩)
    (Cert.Reference8Ideal.Value.run (F := Ideal) m g)

theorem mask8 : Cert.preserves_Kernel8_Kernel8Ideal := IdealRules.named_const.statement Cert.Kernel8Ideal.κ "mask" .f32 0xF149F2CA#32 ⊥ rfl

open Cert.Kernel8Ideal.Choose in
theorem value8 : Cert.algebraic_Kernel8Ideal_Reference8Ideal_pre_finite_router := by
  intro m g m' g' hp hagree
  refine ⟨fun c => sumK m c, fun c => hidK m c, fun c => weightK m c, Cert.Kernel8Ideal.Choose.run m g, ?_⟩
  refine (θ_run Cert.Reference8Ideal.defs _ _).mono (fun r h c => ⟨(h c).1.trans ?_, (h c).2.1.trans ?_, (h c).2.2.1.trans ?_, (h c).2.2.2⟩) (Cert.Reference8Ideal.Value.run (F := Ideal) m' g')
  · obtain ⟨a0, a1, a2, a3, a4⟩ := hagree c
    rw [a0, a1, a2]
    rfl
  · obtain ⟨a0, a1, a2, a3, a4⟩ := hagree c
    rw [a0, a1, a2, a3]
    rfl
  · obtain ⟨a0, a1, a2, a3, a4⟩ := hagree c
    rw [Cert.Reference8Ideal.Value.res_eq, a0, a1, a2, a3, a4]
    exact weight_eq m c (all_real _ _ _ _ _ (hp c).1 (hp c).2)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    facts_in_range, Cert.Pre_counts_and_padding.Gen.facts, Cert.Pre_finite.Gen.facts, Cert.Pre_finite_router.Gen.facts,
    frame_kernel, frame_kernel_ideal, frame_kernel_padding, frame_reference, frame_reference_padding,
    frame_kernel2, frame_kernel2_ideal, frame_kernel2_finite, frame_reference2, frame_reference2_finite,
    frame_kernel3, frame_kernel3_ideal, frame_reference3, frame_kernel4, frame_kernel4_ideal, frame_reference4,
    frame_kernel5, frame_kernel5_ideal, frame_reference5,
    frame_kernel6, frame_kernel6_ideal, frame_reference6,
    frame_kernel7, frame_kernel7_ideal, frame_reference7,
    frame_kernel8, frame_kernel8_ideal, frame_kernel8_finite, frame_reference8, frame_reference8_finite,
    trivial, value, mask, value2, trivial, value3, trivial, value4, trivial, value5, trivial, value6, trivial, value7, mask8, value8⟩

end Cert.Proof

end
